-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_scales_ok [hPre_scales_ok : Cert.Pre_scales_ok.Facts] (m : (ℓ : Loc Cert.KernelIdeal.nD Cert.KernelIdeal.τ Cert.KernelIdeal.sig) → Buf (Elt Ideal) ℓ) : Prop :=
  ∀ c : Dev Cert.KernelIdeal.nD,
    (Cert.Pre_scales_ok.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_scales_ok [hPre_scales_ok : Cert.Pre_scales_ok.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_scales_ok.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def Pre_Panel (m : (ℓ : Loc Cert.Panel.nD Cert.Panel.τ Cert.Panel.sig) → Buf (Elt Bits) ℓ) : Prop :=
  True

def Pre_PanelIdeal (m : (ℓ : Loc Cert.PanelIdeal.nD Cert.PanelIdeal.τ Cert.PanelIdeal.sig) → Buf (Elt Ideal) ℓ) : Prop :=
  True

def Pre_PanelIdeal_entries_finite [hPre_entries_finite : Cert.Pre_entries_finite.Facts] (m : (ℓ : Loc Cert.PanelIdeal.nD Cert.PanelIdeal.τ Cert.PanelIdeal.sig) → Buf (Elt Ideal) ℓ) : Prop :=
  ∀ c : Dev Cert.PanelIdeal.nD,
    (Cert.Pre_entries_finite.fn (F := Ideal) (m ((c.tc : Thread Cert.PanelIdeal.nD Cert.PanelIdeal.τ).loc Cert.PanelIdeal.main_arg0))) = (fun _ => 1#1)

def Pre_PanelReferenceIdeal (m : (ℓ : Loc Cert.PanelReferenceIdeal.nD Cert.PanelReferenceIdeal.τ Cert.PanelReferenceIdeal.sig) → Buf (Elt Ideal) ℓ) : Prop :=
  True

def Pre_PanelReferenceIdeal_entries_finite [hPre_entries_finite : Cert.Pre_entries_finite.Facts] (m : (ℓ : Loc Cert.PanelReferenceIdeal.nD Cert.PanelReferenceIdeal.τ Cert.PanelReferenceIdeal.sig) → Buf (Elt Ideal) ℓ) : Prop :=
  ∀ c : Dev Cert.PanelReferenceIdeal.nD,
    (Cert.Pre_entries_finite.fn (F := Ideal) (m ((c.tc : Thread Cert.PanelReferenceIdeal.nD Cert.PanelReferenceIdeal.τ).loc Cert.PanelReferenceIdeal.main_arg0))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_KernelIdeal_pre_scales_ok [hKernelIdeal : Cert.KernelIdeal.Facts] [hPre_scales_ok : Cert.Pre_scales_ok.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_scales_ok m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_ReferenceIdeal_pre_scales_ok [hReferenceIdeal : Cert.ReferenceIdeal.Facts] [hPre_scales_ok : Cert.Pre_scales_ok.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_scales_ok m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_Panel [hPanel : Cert.Panel.Facts] : Prop :=
  ∀ (m : (ℓ : Loc Cert.Panel.nD Cert.Panel.τ Cert.Panel.sig) → Buf (Elt Bits) ℓ) (g : Dev Cert.Panel.nD → PrngReg), Pre_Panel m →
    θ_run (Cert.Panel.defs (F := Bits)) (onTc (τ := Cert.Panel.τ) (Cert.Panel.main (F := Bits))) ⟨m, fun _ => 0, g⟩ (fun r => (∀ c : Dev Cert.Panel.nD,
      r.2.mem ((c.tc : Thread Cert.Panel.nD Cert.Panel.τ).loc Cert.Panel.main_arg0) = m ((c.tc : Thread Cert.Panel.nD Cert.Panel.τ).loc Cert.Panel.main_arg0))
      ∧ r.2.sem = fun _ => 0)

def quiescent_PanelIdeal [hPanelIdeal : Cert.PanelIdeal.Facts] : Prop :=
  ∀ (m : (ℓ : Loc Cert.PanelIdeal.nD Cert.PanelIdeal.τ Cert.PanelIdeal.sig) → Buf (Elt Ideal) ℓ) (g : Dev Cert.PanelIdeal.nD → PrngReg), Pre_PanelIdeal m →
    θ_run (Cert.PanelIdeal.defs (F := Ideal)) (onTc (τ := Cert.PanelIdeal.τ) (Cert.PanelIdeal.main (F := Ideal))) ⟨m, fun _ => 0, g⟩ (fun r => (∀ c : Dev Cert.PanelIdeal.nD,
      r.2.mem ((c.tc : Thread Cert.PanelIdeal.nD Cert.PanelIdeal.τ).loc Cert.PanelIdeal.main_arg0) = m ((c.tc : Thread Cert.PanelIdeal.nD Cert.PanelIdeal.τ).loc Cert.PanelIdeal.main_arg0))
      ∧ r.2.sem = fun _ => 0)

def quiescent_PanelIdeal_pre_entries_finite [hPanelIdeal : Cert.PanelIdeal.Facts] [hPre_entries_finite : Cert.Pre_entries_finite.Facts] : Prop :=
  ∀ (m : (ℓ : Loc Cert.PanelIdeal.nD Cert.PanelIdeal.τ Cert.PanelIdeal.sig) → Buf (Elt Ideal) ℓ) (g : Dev Cert.PanelIdeal.nD → PrngReg), Pre_PanelIdeal_entries_finite m →
    θ_run (Cert.PanelIdeal.defs (F := Ideal)) (onTc (τ := Cert.PanelIdeal.τ) (Cert.PanelIdeal.main (F := Ideal))) ⟨m, fun _ => 0, g⟩ (fun r => (∀ c : Dev Cert.PanelIdeal.nD,
      r.2.mem ((c.tc : Thread Cert.PanelIdeal.nD Cert.PanelIdeal.τ).loc Cert.PanelIdeal.main_arg0) = m ((c.tc : Thread Cert.PanelIdeal.nD Cert.PanelIdeal.τ).loc Cert.PanelIdeal.main_arg0))
      ∧ r.2.sem = fun _ => 0)

def quiescent_PanelReferenceIdeal [hPanelReferenceIdeal : Cert.PanelReferenceIdeal.Facts] : Prop :=
  ∀ (m : (ℓ : Loc Cert.PanelReferenceIdeal.nD Cert.PanelReferenceIdeal.τ Cert.PanelReferenceIdeal.sig) → Buf (Elt Ideal) ℓ) (g : Dev Cert.PanelReferenceIdeal.nD → PrngReg), Pre_PanelReferenceIdeal m →
    θ_run (Cert.PanelReferenceIdeal.defs (F := Ideal)) (onTc (τ := Cert.PanelReferenceIdeal.τ) (Cert.PanelReferenceIdeal.main (F := Ideal))) ⟨m, fun _ => 0, g⟩ (fun r => (∀ c : Dev Cert.PanelReferenceIdeal.nD,
      r.2.mem ((c.tc : Thread Cert.PanelReferenceIdeal.nD Cert.PanelReferenceIdeal.τ).loc Cert.PanelReferenceIdeal.main_arg0) = m ((c.tc : Thread Cert.PanelReferenceIdeal.nD Cert.PanelReferenceIdeal.τ).loc Cert.PanelReferenceIdeal.main_arg0))
      ∧ r.2.sem = fun _ => 0)

def quiescent_PanelReferenceIdeal_pre_entries_finite [hPanelReferenceIdeal : Cert.PanelReferenceIdeal.Facts] [hPre_entries_finite : Cert.Pre_entries_finite.Facts] : Prop :=
  ∀ (m : (ℓ : Loc Cert.PanelReferenceIdeal.nD Cert.PanelReferenceIdeal.τ Cert.PanelReferenceIdeal.sig) → Buf (Elt Ideal) ℓ) (g : Dev Cert.PanelReferenceIdeal.nD → PrngReg), Pre_PanelReferenceIdeal_entries_finite m →
    θ_run (Cert.PanelReferenceIdeal.defs (F := Ideal)) (onTc (τ := Cert.PanelReferenceIdeal.τ) (Cert.PanelReferenceIdeal.main (F := Ideal))) ⟨m, fun _ => 0, g⟩ (fun r => (∀ c : Dev Cert.PanelReferenceIdeal.nD,
      r.2.mem ((c.tc : Thread Cert.PanelReferenceIdeal.nD Cert.PanelReferenceIdeal.τ).loc Cert.PanelReferenceIdeal.main_arg0) = m ((c.tc : Thread Cert.PanelReferenceIdeal.nD Cert.PanelReferenceIdeal.τ).loc Cert.PanelReferenceIdeal.main_arg0))
      ∧ r.2.sem = fun _ => 0)

def preserves_Kernel_KernelIdeal : Prop :=
  True

def algebraic_KernelIdeal_ReferenceIdeal_pre_scales_ok [hKernelIdeal : Cert.KernelIdeal.Facts] [hReferenceIdeal : Cert.ReferenceIdeal.Facts] [hPre_scales_ok : Cert.Pre_scales_ok.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_scales_ok m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v0_1)) (v2 : (c : Dev Cert.KernelIdeal.nD) → Buf (Elt Ideal) ((c.tc : Thread Cert.KernelIdeal.nD Cert.KernelIdeal.τ).loc Cert.KernelIdeal.main_v0_2)) (v3 : (c : Dev Cert.KernelIdeal.nD) → Buf (Elt Ideal) ((c.tc : Thread Cert.KernelIdeal.nD Cert.KernelIdeal.τ).loc Cert.KernelIdeal.main_v0_3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v0_1) = v1 c
          ∧ r.2.mem ((c.tc : Thread Cert.KernelIdeal.nD Cert.KernelIdeal.τ).loc Cert.KernelIdeal.main_v0_2) = v2 c
          ∧ r.2.mem ((c.tc : Thread Cert.KernelIdeal.nD Cert.KernelIdeal.τ).loc Cert.KernelIdeal.main_v0_3) = v3 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v0_0) = v0 c
          ∧ r.2.mem ((c.tc : Thread Cert.ReferenceIdeal.nD Cert.ReferenceIdeal.τ).loc Cert.ReferenceIdeal.main_v0_1) = v1 c
          ∧ r.2.mem ((c.tc : Thread Cert.ReferenceIdeal.nD Cert.ReferenceIdeal.τ).loc Cert.ReferenceIdeal.main_v0_2) = v2 c
          ∧ r.2.mem ((c.tc : Thread Cert.ReferenceIdeal.nD Cert.ReferenceIdeal.τ).loc Cert.ReferenceIdeal.main_v0_3) = v3 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def preserves_Panel_PanelIdeal : Prop :=
  True

def algebraic_PanelIdeal_PanelReferenceIdeal_pre_entries_finite [hPanelIdeal : Cert.PanelIdeal.Facts] [hPanelReferenceIdeal : Cert.PanelReferenceIdeal.Facts] [hPre_entries_finite : Cert.Pre_entries_finite.Facts] : Prop :=
  ∀ (m : (ℓ : Loc Cert.PanelIdeal.nD Cert.PanelIdeal.τ Cert.PanelIdeal.sig) → Buf (Elt Ideal) ℓ) (g : Dev Cert.PanelIdeal.nD → PrngReg)
    (m' : (ℓ : Loc Cert.PanelReferenceIdeal.nD Cert.PanelReferenceIdeal.τ Cert.PanelReferenceIdeal.sig) → Buf (Elt Ideal) ℓ) (g' : Dev Cert.PanelReferenceIdeal.nD → PrngReg), Pre_PanelIdeal_entries_finite m →
    (∀ c : Dev Cert.PanelIdeal.nD,
      m' ((c.tc : Thread Cert.PanelReferenceIdeal.nD Cert.PanelReferenceIdeal.τ).loc Cert.PanelReferenceIdeal.main_arg0) = m ((c.tc : Thread Cert.PanelIdeal.nD Cert.PanelIdeal.τ).loc Cert.PanelIdeal.main_arg0)) →
    ∃ (v0 : (c : Dev Cert.PanelIdeal.nD) → Buf (Elt Ideal) ((c.tc : Thread Cert.PanelIdeal.nD Cert.PanelIdeal.τ).loc Cert.PanelIdeal.main_v0_1)),
      θ_run (Cert.PanelIdeal.defs (F := Ideal)) (onTc (τ := Cert.PanelIdeal.τ) (Cert.PanelIdeal.main (F := Ideal))) ⟨m, fun _ => 0, g⟩ (fun r => ∀ c : Dev Cert.PanelIdeal.nD,
          r.2.mem ((c.tc : Thread Cert.PanelIdeal.nD Cert.PanelIdeal.τ).loc Cert.PanelIdeal.main_v0_1) = v0 c
          ∧ r.2.mem ((c.tc : Thread Cert.PanelIdeal.nD Cert.PanelIdeal.τ).loc Cert.PanelIdeal.main_arg0) = m ((c.tc : Thread Cert.PanelIdeal.nD Cert.PanelIdeal.τ).loc Cert.PanelIdeal.main_arg0))
      ∧ θ_run (Cert.PanelReferenceIdeal.defs (F := Ideal)) (onTc (τ := Cert.PanelReferenceIdeal.τ) (Cert.PanelReferenceIdeal.main (F := Ideal))) ⟨m', fun _ => 0, g'⟩ (fun r => ∀ c : Dev Cert.PanelReferenceIdeal.nD,
          r.2.mem ((c.tc : Thread Cert.PanelReferenceIdeal.nD Cert.PanelReferenceIdeal.τ).loc Cert.PanelReferenceIdeal.main_v0) = v0 c
          ∧ r.2.mem ((c.tc : Thread Cert.PanelReferenceIdeal.nD Cert.PanelReferenceIdeal.τ).loc Cert.PanelReferenceIdeal.main_arg0) = m' ((c.tc : Thread Cert.PanelReferenceIdeal.nD Cert.PanelReferenceIdeal.τ).loc Cert.PanelReferenceIdeal.main_arg0))

def Claim : Prop :=
  ∃ (hKernel : Cert.Kernel.Facts) (hKernelIdeal : Cert.KernelIdeal.Facts) (hReferenceIdeal : Cert.ReferenceIdeal.Facts) (hPanel : Cert.Panel.Facts) (hPanelIdeal : Cert.PanelIdeal.Facts) (hPanelReferenceIdeal : Cert.PanelReferenceIdeal.Facts) (hPre_scales_ok : Cert.Pre_scales_ok.Facts) (hPre_entries_finite : Cert.Pre_entries_finite.Facts),
    quiescent_Kernel (hKernel := hKernel)
    ∧ quiescent_KernelIdeal (hKernelIdeal := hKernelIdeal)
    ∧ quiescent_KernelIdeal_pre_scales_ok (hKernelIdeal := hKernelIdeal) (hPre_scales_ok := hPre_scales_ok)
    ∧ quiescent_ReferenceIdeal (hReferenceIdeal := hReferenceIdeal)
    ∧ quiescent_ReferenceIdeal_pre_scales_ok (hReferenceIdeal := hReferenceIdeal) (hPre_scales_ok := hPre_scales_ok)
    ∧ quiescent_Panel (hPanel := hPanel)
    ∧ quiescent_PanelIdeal (hPanelIdeal := hPanelIdeal)
    ∧ quiescent_PanelIdeal_pre_entries_finite (hPanelIdeal := hPanelIdeal) (hPre_entries_finite := hPre_entries_finite)
    ∧ quiescent_PanelReferenceIdeal (hPanelReferenceIdeal := hPanelReferenceIdeal)
    ∧ quiescent_PanelReferenceIdeal_pre_entries_finite (hPanelReferenceIdeal := hPanelReferenceIdeal) (hPre_entries_finite := hPre_entries_finite)
    ∧ preserves_Kernel_KernelIdeal
    ∧ algebraic_KernelIdeal_ReferenceIdeal_pre_scales_ok (hKernelIdeal := hKernelIdeal) (hReferenceIdeal := hReferenceIdeal) (hPre_scales_ok := hPre_scales_ok)
    ∧ preserves_Panel_PanelIdeal
    ∧ algebraic_PanelIdeal_PanelReferenceIdeal_pre_entries_finite (hPanelIdeal := hPanelIdeal) (hPanelReferenceIdeal := hPanelReferenceIdeal) (hPre_entries_finite := hPre_entries_finite)
-- ==== Pre_entries_finite.lean ====
abbrev S22528x72 : Shape := ⟨2, ![22528, 72]⟩
abbrev S_ : Shape := ⟨0, ![]⟩

class Facts : Prop where
  bcast_S_S22528x72 : S_.BroadcastsInDim S22528x72 (![] : Fin 0 → Fin S22528x72.rank)
  reducesTo_S22528x72_S_d0_1 : S22528x72.ReducesTo [0, 1] S_
  h_S_ : 0 < S_.numel

variable [Facts]

def fn {F : FTy → Type} [FloatOps F] (main_arg0 : FVec F S22528x72 .f32) : IVec S_ 1 :=
  let main_cst : FVec F S_ .f32 := constant S_ .f32 0xFF800000#32
  let main_v0 : FVec F S22528x72 .f32 := broadcastInDim S22528x72 ![] bcast_S_S22528x72 main_cst
  let main_v1 : IVec S22528x72 1 := cmpf .ogt main_arg0 main_v0
  let main_cst_0 : FVec F S_ .f32 := constant S_ .f32 0x7F800000#32
  let main_v2 : FVec F S22528x72 .f32 := broadcastInDim S22528x72 ![] bcast_S_S22528x72 main_cst_0
  let main_v3 : IVec S22528x72 1 := cmpf .olt main_arg0 main_v2
  let main_v4 : IVec S22528x72 1 := andi main_v1 main_v3
  let main_c : IVec S_ 1 := constantI S_ 1 1#1
  let main_v5 : IVec S_ 1 := (fun x v => Host.reduce IntOp.andi x v reducesTo_S22528x72_S_d0_1 h_S_) main_v4 main_c
  main_v5
-- ==== Pre_scales_ok.lean ====
abbrev S22528x3584 : Shape := ⟨2, ![22528, 3584]⟩
abbrev S176x3584 : Shape := ⟨2, ![176, 3584]⟩
abbrev S80x22528 : Shape := ⟨2, ![80, 22528]⟩
abbrev S22528x128 : Shape := ⟨2, ![22528, 128]⟩
abbrev S176x128 : Shape := ⟨2, ![176, 128]⟩
abbrev S72x72 : Shape := ⟨2, ![72, 72]⟩
abbrev S_ : Shape := ⟨0, ![]⟩
abbrev S176x1 : Shape := ⟨2, ![176, 1]⟩

class Facts : Prop where
  bcast_S_S176x3584 : S_.BroadcastsInDim S176x3584 (![] : Fin 0 → Fin S176x3584.rank)
  reducesTo_S176x3584_S_d0_1 : S176x3584.ReducesTo [0, 1] S_
  h_S_ : 0 < S_.numel
  slices_S176x128_S176x1_0_0 : S176x128.Slices ![0, 0] S176x1
  bcast_S176x1_S176x128_0_1 : S176x1.BroadcastsInDim S176x128 (![0, 1] : Fin 2 → Fin S176x128.rank)
  reducesTo_S176x128_S_d0_1 : S176x128.ReducesTo [0, 1] S_

variable [Facts]

def fn {F : FTy → Type} [FloatOps F] (main_arg0 : FVec F S22528x3584 .fp8e4m3) (main_arg1 : FVec F S176x3584 .f32) (main_arg2 : FVec F S80x22528 .bf16) (main_arg3 : FVec F S22528x128 .fp8e4m3) (main_arg4 : FVec F S176x128 .f32) (main_arg5 : FVec F S72x72 .f32) : IVec S_ 1 :=
  let main_cst : FVec F S_ .f32 := constant S_ .f32 0x00000000#32
  let main_v0 : FVec F S176x3584 .f32 := broadcastInDim S176x3584 ![] bcast_S_S176x3584 main_cst
  let main_v1 : IVec S176x3584 1 := cmpf .ogt main_arg1 main_v0
  let main_cst_0 : FVec F S_ .f32 := constant S_ .f32 0x7F800000#32
  let main_v2 : FVec F S176x3584 .f32 := broadcastInDim S176x3584 ![] bcast_S_S176x3584 main_cst_0
  let main_v3 : IVec S176x3584 1 := cmpf .olt main_arg1 main_v2
  let main_v4 : IVec S176x3584 1 := andi main_v1 main_v3
  let main_c : IVec S_ 1 := constantI S_ 1 1#1
  let main_v5 : IVec S_ 1 := (fun x v => Host.reduce IntOp.andi x v reducesTo_S176x3584_S_d0_1 h_S_) main_v4 main_c
  let main_v6 : FVec F S176x1 .f32 := (extractStridedSlice S176x1 ![0, 0] · slices_S176x128_S176x1_0_0) main_arg4
  let main_v7 : FVec F S176x128 .f32 := broadcastInDim S176x128 ![0, 1] bcast_S176x1_S176x128_0_1 main_v6
  let main_v8 : IVec S176x128 1 := cmpf .oeq main_arg4 main_v7
  let main_c_1 : IVec S_ 1 := constantI S_ 1 1#1
  let main_v9 : IVec S_ 1 := (fun x v => Host.reduce IntOp.andi x v reducesTo_S176x128_S_d0_1 h_S_) main_v8 main_c_1
  let main_v10 : IVec S_ 1 := andi main_v5 main_v9
  main_v10
-- ==== Kernel.lean ====
abbrev S22528x3584 : Shape := ⟨2, ![22528, 3584]⟩
abbrev S176x3584 : Shape := ⟨2, ![176, 3584]⟩
abbrev S80x22528 : Shape := ⟨2, ![80, 22528]⟩
abbrev S22528x128 : Shape := ⟨2, ![22528, 128]⟩
abbrev S176x128 : Shape := ⟨2, ![176, 128]⟩
abbrev S72x72 : Shape := ⟨2, ![72, 72]⟩
abbrev S72x3584 : Shape := ⟨2, ![72, 3584]⟩
abbrev S1x3584 : Shape := ⟨2, ![1, 3584]⟩
abbrev S22528x256 : Shape := ⟨2, ![22528, 256]⟩
abbrev S176x256 : Shape := ⟨2, ![176, 256]⟩
abbrev S72x256 : Shape := ⟨2, ![72, 256]⟩
abbrev S1x256 : Shape := ⟨2, ![1, 256]⟩
abbrev S1024x256 : Shape := ⟨2, ![1024, 256]⟩
abbrev S80x256 : Shape := ⟨2, ![80, 256]⟩
abbrev S128x256 : Shape := ⟨2, ![128, 256]⟩
abbrev S2048x256 : Shape := ⟨2, ![2048, 256]⟩
abbrev S80x2048 : Shape := ⟨2, ![80, 2048]⟩
abbrev S256 : Shape := ⟨1, ![256]⟩
abbrev S8x256 : Shape := ⟨2, ![8, 256]⟩
abbrev S56x256 : Shape := ⟨2, ![56, 256]⟩
abbrev S8x128 : Shape := ⟨2, ![8, 128]⟩
abbrev S128x128 : Shape := ⟨2, ![128, 128]⟩

abbrev nBuf : Space → Nat
  | .hbm => 10
  | .vmem => 17
  | .smem => 0
  | _ => 0

abbrev bufTy : (tb : Table) → Fin (tcTables nBuf tb) → BufTy
  | .hbm, ⟨0, _⟩ => ⟨S22528x3584, .fp8e4m3⟩
  | .hbm, ⟨1, _⟩ => ⟨S176x3584, .f32⟩
  | .hbm, ⟨2, _⟩ => ⟨S80x22528, .bf16⟩
  | .hbm, ⟨3, _⟩ => ⟨S22528x128, .fp8e4m3⟩
  | .hbm, ⟨4, _⟩ => ⟨S176x128, .f32⟩
  | .hbm, ⟨5, _⟩ => ⟨S72x72, .f32⟩
  | .hbm, ⟨6, _⟩ => ⟨S22528x3584, .fp8e4m3⟩
  | .hbm, ⟨7, _⟩ => ⟨S176x3584, .f32⟩
  | .hbm, ⟨8, _⟩ => ⟨S72x3584, .fp8e4m3⟩
  | .hbm, ⟨9, _⟩ => ⟨S1x3584, .f32⟩
  | .local _ .vmem, ⟨0, _⟩ => ⟨S22528x256, .fp8e4m3⟩
  | .local _ .vmem, ⟨1, _⟩ => ⟨S22528x256, .fp8e4m3⟩
  | .local _ .vmem, ⟨2, _⟩ => ⟨S176x256, .f32⟩
  | .local _ .vmem, ⟨3, _⟩ => ⟨S176x256, .f32⟩
  | .local _ .vmem, ⟨4, _⟩ => ⟨S80x22528, .bf16⟩
  | .local _ .vmem, ⟨5, _⟩ => ⟨S22528x128, .fp8e4m3⟩
  | .local _ .vmem, ⟨6, _⟩ => ⟨S176x128, .f32⟩
  | .local _ .vmem, ⟨7, _⟩ => ⟨S72x72, .f32⟩
  | .local _ .vmem, ⟨8, _⟩ => ⟨S22528x256, .fp8e4m3⟩
  | .local _ .vmem, ⟨9, _⟩ => ⟨S22528x256, .fp8e4m3⟩
  | .local _ .vmem, ⟨10, _⟩ => ⟨S176x256, .f32⟩
  | .local _ .vmem, ⟨11, _⟩ => ⟨S176x256, .f32⟩
  | .local _ .vmem, ⟨12, _⟩ => ⟨S72x256, .fp8e4m3⟩
  | .local _ .vmem, ⟨13, _⟩ => ⟨S72x256, .fp8e4m3⟩
  | .local _ .vmem, ⟨14, _⟩ => ⟨S1x256, .f32⟩
  | .local _ .vmem, ⟨15, _⟩ => ⟨S1x256, .f32⟩
  | .local _ .vmem, ⟨16, _⟩ => ⟨S1024x256, .f32⟩
  | _, _ => ⟨S22528x3584, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0_0 : Ref sig .tc := ⟨.hbm, 6, rfl⟩
abbrev main_v0_1 : Ref sig .tc := ⟨.hbm, 7, rfl⟩
abbrev main_v0_2 : Ref sig .tc := ⟨.hbm, 8, rfl⟩
abbrev main_v0_3 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg9_1 : Ref sig .tc := ⟨.vmem, 15, rfl⟩
abbrev cc0_scratch0 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9
abbrev cc0_sem7_0 : DmaSem sig := 10
abbrev cc0_sem7_1 : DmaSem sig := 11
abbrev cc0_sem8_0 : DmaSem sig := 12
abbrev cc0_sem8_1 : DmaSem sig := 13
abbrev cc0_sem9_0 : DmaSem sig := 14
abbrev cc0_sem9_1 : DmaSem sig := 15

abbrev nD : Nat := 1
abbrev τ : Topo := Topo.v7x

variable {F : FTy → Type} [FloatOps F]

abbrev grid0 : Pipeline.Grid := ⟨1, ![14], ![false]⟩

@[reducible] def k0_t1_loop : Scf.Loop 32 :=
  let c0_i32 : BitVec 32 := 0#32
  let c11_i32 : BitVec 32 := 11#32
  let v1 : BitVec 32 := Scalar.addi c0_i32 c11_i32
  let c1_i32 : BitVec 32 := 1#32
  ⟨c0_i32, v1, c1_i32⟩
def k0_mult1 (k0_t1 : Fin k0_t1_loop.trips) : BitVec 32 :=
  let c0_i32 : BitVec 32 := 0#32
  let c1_i32 : BitVec 32 := 1#32
  let arg12 : BitVec 32 := Scf.iv c0_i32 c1_i32 k0_t1
  let c2048_i32 : BitVec 32 := 2048#32
  let v103 : BitVec 32 := Scalar.muli arg12 c2048_i32
  v103
def k0_off1 (k0_t1 : Fin k0_t1_loop.trips) (c0_i32_29 : BitVec 32) : Fin 2 → Nat :=
  let c0_i32 : BitVec 32 := 0#32
  let c1_i32 : BitVec 32 := 1#32
  let arg12 : BitVec 32 := Scf.iv c0_i32 c1_i32 k0_t1
  let c2048_i32 : BitVec 32 := 2048#32
  let v103 : BitVec 32 := Scalar.muli arg12 c2048_i32
  let v104 : BitVec 32 := v103
  let v105 : BitVec 32 := Scalar.addi v104 c0_i32_29
  let v106 : Index := Scalar.indexCast v105
  let c0_30 : Index := 0#32
  ![v106.toNat, 0]
def k0_off2 (k0_t1 : Fin k0_t1_loop.trips) (c0_i32_32 : BitVec 32) : Fin 2 → Nat :=
  let c0_i32 : BitVec 32 := 0#32
  let c1_i32 : BitVec 32 := 1#32
  let arg12 : BitVec 32 := Scf.iv c0_i32 c1_i32 k0_t1
  let c16_i32_31 : BitVec 32 := 16#32
  let v109 : BitVec 32 := Scalar.muli arg12 c16_i32_31
  let v110 : BitVec 32 := Scalar.addi v109 c0_i32_32
  let v111 : Index := Scalar.indexCast v110
  let c0_33 : Index := 0#32
  ![v111.toNat, 0]
def k0_off3 (k0_t1 : Fin k0_t1_loop.trips) : Fin 2 → Nat :=
  let c0_85 : Index := 0#32
  let c0_i32 : BitVec 32 := 0#32
  let c1_i32 : BitVec 32 := 1#32
  let arg12 : BitVec 32 := Scf.iv c0_i32 c1_i32 k0_t1
  let c2048_i32 : BitVec 32 := 2048#32
  let v103 : BitVec 32 := Scalar.muli arg12 c2048_i32
  let v104 : BitVec 32 := v103
  let v282 : Index := Scalar.indexCast v104
  ![0, v282.toNat]
@[reducible] def k0_t2_loop : Scf.Loop 32 :=
  let c0_i32_26 : BitVec 32 := 0#32
  let c22_i32 : BitVec 32 := 22#32
  let v102 : BitVec 32 := Scalar.addi c0_i32_26 c22_i32
  let c1_i32_27 : BitVec 32 := 1#32
  ⟨c0_i32_26, v102, c1_i32_27⟩
def k0_mult2 (k0_t2 : Fin k0_t2_loop.trips) : BitVec 32 :=
  let c0_i32_26 : BitVec 32 := 0#32
  let c1_i32_27 : BitVec 32 := 1#32
  let arg12 : BitVec 32 := Scf.iv c0_i32_26 c1_i32_27 k0_t2
  let c1024_i32 : BitVec 32 := 1024#32
  let v103 : BitVec 32 := Scalar.muli arg12 c1024_i32
  v103
def k0_mult3 (k0_t2 : Fin k0_t2_loop.trips) : BitVec 32 :=
  let c0_i32_26 : BitVec 32 := 0#32
  let c1_i32_27 : BitVec 32 := 1#32
  let arg12 : BitVec 32 := Scf.iv c0_i32_26 c1_i32_27 k0_t2
  let c8_i32_29 : BitVec 32 := 8#32
  let v105 : BitVec 32 := Scalar.muli arg12 c8_i32_29
  v105
def k0_off4 (k0_t2 : Fin k0_t2_loop.trips) : Fin 2 → Nat :=
  let c0_i32_26 : BitVec 32 := 0#32
  let c1_i32_27 : BitVec 32 := 1#32
  let arg12 : BitVec 32 := Scf.iv c0_i32_26 c1_i32_27 k0_t2
  let c8_i32_29 : BitVec 32 := 8#32
  let v105 : BitVec 32 := Scalar.muli arg12 c8_i32_29
  let v106 : BitVec 32 := v105
  let v107 : Index := Scalar.indexCast v106
  let c0_30 : Index := 0#32
  ![v107.toNat, 0]
def k0_off5 (k0_t2 : Fin k0_t2_loop.trips) : Fin 2 → Nat :=
  let c0_i32_26 : BitVec 32 := 0#32
  let c1_i32_27 : BitVec 32 := 1#32
  let arg12 : BitVec 32 := Scf.iv c0_i32_26 c1_i32_27 k0_t2
  let c8_i32_29 : BitVec 32 := 8#32
  let v105 : BitVec 32 := Scalar.muli arg12 c8_i32_29
  let v106 : BitVec 32 := v105
  let v111 : Index := Scalar.indexCast v106
  let c0_32 : Index := 0#32
  ![v111.toNat, 0]
def k0_off6 (k0_t2 : Fin k0_t2_loop.trips) (c0_i32_33 : BitVec 32) : Fin 2 → Nat :=
  let c0_i32_26 : BitVec 32 := 0#32
  let c1_i32_27 : BitVec 32 := 1#32
  let arg12 : BitVec 32 := Scf.iv c0_i32_26 c1_i32_27 k0_t2
  let c1024_i32 : BitVec 32 := 1024#32
  let v103 : BitVec 32 := Scalar.muli arg12 c1024_i32
  let v104 : BitVec 32 := v103
  let v116 : BitVec 32 := Scalar.addi v104 c0_i32_33
  let v117 : Index := Scalar.indexCast v116
  let c0_34 : Index := 0#32
  ![v117.toNat, 0]
def k0_off7 (k0_t2 : Fin k0_t2_loop.trips) (c0_i32_36 : BitVec 32) : Fin 2 → Nat :=
  let c0_i32_26 : BitVec 32 := 0#32
  let c1_i32_27 : BitVec 32 := 1#32
  let arg12 : BitVec 32 := Scf.iv c0_i32_26 c1_i32_27 k0_t2
  let c1024_i32 : BitVec 32 := 1024#32
  let v103 : BitVec 32 := Scalar.muli arg12 c1024_i32
  let v104 : BitVec 32 := v103
  let v120 : BitVec 32 := Scalar.addi v104 c0_i32_36
  let v121 : Index := Scalar.indexCast v120
  let c0_37 : Index := 0#32
  ![v121.toNat, 0]
def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S22528x256 .fp8e4m3 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S176x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S80x22528 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S22528x128 .fp8e4m3 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S176x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S72x72 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S22528x256 .fp8e4m3 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S176x256 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S72x256 .fp8e4m3 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S1x256 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]
-- ==== ReferenceIdeal.lean ====
abbrev S22528x3584 : Shape := ⟨2, ![22528, 3584]⟩
abbrev S176x3584 : Shape := ⟨2, ![176, 3584]⟩
abbrev S80x22528 : Shape := ⟨2, ![80, 22528]⟩
abbrev S22528x128 : Shape := ⟨2, ![22528, 128]⟩
abbrev S176x128 : Shape := ⟨2, ![176, 128]⟩
abbrev S72x72 : Shape := ⟨2, ![72, 72]⟩
abbrev S72x3584 : Shape := ⟨2, ![72, 3584]⟩
abbrev S1x3584 : Shape := ⟨2, ![1, 3584]⟩
abbrev S176x128x3584 : Shape := ⟨3, ![176, 128, 3584]⟩
abbrev S72x22528 : Shape := ⟨2, ![72, 22528]⟩
abbrev S176x1x3584 : Shape := ⟨3, ![176, 1, 3584]⟩
abbrev S3584 : Shape := ⟨1, ![3584]⟩
abbrev S22528x72 : Shape := ⟨2, ![22528, 72]⟩
abbrev S176x1 : Shape := ⟨2, ![176, 1]⟩
abbrev S176x1x1 : Shape := ⟨3, ![176, 1, 1]⟩
abbrev S1x1x3584 : Shape := ⟨3, ![1, 1, 3584]⟩

abbrev nBuf : Space → Nat
  | .hbm => 10
  | .vmem => 10
  | .smem => 0
  | _ => 0

abbrev bufTy : (tb : Table) → Fin (tcTables nBuf tb) → BufTy
  | .hbm, ⟨0, _⟩ => ⟨S22528x3584, .fp8e4m3⟩
  | .hbm, ⟨1, _⟩ => ⟨S176x3584, .f32⟩
  | .hbm, ⟨2, _⟩ => ⟨S80x22528, .bf16⟩
  | .hbm, ⟨3, _⟩ => ⟨S22528x128, .fp8e4m3⟩
  | .hbm, ⟨4, _⟩ => ⟨S176x128, .f32⟩
  | .hbm, ⟨5, _⟩ => ⟨S72x72, .f32⟩
  | .hbm, ⟨6, _⟩ => ⟨S22528x3584, .fp8e4m3⟩
  | .hbm, ⟨7, _⟩ => ⟨S176x3584, .f32⟩
  | .hbm, ⟨8, _⟩ => ⟨S72x3584, .fp8e4m3⟩
  | .hbm, ⟨9, _⟩ => ⟨S1x3584, .f32⟩
  | .local _ .vmem, ⟨0, _⟩ => ⟨S22528x3584, .fp8e4m3⟩
  | .local _ .vmem, ⟨1, _⟩ => ⟨S176x3584, .f32⟩
  | .local _ .vmem, ⟨2, _⟩ => ⟨S80x22528, .bf16⟩
  | .local _ .vmem, ⟨3, _⟩ => ⟨S22528x128, .fp8e4m3⟩
  | .local _ .vmem, ⟨4, _⟩ => ⟨S176x128, .f32⟩
  | .local _ .vmem, ⟨5, _⟩ => ⟨S72x72, .f32⟩
  | .local _ .vmem, ⟨6, _⟩ => ⟨S22528x3584, .fp8e4m3⟩
  | .local _ .vmem, ⟨7, _⟩ => ⟨S176x3584, .f32⟩
  | .local _ .vmem, ⟨8, _⟩ => ⟨S72x3584, .fp8e4m3⟩
  | .local _ .vmem, ⟨9, _⟩ => ⟨S1x3584, .f32⟩
  | _, _ => ⟨S22528x3584, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0_0 : Ref sig .tc := ⟨.hbm, 6, rfl⟩
abbrev main_v0_1 : Ref sig .tc := ⟨.hbm, 7, rfl⟩
abbrev main_v0_2 : Ref sig .tc := ⟨.hbm, 8, rfl⟩
abbrev main_v0_3 : Ref sig .tc := ⟨.hbm, 9, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9

abbrev nD : Nat := 1
abbrev τ : Topo := Topo.v7x

variable {F : FTy → Type} [FloatOps F]

abbrev grid0 : Pipeline.Grid := .none

abbrev stage0_0 : Fin 1 → Memref sig .tc .vmem S22528x3584 .fp8e4m3 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S176x3584 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S80x22528 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S22528x128 .fp8e4m3 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S176x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S72x72 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S22528x3584 .fp8e4m3 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S176x3584 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S72x3584 .fp8e4m3 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S1x3584 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
-- ==== Panel.lean ====
abbrev S22528x72 : Shape := ⟨2, ![22528, 72]⟩
abbrev S72x72 : Shape := ⟨2, ![72, 72]⟩
abbrev S176x128 : Shape := ⟨2, ![176, 128]⟩
abbrev S80x22528 : Shape := ⟨2, ![80, 22528]⟩
abbrev S22528x128 : Shape := ⟨2, ![22528, 128]⟩
abbrev S12751x128 : Shape := ⟨2, ![12751, 128]⟩
abbrev S1152x128 : Shape := ⟨2, ![1152, 128]⟩
abbrev S72x128 : Shape := ⟨2, ![72, 128]⟩
abbrev S128x72 : Shape := ⟨2, ![128, 72]⟩
abbrev S8x128 : Shape := ⟨2, ![8, 128]⟩
abbrev S8 : Shape := ⟨1, ![8]⟩
abbrev S8x1 : Shape := ⟨2, ![8, 1]⟩
abbrev S1 : Shape := ⟨1, ![1]⟩
abbrev S1x1 : Shape := ⟨2, ![1, 1]⟩
abbrev S1x128 : Shape := ⟨2, ![1, 128]⟩
abbrev S56x128 : Shape := ⟨2, ![56, 128]⟩
abbrev S128x128 : Shape := ⟨2, ![128, 128]⟩
abbrev S8x22528 : Shape := ⟨2, ![8, 22528]⟩
abbrev S128 : Shape := ⟨1, ![128]⟩
abbrev S128x1 : Shape := ⟨2, ![128, 1]⟩
abbrev S72x1 : Shape := ⟨2, ![72, 1]⟩

abbrev nBuf : Space → Nat
  | .hbm => 8
  | .vmem => 12
  | .smem => 0
  | _ => 0

abbrev bufTy : (tb : Table) → Fin (tcTables nBuf tb) → BufTy
  | .hbm, ⟨0, _⟩ => ⟨S22528x72, .f32⟩
  | .hbm, ⟨1, _⟩ => ⟨S22528x72, .f32⟩
  | .hbm, ⟨2, _⟩ => ⟨S72x72, .f32⟩
  | .hbm, ⟨3, _⟩ => ⟨S72x72, .f32⟩
  | .hbm, ⟨4, _⟩ => ⟨S22528x72, .fp8e4m3⟩
  | .hbm, ⟨5, _⟩ => ⟨S176x128, .f32⟩
  | .hbm, ⟨6, _⟩ => ⟨S80x22528, .bf16⟩
  | .hbm, ⟨7, _⟩ => ⟨S22528x128, .fp8e4m3⟩
  | .local _ .vmem, ⟨0, _⟩ => ⟨S22528x72, .f32⟩
  | .local _ .vmem, ⟨1, _⟩ => ⟨S22528x72, .f32⟩
  | .local _ .vmem, ⟨2, _⟩ => ⟨S72x72, .f32⟩
  | .local _ .vmem, ⟨3, _⟩ => ⟨S72x72, .f32⟩
  | .local _ .vmem, ⟨4, _⟩ => ⟨S22528x72, .fp8e4m3⟩
  | .local _ .vmem, ⟨5, _⟩ => ⟨S176x128, .f32⟩
  | .local _ .vmem, ⟨6, _⟩ => ⟨S80x22528, .bf16⟩
  | .local _ .vmem, ⟨7, _⟩ => ⟨S22528x128, .fp8e4m3⟩
  | .local _ .vmem, ⟨8, _⟩ => ⟨S12751x128, .f32⟩
  | .local _ .vmem, ⟨9, _⟩ => ⟨S1152x128, .f32⟩
  | .local _ .vmem, ⟨10, _⟩ => ⟨S72x128, .f32⟩
  | .local _ .vmem, ⟨11, _⟩ => ⟨S72x128, .f32⟩
  | _, _ => ⟨S22528x72, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_v0_0 : Ref sig .tc := ⟨.hbm, 1, rfl⟩
abbrev main_v0_1 : Ref sig .tc := ⟨.hbm, 2, rfl⟩
abbrev main_v0_2 : Ref sig .tc := ⟨.hbm, 3, rfl⟩
abbrev main_v0_3 : Ref sig .tc := ⟨.hbm, 4, rfl⟩
abbrev main_v0_4 : Ref sig .tc := ⟨.hbm, 5, rfl⟩
abbrev main_v0_5 : Ref sig .tc := ⟨.hbm, 6, rfl⟩
abbrev main_v0_6 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_scratch0 : Ref sig .tc := ⟨.vmem, 8, rfl⟩
abbrev cc0_scratch1 : Ref sig .tc := ⟨.vmem, 9, rfl⟩
abbrev cc0_scratch2 : Ref sig .tc := ⟨.vmem, 10, rfl⟩
abbrev cc0_scratch3 : Ref sig .tc := ⟨.vmem, 11, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := .none

@[reducible] def k0_t1_loop : Scf.Loop 32 :=
  let c0_i32 : BitVec 32 := 0#32
  let c176_i32 : BitVec 32 := 176#32
  let v0 : BitVec 32 := Scalar.addi c0_i32 c176_i32
  let c1_i32 : BitVec 32 := 1#32
  ⟨c0_i32, v0, c1_i32⟩
def k0_mult1 (k0_t1 : Fin k0_t1_loop.trips) : BitVec 32 :=
  let c0_i32 : BitVec 32 := 0#32
  let c1_i32 : BitVec 32 := 1#32
  let arg12 : BitVec 32 := Scf.iv c0_i32 c1_i32 k0_t1
  let c128_i32 : BitVec 32 := 128#32
  let v40 : BitVec 32 := Scalar.muli arg12 c128_i32
  v40
def k0_off1 (k0_t1 : Fin k0_t1_loop.trips) : Fin 2 → Nat :=
  let c0_i32 : BitVec 32 := 0#32
  let c1_i32 : BitVec 32 := 1#32
  let arg12 : BitVec 32 := Scf.iv c0_i32 c1_i32 k0_t1
  let c128_i32 : BitVec 32 := 128#32
  let v40 : BitVec 32 := Scalar.muli arg12 c128_i32
  let v41 : BitVec 32 := v40
  let v42 : Index := Scalar.indexCast v41
  let c0_31 : Index := 0#32
  ![v42.toNat, 0]
def k0_off2 (k0_t1 : Fin k0_t1_loop.trips) (c0_i32_32 : BitVec 32) : Fin 2 → Nat :=
  let c0_i32 : BitVec 32 := 0#32
  let c1_i32 : BitVec 32 := 1#32
  let arg12 : BitVec 32 := Scf.iv c0_i32 c1_i32 k0_t1
  let v46 : BitVec 32 := Scalar.addi c0_i32_32 arg12
  let v47 : Index := Scalar.indexCast v46
  let c0_33 : Index := 0#32
  ![v47.toNat, 0]
@[reducible] def k0_t2_loop : Scf.Loop 32 :=
  let c0_i32_2 : BitVec 32 := 0#32
  let c72_i32 : BitVec 32 := 72#32
  let v5 : BitVec 32 := Scalar.addi c0_i32_2 c72_i32
  let c1_i32_3 : BitVec 32 := 1#32
  ⟨c0_i32_2, v5, c1_i32_3⟩
def k0_off3 (k0_t2 : Fin k0_t2_loop.trips) (c0_i32_31 : BitVec 32) : Fin 2 → Nat :=
  let c0_i32_2 : BitVec 32 := 0#32
  let c1_i32_3 : BitVec 32 := 1#32
  let arg12 : BitVec 32 := Scf.iv c0_i32_2 c1_i32_3 k0_t2
  let c177_i32 : BitVec 32 := 177#32
  let v40 : BitVec 32 := Scalar.muli arg12 c177_i32
  let v41 : BitVec 32 := Scalar.addi v40 c0_i32_31
  let v42 : Index := Scalar.indexCast v41
  let c0_32 : Index := 0#32
  ![v42.toNat, 0]
@[reducible] def k0_t3_loop (k0_t2 : Fin k0_t2_loop.trips) : Scf.Loop 32 :=
  let c0_i32_2 : BitVec 32 := 0#32
  let c1_i32_3 : BitVec 32 := 1#32
  let arg12 : BitVec 32 := Scf.iv c0_i32_2 c1_i32_3 k0_t2
  let c72_i32_80 : BitVec 32 := 72#32
  let v144 : BitVec 32 := Scalar.subi c72_i32_80 arg12
  let c1_i32_82 : BitVec 32 := 1#32
  let v146 : BitVec 32 := Scalar.divsi v144 c1_i32_82
  let v147 : BitVec 32 := Scalar.muli v146 c1_i32_82
  let v148 : BitVec 32 := Scalar.addi arg12 v147
  let c1_i32_83 : BitVec 32 := 1#32
  ⟨arg12, v148, c1_i32_83⟩
def k0_off4 (k0_t2 : Fin k0_t2_loop.trips) (k0_t3 : Fin (k0_t3_loop k0_t2).trips) (c0_i32_167 : BitVec 32) : Fin 2 → Nat :=
  let c0_i32_2 : BitVec 32 := 0#32
  let c1_i32_3 : BitVec 32 := 1#32
  let arg12 : BitVec 32 := Scf.iv c0_i32_2 c1_i32_3 k0_t2
  let c1_i32_83 : BitVec 32 := 1#32
  let arg13 : BitVec 32 := Scf.iv arg12 c1_i32_83 k0_t3
  let c177_i32_166 : BitVec 32 := 177#32
  let v352 : BitVec 32 := Scalar.muli arg13 c177_i32_166
  let v353 : BitVec 32 := Scalar.addi v352 c0_i32_167
  let v354 : Index := Scalar.indexCast v353
  let c0_168 : Index := 0#32
  ![v354.toNat, 0]
def k0_off5 (k0_t2 : Fin k0_t2_loop.trips) (k0_t3 : Fin (k0_t3_loop k0_t2).trips) : Fin 2 → Nat :=
  let c0_i32_2 : BitVec 32 := 0#32
  let c1_i32_3 : BitVec 32 := 1#32
  let arg12 : BitVec 32 := Scf.iv c0_i32_2 c1_i32_3 k0_t2
  let c1_i32_83 : BitVec 32 := 1#32
  let arg13 : BitVec 32 := Scf.iv arg12 c1_i32_83 k0_t3
  let c8_i32_235 : BitVec 32 := 8#32
  let v494 : BitVec 32 := Scalar.muli arg13 c8_i32_235
  let v495 : Index := Scalar.indexCast v494
  let c0_236 : Index := 0#32
  ![v495.toNat, 0]
def k0_off6 (k0_t2 : Fin k0_t2_loop.trips) (k0_t3 : Fin (k0_t3_loop k0_t2).trips) : Fin 2 → Nat :=
  let c72_i32_239 : BitVec 32 := 72#32
  let c0_i32_2 : BitVec 32 := 0#32
  let c1_i32_3 : BitVec 32 := 1#32
  let arg12 : BitVec 32 := Scf.iv c0_i32_2 c1_i32_3 k0_t2
  let c1_i32_83 : BitVec 32 := 1#32
  let arg13 : BitVec 32 := Scf.iv arg12 c1_i32_83 k0_t3
  let v505 : BitVec 32 := Scalar.addi c72_i32_239 arg13
  let c8_i32_240 : BitVec 32 := 8#32
  let v506 : BitVec 32 := Scalar.muli v505 c8_i32_240
  let v507 : Index := Scalar.indexCast v506
  let c0_241 : Index := 0#32
  ![v507.toNat, 0]
@[reducible] def k0_t4_loop (k0_t2 : Fin k0_t2_loop.trips) : Scf.Loop 32 :=
  let c0_i32_2 : BitVec 32 := 0#32
  let c1_i32_3 : BitVec 32 := 1#32
  let arg12 : BitVec 32 := Scf.iv c0_i32_2 c1_i32_3 k0_t2
  let c72_i32_80 : BitVec 32 := 72#32
  let v144 : BitVec 32 := Scalar.subi c72_i32_80 arg12
  let c1_i32_82 : BitVec 32 := 1#32
  let v146 : BitVec 32 := Scalar.divsi v144 c1_i32_82
  let v147 : BitVec 32 := Scalar.muli v146 c1_i32_82
  let v148 : BitVec 32 := Scalar.addi arg12 v147
  let v145 : BitVec 32 := Scalar.addi arg12 v144
  let c1_i32_84 : BitVec 32 := 1#32
  ⟨v148, v145, c1_i32_84⟩
def k0_off7 (k0_t2 : Fin k0_t2_loop.trips) (k0_t4 : Fin (k0_t4_loop k0_t2).trips) (c0_i32_167 : BitVec 32) : Fin 2 → Nat :=
  let c0_i32_2 : BitVec 32 := 0#32
  let c1_i32_3 : BitVec 32 := 1#32
  let arg12 : BitVec 32 := Scf.iv c0_i32_2 c1_i32_3 k0_t2
  let c72_i32_80 : BitVec 32 := 72#32
  let v144 : BitVec 32 := Scalar.subi c72_i32_80 arg12
  let c1_i32_82 : BitVec 32 := 1#32
  let v146 : BitVec 32 := Scalar.divsi v144 c1_i32_82
  let v147 : BitVec 32 := Scalar.muli v146 c1_i32_82
  let v148 : BitVec 32 := Scalar.addi arg12 v147
  let c1_i32_84 : BitVec 32 := 1#32
  let arg13 : BitVec 32 := Scf.iv v148 c1_i32_84 k0_t4
  let c177_i32_166 : BitVec 32 := 177#32
  let v352 : BitVec 32 := Scalar.muli arg13 c177_i32_166
  let v353 : BitVec 32 := Scalar.addi v352 c0_i32_167
  let v354 : Index := Scalar.indexCast v353
  let c0_168 : Index := 0#32
  ![v354.toNat, 0]
def k0_off8 (k0_t2 : Fin k0_t2_loop.trips) (k0_t4 : Fin (k0_t4_loop k0_t2).trips) : Fin 2 → Nat :=
  let c0_i32_2 : BitVec 32 := 0#32
  let c1_i32_3 : BitVec 32 := 1#32
  let arg12 : BitVec 32 := Scf.iv c0_i32_2 c1_i32_3 k0_t2
  let c72_i32_80 : BitVec 32 := 72#32
  let v144 : BitVec 32 := Scalar.subi c72_i32_80 arg12
  let c1_i32_82 : BitVec 32 := 1#32
  let v146 : BitVec 32 := Scalar.divsi v144 c1_i32_82
  let v147 : BitVec 32 := Scalar.muli v146 c1_i32_82
  let v148 : BitVec 32 := Scalar.addi arg12 v147
  let c1_i32_84 : BitVec 32 := 1#32
  let arg13 : BitVec 32 := Scf.iv v148 c1_i32_84 k0_t4
  let c8_i32_235 : BitVec 32 := 8#32
  let v494 : BitVec 32 := Scalar.muli arg13 c8_i32_235
  let v495 : Index := Scalar.indexCast v494
  let c0_236 : Index := 0#32
  ![v495.toNat, 0]
def k0_off9 (k0_t2 : Fin k0_t2_loop.trips) (k0_t4 : Fin (k0_t4_loop k0_t2).trips) : Fin 2 → Nat :=
  let c72_i32_239 : BitVec 32 := 72#32
  let c0_i32_2 : BitVec 32 := 0#32
  let c1_i32_3 : BitVec 32 := 1#32
  let arg12 : BitVec 32 := Scf.iv c0_i32_2 c1_i32_3 k0_t2
  let c72_i32_80 : BitVec 32 := 72#32
  let v144 : BitVec 32 := Scalar.subi c72_i32_80 arg12
  let c1_i32_82 : BitVec 32 := 1#32
  let v146 : BitVec 32 := Scalar.divsi v144 c1_i32_82
  let v147 : BitVec 32 := Scalar.muli v146 c1_i32_82
  let v148 : BitVec 32 := Scalar.addi arg12 v147
  let c1_i32_84 : BitVec 32 := 1#32
  let arg13 : BitVec 32 := Scf.iv v148 c1_i32_84 k0_t4
  let v505 : BitVec 32 := Scalar.addi c72_i32_239 arg13
  let c8_i32_240 : BitVec 32 := 8#32
  let v506 : BitVec 32 := Scalar.muli v505 c8_i32_240
  let v507 : Index := Scalar.indexCast v506
  let c0_241 : Index := 0#32
  ![v507.toNat, 0]
def k0_mult2 (k0_t2 : Fin k0_t2_loop.trips) : BitVec 32 :=
  let c0_i32_2 : BitVec 32 := 0#32
  let c1_i32_3 : BitVec 32 := 1#32
  let arg12 : BitVec 32 := Scf.iv c0_i32_2 c1_i32_3 k0_t2
  let c8_i32_85 : BitVec 32 := 8#32
  let v151 : BitVec 32 := Scalar.muli arg12 c8_i32_85
  v151
def k0_off10 (k0_t2 : Fin k0_t2_loop.trips) : Fin 2 → Nat :=
  let c0_i32_2 : BitVec 32 := 0#32
  let c1_i32_3 : BitVec 32 := 1#32
  let arg12 : BitVec 32 := Scf.iv c0_i32_2 c1_i32_3 k0_t2
  let c8_i32_85 : BitVec 32 := 8#32
  let v151 : BitVec 32 := Scalar.muli arg12 c8_i32_85
  let v152 : BitVec 32 := v151
  let v153 : Index := Scalar.indexCast v152
  let c0_86 : Index := 0#32
  ![v153.toNat, 0]
def k0_off11 (k0_t2 : Fin k0_t2_loop.trips) : Fin 2 → Nat :=
  let c0_i32_2 : BitVec 32 := 0#32
  let c1_i32_3 : BitVec 32 := 1#32
  let arg12 : BitVec 32 := Scf.iv c0_i32_2 c1_i32_3 k0_t2
  let v335 : Index := Scalar.indexCast arg12
  let c0_158 : Index := 0#32
  ![v335.toNat, 0]
@[reducible] def k0_t5_loop (k0_t2 : Fin k0_t2_loop.trips) : Scf.Loop 32 :=
  let c0_i32_2 : BitVec 32 := 0#32
  let c1_i32_3 : BitVec 32 := 1#32
  let arg12 : BitVec 32 := Scf.iv c0_i32_2 c1_i32_3 k0_t2
  let c1_i32_160 : BitVec 32 := 1#32
  let v344 : BitVec 32 := Scalar.addi arg12 c1_i32_160
  let c72_i32_161 : BitVec 32 := 72#32
  let v345 : BitVec 32 := Scalar.subi c72_i32_161 v344
  let c1_i32_163 : BitVec 32 := 1#32
  let v347 : BitVec 32 := Scalar.divsi v345 c1_i32_163
  let v348 : BitVec 32 := Scalar.muli v347 c1_i32_163
  let v349 : BitVec 32 := Scalar.addi v344 v348
  let c1_i32_164 : BitVec 32 := 1#32
  ⟨v344, v349, c1_i32_164⟩
def k0_off12 (k0_t2 : Fin k0_t2_loop.trips) (k0_t5 : Fin (k0_t5_loop k0_t2).trips) : Fin 2 → Nat :=
  let c72_i32_166 : BitVec 32 := 72#32
  let c0_i32_2 : BitVec 32 := 0#32
  let c1_i32_3 : BitVec 32 := 1#32
  let arg12 : BitVec 32 := Scf.iv c0_i32_2 c1_i32_3 k0_t2
  let c1_i32_160 : BitVec 32 := 1#32
  let v344 : BitVec 32 := Scalar.addi arg12 c1_i32_160
  let c1_i32_164 : BitVec 32 := 1#32
  let arg13 : BitVec 32 := Scf.iv v344 c1_i32_164 k0_t5
  let v352 : BitVec 32 := Scalar.addi c72_i32_166 arg13
  let c8_i32_167 : BitVec 32 := 8#32
  let v353 : BitVec 32 := Scalar.muli v352 c8_i32_167
  let v354 : Index := Scalar.indexCast v353
  let c0_168 : Index := 0#32
  ![v354.toNat, 0]
def k0_off13 (k0_t2 : Fin k0_t2_loop.trips) (k0_t5 : Fin (k0_t5_loop k0_t2).trips) : Fin 2 → Nat :=
  let c0_i32_2 : BitVec 32 := 0#32
  let c1_i32_3 : BitVec 32 := 1#32
  let arg12 : BitVec 32 := Scf.iv c0_i32_2 c1_i32_3 k0_t2
  let c1_i32_160 : BitVec 32 := 1#32
  let v344 : BitVec 32 := Scalar.addi arg12 c1_i32_160
  let c1_i32_164 : BitVec 32 := 1#32
  let arg13 : BitVec 32 := Scf.iv v344 c1_i32_164 k0_t5
  let c8_i32_169 : BitVec 32 := 8#32
  let v356 : BitVec 32 := Scalar.muli arg13 c8_i32_169
  let v357 : Index := Scalar.indexCast v356
  let c0_170 : Index := 0#32
  ![v357.toNat, 0]
def k0_off14 (k0_t2 : Fin k0_t2_loop.trips) (k0_t5 : Fin (k0_t5_loop k0_t2).trips) (c0_i32_172 : BitVec 32) : Fin 2 → Nat :=
  let c0_i32_2 : BitVec 32 := 0#32
  let c1_i32_3 : BitVec 32 := 1#32
  let arg12 : BitVec 32 := Scf.iv c0_i32_2 c1_i32_3 k0_t2
  let c1_i32_160 : BitVec 32 := 1#32
  let v344 : BitVec 32 := Scalar.addi arg12 c1_i32_160
  let c1_i32_164 : BitVec 32 := 1#32
  let arg13 : BitVec 32 := Scf.iv v344 c1_i32_164 k0_t5
  let c177_i32_171 : BitVec 32 := 177#32
  let v362 : BitVec 32 := Scalar.muli arg13 c177_i32_171
  let v363 : BitVec 32 := Scalar.addi v362 c0_i32_172
  let v364 : Index := Scalar.indexCast v363
  let c0_173 : Index := 0#32
  ![v364.toNat, 0]
@[reducible] def k0_t6_loop (k0_t2 : Fin k0_t2_loop.trips) : Scf.Loop 32 :=
  let c0_i32_2 : BitVec 32 := 0#32
  let c1_i32_3 : BitVec 32 := 1#32
  let arg12 : BitVec 32 := Scf.iv c0_i32_2 c1_i32_3 k0_t2
  let c1_i32_160 : BitVec 32 := 1#32
  let v344 : BitVec 32 := Scalar.addi arg12 c1_i32_160
  let c72_i32_161 : BitVec 32 := 72#32
  let v345 : BitVec 32 := Scalar.subi c72_i32_161 v344
  let c1_i32_163 : BitVec 32 := 1#32
  let v347 : BitVec 32 := Scalar.divsi v345 c1_i32_163
  let v348 : BitVec 32 := Scalar.muli v347 c1_i32_163
  let v349 : BitVec 32 := Scalar.addi v344 v348
  let v346 : BitVec 32 := Scalar.addi v344 v345
  let c1_i32_165 : BitVec 32 := 1#32
  ⟨v349, v346, c1_i32_165⟩
def k0_off15 (k0_t2 : Fin k0_t2_loop.trips) (k0_t6 : Fin (k0_t6_loop k0_t2).trips) : Fin 2 → Nat :=
  let c72_i32_166 : BitVec 32 := 72#32
  let c0_i32_2 : BitVec 32 := 0#32
  let c1_i32_3 : BitVec 32 := 1#32
  let arg12 : BitVec 32 := Scf.iv c0_i32_2 c1_i32_3 k0_t2
  let c1_i32_160 : BitVec 32 := 1#32
  let v344 : BitVec 32 := Scalar.addi arg12 c1_i32_160
  let c72_i32_161 : BitVec 32 := 72#32
  let v345 : BitVec 32 := Scalar.subi c72_i32_161 v344
  let c1_i32_163 : BitVec 32 := 1#32
  let v347 : BitVec 32 := Scalar.divsi v345 c1_i32_163
  let v348 : BitVec 32 := Scalar.muli v347 c1_i32_163
  let v349 : BitVec 32 := Scalar.addi v344 v348
  let c1_i32_165 : BitVec 32 := 1#32
  let arg13 : BitVec 32 := Scf.iv v349 c1_i32_165 k0_t6
  let v352 : BitVec 32 := Scalar.addi c72_i32_166 arg13
  let c8_i32_167 : BitVec 32 := 8#32
  let v353 : BitVec 32 := Scalar.muli v352 c8_i32_167
  let v354 : Index := Scalar.indexCast v353
  let c0_168 : Index := 0#32
  ![v354.toNat, 0]
def k0_off16 (k0_t2 : Fin k0_t2_loop.trips) (k0_t6 : Fin (k0_t6_loop k0_t2).trips) : Fin 2 → Nat :=
  let c0_i32_2 : BitVec 32 := 0#32
  let c1_i32_3 : BitVec 32 := 1#32
  let arg12 : BitVec 32 := Scf.iv c0_i32_2 c1_i32_3 k0_t2
  let c1_i32_160 : BitVec 32 := 1#32
  let v344 : BitVec 32 := Scalar.addi arg12 c1_i32_160
  let c72_i32_161 : BitVec 32 := 72#32
  let v345 : BitVec 32 := Scalar.subi c72_i32_161 v344
  let c1_i32_163 : BitVec 32 := 1#32
  let v347 : BitVec 32 := Scalar.divsi v345 c1_i32_163
  let v348 : BitVec 32 := Scalar.muli v347 c1_i32_163
  let v349 : BitVec 32 := Scalar.addi v344 v348
  let c1_i32_165 : BitVec 32 := 1#32
  let arg13 : BitVec 32 := Scf.iv v349 c1_i32_165 k0_t6
  let c8_i32_169 : BitVec 32 := 8#32
  let v356 : BitVec 32 := Scalar.muli arg13 c8_i32_169
  let v357 : Index := Scalar.indexCast v356
  let c0_170 : Index := 0#32
  ![v357.toNat, 0]
def k0_off17 (k0_t2 : Fin k0_t2_loop.trips) (k0_t6 : Fin (k0_t6_loop k0_t2).trips) (c0_i32_172 : BitVec 32) : Fin 2 → Nat :=
  let c0_i32_2 : BitVec 32 := 0#32
  let c1_i32_3 : BitVec 32 := 1#32
  let arg12 : BitVec 32 := Scf.iv c0_i32_2 c1_i32_3 k0_t2
  let c1_i32_160 : BitVec 32 := 1#32
  let v344 : BitVec 32 := Scalar.addi arg12 c1_i32_160
  let c72_i32_161 : BitVec 32 := 72#32
  let v345 : BitVec 32 := Scalar.subi c72_i32_161 v344
  let c1_i32_163 : BitVec 32 := 1#32
  let v347 : BitVec 32 := Scalar.divsi v345 c1_i32_163
  let v348 : BitVec 32 := Scalar.muli v347 c1_i32_163
  let v349 : BitVec 32 := Scalar.addi v344 v348
  let c1_i32_165 : BitVec 32 := 1#32
  let arg13 : BitVec 32 := Scf.iv v349 c1_i32_165 k0_t6
  let c177_i32_171 : BitVec 32 := 177#32
  let v362 : BitVec 32 := Scalar.muli arg13 c177_i32_171
  let v363 : BitVec 32 := Scalar.addi v362 c0_i32_172
  let v364 : Index := Scalar.indexCast v363
  let c0_173 : Index := 0#32
  ![v364.toNat, 0]
@[reducible] def k0_t7_loop : Scf.Loop 32 :=
  let c0_i32_11 : BitVec 32 := 0#32
  let c176_i32_12 : BitVec 32 := 176#32
  let v15 : BitVec 32 := Scalar.addi c0_i32_11 c176_i32_12
  let c1_i32_13 : BitVec 32 := 1#32
  ⟨c0_i32_11, v15, c1_i32_13⟩
def k0_off18 (k0_t7 : Fin k0_t7_loop.trips) (c0_i32_31 : BitVec 32) : Fin 2 → Nat :=
  let c0_i32_11 : BitVec 32 := 0#32
  let c1_i32_13 : BitVec 32 := 1#32
  let arg12 : BitVec 32 := Scf.iv c0_i32_11 c1_i32_13 k0_t7
  let v40 : BitVec 32 := Scalar.addi c0_i32_31 arg12
  let v41 : Index := Scalar.indexCast v40
  let c0_32 : Index := 0#32
  ![v41.toNat, 0]
def k0_off19 (k0_t7 : Fin k0_t7_loop.trips) : Fin 2 → Nat :=
  let c0_i32_11 : BitVec 32 := 0#32
  let c1_i32_13 : BitVec 32 := 1#32
  let arg12 : BitVec 32 := Scf.iv c0_i32_11 c1_i32_13 k0_t7
  let v156 : Index := Scalar.indexCast arg12
  let c0_60 : Index := 0#32
  ![v156.toNat, 0]
def k0_mult3 (k0_t7 : Fin k0_t7_loop.trips) : BitVec 32 :=
  let c0_i32_11 : BitVec 32 := 0#32
  let c1_i32_13 : BitVec 32 := 1#32
  let arg12 : BitVec 32 := Scf.iv c0_i32_11 c1_i32_13 k0_t7
  let c128_i32_61 : BitVec 32 := 128#32
  let v159 : BitVec 32 := Scalar.muli arg12 c128_i32_61
  v159
def k0_off20 (k0_t7 : Fin k0_t7_loop.trips) : Fin 2 → Nat :=
  let c0_i32_11 : BitVec 32 := 0#32
  let c1_i32_13 : BitVec 32 := 1#32
  let arg12 : BitVec 32 := Scf.iv c0_i32_11 c1_i32_13 k0_t7
  let c128_i32_61 : BitVec 32 := 128#32
  let v159 : BitVec 32 := Scalar.muli arg12 c128_i32_61
  let v160 : BitVec 32 := v159
  let v162 : Index := Scalar.indexCast v160
  let c0_62 : Index := 0#32
  ![v162.toNat, 0]
def k0_off21 (k0_t7 : Fin k0_t7_loop.trips) : Fin 2 → Nat :=
  let c0_i32_11 : BitVec 32 := 0#32
  let c1_i32_13 : BitVec 32 := 1#32
  let arg12 : BitVec 32 := Scf.iv c0_i32_11 c1_i32_13 k0_t7
  let c128_i32_61 : BitVec 32 := 128#32
  let v159 : BitVec 32 := Scalar.muli arg12 c128_i32_61
  let v160 : BitVec 32 := v159
  let v172 : Index := Scalar.indexCast v160
  let c0_65 : Index := 0#32
  ![v172.toNat, 0]
def k0_off22 (k0_t7 : Fin k0_t7_loop.trips) : Fin 2 → Nat :=
  let c0_69 : Index := 0#32
  let c0_i32_11 : BitVec 32 := 0#32
  let c1_i32_13 : BitVec 32 := 1#32
  let arg12 : BitVec 32 := Scf.iv c0_i32_11 c1_i32_13 k0_t7
  let c128_i32_61 : BitVec 32 := 128#32
  let v159 : BitVec 32 := Scalar.muli arg12 c128_i32_61
  let v160 : BitVec 32 := v159
  let v191 : Index := Scalar.indexCast v160
  ![0, v191.toNat]
@[reducible] def k0_t8_loop : Scf.Loop 32 :=
  let c0_i32_23 : BitVec 32 := 0#32
  let c72_i32_24 : BitVec 32 := 72#32
  let v36 : BitVec 32 := Scalar.addi c0_i32_23 c72_i32_24
  let c1_i32_25 : BitVec 32 := 1#32
  ⟨c0_i32_23, v36, c1_i32_25⟩
def k0_off23 (k0_t8 : Fin k0_t8_loop.trips) : Fin 2 → Nat :=
  let c71_i32 : BitVec 32 := 71#32
  let c0_i32_23 : BitVec 32 := 0#32
  let c1_i32_25 : BitVec 32 := 1#32
  let arg12 : BitVec 32 := Scf.iv c0_i32_23 c1_i32_25 k0_t8
  let v40 : BitVec 32 := Scalar.subi c71_i32 arg12
  let v41 : Index := Scalar.indexCast v40
  let c0_31 : Index := 0#32
  ![v41.toNat, 0]
abbrev stage0_0 : Fin 1 → Memref sig .tc .vmem S22528x72 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S22528x72 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S72x72 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S72x72 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S22528x72 .fp8e4m3 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S176x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S80x22528 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S22528x128 .fp8e4m3 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
-- ==== PanelReferenceIdeal.lean ====
abbrev S22528x72 : Shape := ⟨2, ![22528, 72]⟩
abbrev S72x72 : Shape := ⟨2, ![72, 72]⟩
abbrev S22528x1 : Shape := ⟨2, ![22528, 1]⟩
abbrev S22528 : Shape := ⟨1, ![22528]⟩
abbrev S1 : Shape := ⟨1, ![1]⟩
abbrev S1x1 : Shape := ⟨2, ![1, 1]⟩
abbrev S72 : Shape := ⟨1, ![72]⟩
abbrev S1x72 : Shape := ⟨2, ![1, 72]⟩

abbrev nBuf : Space → Nat
  | .hbm => 2
  | .vmem => 2
  | .smem => 0
  | _ => 0

abbrev bufTy : (tb : Table) → Fin (tcTables nBuf tb) → BufTy
  | .hbm, ⟨0, _⟩ => ⟨S22528x72, .f32⟩
  | .hbm, ⟨1, _⟩ => ⟨S72x72, .f32⟩
  | .local _ .vmem, ⟨0, _⟩ => ⟨S22528x72, .f32⟩
  | .local _ .vmem, ⟨1, _⟩ => ⟨S72x72, .f32⟩
  | _, _ => ⟨S22528x72, .f32⟩

abbrev bufScoped : (cs : CoreSpace) → Fin (nBuf (.core cs)) → Bool
  | .vmem, ⟨0, _⟩ => true
  | .vmem, ⟨1, _⟩ => true
  | _, _ => false

abbrev semScoped : Fin 0 → Bool
  | ⟨_, h⟩ => absurd h (Nat.not_lt_zero _)

abbrev dmaSemScoped : Fin 2 → Bool
  | ⟨0, _⟩ => true
  | ⟨1, _⟩ => true
  | _ => false

abbrev sig : RefSig :=
  ofTc nBuf bufTy 0 2 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg1_0 : Ref sig .tc := ⟨.vmem, 1, rfl⟩
abbrev cc0_sem0_0 : DmaSem sig := 0
abbrev cc0_sem1_0 : DmaSem sig := 1

abbrev nD : Nat := 1
abbrev τ : Topo := Topo.v7x

variable {F : FTy → Type} [FloatOps F]

abbrev grid0 : Pipeline.Grid := .none

@[reducible] def k0_t1_loop : Scf.Loop 32 :=
  let c0_i32 : BitVec 32 := 0#32
  let c72_i32 : BitVec 32 := 72#32
  let v4 : BitVec 32 := Scalar.addi c0_i32 c72_i32
  let c1_i32 : BitVec 32 := 1#32
  ⟨c0_i32, v4, c1_i32⟩
abbrev stage0_0 : Fin 1 → Memref sig .tc .vmem S22528x72 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S72x72 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
-- ==== Proof.RawLoop.lean ====
/- The counted loop of the kernel's second phase: what a trip stores does not depend on what the
   buffers it stores into held before, and so neither do the pieces all the trips leave. -/
module

public import proofs.«01_k».proof.Proof.Gen.Kernel.Loops

@[expose] public section

set_option maxRecDepth 16384

noncomputable section

namespace Cert.Kernel.Run

open Cert.Kernel Cert.Kernel.Gen Idealize.ShloMosaic Idealize.ShloMosaic.TcCoe Idealize.SL.Sem

variable {F : FTy → Type} [FloatOps F]

/-- One trip's stores are the same whatever the three buffers it writes held at its start: it reads back
    only what it has itself stored. -/
theorem tripL_indep (𝒱 : Variants) (c : Dev nD) (bd : Option 𝒱.V) (i : grid0.Coords) (arg1 : Memref sig .tc .vmem S22528x256 .fp8e4m3) (harg1 : arg1.IsWhole) (arg2 : Memref sig .tc .vmem S176x256 .f32) (harg2 : arg2.IsWhole) (arg3 : Memref sig .tc .vmem S80x22528 .bf16) (harg3 : arg3.IsWhole) (arg4 : Memref sig .tc .vmem S22528x128 .fp8e4m3) (harg4 : arg4.IsWhole) (arg5 : Memref sig .tc .vmem S176x128 .f32) (harg5 : arg5.IsWhole) (arg6 : Memref sig .tc .vmem S72x72 .f32) (harg6 : arg6.IsWhole) (arg7 : Memref sig .tc .vmem S22528x256 .fp8e4m3) (harg7 : arg7.IsWhole) (arg8 : Memref sig .tc .vmem S176x256 .f32) (harg8 : arg8.IsWhole) (arg9 : Memref sig .tc .vmem S72x256 .fp8e4m3) (harg9 : arg9.IsWhole) (arg10 : Memref sig .tc .vmem S1x256 .f32) (harg10 : arg10.IsWhole) (arg11 : Memref sig .tc .vmem S1024x256 .f32) (harg11 : arg11.IsWhole) (v5 : FVec F S72x256 .f32) (v82 : FVec F S8x256 .f32) (v84 : IVec S8x256 32) (X_arg1 : BufTy.Contents (Elt F) arg1.view.ty) (X_arg2 : BufTy.Contents (Elt F) arg2.view.ty) (X_arg4 : BufTy.Contents (Elt F) arg4.view.ty) (X_arg5 : BufTy.Contents (Elt F) arg5.view.ty) (k : Fin k0_t2_loop.trips) (f7 : BufTy.Contents (Elt F) arg7.view.ty) (f8 : BufTy.Contents (Elt F) arg8.view.ty) (f11 : BufTy.Contents (Elt F) arg11.view.ty) (g7 : BufTy.Contents (Elt F) arg7.view.ty) (g8 : BufTy.Contents (Elt F) arg8.view.ty) (g11 : BufTy.Contents (Elt F) arg11.view.ty) :
    tripL_k0_t2 𝒱 c bd i arg1 harg1 arg2 harg2 arg3 harg3 arg4 harg4 arg5 harg5 arg6 harg6 arg7 harg7 arg8 harg8 arg9 harg9 arg10 harg10 arg11 harg11 v5 v82 v84 X_arg1 X_arg2 X_arg4 X_arg5 k f7 f8 f11 = tripL_k0_t2 𝒱 c bd i arg1 harg1 arg2 harg2 arg3 harg3 arg4 harg4 arg5 harg5 arg6 harg6 arg7 harg7 arg8 harg8 arg9 harg9 arg10 harg10 arg11 harg11 v5 v82 v84 X_arg1 X_arg2 X_arg4 X_arg5 k g7 g8 g11 := by
  unfold tripL_k0_t2 trip_k0_t2
  rfl

/-- The pieces of the first `n` trips are the same whatever the three buffers held at the loop's start. -/
theorem pb_indep (𝒱 : Variants) (c : Dev nD) (bd : Option 𝒱.V) (i : grid0.Coords) (arg1 : Memref sig .tc .vmem S22528x256 .fp8e4m3) (harg1 : arg1.IsWhole) (arg2 : Memref sig .tc .vmem S176x256 .f32) (harg2 : arg2.IsWhole) (arg3 : Memref sig .tc .vmem S80x22528 .bf16) (harg3 : arg3.IsWhole) (arg4 : Memref sig .tc .vmem S22528x128 .fp8e4m3) (harg4 : arg4.IsWhole) (arg5 : Memref sig .tc .vmem S176x128 .f32) (harg5 : arg5.IsWhole) (arg6 : Memref sig .tc .vmem S72x72 .f32) (harg6 : arg6.IsWhole) (arg7 : Memref sig .tc .vmem S22528x256 .fp8e4m3) (harg7 : arg7.IsWhole) (arg8 : Memref sig .tc .vmem S176x256 .f32) (harg8 : arg8.IsWhole) (arg9 : Memref sig .tc .vmem S72x256 .fp8e4m3) (harg9 : arg9.IsWhole) (arg10 : Memref sig .tc .vmem S1x256 .f32) (harg10 : arg10.IsWhole) (arg11 : Memref sig .tc .vmem S1024x256 .f32) (harg11 : arg11.IsWhole) (v5 : FVec F S72x256 .f32) (v82 : FVec F S8x256 .f32) (v84 : IVec S8x256 32) (X_arg1 : BufTy.Contents (Elt F) arg1.view.ty) (X_arg2 : BufTy.Contents (Elt F) arg2.view.ty) (X_arg4 : BufTy.Contents (Elt F) arg4.view.ty) (X_arg5 : BufTy.Contents (Elt F) arg5.view.ty) (f7 : BufTy.Contents (Elt F) arg7.view.ty) (f8 : BufTy.Contents (Elt F) arg8.view.ty) (f11 : BufTy.Contents (Elt F) arg11.view.ty) (g7 : BufTy.Contents (Elt F) arg7.view.ty) (g8 : BufTy.Contents (Elt F) arg8.view.ty) (g11 : BufTy.Contents (Elt F) arg11.view.ty) (n : ℕ) :
    pb_k0_t2 𝒱 c bd i arg1 harg1 arg2 harg2 arg3 harg3 arg4 harg4 arg5 harg5 arg6 harg6 arg7 harg7 arg8 harg8 arg9 harg9 arg10 harg10 arg11 harg11 v5 v82 v84 X_arg1 X_arg2 X_arg4 X_arg5 f7 f8 f11 n = pb_k0_t2 𝒱 c bd i arg1 harg1 arg2 harg2 arg3 harg3 arg4 harg4 arg5 harg5 arg6 harg6 arg7 harg7 arg8 harg8 arg9 harg9 arg10 harg10 arg11 harg11 v5 v82 v84 X_arg1 X_arg2 X_arg4 X_arg5 g7 g8 g11 n := by
  induction n with
  | zero => rfl
  | succ n ih =>
    by_cases h : n < k0_t2_loop.trips
    · rw [pb_k0_t2_succ 𝒱 c bd i arg1 harg1 arg2 harg2 arg3 harg3 arg4 harg4 arg5 harg5 arg6 harg6 arg7 harg7 arg8 harg8 arg9 harg9 arg10 harg10 arg11 harg11 v5 v82 v84 X_arg1 X_arg2 X_arg4 X_arg5 f7 f8 f11 ⟨n, h⟩, pb_k0_t2_succ 𝒱 c bd i arg1 harg1 arg2 harg2 arg3 harg3 arg4 harg4 arg5 harg5 arg6 harg6 arg7 harg7 arg8 harg8 arg9 harg9 arg10 harg10 arg11 harg11 v5 v82 v84 X_arg1 X_arg2 X_arg4 X_arg5 g7 g8 g11 ⟨n, h⟩]
      rw [tripL_indep (g7 := g7) (g8 := g8) (g11 := g11)]
      rw [tripL_indep 𝒱 c bd i arg1 harg1 arg2 harg2 arg3 harg3 arg4 harg4 arg5 harg5 arg6 harg6 arg7 harg7 arg8 harg8 arg9 harg9 arg10 harg10 arg11 harg11 v5 v82 v84 X_arg1 X_arg2 X_arg4 X_arg5 ⟨n, h⟩ (arg7.view.writes (Elt F) g7 _) _ _ g7 g8 g11]
      simp only [ih]
    · rw [pb_k0_t2.eq_2, pb_k0_t2.eq_2]
      unfold pb_k0_t2Step
      rw [dif_neg h, dif_neg h, ih]

end Cert.Kernel.Run

end
-- ==== Proof.RawRun.lean ====
/- The whole body of the kernel run once at a symbolic grid point: the pieces each output buffer is left with. -/
module

public import proofs.«01_k».proof.Proof.Gen.Kernel.Frame.Runs
public import proofs.«01_k».proof.Proof.RawLoop

@[expose] public section

-- membership in a rectangle of production extents (`View.cover_of_tiled`): the elaborator's structural look
-- recurses once per coordinate of the long axes
set_option maxRecDepth 16384

noncomputable section

namespace Cert.Kernel.Run

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- (the run's proof term is large: the definition's epilogue — `abstractNestedProofs` — walks it past the default budget)
set_option maxHeartbeats 1000000 in
/-- What the body's stores leave in each output's staging memref, as pieces (last first), WITH the
    proof that on whole staging memrefs — the inputs' at their contents, the other outputs' at
    anything, the scratch buffers at anything, the body runs to the continuation holding the inputs' as they were,
    the scratch at some contents, each output's buffer with its pieces written: the printed functions are their skeletons
    (`Gen.*_eq_skeleton`), which `sl_exec` runs (Lib/Exec.lean); the pieces are
    the witness that run finds (assigned when `iexact` hands the buffer to the continuation). -/
noncomputable def kernelRun0_A (c : Dev nD) (i : grid0.Coords) (arg1 : Memref sig .tc .vmem S22528x256 .fp8e4m3) (harg1 : arg1.IsWhole) (arg2 : Memref sig .tc .vmem S176x256 .f32) (harg2 : arg2.IsWhole) (arg3 : Memref sig .tc .vmem S80x22528 .bf16) (harg3 : arg3.IsWhole) (arg4 : Memref sig .tc .vmem S22528x128 .fp8e4m3) (harg4 : arg4.IsWhole) (arg5 : Memref sig .tc .vmem S176x128 .f32) (harg5 : arg5.IsWhole) (arg6 : Memref sig .tc .vmem S72x72 .f32) (harg6 : arg6.IsWhole) (arg7 : Memref sig .tc .vmem S22528x256 .fp8e4m3) (harg7 : arg7.IsWhole) (arg8 : Memref sig .tc .vmem S176x256 .f32) (harg8 : arg8.IsWhole) (arg9 : Memref sig .tc .vmem S72x256 .fp8e4m3) (harg9 : arg9.IsWhole) (arg10 : Memref sig .tc .vmem S1x256 .f32) (harg10 : arg10.IsWhole) (arg11 : Memref sig .tc .vmem S1024x256 .f32) (harg11 : arg11.IsWhole)
    (x0 : Vec F S22528x256 .fp8e4m3) (x1 : Vec F S176x256 .f32) (x2 : Vec F S80x22528 .bf16) (x3 : Vec F S22528x128 .fp8e4m3) (x4 : Vec F S176x128 .f32) (x5 : Vec F S72x72 .f32) :
    Σ' (L6 : List (View.Piece (Elt F) S22528x256 .fp8e4m3)), Σ' (L7 : List (View.Piece (Elt F) S176x256 .f32)), Σ' (L8 : List (View.Piece (Elt F) S72x256 .fp8e4m3)), { L9 : List (View.Piece (Elt F) S1x256 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ f, arg7.view.loc (c : Thread nD τ) ↦[arg7.view.set]{fullShare} arg7.view.writes (Elt F) f L6) ∗ (∃ f, arg8.view.loc (c : Thread nD τ) ↦[arg8.view.set]{fullShare} arg8.view.writes (Elt F) f L7) ∗ (∃ f, arg9.view.loc (c : Thread nD τ) ↦[arg9.view.set]{fullShare} arg9.view.writes (Elt F) f L8) ∗ (∃ f, arg10.view.loc (c : Thread nD τ) ↦[arg10.view.set]{fullShare} arg10.view.writes (Elt F) f L9) ∗ (∃ d, owns (c : Thread nD τ) arg11 fullShare d)) -∗ K ⟨⟩))
          ⊢ wp frame (wpE (defs₀ (F := F)) Variants.none c none) E (cc0_trailing i arg1 harg1 arg2 harg2 arg3 harg3 arg4 harg4 arg5 harg5 arg6 harg6 arg7 harg7 arg8 harg8 arg9 harg9 arg10 harg10 arg11 harg11) K } := by
  refine ⟨?_, ?_, ?_, ?_, fun E K => ?run⟩
  case run =>
    simp only [cc0_trailing_eq_skeleton]; unfold cc0_trailing_skel
    simp only [k0_part13_eq_skeleton, k0_part14_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, ⟨%d8, %f8, -, H8⟩, ⟨%d9, %f9, -, H9⟩, ⟨%ds0, %fs0, -, HS0⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5
    sl_exec
    sl_step
    rw [pb_indep _ _ _ _ _ _ _ _ _ _ _ _ _ _ _ _ _ _ _ _ _ _ _ _ _ _ _ _ _ _ _ _ _ f6 f7 fs0 arg7.view.junk arg8.view.junk arg11.view.junk _]
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]; · iexists _; iexact H6
    isplitl [H7]; · iexists _; iexact H7
    isplitl [H8]; · iexists _; iexact H8
    isplitl [H9]; · iexists _; iexact H9
    iexists _, _; isplitr; swap; · iexact HS0
    ipureintro; rfl

end Cert.Kernel.Run

end
-- ==== Proof.RawFrame.lean ====
/- The frame of the compiled kernel: what its outputs hold point by point, and the run of the whole program. -/
module

public import proofs.«01_k».proof.Proof.RawRun
public import Idealize.ShloMosaic.Lib.Claim

@[expose] public section

-- membership in a rectangle of production extents (`View.cover_of_tiled`): the elaborator's structural look
-- recurses once per coordinate of the long axes
set_option maxRecDepth 16384

noncomputable section

namespace Cert.Kernel.Run

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
/-- The run's pieces for output 6 tile its block (176 stores of `S128x256`, checked by the kernel's evaluation: Lib/Ring.lean `Piece.tiledL`, linear in the pieces, through a loop's `@[irreducible]` trip theorem too), so they cover it. -/
theorem cover0_A_6 (c : Dev nD) (i : grid0.Coords) (arg1 : Memref sig .tc .vmem S22528x256 .fp8e4m3) (harg1 : arg1.IsWhole) (arg2 : Memref sig .tc .vmem S176x256 .f32) (harg2 : arg2.IsWhole) (arg3 : Memref sig .tc .vmem S80x22528 .bf16) (harg3 : arg3.IsWhole) (arg4 : Memref sig .tc .vmem S22528x128 .fp8e4m3) (harg4 : arg4.IsWhole) (arg5 : Memref sig .tc .vmem S176x128 .f32) (harg5 : arg5.IsWhole) (arg6 : Memref sig .tc .vmem S72x72 .f32) (harg6 : arg6.IsWhole) (arg7 : Memref sig .tc .vmem S22528x256 .fp8e4m3) (harg7 : arg7.IsWhole) (arg8 : Memref sig .tc .vmem S176x256 .f32) (harg8 : arg8.IsWhole) (arg9 : Memref sig .tc .vmem S72x256 .fp8e4m3) (harg9 : arg9.IsWhole) (arg10 : Memref sig .tc .vmem S1x256 .f32) (harg10 : arg10.IsWhole) (arg11 : Memref sig .tc .vmem S1024x256 .f32) (harg11 : arg11.IsWhole)
    (x0 : Vec F S22528x256 .fp8e4m3) (x1 : Vec F S176x256 .f32) (x2 : Vec F S80x22528 .bf16) (x3 : Vec F S22528x128 .fp8e4m3) (x4 : Vec F S176x128 .f32) (x5 : Vec F S72x72 .f32) (y : S22528x256.Idx) :
    ∃ pc ∈ (kernelRun0_A c i arg1 harg1 arg2 harg2 arg3 harg3 arg4 harg4 arg5 harg5 arg6 harg6 arg7 harg7 arg8 harg8 arg9 harg9 arg10 harg10 arg11 harg11 x0 x1 x2 x3 x4 x5).1, y ∈ pc.1.set :=
  View.cover_of_tiledL (kernelRun0_A c i arg1 harg1 arg2 harg2 arg3 harg3 arg4 harg4 arg5 harg5 arg6 harg6 arg7 harg7 arg8 harg8 arg9 harg9 arg10 harg10 arg11 harg11 x0 x1 x2 x3 x4 x5).1 S128x256.size (by sl_kernel_rfl) y

/-- What the run leaves in output 6's staging buffer: its pieces read back over junk. -/
def out0_A_6 (c : Dev nD) (i : grid0.Coords) (arg1 : Memref sig .tc .vmem S22528x256 .fp8e4m3) (harg1 : arg1.IsWhole) (arg2 : Memref sig .tc .vmem S176x256 .f32) (harg2 : arg2.IsWhole) (arg3 : Memref sig .tc .vmem S80x22528 .bf16) (harg3 : arg3.IsWhole) (arg4 : Memref sig .tc .vmem S22528x128 .fp8e4m3) (harg4 : arg4.IsWhole) (arg5 : Memref sig .tc .vmem S176x128 .f32) (harg5 : arg5.IsWhole) (arg6 : Memref sig .tc .vmem S72x72 .f32) (harg6 : arg6.IsWhole) (arg7 : Memref sig .tc .vmem S22528x256 .fp8e4m3) (harg7 : arg7.IsWhole) (arg8 : Memref sig .tc .vmem S176x256 .f32) (harg8 : arg8.IsWhole) (arg9 : Memref sig .tc .vmem S72x256 .fp8e4m3) (harg9 : arg9.IsWhole) (arg10 : Memref sig .tc .vmem S1x256 .f32) (harg10 : arg10.IsWhole) (arg11 : Memref sig .tc .vmem S1024x256 .f32) (harg11 : arg11.IsWhole)
    (x0 : Vec F S22528x256 .fp8e4m3) (x1 : Vec F S176x256 .f32) (x2 : Vec F S80x22528 .bf16) (x3 : Vec F S22528x128 .fp8e4m3) (x4 : Vec F S176x128 .f32) (x5 : Vec F S72x72 .f32) : Vec F S22528x256 .fp8e4m3 :=
  VO0_6.read (Elt F) (VO0_6.writes (Elt F) VO0_6.junk (kernelRun0_A c i arg1 harg1 arg2 harg2 arg3 harg3 arg4 harg4 arg5 harg5 arg6 harg6 arg7 harg7 arg8 harg8 arg9 harg9 arg10 harg10 arg11 harg11 x0 x1 x2 x3 x4 x5).1)

/-- The run's pieces for output 7 tile its block (22 stores of `S8x256`, checked by the kernel's evaluation: Lib/Ring.lean `Piece.tiledL`, linear in the pieces, through a loop's `@[irreducible]` trip theorem too), so they cover it. -/
theorem cover0_A_7 (c : Dev nD) (i : grid0.Coords) (arg1 : Memref sig .tc .vmem S22528x256 .fp8e4m3) (harg1 : arg1.IsWhole) (arg2 : Memref sig .tc .vmem S176x256 .f32) (harg2 : arg2.IsWhole) (arg3 : Memref sig .tc .vmem S80x22528 .bf16) (harg3 : arg3.IsWhole) (arg4 : Memref sig .tc .vmem S22528x128 .fp8e4m3) (harg4 : arg4.IsWhole) (arg5 : Memref sig .tc .vmem S176x128 .f32) (harg5 : arg5.IsWhole) (arg6 : Memref sig .tc .vmem S72x72 .f32) (harg6 : arg6.IsWhole) (arg7 : Memref sig .tc .vmem S22528x256 .fp8e4m3) (harg7 : arg7.IsWhole) (arg8 : Memref sig .tc .vmem S176x256 .f32) (harg8 : arg8.IsWhole) (arg9 : Memref sig .tc .vmem S72x256 .fp8e4m3) (harg9 : arg9.IsWhole) (arg10 : Memref sig .tc .vmem S1x256 .f32) (harg10 : arg10.IsWhole) (arg11 : Memref sig .tc .vmem S1024x256 .f32) (harg11 : arg11.IsWhole)
    (x0 : Vec F S22528x256 .fp8e4m3) (x1 : Vec F S176x256 .f32) (x2 : Vec F S80x22528 .bf16) (x3 : Vec F S22528x128 .fp8e4m3) (x4 : Vec F S176x128 .f32) (x5 : Vec F S72x72 .f32) (y : S176x256.Idx) :
    ∃ pc ∈ (kernelRun0_A c i arg1 harg1 arg2 harg2 arg3 harg3 arg4 harg4 arg5 harg5 arg6 harg6 arg7 harg7 arg8 harg8 arg9 harg9 arg10 harg10 arg11 harg11 x0 x1 x2 x3 x4 x5).2.1, y ∈ pc.1.set :=
  View.cover_of_tiledL (kernelRun0_A c i arg1 harg1 arg2 harg2 arg3 harg3 arg4 harg4 arg5 harg5 arg6 harg6 arg7 harg7 arg8 harg8 arg9 harg9 arg10 harg10 arg11 harg11 x0 x1 x2 x3 x4 x5).2.1 S8x256.size (by sl_kernel_rfl) y

/-- What the run leaves in output 7's staging buffer: its pieces read back over junk. -/
def out0_A_7 (c : Dev nD) (i : grid0.Coords) (arg1 : Memref sig .tc .vmem S22528x256 .fp8e4m3) (harg1 : arg1.IsWhole) (arg2 : Memref sig .tc .vmem S176x256 .f32) (harg2 : arg2.IsWhole) (arg3 : Memref sig .tc .vmem S80x22528 .bf16) (harg3 : arg3.IsWhole) (arg4 : Memref sig .tc .vmem S22528x128 .fp8e4m3) (harg4 : arg4.IsWhole) (arg5 : Memref sig .tc .vmem S176x128 .f32) (harg5 : arg5.IsWhole) (arg6 : Memref sig .tc .vmem S72x72 .f32) (harg6 : arg6.IsWhole) (arg7 : Memref sig .tc .vmem S22528x256 .fp8e4m3) (harg7 : arg7.IsWhole) (arg8 : Memref sig .tc .vmem S176x256 .f32) (harg8 : arg8.IsWhole) (arg9 : Memref sig .tc .vmem S72x256 .fp8e4m3) (harg9 : arg9.IsWhole) (arg10 : Memref sig .tc .vmem S1x256 .f32) (harg10 : arg10.IsWhole) (arg11 : Memref sig .tc .vmem S1024x256 .f32) (harg11 : arg11.IsWhole)
    (x0 : Vec F S22528x256 .fp8e4m3) (x1 : Vec F S176x256 .f32) (x2 : Vec F S80x22528 .bf16) (x3 : Vec F S22528x128 .fp8e4m3) (x4 : Vec F S176x128 .f32) (x5 : Vec F S72x72 .f32) : Vec F S176x256 .f32 :=
  VO0_7.read (Elt F) (VO0_7.writes (Elt F) VO0_7.junk (kernelRun0_A c i arg1 harg1 arg2 harg2 arg3 harg3 arg4 harg4 arg5 harg5 arg6 harg6 arg7 harg7 arg8 harg8 arg9 harg9 arg10 harg10 arg11 harg11 x0 x1 x2 x3 x4 x5).2.1)

/-- The run's pieces for output 8 tile its block (1 store of `S72x256`, checked by the kernel's evaluation: Lib/Ring.lean `Piece.tiledL`, linear in the pieces, through a loop's `@[irreducible]` trip theorem too), so they cover it. -/
theorem cover0_A_8 (c : Dev nD) (i : grid0.Coords) (arg1 : Memref sig .tc .vmem S22528x256 .fp8e4m3) (harg1 : arg1.IsWhole) (arg2 : Memref sig .tc .vmem S176x256 .f32) (harg2 : arg2.IsWhole) (arg3 : Memref sig .tc .vmem S80x22528 .bf16) (harg3 : arg3.IsWhole) (arg4 : Memref sig .tc .vmem S22528x128 .fp8e4m3) (harg4 : arg4.IsWhole) (arg5 : Memref sig .tc .vmem S176x128 .f32) (harg5 : arg5.IsWhole) (arg6 : Memref sig .tc .vmem S72x72 .f32) (harg6 : arg6.IsWhole) (arg7 : Memref sig .tc .vmem S22528x256 .fp8e4m3) (harg7 : arg7.IsWhole) (arg8 : Memref sig .tc .vmem S176x256 .f32) (harg8 : arg8.IsWhole) (arg9 : Memref sig .tc .vmem S72x256 .fp8e4m3) (harg9 : arg9.IsWhole) (arg10 : Memref sig .tc .vmem S1x256 .f32) (harg10 : arg10.IsWhole) (arg11 : Memref sig .tc .vmem S1024x256 .f32) (harg11 : arg11.IsWhole)
    (x0 : Vec F S22528x256 .fp8e4m3) (x1 : Vec F S176x256 .f32) (x2 : Vec F S80x22528 .bf16) (x3 : Vec F S22528x128 .fp8e4m3) (x4 : Vec F S176x128 .f32) (x5 : Vec F S72x72 .f32) (y : S72x256.Idx) :
    ∃ pc ∈ (kernelRun0_A c i arg1 harg1 arg2 harg2 arg3 harg3 arg4 harg4 arg5 harg5 arg6 harg6 arg7 harg7 arg8 harg8 arg9 harg9 arg10 harg10 arg11 harg11 x0 x1 x2 x3 x4 x5).2.2.1, y ∈ pc.1.set :=
  View.cover_of_tiledL (kernelRun0_A c i arg1 harg1 arg2 harg2 arg3 harg3 arg4 harg4 arg5 harg5 arg6 harg6 arg7 harg7 arg8 harg8 arg9 harg9 arg10 harg10 arg11 harg11 x0 x1 x2 x3 x4 x5).2.2.1 S72x256.size (by sl_kernel_rfl) y

/-- What the run leaves in output 8's staging buffer: its pieces read back over junk. -/
def out0_A_8 (c : Dev nD) (i : grid0.Coords) (arg1 : Memref sig .tc .vmem S22528x256 .fp8e4m3) (harg1 : arg1.IsWhole) (arg2 : Memref sig .tc .vmem S176x256 .f32) (harg2 : arg2.IsWhole) (arg3 : Memref sig .tc .vmem S80x22528 .bf16) (harg3 : arg3.IsWhole) (arg4 : Memref sig .tc .vmem S22528x128 .fp8e4m3) (harg4 : arg4.IsWhole) (arg5 : Memref sig .tc .vmem S176x128 .f32) (harg5 : arg5.IsWhole) (arg6 : Memref sig .tc .vmem S72x72 .f32) (harg6 : arg6.IsWhole) (arg7 : Memref sig .tc .vmem S22528x256 .fp8e4m3) (harg7 : arg7.IsWhole) (arg8 : Memref sig .tc .vmem S176x256 .f32) (harg8 : arg8.IsWhole) (arg9 : Memref sig .tc .vmem S72x256 .fp8e4m3) (harg9 : arg9.IsWhole) (arg10 : Memref sig .tc .vmem S1x256 .f32) (harg10 : arg10.IsWhole) (arg11 : Memref sig .tc .vmem S1024x256 .f32) (harg11 : arg11.IsWhole)
    (x0 : Vec F S22528x256 .fp8e4m3) (x1 : Vec F S176x256 .f32) (x2 : Vec F S80x22528 .bf16) (x3 : Vec F S22528x128 .fp8e4m3) (x4 : Vec F S176x128 .f32) (x5 : Vec F S72x72 .f32) : Vec F S72x256 .fp8e4m3 :=
  VO0_8.read (Elt F) (VO0_8.writes (Elt F) VO0_8.junk (kernelRun0_A c i arg1 harg1 arg2 harg2 arg3 harg3 arg4 harg4 arg5 harg5 arg6 harg6 arg7 harg7 arg8 harg8 arg9 harg9 arg10 harg10 arg11 harg11 x0 x1 x2 x3 x4 x5).2.2.1)

/-- The run's pieces for output 9 tile its block (1 store of `S1x256`, checked by the kernel's evaluation: Lib/Ring.lean `Piece.tiledL`, linear in the pieces, through a loop's `@[irreducible]` trip theorem too), so they cover it. -/
theorem cover0_A_9 (c : Dev nD) (i : grid0.Coords) (arg1 : Memref sig .tc .vmem S22528x256 .fp8e4m3) (harg1 : arg1.IsWhole) (arg2 : Memref sig .tc .vmem S176x256 .f32) (harg2 : arg2.IsWhole) (arg3 : Memref sig .tc .vmem S80x22528 .bf16) (harg3 : arg3.IsWhole) (arg4 : Memref sig .tc .vmem S22528x128 .fp8e4m3) (harg4 : arg4.IsWhole) (arg5 : Memref sig .tc .vmem S176x128 .f32) (harg5 : arg5.IsWhole) (arg6 : Memref sig .tc .vmem S72x72 .f32) (harg6 : arg6.IsWhole) (arg7 : Memref sig .tc .vmem S22528x256 .fp8e4m3) (harg7 : arg7.IsWhole) (arg8 : Memref sig .tc .vmem S176x256 .f32) (harg8 : arg8.IsWhole) (arg9 : Memref sig .tc .vmem S72x256 .fp8e4m3) (harg9 : arg9.IsWhole) (arg10 : Memref sig .tc .vmem S1x256 .f32) (harg10 : arg10.IsWhole) (arg11 : Memref sig .tc .vmem S1024x256 .f32) (harg11 : arg11.IsWhole)
    (x0 : Vec F S22528x256 .fp8e4m3) (x1 : Vec F S176x256 .f32) (x2 : Vec F S80x22528 .bf16) (x3 : Vec F S22528x128 .fp8e4m3) (x4 : Vec F S176x128 .f32) (x5 : Vec F S72x72 .f32) (y : S1x256.Idx) :
    ∃ pc ∈ (kernelRun0_A c i arg1 harg1 arg2 harg2 arg3 harg3 arg4 harg4 arg5 harg5 arg6 harg6 arg7 harg7 arg8 harg8 arg9 harg9 arg10 harg10 arg11 harg11 x0 x1 x2 x3 x4 x5).2.2.2.1, y ∈ pc.1.set :=
  View.cover_of_tiledL (kernelRun0_A c i arg1 harg1 arg2 harg2 arg3 harg3 arg4 harg4 arg5 harg5 arg6 harg6 arg7 harg7 arg8 harg8 arg9 harg9 arg10 harg10 arg11 harg11 x0 x1 x2 x3 x4 x5).2.2.2.1 S1x256.size (by sl_kernel_rfl) y

/-- What the run leaves in output 9's staging buffer: its pieces read back over junk. -/
def out0_A_9 (c : Dev nD) (i : grid0.Coords) (arg1 : Memref sig .tc .vmem S22528x256 .fp8e4m3) (harg1 : arg1.IsWhole) (arg2 : Memref sig .tc .vmem S176x256 .f32) (harg2 : arg2.IsWhole) (arg3 : Memref sig .tc .vmem S80x22528 .bf16) (harg3 : arg3.IsWhole) (arg4 : Memref sig .tc .vmem S22528x128 .fp8e4m3) (harg4 : arg4.IsWhole) (arg5 : Memref sig .tc .vmem S176x128 .f32) (harg5 : arg5.IsWhole) (arg6 : Memref sig .tc .vmem S72x72 .f32) (harg6 : arg6.IsWhole) (arg7 : Memref sig .tc .vmem S22528x256 .fp8e4m3) (harg7 : arg7.IsWhole) (arg8 : Memref sig .tc .vmem S176x256 .f32) (harg8 : arg8.IsWhole) (arg9 : Memref sig .tc .vmem S72x256 .fp8e4m3) (harg9 : arg9.IsWhole) (arg10 : Memref sig .tc .vmem S1x256 .f32) (harg10 : arg10.IsWhole) (arg11 : Memref sig .tc .vmem S1024x256 .f32) (harg11 : arg11.IsWhole)
    (x0 : Vec F S22528x256 .fp8e4m3) (x1 : Vec F S176x256 .f32) (x2 : Vec F S80x22528 .bf16) (x3 : Vec F S22528x128 .fp8e4m3) (x4 : Vec F S176x128 .f32) (x5 : Vec F S72x72 .f32) : Vec F S1x256 .f32 :=
  VO0_9.read (Elt F) (VO0_9.writes (Elt F) VO0_9.junk (kernelRun0_A c i arg1 harg1 arg2 harg2 arg3 harg3 arg4 harg4 arg5 harg5 arg6 harg6 arg7 harg7 arg8 harg8 arg9 harg9 arg10 harg10 arg11 harg11 x0 x1 x2 x3 x4 x5).2.2.2.1)

/-! ## What the outputs hold after each point -/

/-- What the outputs' staging buffers hold after the body at point `t` (as a tuple, in window order): the run's contents at
    the point's memrefs and input blocks. -/
def outsAt0 (c : Dev nD) (t : Fin cfg0.N) : Vec F S22528x256 .fp8e4m3 × Vec F S176x256 .f32 × Vec F S72x256 .fp8e4m3 × Vec F S1x256 .f32 :=
  (out0_A_6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) (iblk m c 0 t) (iblk m c 1 t) (iblk m c 2 t) (iblk m c 3 t) (iblk m c 4 t) (iblk m c 5 t), out0_A_7 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) (iblk m c 0 t) (iblk m c 1 t) (iblk m c 2 t) (iblk m c 3 t) (iblk m c 4 t) (iblk m c 5 t), out0_A_8 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) (iblk m c 0 t) (iblk m c 1 t) (iblk m c 2 t) (iblk m c 3 t) (iblk m c 4 t) (iblk m c 5 t), out0_A_9 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) (iblk m c 0 t) (iblk m c 1 t) (iblk m c 2 t) (iblk m c 3 t) (iblk m c 4 t) (iblk m c 5 t))

/-! ## The pipeline's proof data -/

/-- The proof data of the one pipeline on core `c`: the arrays as the region finds them (`V`); after the body at
    point `t` each input's buffer at its block and the outputs' at `outsAt0`; the invariant the class's
    (Lib/Pipeline/Frame.lean `ΦA`: the scoped rest and the generator register); nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => (outsAt0 m c t).1
    | ⟨7, _⟩ => (outsAt0 m c t).2.1
    | ⟨8, _⟩ => (outsAt0 m c t).2.2.1
    | ⟨9, _⟩ => (outsAt0 m c t).2.2.2
  Φ _ := Pipeline.ΦA spec0 c
  q _ := fullShare
  owed _ := 0

/-- The proof data's arrays are the region-entry contents: the proof data's definition projected (`dsimp`), so that
    `V` — a fold over @main's host prefix, long for some programs — is never unfolded to check it. -/
theorem A_eq (c : Dev nD) (w : Fin cfg0.W) : (dats m 0 c).A w = V m c (Pipeline.arrRef spec0 w) := by
  dsimp only [dats]

/-- What the body leaves, window by window (the proof data's `match` reduced by `dsimp`). -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = (outsAt0 m c t).1 := by dsimp only [dats]
theorem after0_7 (c : Dev nD) (t : Fin cfg0.N) : (dats m 0 c).after 7 t = (outsAt0 m c t).2.1 := by dsimp only [dats]
theorem after0_8 (c : Dev nD) (t : Fin cfg0.N) : (dats m 0 c).after 8 t = (outsAt0 m c t).2.2.1 := by dsimp only [dats]
theorem after0_9 (c : Dev nD) (t : Fin cfg0.N) : (dats m 0 c).after 9 t = (outsAt0 m c t).2.2.2 := by dsimp only [dats]

/-- Each input's current staging buffer holds its block at every point, fetched there or not (`beforeK_W_of`). -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d

/-! ## The body obligation, at a generic point -/

/-- What the body is called with at point `t` (Lib/Pipeline.lean `BodyObligation`'s precondition, the windows one by one), -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d))
    ∗ (∃ d, owns (c : Thread nD τ) (ms0_9 t) fullShare ((dats m 0 c).before 9 t d)))

/-- and what it returns. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t)
    ∗ owns (c : Thread nD τ) (ms0_6 t) fullShare ((dats m 0 c).after 6 t)
    ∗ owns (c : Thread nD τ) (ms0_7 t) fullShare ((dats m 0 c).after 7 t)
    ∗ owns (c : Thread nD τ) (ms0_8 t) fullShare ((dats m 0 c).after 8 t)
    ∗ owns (c : Thread nD τ) (ms0_9 t) fullShare ((dats m 0 c).after 9 t))

set_option maxHeartbeats 800000 in
/-- The body at any point: the inputs' memrefs hold their blocks (`before0_W`); so the
    run applies; the invariant hands the body its scratch buffers at some contents (and the generator register) and takes them back at some contents (`PhiA_eq`); the core owes nothing throughout. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6, after0_7, after0_8, after0_9]
  rw [show (dats m 0 c).Φ t.castSucc = Pipeline.ΦA spec0 c from rfl, PhiA0_eq]
  unfold outsAt0
  unfold out0_A_6 out0_A_7 out0_A_8 out0_A_9; (try dsimp only)
  iintro ⟨⟨HS0, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
  iapply ((kernelRun0_A c (grid0.coords t) _ _ _ _ _ _ _ _ _ _ _ _ _ _ _ _ _ _ _ _ _ _ (iblk m c 0 t) (iblk m c 1 t) (iblk m c 2 t) (iblk m c 3 t) (iblk m c 4 t) (iblk m c 5 t)).2.2.2.2 Set.univ _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  isplitl [H7]; · iexists _; iexact H7
  isplitl [H8]; · iexists _; iexact H8
  isplitl [H9]; · iexists _; iexact H9
  isplitl [HS0]; · iexact HS0
  iintro ⟨H0, H1, H2, H3, H4, H5, ⟨%e6, H6⟩, ⟨%e7, H7⟩, ⟨%e8, H8⟩, ⟨%e9, H9⟩, HS0⟩
  isplitl [HS0 Hg]
  · isplitl [HS0]
    · iexact HS0
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]
  · unfold owns; iexists _; isplitr
    swap; · iexact H6
    ipureintro; exact View.read_writes_of_cover _ _ _ _ _ (cover0_A_6 c _ _ _ _ _ _ _ _ _ _ _ _ _ _ _ _ _ _ _ _ _ _ _ _ _ _ _ _ _)
  isplitl [H7]
  · unfold owns; iexists _; isplitr
    swap; · iexact H7
    ipureintro; exact View.read_writes_of_cover _ _ _ _ _ (cover0_A_7 c _ _ _ _ _ _ _ _ _ _ _ _ _ _ _ _ _ _ _ _ _ _ _ _ _ _ _ _ _)
  isplitl [H8]
  · unfold owns; iexists _; isplitr
    swap; · iexact H8
    ipureintro; exact View.read_writes_of_cover _ _ _ _ _ (cover0_A_8 c _ _ _ _ _ _ _ _ _ _ _ _ _ _ _ _ _ _ _ _ _ _ _ _ _ _ _ _ _)
  unfold owns; iexists _; isplitr
  swap; · iexact H9
  ipureintro; exact View.read_writes_of_cover _ _ _ _ _ (cover0_A_9 c _ _ _ _ _ _ _ _ _ _ _ _ _ _ _ _ _ _ _ _ _ _ _ _ _ _ _ _ _)

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation, at every point: the body's triple restated (Lib/Pipeline/FrameBody.lean `triple_restated`). -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! ## The run and the frame -/

-- `θ_run_frame`'s implicit arguments are found by unifying its conclusion with this one, which takes unfolding plain
-- definitions in a metavariable's type
set_option backward.isDefEq.respectTransparency.types false in
/-- THE LAUNCH: `run_main`'s statement, and every semaphore counter of the machine at zero at every final state. -/
theorem run_main_quiescent : θ_run defs (onTc (τ := τ) (main (F := F))) (s₀ m ρ) (fun r => (Pipeline.FramePost cfgs (dats m) 0 (V m)) r ∧ r.2.sem = fun _ => 0) :=
  Pipeline.θ_run_frame (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- At the compiled mesh, for any values, from any memory with zero counters: every weakly fair execution of @main on the
    TensorCores terminates, and every final state has every array of the pipeline at what the library computes from the
    proof data and every other unscoped buffer as the region found it (Lib/Pipeline/Frame.lean `FramePost`). -/
theorem run_main : θ_run defs (onTc (τ := τ) (main (F := F))) (s₀ m ρ) (Pipeline.FramePost cfgs (dats m) 0 (V m)) :=
  (θ_run defs _ _).mono (fun _ h => h.1) (run_main_quiescent m ρ)

/-- `frame` without the counters: the argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  frame_of m ρ (dats m) (A_eq m) (run_main m ρ)

/-- The frame: every fair execution of @main terminates with the argument arrays unchanged, and every semaphore counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  θ_run_and (unchanged m ρ) ((θ_run defs _ _).mono (fun _ h => h.2) (run_main_quiescent m ρ))

end Cert.Kernel.Run

end
-- ==== Proof.KernelLoop.lean ====
/- The counted loop of the kernel's second phase: what a trip stores does not depend on what the
   buffers it stores into held before, and so neither do the pieces all the trips leave. -/
module

public import proofs.«01_k».proof.Proof.Gen.KernelIdeal.Loops

@[expose] public section

set_option maxRecDepth 16384

noncomputable section

namespace Cert.KernelIdeal.Run

open Cert.KernelIdeal Cert.KernelIdeal.Gen Idealize.ShloMosaic Idealize.ShloMosaic.TcCoe Idealize.SL.Sem

variable {F : FTy → Type} [FloatOps F]

/-- One trip's stores are the same whatever the three buffers it writes held at its start: it reads back
    only what it has itself stored. -/
theorem tripL_indep (𝒱 : Variants) (c : Dev nD) (bd : Option 𝒱.V) (i : grid0.Coords) (arg1 : Memref sig .tc .vmem S22528x256 .fp8e4m3) (harg1 : arg1.IsWhole) (arg2 : Memref sig .tc .vmem S176x256 .f32) (harg2 : arg2.IsWhole) (arg3 : Memref sig .tc .vmem S80x22528 .bf16) (harg3 : arg3.IsWhole) (arg4 : Memref sig .tc .vmem S22528x128 .fp8e4m3) (harg4 : arg4.IsWhole) (arg5 : Memref sig .tc .vmem S176x128 .f32) (harg5 : arg5.IsWhole) (arg6 : Memref sig .tc .vmem S72x72 .f32) (harg6 : arg6.IsWhole) (arg7 : Memref sig .tc .vmem S22528x256 .fp8e4m3) (harg7 : arg7.IsWhole) (arg8 : Memref sig .tc .vmem S176x256 .f32) (harg8 : arg8.IsWhole) (arg9 : Memref sig .tc .vmem S72x256 .fp8e4m3) (harg9 : arg9.IsWhole) (arg10 : Memref sig .tc .vmem S1x256 .f32) (harg10 : arg10.IsWhole) (arg11 : Memref sig .tc .vmem S1024x256 .f32) (harg11 : arg11.IsWhole) (v5 : FVec F S72x256 .f32) (v82 : FVec F S8x256 .f32) (v84 : IVec S8x256 32) (X_arg1 : BufTy.Contents (Elt F) arg1.view.ty) (X_arg2 : BufTy.Contents (Elt F) arg2.view.ty) (X_arg4 : BufTy.Contents (Elt F) arg4.view.ty) (X_arg5 : BufTy.Contents (Elt F) arg5.view.ty) (k : Fin k0_t2_loop.trips) (f7 : BufTy.Contents (Elt F) arg7.view.ty) (f8 : BufTy.Contents (Elt F) arg8.view.ty) (f11 : BufTy.Contents (Elt F) arg11.view.ty) (g7 : BufTy.Contents (Elt F) arg7.view.ty) (g8 : BufTy.Contents (Elt F) arg8.view.ty) (g11 : BufTy.Contents (Elt F) arg11.view.ty) :
    tripL_k0_t2 𝒱 c bd i arg1 harg1 arg2 harg2 arg3 harg3 arg4 harg4 arg5 harg5 arg6 harg6 arg7 harg7 arg8 harg8 arg9 harg9 arg10 harg10 arg11 harg11 v5 v82 v84 X_arg1 X_arg2 X_arg4 X_arg5 k f7 f8 f11 = tripL_k0_t2 𝒱 c bd i arg1 harg1 arg2 harg2 arg3 harg3 arg4 harg4 arg5 harg5 arg6 harg6 arg7 harg7 arg8 harg8 arg9 harg9 arg10 harg10 arg11 harg11 v5 v82 v84 X_arg1 X_arg2 X_arg4 X_arg5 k g7 g8 g11 := by
  unfold tripL_k0_t2 trip_k0_t2
  rfl

/-- The pieces of the first `n` trips are the same whatever the three buffers held at the loop's start. -/
theorem pb_indep (𝒱 : Variants) (c : Dev nD) (bd : Option 𝒱.V) (i : grid0.Coords) (arg1 : Memref sig .tc .vmem S22528x256 .fp8e4m3) (harg1 : arg1.IsWhole) (arg2 : Memref sig .tc .vmem S176x256 .f32) (harg2 : arg2.IsWhole) (arg3 : Memref sig .tc .vmem S80x22528 .bf16) (harg3 : arg3.IsWhole) (arg4 : Memref sig .tc .vmem S22528x128 .fp8e4m3) (harg4 : arg4.IsWhole) (arg5 : Memref sig .tc .vmem S176x128 .f32) (harg5 : arg5.IsWhole) (arg6 : Memref sig .tc .vmem S72x72 .f32) (harg6 : arg6.IsWhole) (arg7 : Memref sig .tc .vmem S22528x256 .fp8e4m3) (harg7 : arg7.IsWhole) (arg8 : Memref sig .tc .vmem S176x256 .f32) (harg8 : arg8.IsWhole) (arg9 : Memref sig .tc .vmem S72x256 .fp8e4m3) (harg9 : arg9.IsWhole) (arg10 : Memref sig .tc .vmem S1x256 .f32) (harg10 : arg10.IsWhole) (arg11 : Memref sig .tc .vmem S1024x256 .f32) (harg11 : arg11.IsWhole) (v5 : FVec F S72x256 .f32) (v82 : FVec F S8x256 .f32) (v84 : IVec S8x256 32) (X_arg1 : BufTy.Contents (Elt F) arg1.view.ty) (X_arg2 : BufTy.Contents (Elt F) arg2.view.ty) (X_arg4 : BufTy.Contents (Elt F) arg4.view.ty) (X_arg5 : BufTy.Contents (Elt F) arg5.view.ty) (f7 : BufTy.Contents (Elt F) arg7.view.ty) (f8 : BufTy.Contents (Elt F) arg8.view.ty) (f11 : BufTy.Contents (Elt F) arg11.view.ty) (g7 : BufTy.Contents (Elt F) arg7.view.ty) (g8 : BufTy.Contents (Elt F) arg8.view.ty) (g11 : BufTy.Contents (Elt F) arg11.view.ty) (n : ℕ) :
    pb_k0_t2 𝒱 c bd i arg1 harg1 arg2 harg2 arg3 harg3 arg4 harg4 arg5 harg5 arg6 harg6 arg7 harg7 arg8 harg8 arg9 harg9 arg10 harg10 arg11 harg11 v5 v82 v84 X_arg1 X_arg2 X_arg4 X_arg5 f7 f8 f11 n = pb_k0_t2 𝒱 c bd i arg1 harg1 arg2 harg2 arg3 harg3 arg4 harg4 arg5 harg5 arg6 harg6 arg7 harg7 arg8 harg8 arg9 harg9 arg10 harg10 arg11 harg11 v5 v82 v84 X_arg1 X_arg2 X_arg4 X_arg5 g7 g8 g11 n := by
  induction n with
  | zero => rfl
  | succ n ih =>
    by_cases h : n < k0_t2_loop.trips
    · rw [pb_k0_t2_succ 𝒱 c bd i arg1 harg1 arg2 harg2 arg3 harg3 arg4 harg4 arg5 harg5 arg6 harg6 arg7 harg7 arg8 harg8 arg9 harg9 arg10 harg10 arg11 harg11 v5 v82 v84 X_arg1 X_arg2 X_arg4 X_arg5 f7 f8 f11 ⟨n, h⟩, pb_k0_t2_succ 𝒱 c bd i arg1 harg1 arg2 harg2 arg3 harg3 arg4 harg4 arg5 harg5 arg6 harg6 arg7 harg7 arg8 harg8 arg9 harg9 arg10 harg10 arg11 harg11 v5 v82 v84 X_arg1 X_arg2 X_arg4 X_arg5 g7 g8 g11 ⟨n, h⟩]
      rw [tripL_indep (g7 := g7) (g8 := g8) (g11 := g11)]
      rw [tripL_indep 𝒱 c bd i arg1 harg1 arg2 harg2 arg3 harg3 arg4 harg4 arg5 harg5 arg6 harg6 arg7 harg7 arg8 harg8 arg9 harg9 arg10 harg10 arg11 harg11 v5 v82 v84 X_arg1 X_arg2 X_arg4 X_arg5 ⟨n, h⟩ (arg7.view.writes (Elt F) g7 _) _ _ g7 g8 g11]
      simp only [ih]
    · rw [pb_k0_t2.eq_2, pb_k0_t2.eq_2]
      unfold pb_k0_t2Step
      rw [dif_neg h, dif_neg h, ih]

end Cert.KernelIdeal.Run

end
-- ==== Proof.KernelRun.lean ====
/- The whole body of the kernel run once at a symbolic grid point: the pieces each output buffer is left with. -/
module

public import proofs.«01_k».proof.Proof.Gen.KernelIdeal.Frame.Runs
public import proofs.«01_k».proof.Proof.KernelLoop

@[expose] public section

-- membership in a rectangle of production extents (`View.cover_of_tiled`): the elaborator's structural look
-- recurses once per coordinate of the long axes
set_option maxRecDepth 16384

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- (the run's proof term is large: the definition's epilogue — `abstractNestedProofs` — walks it past the default budget)
set_option maxHeartbeats 1000000 in
/-- What the body's stores leave in each output's staging memref, as pieces (last first), WITH the
    proof that on whole staging memrefs — the inputs' at their contents, the other outputs' at
    anything, the scratch buffers at anything, the body runs to the continuation holding the inputs' as they were,
    the scratch at some contents, each output's buffer with its pieces written: the printed functions are their skeletons
    (`Gen.*_eq_skeleton`), which `sl_exec` runs (Lib/Exec.lean); the pieces are
    the witness that run finds (assigned when `iexact` hands the buffer to the continuation). -/
noncomputable def kernelRun0_A (c : Dev nD) (i : grid0.Coords) (arg1 : Memref sig .tc .vmem S22528x256 .fp8e4m3) (harg1 : arg1.IsWhole) (arg2 : Memref sig .tc .vmem S176x256 .f32) (harg2 : arg2.IsWhole) (arg3 : Memref sig .tc .vmem S80x22528 .bf16) (harg3 : arg3.IsWhole) (arg4 : Memref sig .tc .vmem S22528x128 .fp8e4m3) (harg4 : arg4.IsWhole) (arg5 : Memref sig .tc .vmem S176x128 .f32) (harg5 : arg5.IsWhole) (arg6 : Memref sig .tc .vmem S72x72 .f32) (harg6 : arg6.IsWhole) (arg7 : Memref sig .tc .vmem S22528x256 .fp8e4m3) (harg7 : arg7.IsWhole) (arg8 : Memref sig .tc .vmem S176x256 .f32) (harg8 : arg8.IsWhole) (arg9 : Memref sig .tc .vmem S72x256 .fp8e4m3) (harg9 : arg9.IsWhole) (arg10 : Memref sig .tc .vmem S1x256 .f32) (harg10 : arg10.IsWhole) (arg11 : Memref sig .tc .vmem S1024x256 .f32) (harg11 : arg11.IsWhole)
    (x0 : Vec F S22528x256 .fp8e4m3) (x1 : Vec F S176x256 .f32) (x2 : Vec F S80x22528 .bf16) (x3 : Vec F S22528x128 .fp8e4m3) (x4 : Vec F S176x128 .f32) (x5 : Vec F S72x72 .f32) :
    Σ' (L6 : List (View.Piece (Elt F) S22528x256 .fp8e4m3)), Σ' (L7 : List (View.Piece (Elt F) S176x256 .f32)), Σ' (L8 : List (View.Piece (Elt F) S72x256 .fp8e4m3)), { L9 : List (View.Piece (Elt F) S1x256 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ f, arg7.view.loc (c : Thread nD τ) ↦[arg7.view.set]{fullShare} arg7.view.writes (Elt F) f L6) ∗ (∃ f, arg8.view.loc (c : Thread nD τ) ↦[arg8.view.set]{fullShare} arg8.view.writes (Elt F) f L7) ∗ (∃ f, arg9.view.loc (c : Thread nD τ) ↦[arg9.view.set]{fullShare} arg9.view.writes (Elt F) f L8) ∗ (∃ f, arg10.view.loc (c : Thread nD τ) ↦[arg10.view.set]{fullShare} arg10.view.writes (Elt F) f L9) ∗ (∃ d, owns (c : Thread nD τ) arg11 fullShare d)) -∗ K ⟨⟩))
          ⊢ wp frame (wpE (defs₀ (F := F)) Variants.none c none) E (cc0_trailing i arg1 harg1 arg2 harg2 arg3 harg3 arg4 harg4 arg5 harg5 arg6 harg6 arg7 harg7 arg8 harg8 arg9 harg9 arg10 harg10 arg11 harg11) K } := by
  refine ⟨?_, ?_, ?_, ?_, fun E K => ?run⟩
  case run =>
    simp only [cc0_trailing_eq_skeleton]; unfold cc0_trailing_skel
    simp only [k0_part13_eq_skeleton, k0_part14_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, ⟨%d8, %f8, -, H8⟩, ⟨%d9, %f9, -, H9⟩, ⟨%ds0, %fs0, -, HS0⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5
    sl_exec
    sl_step
    rw [pb_indep _ _ _ _ _ _ _ _ _ _ _ _ _ _ _ _ _ _ _ _ _ _ _ _ _ _ _ _ _ _ _ _ _ f6 f7 fs0 arg7.view.junk arg8.view.junk arg11.view.junk _]
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]; · iexists _; iexact H6
    isplitl [H7]; · iexists _; iexact H7
    isplitl [H8]; · iexists _; iexact H8
    isplitl [H9]; · iexists _; iexact H9
    iexists _, _; isplitr; swap; · iexact HS0
    ipureintro; rfl

end Cert.KernelIdeal.Run

end
-- ==== Proof.KernelFrame.lean ====
/- The frame of the idealised kernel: what its outputs hold point by point, and the run of the whole program. -/
module

public import proofs.«01_k».proof.Proof.KernelRun
public import Idealize.ShloMosaic.Lib.Claim

@[expose] public section

-- membership in a rectangle of production extents (`View.cover_of_tiled`): the elaborator's structural look
-- recurses once per coordinate of the long axes
set_option maxRecDepth 16384

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
/-- The run's pieces for output 6 tile its block (176 stores of `S128x256`, checked by the kernel's evaluation: Lib/Ring.lean `Piece.tiledL`, linear in the pieces, through a loop's `@[irreducible]` trip theorem too), so they cover it. -/
theorem cover0_A_6 (c : Dev nD) (i : grid0.Coords) (arg1 : Memref sig .tc .vmem S22528x256 .fp8e4m3) (harg1 : arg1.IsWhole) (arg2 : Memref sig .tc .vmem S176x256 .f32) (harg2 : arg2.IsWhole) (arg3 : Memref sig .tc .vmem S80x22528 .bf16) (harg3 : arg3.IsWhole) (arg4 : Memref sig .tc .vmem S22528x128 .fp8e4m3) (harg4 : arg4.IsWhole) (arg5 : Memref sig .tc .vmem S176x128 .f32) (harg5 : arg5.IsWhole) (arg6 : Memref sig .tc .vmem S72x72 .f32) (harg6 : arg6.IsWhole) (arg7 : Memref sig .tc .vmem S22528x256 .fp8e4m3) (harg7 : arg7.IsWhole) (arg8 : Memref sig .tc .vmem S176x256 .f32) (harg8 : arg8.IsWhole) (arg9 : Memref sig .tc .vmem S72x256 .fp8e4m3) (harg9 : arg9.IsWhole) (arg10 : Memref sig .tc .vmem S1x256 .f32) (harg10 : arg10.IsWhole) (arg11 : Memref sig .tc .vmem S1024x256 .f32) (harg11 : arg11.IsWhole)
    (x0 : Vec F S22528x256 .fp8e4m3) (x1 : Vec F S176x256 .f32) (x2 : Vec F S80x22528 .bf16) (x3 : Vec F S22528x128 .fp8e4m3) (x4 : Vec F S176x128 .f32) (x5 : Vec F S72x72 .f32) (y : S22528x256.Idx) :
    ∃ pc ∈ (kernelRun0_A c i arg1 harg1 arg2 harg2 arg3 harg3 arg4 harg4 arg5 harg5 arg6 harg6 arg7 harg7 arg8 harg8 arg9 harg9 arg10 harg10 arg11 harg11 x0 x1 x2 x3 x4 x5).1, y ∈ pc.1.set :=
  View.cover_of_tiledL (kernelRun0_A c i arg1 harg1 arg2 harg2 arg3 harg3 arg4 harg4 arg5 harg5 arg6 harg6 arg7 harg7 arg8 harg8 arg9 harg9 arg10 harg10 arg11 harg11 x0 x1 x2 x3 x4 x5).1 S128x256.size (by sl_kernel_rfl) y

/-- What the run leaves in output 6's staging buffer: its pieces read back over junk. -/
def out0_A_6 (c : Dev nD) (i : grid0.Coords) (arg1 : Memref sig .tc .vmem S22528x256 .fp8e4m3) (harg1 : arg1.IsWhole) (arg2 : Memref sig .tc .vmem S176x256 .f32) (harg2 : arg2.IsWhole) (arg3 : Memref sig .tc .vmem S80x22528 .bf16) (harg3 : arg3.IsWhole) (arg4 : Memref sig .tc .vmem S22528x128 .fp8e4m3) (harg4 : arg4.IsWhole) (arg5 : Memref sig .tc .vmem S176x128 .f32) (harg5 : arg5.IsWhole) (arg6 : Memref sig .tc .vmem S72x72 .f32) (harg6 : arg6.IsWhole) (arg7 : Memref sig .tc .vmem S22528x256 .fp8e4m3) (harg7 : arg7.IsWhole) (arg8 : Memref sig .tc .vmem S176x256 .f32) (harg8 : arg8.IsWhole) (arg9 : Memref sig .tc .vmem S72x256 .fp8e4m3) (harg9 : arg9.IsWhole) (arg10 : Memref sig .tc .vmem S1x256 .f32) (harg10 : arg10.IsWhole) (arg11 : Memref sig .tc .vmem S1024x256 .f32) (harg11 : arg11.IsWhole)
    (x0 : Vec F S22528x256 .fp8e4m3) (x1 : Vec F S176x256 .f32) (x2 : Vec F S80x22528 .bf16) (x3 : Vec F S22528x128 .fp8e4m3) (x4 : Vec F S176x128 .f32) (x5 : Vec F S72x72 .f32) : Vec F S22528x256 .fp8e4m3 :=
  VO0_6.read (Elt F) (VO0_6.writes (Elt F) VO0_6.junk (kernelRun0_A c i arg1 harg1 arg2 harg2 arg3 harg3 arg4 harg4 arg5 harg5 arg6 harg6 arg7 harg7 arg8 harg8 arg9 harg9 arg10 harg10 arg11 harg11 x0 x1 x2 x3 x4 x5).1)

/-- The run's pieces for output 7 tile its block (22 stores of `S8x256`, checked by the kernel's evaluation: Lib/Ring.lean `Piece.tiledL`, linear in the pieces, through a loop's `@[irreducible]` trip theorem too), so they cover it. -/
theorem cover0_A_7 (c : Dev nD) (i : grid0.Coords) (arg1 : Memref sig .tc .vmem S22528x256 .fp8e4m3) (harg1 : arg1.IsWhole) (arg2 : Memref sig .tc .vmem S176x256 .f32) (harg2 : arg2.IsWhole) (arg3 : Memref sig .tc .vmem S80x22528 .bf16) (harg3 : arg3.IsWhole) (arg4 : Memref sig .tc .vmem S22528x128 .fp8e4m3) (harg4 : arg4.IsWhole) (arg5 : Memref sig .tc .vmem S176x128 .f32) (harg5 : arg5.IsWhole) (arg6 : Memref sig .tc .vmem S72x72 .f32) (harg6 : arg6.IsWhole) (arg7 : Memref sig .tc .vmem S22528x256 .fp8e4m3) (harg7 : arg7.IsWhole) (arg8 : Memref sig .tc .vmem S176x256 .f32) (harg8 : arg8.IsWhole) (arg9 : Memref sig .tc .vmem S72x256 .fp8e4m3) (harg9 : arg9.IsWhole) (arg10 : Memref sig .tc .vmem S1x256 .f32) (harg10 : arg10.IsWhole) (arg11 : Memref sig .tc .vmem S1024x256 .f32) (harg11 : arg11.IsWhole)
    (x0 : Vec F S22528x256 .fp8e4m3) (x1 : Vec F S176x256 .f32) (x2 : Vec F S80x22528 .bf16) (x3 : Vec F S22528x128 .fp8e4m3) (x4 : Vec F S176x128 .f32) (x5 : Vec F S72x72 .f32) (y : S176x256.Idx) :
    ∃ pc ∈ (kernelRun0_A c i arg1 harg1 arg2 harg2 arg3 harg3 arg4 harg4 arg5 harg5 arg6 harg6 arg7 harg7 arg8 harg8 arg9 harg9 arg10 harg10 arg11 harg11 x0 x1 x2 x3 x4 x5).2.1, y ∈ pc.1.set :=
  View.cover_of_tiledL (kernelRun0_A c i arg1 harg1 arg2 harg2 arg3 harg3 arg4 harg4 arg5 harg5 arg6 harg6 arg7 harg7 arg8 harg8 arg9 harg9 arg10 harg10 arg11 harg11 x0 x1 x2 x3 x4 x5).2.1 S8x256.size (by sl_kernel_rfl) y

/-- What the run leaves in output 7's staging buffer: its pieces read back over junk. -/
def out0_A_7 (c : Dev nD) (i : grid0.Coords) (arg1 : Memref sig .tc .vmem S22528x256 .fp8e4m3) (harg1 : arg1.IsWhole) (arg2 : Memref sig .tc .vmem S176x256 .f32) (harg2 : arg2.IsWhole) (arg3 : Memref sig .tc .vmem S80x22528 .bf16) (harg3 : arg3.IsWhole) (arg4 : Memref sig .tc .vmem S22528x128 .fp8e4m3) (harg4 : arg4.IsWhole) (arg5 : Memref sig .tc .vmem S176x128 .f32) (harg5 : arg5.IsWhole) (arg6 : Memref sig .tc .vmem S72x72 .f32) (harg6 : arg6.IsWhole) (arg7 : Memref sig .tc .vmem S22528x256 .fp8e4m3) (harg7 : arg7.IsWhole) (arg8 : Memref sig .tc .vmem S176x256 .f32) (harg8 : arg8.IsWhole) (arg9 : Memref sig .tc .vmem S72x256 .fp8e4m3) (harg9 : arg9.IsWhole) (arg10 : Memref sig .tc .vmem S1x256 .f32) (harg10 : arg10.IsWhole) (arg11 : Memref sig .tc .vmem S1024x256 .f32) (harg11 : arg11.IsWhole)
    (x0 : Vec F S22528x256 .fp8e4m3) (x1 : Vec F S176x256 .f32) (x2 : Vec F S80x22528 .bf16) (x3 : Vec F S22528x128 .fp8e4m3) (x4 : Vec F S176x128 .f32) (x5 : Vec F S72x72 .f32) : Vec F S176x256 .f32 :=
  VO0_7.read (Elt F) (VO0_7.writes (Elt F) VO0_7.junk (kernelRun0_A c i arg1 harg1 arg2 harg2 arg3 harg3 arg4 harg4 arg5 harg5 arg6 harg6 arg7 harg7 arg8 harg8 arg9 harg9 arg10 harg10 arg11 harg11 x0 x1 x2 x3 x4 x5).2.1)

/-- The run's pieces for output 8 tile its block (1 store of `S72x256`, checked by the kernel's evaluation: Lib/Ring.lean `Piece.tiledL`, linear in the pieces, through a loop's `@[irreducible]` trip theorem too), so they cover it. -/
theorem cover0_A_8 (c : Dev nD) (i : grid0.Coords) (arg1 : Memref sig .tc .vmem S22528x256 .fp8e4m3) (harg1 : arg1.IsWhole) (arg2 : Memref sig .tc .vmem S176x256 .f32) (harg2 : arg2.IsWhole) (arg3 : Memref sig .tc .vmem S80x22528 .bf16) (harg3 : arg3.IsWhole) (arg4 : Memref sig .tc .vmem S22528x128 .fp8e4m3) (harg4 : arg4.IsWhole) (arg5 : Memref sig .tc .vmem S176x128 .f32) (harg5 : arg5.IsWhole) (arg6 : Memref sig .tc .vmem S72x72 .f32) (harg6 : arg6.IsWhole) (arg7 : Memref sig .tc .vmem S22528x256 .fp8e4m3) (harg7 : arg7.IsWhole) (arg8 : Memref sig .tc .vmem S176x256 .f32) (harg8 : arg8.IsWhole) (arg9 : Memref sig .tc .vmem S72x256 .fp8e4m3) (harg9 : arg9.IsWhole) (arg10 : Memref sig .tc .vmem S1x256 .f32) (harg10 : arg10.IsWhole) (arg11 : Memref sig .tc .vmem S1024x256 .f32) (harg11 : arg11.IsWhole)
    (x0 : Vec F S22528x256 .fp8e4m3) (x1 : Vec F S176x256 .f32) (x2 : Vec F S80x22528 .bf16) (x3 : Vec F S22528x128 .fp8e4m3) (x4 : Vec F S176x128 .f32) (x5 : Vec F S72x72 .f32) (y : S72x256.Idx) :
    ∃ pc ∈ (kernelRun0_A c i arg1 harg1 arg2 harg2 arg3 harg3 arg4 harg4 arg5 harg5 arg6 harg6 arg7 harg7 arg8 harg8 arg9 harg9 arg10 harg10 arg11 harg11 x0 x1 x2 x3 x4 x5).2.2.1, y ∈ pc.1.set :=
  View.cover_of_tiledL (kernelRun0_A c i arg1 harg1 arg2 harg2 arg3 harg3 arg4 harg4 arg5 harg5 arg6 harg6 arg7 harg7 arg8 harg8 arg9 harg9 arg10 harg10 arg11 harg11 x0 x1 x2 x3 x4 x5).2.2.1 S72x256.size (by sl_kernel_rfl) y

/-- What the run leaves in output 8's staging buffer: its pieces read back over junk. -/
def out0_A_8 (c : Dev nD) (i : grid0.Coords) (arg1 : Memref sig .tc .vmem S22528x256 .fp8e4m3) (harg1 : arg1.IsWhole) (arg2 : Memref sig .tc .vmem S176x256 .f32) (harg2 : arg2.IsWhole) (arg3 : Memref sig .tc .vmem S80x22528 .bf16) (harg3 : arg3.IsWhole) (arg4 : Memref sig .tc .vmem S22528x128 .fp8e4m3) (harg4 : arg4.IsWhole) (arg5 : Memref sig .tc .vmem S176x128 .f32) (harg5 : arg5.IsWhole) (arg6 : Memref sig .tc .vmem S72x72 .f32) (harg6 : arg6.IsWhole) (arg7 : Memref sig .tc .vmem S22528x256 .fp8e4m3) (harg7 : arg7.IsWhole) (arg8 : Memref sig .tc .vmem S176x256 .f32) (harg8 : arg8.IsWhole) (arg9 : Memref sig .tc .vmem S72x256 .fp8e4m3) (harg9 : arg9.IsWhole) (arg10 : Memref sig .tc .vmem S1x256 .f32) (harg10 : arg10.IsWhole) (arg11 : Memref sig .tc .vmem S1024x256 .f32) (harg11 : arg11.IsWhole)
    (x0 : Vec F S22528x256 .fp8e4m3) (x1 : Vec F S176x256 .f32) (x2 : Vec F S80x22528 .bf16) (x3 : Vec F S22528x128 .fp8e4m3) (x4 : Vec F S176x128 .f32) (x5 : Vec F S72x72 .f32) : Vec F S72x256 .fp8e4m3 :=
  VO0_8.read (Elt F) (VO0_8.writes (Elt F) VO0_8.junk (kernelRun0_A c i arg1 harg1 arg2 harg2 arg3 harg3 arg4 harg4 arg5 harg5 arg6 harg6 arg7 harg7 arg8 harg8 arg9 harg9 arg10 harg10 arg11 harg11 x0 x1 x2 x3 x4 x5).2.2.1)

/-- The run's pieces for output 9 tile its block (1 store of `S1x256`, checked by the kernel's evaluation: Lib/Ring.lean `Piece.tiledL`, linear in the pieces, through a loop's `@[irreducible]` trip theorem too), so they cover it. -/
theorem cover0_A_9 (c : Dev nD) (i : grid0.Coords) (arg1 : Memref sig .tc .vmem S22528x256 .fp8e4m3) (harg1 : arg1.IsWhole) (arg2 : Memref sig .tc .vmem S176x256 .f32) (harg2 : arg2.IsWhole) (arg3 : Memref sig .tc .vmem S80x22528 .bf16) (harg3 : arg3.IsWhole) (arg4 : Memref sig .tc .vmem S22528x128 .fp8e4m3) (harg4 : arg4.IsWhole) (arg5 : Memref sig .tc .vmem S176x128 .f32) (harg5 : arg5.IsWhole) (arg6 : Memref sig .tc .vmem S72x72 .f32) (harg6 : arg6.IsWhole) (arg7 : Memref sig .tc .vmem S22528x256 .fp8e4m3) (harg7 : arg7.IsWhole) (arg8 : Memref sig .tc .vmem S176x256 .f32) (harg8 : arg8.IsWhole) (arg9 : Memref sig .tc .vmem S72x256 .fp8e4m3) (harg9 : arg9.IsWhole) (arg10 : Memref sig .tc .vmem S1x256 .f32) (harg10 : arg10.IsWhole) (arg11 : Memref sig .tc .vmem S1024x256 .f32) (harg11 : arg11.IsWhole)
    (x0 : Vec F S22528x256 .fp8e4m3) (x1 : Vec F S176x256 .f32) (x2 : Vec F S80x22528 .bf16) (x3 : Vec F S22528x128 .fp8e4m3) (x4 : Vec F S176x128 .f32) (x5 : Vec F S72x72 .f32) (y : S1x256.Idx) :
    ∃ pc ∈ (kernelRun0_A c i arg1 harg1 arg2 harg2 arg3 harg3 arg4 harg4 arg5 harg5 arg6 harg6 arg7 harg7 arg8 harg8 arg9 harg9 arg10 harg10 arg11 harg11 x0 x1 x2 x3 x4 x5).2.2.2.1, y ∈ pc.1.set :=
  View.cover_of_tiledL (kernelRun0_A c i arg1 harg1 arg2 harg2 arg3 harg3 arg4 harg4 arg5 harg5 arg6 harg6 arg7 harg7 arg8 harg8 arg9 harg9 arg10 harg10 arg11 harg11 x0 x1 x2 x3 x4 x5).2.2.2.1 S1x256.size (by sl_kernel_rfl) y

/-- What the run leaves in output 9's staging buffer: its pieces read back over junk. -/
def out0_A_9 (c : Dev nD) (i : grid0.Coords) (arg1 : Memref sig .tc .vmem S22528x256 .fp8e4m3) (harg1 : arg1.IsWhole) (arg2 : Memref sig .tc .vmem S176x256 .f32) (harg2 : arg2.IsWhole) (arg3 : Memref sig .tc .vmem S80x22528 .bf16) (harg3 : arg3.IsWhole) (arg4 : Memref sig .tc .vmem S22528x128 .fp8e4m3) (harg4 : arg4.IsWhole) (arg5 : Memref sig .tc .vmem S176x128 .f32) (harg5 : arg5.IsWhole) (arg6 : Memref sig .tc .vmem S72x72 .f32) (harg6 : arg6.IsWhole) (arg7 : Memref sig .tc .vmem S22528x256 .fp8e4m3) (harg7 : arg7.IsWhole) (arg8 : Memref sig .tc .vmem S176x256 .f32) (harg8 : arg8.IsWhole) (arg9 : Memref sig .tc .vmem S72x256 .fp8e4m3) (harg9 : arg9.IsWhole) (arg10 : Memref sig .tc .vmem S1x256 .f32) (harg10 : arg10.IsWhole) (arg11 : Memref sig .tc .vmem S1024x256 .f32) (harg11 : arg11.IsWhole)
    (x0 : Vec F S22528x256 .fp8e4m3) (x1 : Vec F S176x256 .f32) (x2 : Vec F S80x22528 .bf16) (x3 : Vec F S22528x128 .fp8e4m3) (x4 : Vec F S176x128 .f32) (x5 : Vec F S72x72 .f32) : Vec F S1x256 .f32 :=
  VO0_9.read (Elt F) (VO0_9.writes (Elt F) VO0_9.junk (kernelRun0_A c i arg1 harg1 arg2 harg2 arg3 harg3 arg4 harg4 arg5 harg5 arg6 harg6 arg7 harg7 arg8 harg8 arg9 harg9 arg10 harg10 arg11 harg11 x0 x1 x2 x3 x4 x5).2.2.2.1)

/-! ## What the outputs hold after each point -/

/-- What the outputs' staging buffers hold after the body at point `t` (as a tuple, in window order): the run's contents at
    the point's memrefs and input blocks. -/
def outsAt0 (c : Dev nD) (t : Fin cfg0.N) : Vec F S22528x256 .fp8e4m3 × Vec F S176x256 .f32 × Vec F S72x256 .fp8e4m3 × Vec F S1x256 .f32 :=
  (out0_A_6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) (iblk m c 0 t) (iblk m c 1 t) (iblk m c 2 t) (iblk m c 3 t) (iblk m c 4 t) (iblk m c 5 t), out0_A_7 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) (iblk m c 0 t) (iblk m c 1 t) (iblk m c 2 t) (iblk m c 3 t) (iblk m c 4 t) (iblk m c 5 t), out0_A_8 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) (iblk m c 0 t) (iblk m c 1 t) (iblk m c 2 t) (iblk m c 3 t) (iblk m c 4 t) (iblk m c 5 t), out0_A_9 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) (iblk m c 0 t) (iblk m c 1 t) (iblk m c 2 t) (iblk m c 3 t) (iblk m c 4 t) (iblk m c 5 t))

/-! ## The pipeline's proof data -/

/-- The proof data of the one pipeline on core `c`: the arrays as the region finds them (`V`); after the body at
    point `t` each input's buffer at its block and the outputs' at `outsAt0`; the invariant the class's
    (Lib/Pipeline/Frame.lean `ΦA`: the scoped rest and the generator register); nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => (outsAt0 m c t).1
    | ⟨7, _⟩ => (outsAt0 m c t).2.1
    | ⟨8, _⟩ => (outsAt0 m c t).2.2.1
    | ⟨9, _⟩ => (outsAt0 m c t).2.2.2
  Φ _ := Pipeline.ΦA spec0 c
  q _ := fullShare
  owed _ := 0

/-- The proof data's arrays are the region-entry contents: the proof data's definition projected (`dsimp`), so that
    `V` — a fold over @main's host prefix, long for some programs — is never unfolded to check it. -/
theorem A_eq (c : Dev nD) (w : Fin cfg0.W) : (dats m 0 c).A w = V m c (Pipeline.arrRef spec0 w) := by
  dsimp only [dats]

/-- What the body leaves, window by window (the proof data's `match` reduced by `dsimp`). -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = (outsAt0 m c t).1 := by dsimp only [dats]
theorem after0_7 (c : Dev nD) (t : Fin cfg0.N) : (dats m 0 c).after 7 t = (outsAt0 m c t).2.1 := by dsimp only [dats]
theorem after0_8 (c : Dev nD) (t : Fin cfg0.N) : (dats m 0 c).after 8 t = (outsAt0 m c t).2.2.1 := by dsimp only [dats]
theorem after0_9 (c : Dev nD) (t : Fin cfg0.N) : (dats m 0 c).after 9 t = (outsAt0 m c t).2.2.2 := by dsimp only [dats]

/-- Each input's current staging buffer holds its block at every point, fetched there or not (`beforeK_W_of`). -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d

/-! ## The body obligation, at a generic point -/

/-- What the body is called with at point `t` (Lib/Pipeline.lean `BodyObligation`'s precondition, the windows one by one), -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d))
    ∗ (∃ d, owns (c : Thread nD τ) (ms0_9 t) fullShare ((dats m 0 c).before 9 t d)))

/-- and what it returns. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t)
    ∗ owns (c : Thread nD τ) (ms0_6 t) fullShare ((dats m 0 c).after 6 t)
    ∗ owns (c : Thread nD τ) (ms0_7 t) fullShare ((dats m 0 c).after 7 t)
    ∗ owns (c : Thread nD τ) (ms0_8 t) fullShare ((dats m 0 c).after 8 t)
    ∗ owns (c : Thread nD τ) (ms0_9 t) fullShare ((dats m 0 c).after 9 t))

set_option maxHeartbeats 800000 in
/-- The body at any point: the inputs' memrefs hold their blocks (`before0_W`); so the
    run applies; the invariant hands the body its scratch buffers at some contents (and the generator register) and takes them back at some contents (`PhiA_eq`); the core owes nothing throughout. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6, after0_7, after0_8, after0_9]
  rw [show (dats m 0 c).Φ t.castSucc = Pipeline.ΦA spec0 c from rfl, PhiA0_eq]
  unfold outsAt0
  unfold out0_A_6 out0_A_7 out0_A_8 out0_A_9; (try dsimp only)
  iintro ⟨⟨HS0, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
  iapply ((kernelRun0_A c (grid0.coords t) _ _ _ _ _ _ _ _ _ _ _ _ _ _ _ _ _ _ _ _ _ _ (iblk m c 0 t) (iblk m c 1 t) (iblk m c 2 t) (iblk m c 3 t) (iblk m c 4 t) (iblk m c 5 t)).2.2.2.2 Set.univ _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  isplitl [H7]; · iexists _; iexact H7
  isplitl [H8]; · iexists _; iexact H8
  isplitl [H9]; · iexists _; iexact H9
  isplitl [HS0]; · iexact HS0
  iintro ⟨H0, H1, H2, H3, H4, H5, ⟨%e6, H6⟩, ⟨%e7, H7⟩, ⟨%e8, H8⟩, ⟨%e9, H9⟩, HS0⟩
  isplitl [HS0 Hg]
  · isplitl [HS0]
    · iexact HS0
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]
  · unfold owns; iexists _; isplitr
    swap; · iexact H6
    ipureintro; exact View.read_writes_of_cover _ _ _ _ _ (cover0_A_6 c _ _ _ _ _ _ _ _ _ _ _ _ _ _ _ _ _ _ _ _ _ _ _ _ _ _ _ _ _)
  isplitl [H7]
  · unfold owns; iexists _; isplitr
    swap; · iexact H7
    ipureintro; exact View.read_writes_of_cover _ _ _ _ _ (cover0_A_7 c _ _ _ _ _ _ _ _ _ _ _ _ _ _ _ _ _ _ _ _ _ _ _ _ _ _ _ _ _)
  isplitl [H8]
  · unfold owns; iexists _; isplitr
    swap; · iexact H8
    ipureintro; exact View.read_writes_of_cover _ _ _ _ _ (cover0_A_8 c _ _ _ _ _ _ _ _ _ _ _ _ _ _ _ _ _ _ _ _ _ _ _ _ _ _ _ _ _)
  unfold owns; iexists _; isplitr
  swap; · iexact H9
  ipureintro; exact View.read_writes_of_cover _ _ _ _ _ (cover0_A_9 c _ _ _ _ _ _ _ _ _ _ _ _ _ _ _ _ _ _ _ _ _ _ _ _ _ _ _ _ _)

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation, at every point: the body's triple restated (Lib/Pipeline/FrameBody.lean `triple_restated`). -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! ## The run and the frame -/

-- `θ_run_frame`'s implicit arguments are found by unifying its conclusion with this one, which takes unfolding plain
-- definitions in a metavariable's type
set_option backward.isDefEq.respectTransparency.types false in
/-- THE LAUNCH: `run_main`'s statement, and every semaphore counter of the machine at zero at every final state. -/
theorem run_main_quiescent : θ_run defs (onTc (τ := τ) (main (F := F))) (s₀ m ρ) (fun r => (Pipeline.FramePost cfgs (dats m) 0 (V m)) r ∧ r.2.sem = fun _ => 0) :=
  Pipeline.θ_run_frame (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- At the compiled mesh, for any values, from any memory with zero counters: every weakly fair execution of @main on the
    TensorCores terminates, and every final state has every array of the pipeline at what the library computes from the
    proof data and every other unscoped buffer as the region found it (Lib/Pipeline/Frame.lean `FramePost`). -/
theorem run_main : θ_run defs (onTc (τ := τ) (main (F := F))) (s₀ m ρ) (Pipeline.FramePost cfgs (dats m) 0 (V m)) :=
  (θ_run defs _ _).mono (fun _ h => h.1) (run_main_quiescent m ρ)

/-- `frame` without the counters: the argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  frame_of m ρ (dats m) (A_eq m) (run_main m ρ)

/-- The frame: every fair execution of @main terminates with the argument arrays unchanged, and every semaphore counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  θ_run_and (unchanged m ρ) ((θ_run defs _ _).mono (fun _ h => h.2) (run_main_quiescent m ρ))

end Cert.KernelIdeal.Run

end
-- ==== Proof.KernelBlocks.lean ====
/- What the run of the idealised kernel leaves in each output array, block by block. -/
module

public import proofs.«01_k».proof.Proof.KernelFrame
public import Idealize.ShloMosaic.Lib.Pipeline.Value

@[expose] public section

noncomputable section

namespace Cert.KernelIdeal.Value

open Cert.KernelIdeal Cert.KernelIdeal.Gen Cert.KernelIdeal.Run
open Idealize.ShloMosaic Idealize.ShloMosaic.TcCoe Idealize.SL.Sem
open Idealize.ShloMosaic.Pipeline (Dat)

variable {F : FTy → Type} [FloatOps F]
variable (m : (ℓ : Loc nD τ sig) → Buf (Elt F) ℓ) (ρ : Dev nD → PrngReg)

/-! ## Blockwise: what each point writes back, and the final array block by block -/

/-- WHAT POINT `t` WRITES BACK to output window 6's array: the run's contents for that window after the body (`Run.outsAt0`: its component 0), read through the window's block. -/
theorem flushed6 (c : Dev nD) (t : Fin cfg0.N) :
    (dats m 0 c).flushed 6 t = (cfg0.win 6).cut (grid0.coords t) ((outsAt0 m c t).1) := by
  show (cfg0.win 6).cut (grid0.coords t) ((dats m 0 c).after 6 t) = _
  rw [after0_6]

/-- … so at a point where case A runs, what its write-back would write is that case's NAMED TERM for the window (`Run.out0_A_6`: the pieces
    its run found, read back) at the point's memrefs and input blocks, and for an output the case reads back what the point before left (`Run.outsAt0` at `t - 1`) — the kernel's one case, `Run.outsAt0` by definition. -/
theorem flushed6_A (c : Dev nD) (t : Fin cfg0.N) :
    (dats m 0 c).flushed 6 t = (cfg0.win 6).cut (grid0.coords t) (out0_A_6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) (iblk m c 0 t) (iblk m c 1 t) (iblk m c 2 t) (iblk m c 3 t) (iblk m c 4 t) (iblk m c 5 t)) := by
  simp only [flushed6, outsAt0]

/-- The index map sends distinct grid points to distinct block indices (decided over the 14 points). -/
theorem idx_inj6 : ∀ t t' : Fin cfg0.N, win0_6.index t = win0_6.index t' → t = t' :=
  (by decide +kernel : ∀ t t' : Fin grid0.N, win0_6.index t = win0_6.index t' → t = t')

/-- So two flushing points' blocks share no array index (Lib/Pipeline/Cells.lean `Window.disjoint_blk`). -/
theorem disjoint6 : ∀ t t' : Fin cfg0.N, (cfg0.win 6).flush t = true → (cfg0.win 6).flush t' = true → t ≠ t' →
    Disjoint ((cfg0.win 6).blk t).view.set ((cfg0.win 6).blk t').view.set :=
  fun t t' _ _ hne => (cfg0.win 6).disjoint_blk fun h => hne (idx_inj6 t t' h)

/-- BLOCK `t` OF THE FINAL ARRAY, read back through the window, is what point `t` wrote back (`flushed6`), for every
    point that writes back: no other point's block meets it. -/
theorem blocks6 (c : Dev nD) (t : Fin cfg0.N) (hf : (cfg0.win 6).flush t = true) :
    ((cfg0.win 6).blk t).view.read (Elt F) ((dats m 0 c).arrAt 6 cfg0.N) = (dats m 0 c).flushed 6 t :=
  (dats m 0 c).read_blk_arrAt_eq_flushed 6 disjoint6 cfg0.N t t.isLt hf

/-- An index that no flushing point's block covers keeps output window 6's array contents at region entry. -/
theorem entry6 (c : Dev nD) (i : S22528x3584.Idx) (h : ∀ t : Fin cfg0.N, (cfg0.win 6).flush t = true → i ∉ ((cfg0.win 6).blk t).view.set) :
    (dats m 0 c).arrAt 6 cfg0.N i = V m c (Pipeline.arrRef spec0 6) i := by
  rw [(dats m 0 c).arrAt_apply_of_forall_not_mem 6 cfg0.N i (fun t _ hf => h t hf), A_eq]

/-- WHAT POINT `t` WRITES BACK to output window 7's array: the run's contents for that window after the body (`Run.outsAt0`: its component 1), read through the window's block. -/
theorem flushed7 (c : Dev nD) (t : Fin cfg0.N) :
    (dats m 0 c).flushed 7 t = (cfg0.win 7).cut (grid0.coords t) ((outsAt0 m c t).2.1) := by
  show (cfg0.win 7).cut (grid0.coords t) ((dats m 0 c).after 7 t) = _
  rw [after0_7]

/-- … so at a point where case A runs, what its write-back would write is that case's NAMED TERM for the window (`Run.out0_A_7`: the pieces
    its run found, read back) at the point's memrefs and input blocks, and for an output the case reads back what the point before left (`Run.outsAt0` at `t - 1`) — the kernel's one case, `Run.outsAt0` by definition. -/
theorem flushed7_A (c : Dev nD) (t : Fin cfg0.N) :
    (dats m 0 c).flushed 7 t = (cfg0.win 7).cut (grid0.coords t) (out0_A_7 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) (iblk m c 0 t) (iblk m c 1 t) (iblk m c 2 t) (iblk m c 3 t) (iblk m c 4 t) (iblk m c 5 t)) := by
  simp only [flushed7, outsAt0]

/-- The index map sends distinct grid points to distinct block indices (decided over the 14 points). -/
theorem idx_inj7 : ∀ t t' : Fin cfg0.N, win0_7.index t = win0_7.index t' → t = t' :=
  (by decide +kernel : ∀ t t' : Fin grid0.N, win0_7.index t = win0_7.index t' → t = t')

/-- So two flushing points' blocks share no array index (Lib/Pipeline/Cells.lean `Window.disjoint_blk`). -/
theorem disjoint7 : ∀ t t' : Fin cfg0.N, (cfg0.win 7).flush t = true → (cfg0.win 7).flush t' = true → t ≠ t' →
    Disjoint ((cfg0.win 7).blk t).view.set ((cfg0.win 7).blk t').view.set :=
  fun t t' _ _ hne => (cfg0.win 7).disjoint_blk fun h => hne (idx_inj7 t t' h)

/-- BLOCK `t` OF THE FINAL ARRAY, read back through the window, is what point `t` wrote back (`flushed7`), for every
    point that writes back: no other point's block meets it. -/
theorem blocks7 (c : Dev nD) (t : Fin cfg0.N) (hf : (cfg0.win 7).flush t = true) :
    ((cfg0.win 7).blk t).view.read (Elt F) ((dats m 0 c).arrAt 7 cfg0.N) = (dats m 0 c).flushed 7 t :=
  (dats m 0 c).read_blk_arrAt_eq_flushed 7 disjoint7 cfg0.N t t.isLt hf

/-- An index that no flushing point's block covers keeps output window 7's array contents at region entry. -/
theorem entry7 (c : Dev nD) (i : S176x3584.Idx) (h : ∀ t : Fin cfg0.N, (cfg0.win 7).flush t = true → i ∉ ((cfg0.win 7).blk t).view.set) :
    (dats m 0 c).arrAt 7 cfg0.N i = V m c (Pipeline.arrRef spec0 7) i := by
  rw [(dats m 0 c).arrAt_apply_of_forall_not_mem 7 cfg0.N i (fun t _ hf => h t hf), A_eq]

/-- WHAT POINT `t` WRITES BACK to output window 8's array: the run's contents for that window after the body (`Run.outsAt0`: its component 2), read through the window's block. -/
theorem flushed8 (c : Dev nD) (t : Fin cfg0.N) :
    (dats m 0 c).flushed 8 t = (cfg0.win 8).cut (grid0.coords t) ((outsAt0 m c t).2.2.1) := by
  show (cfg0.win 8).cut (grid0.coords t) ((dats m 0 c).after 8 t) = _
  rw [after0_8]

/-- … so at a point where case A runs, what its write-back would write is that case's NAMED TERM for the window (`Run.out0_A_8`: the pieces
    its run found, read back) at the point's memrefs and input blocks, and for an output the case reads back what the point before left (`Run.outsAt0` at `t - 1`) — the kernel's one case, `Run.outsAt0` by definition. -/
theorem flushed8_A (c : Dev nD) (t : Fin cfg0.N) :
    (dats m 0 c).flushed 8 t = (cfg0.win 8).cut (grid0.coords t) (out0_A_8 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) (iblk m c 0 t) (iblk m c 1 t) (iblk m c 2 t) (iblk m c 3 t) (iblk m c 4 t) (iblk m c 5 t)) := by
  simp only [flushed8, outsAt0]

/-- The index map sends distinct grid points to distinct block indices (decided over the 14 points). -/
theorem idx_inj8 : ∀ t t' : Fin cfg0.N, win0_8.index t = win0_8.index t' → t = t' :=
  (by decide +kernel : ∀ t t' : Fin grid0.N, win0_8.index t = win0_8.index t' → t = t')

/-- So two flushing points' blocks share no array index (Lib/Pipeline/Cells.lean `Window.disjoint_blk`). -/
theorem disjoint8 : ∀ t t' : Fin cfg0.N, (cfg0.win 8).flush t = true → (cfg0.win 8).flush t' = true → t ≠ t' →
    Disjoint ((cfg0.win 8).blk t).view.set ((cfg0.win 8).blk t').view.set :=
  fun t t' _ _ hne => (cfg0.win 8).disjoint_blk fun h => hne (idx_inj8 t t' h)

/-- BLOCK `t` OF THE FINAL ARRAY, read back through the window, is what point `t` wrote back (`flushed8`), for every
    point that writes back: no other point's block meets it. -/
theorem blocks8 (c : Dev nD) (t : Fin cfg0.N) (hf : (cfg0.win 8).flush t = true) :
    ((cfg0.win 8).blk t).view.read (Elt F) ((dats m 0 c).arrAt 8 cfg0.N) = (dats m 0 c).flushed 8 t :=
  (dats m 0 c).read_blk_arrAt_eq_flushed 8 disjoint8 cfg0.N t t.isLt hf

/-- An index that no flushing point's block covers keeps output window 8's array contents at region entry. -/
theorem entry8 (c : Dev nD) (i : S72x3584.Idx) (h : ∀ t : Fin cfg0.N, (cfg0.win 8).flush t = true → i ∉ ((cfg0.win 8).blk t).view.set) :
    (dats m 0 c).arrAt 8 cfg0.N i = V m c (Pipeline.arrRef spec0 8) i := by
  rw [(dats m 0 c).arrAt_apply_of_forall_not_mem 8 cfg0.N i (fun t _ hf => h t hf), A_eq]

/-- WHAT POINT `t` WRITES BACK to output window 9's array: the run's contents for that window after the body (`Run.outsAt0`: its component 3), read through the window's block. -/
theorem flushed9 (c : Dev nD) (t : Fin cfg0.N) :
    (dats m 0 c).flushed 9 t = (cfg0.win 9).cut (grid0.coords t) ((outsAt0 m c t).2.2.2) := by
  show (cfg0.win 9).cut (grid0.coords t) ((dats m 0 c).after 9 t) = _
  rw [after0_9]

/-- … so at a point where case A runs, what its write-back would write is that case's NAMED TERM for the window (`Run.out0_A_9`: the pieces
    its run found, read back) at the point's memrefs and input blocks, and for an output the case reads back what the point before left (`Run.outsAt0` at `t - 1`) — the kernel's one case, `Run.outsAt0` by definition. -/
theorem flushed9_A (c : Dev nD) (t : Fin cfg0.N) :
    (dats m 0 c).flushed 9 t = (cfg0.win 9).cut (grid0.coords t) (out0_A_9 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) (iblk m c 0 t) (iblk m c 1 t) (iblk m c 2 t) (iblk m c 3 t) (iblk m c 4 t) (iblk m c 5 t)) := by
  simp only [flushed9, outsAt0]

/-- The index map sends distinct grid points to distinct block indices (decided over the 14 points). -/
theorem idx_inj9 : ∀ t t' : Fin cfg0.N, win0_9.index t = win0_9.index t' → t = t' :=
  (by decide +kernel : ∀ t t' : Fin grid0.N, win0_9.index t = win0_9.index t' → t = t')

/-- So two flushing points' blocks share no array index (Lib/Pipeline/Cells.lean `Window.disjoint_blk`). -/
theorem disjoint9 : ∀ t t' : Fin cfg0.N, (cfg0.win 9).flush t = true → (cfg0.win 9).flush t' = true → t ≠ t' →
    Disjoint ((cfg0.win 9).blk t).view.set ((cfg0.win 9).blk t').view.set :=
  fun t t' _ _ hne => (cfg0.win 9).disjoint_blk fun h => hne (idx_inj9 t t' h)

/-- BLOCK `t` OF THE FINAL ARRAY, read back through the window, is what point `t` wrote back (`flushed9`), for every
    point that writes back: no other point's block meets it. -/
theorem blocks9 (c : Dev nD) (t : Fin cfg0.N) (hf : (cfg0.win 9).flush t = true) :
    ((cfg0.win 9).blk t).view.read (Elt F) ((dats m 0 c).arrAt 9 cfg0.N) = (dats m 0 c).flushed 9 t :=
  (dats m 0 c).read_blk_arrAt_eq_flushed 9 disjoint9 cfg0.N t t.isLt hf

/-- An index that no flushing point's block covers keeps output window 9's array contents at region entry. -/
theorem entry9 (c : Dev nD) (i : S1x3584.Idx) (h : ∀ t : Fin cfg0.N, (cfg0.win 9).flush t = true → i ∉ ((cfg0.win 9).blk t).view.set) :
    (dats m 0 c).arrAt 9 cfg0.N i = V m c (Pipeline.arrRef spec0 9) i := by
  rw [(dats m 0 c).arrAt_apply_of_forall_not_mem 9 cfg0.N i (fun t _ hf => h t hf), A_eq]

/-- After the frame run, output window 6's array is `(dats m 0 c).arrAt 6 N`. -/
theorem post6 (r : PUnit × MemSt nD τ sig (Elt F)) (h : Pipeline.FramePost cfgs (dats m) 0 (V m) r) (c : Dev nD) :
    r.2.mem ((c : Thread nD τ).loc main_v0_0) = (dats m 0 c).arrAt 6 cfg0.N :=
  (h c).1 6

/-- After the frame run, output window 7's array is `(dats m 0 c).arrAt 7 N`. -/
theorem post7 (r : PUnit × MemSt nD τ sig (Elt F)) (h : Pipeline.FramePost cfgs (dats m) 0 (V m) r) (c : Dev nD) :
    r.2.mem ((c : Thread nD τ).loc main_v0_1) = (dats m 0 c).arrAt 7 cfg0.N :=
  (h c).1 7

/-- After the frame run, output window 8's array is `(dats m 0 c).arrAt 8 N`. -/
theorem post8 (r : PUnit × MemSt nD τ sig (Elt F)) (h : Pipeline.FramePost cfgs (dats m) 0 (V m) r) (c : Dev nD) :
    r.2.mem ((c : Thread nD τ).loc main_v0_2) = (dats m 0 c).arrAt 8 cfg0.N :=
  (h c).1 8

/-- After the frame run, output window 9's array is `(dats m 0 c).arrAt 9 N`. -/
theorem post9 (r : PUnit × MemSt nD τ sig (Elt F)) (h : Pipeline.FramePost cfgs (dats m) 0 (V m) r) (c : Dev nD) :
    r.2.mem ((c : Thread nD τ).loc main_v0_3) = (dats m 0 c).arrAt 9 cfg0.N :=
  (h c).1 9

/-- After the frame run, argument `main_arg0` is as launched: input window 0 stages it and never writes it back. -/
theorem kept_main_arg0 (r : PUnit × MemSt nD τ sig (Elt F)) (h : Pipeline.FramePost cfgs (dats m) 0 (V m) r) (c : Dev nD) :
    r.2.mem ((c : Thread nD τ).loc main_arg0) = m ((c : Thread nD τ).loc main_arg0) :=
  ((h c).1 0).trans (((dats m 0 c).arrAt_in 0 rfl _).trans ((A_eq m c 0).trans (V_main_arg0 m c)))

/-- After the frame run, argument `main_arg1` is as launched: input window 1 stages it and never writes it back. -/
theorem kept_main_arg1 (r : PUnit × MemSt nD τ sig (Elt F)) (h : Pipeline.FramePost cfgs (dats m) 0 (V m) r) (c : Dev nD) :
    r.2.mem ((c : Thread nD τ).loc main_arg1) = m ((c : Thread nD τ).loc main_arg1) :=
  ((h c).1 1).trans (((dats m 0 c).arrAt_in 1 rfl _).trans ((A_eq m c 1).trans (V_main_arg1 m c)))

/-- After the frame run, argument `main_arg2` is as launched: input window 2 stages it and never writes it back. -/
theorem kept_main_arg2 (r : PUnit × MemSt nD τ sig (Elt F)) (h : Pipeline.FramePost cfgs (dats m) 0 (V m) r) (c : Dev nD) :
    r.2.mem ((c : Thread nD τ).loc main_arg2) = m ((c : Thread nD τ).loc main_arg2) :=
  ((h c).1 2).trans (((dats m 0 c).arrAt_in 2 rfl _).trans ((A_eq m c 2).trans (V_main_arg2 m c)))

/-- After the frame run, argument `main_arg3` is as launched: input window 3 stages it and never writes it back. -/
theorem kept_main_arg3 (r : PUnit × MemSt nD τ sig (Elt F)) (h : Pipeline.FramePost cfgs (dats m) 0 (V m) r) (c : Dev nD) :
    r.2.mem ((c : Thread nD τ).loc main_arg3) = m ((c : Thread nD τ).loc main_arg3) :=
  ((h c).1 3).trans (((dats m 0 c).arrAt_in 3 rfl _).trans ((A_eq m c 3).trans (V_main_arg3 m c)))

/-- After the frame run, argument `main_arg4` is as launched: input window 4 stages it and never writes it back. -/
theorem kept_main_arg4 (r : PUnit × MemSt nD τ sig (Elt F)) (h : Pipeline.FramePost cfgs (dats m) 0 (V m) r) (c : Dev nD) :
    r.2.mem ((c : Thread nD τ).loc main_arg4) = m ((c : Thread nD τ).loc main_arg4) :=
  ((h c).1 4).trans (((dats m 0 c).arrAt_in 4 rfl _).trans ((A_eq m c 4).trans (V_main_arg4 m c)))

/-- After the frame run, argument `main_arg5` is as launched: input window 5 stages it and never writes it back. -/
theorem kept_main_arg5 (r : PUnit × MemSt nD τ sig (Elt F)) (h : Pipeline.FramePost cfgs (dats m) 0 (V m) r) (c : Dev nD) :
    r.2.mem ((c : Thread nD τ).loc main_arg5) = m ((c : Thread nD τ).loc main_arg5) :=
  ((h c).1 5).trans (((dats m 0 c).arrAt_in 5 rfl _).trans ((A_eq m c 5).trans (V_main_arg5 m c)))

/-- The frame run with each output array after the run NAMED — `(dats m 0 c).arrAt w N`, which `blocks_w` / `entry_w` read —,
    the arguments unchanged. -/
theorem run_blocks : θ_run defs (onTc (τ := τ) (main (F := F))) ⟨m, fun _ => 0, ρ⟩ fun r => ∀ c : Dev nD,
      r.2.mem ((c : Thread nD τ).loc main_v0_0) = (dats m 0 c).arrAt 6 cfg0.N
      ∧ r.2.mem ((c : Thread nD τ).loc main_v0_1) = (dats m 0 c).arrAt 7 cfg0.N
      ∧ r.2.mem ((c : Thread nD τ).loc main_v0_2) = (dats m 0 c).arrAt 8 cfg0.N
      ∧ r.2.mem ((c : Thread nD τ).loc main_v0_3) = (dats m 0 c).arrAt 9 cfg0.N
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5) :=
  (θ_run defs _ _).mono (fun r h c => ⟨post6 m r h c,
      post7 m r h c,
      post8 m r h c,
      post9 m r h c,
      kept_main_arg0 m r h c,
      kept_main_arg1 m r h c,
      kept_main_arg2 m r h c,
      kept_main_arg3 m r h c,
      kept_main_arg4 m r h c,
      kept_main_arg5 m r h c⟩)
    (run_main m ρ)

end Cert.KernelIdeal.Value

end
-- ==== Proof.RefRun.lean ====
/-
  The reference's run, read. The reference is one call over whole arrays, without a grid, so each of its four results
  is one function of its six arguments: `G6` (codes of C), `G7` (scales of C), `G8` (codes of Y), `G9` (scales of Y),
  each a composition of the values that the printed program names. `run` says that every run of the reference leaves
  those four values in its results and its arguments as they were.
-/
module

public import proofs.«01_k».proof.Proof.Gen.ReferenceIdeal.Frame
public import Idealize.ShloMosaic.Lib.Pipeline.Value

@[expose] public section

noncomputable section

namespace Cert.ReferenceIdeal.Read

open Cert.ReferenceIdeal Cert.ReferenceIdeal.Gen Idealize.ShloMosaic Idealize.ShloMosaic.TcCoe Idealize.SL.Sem
open Idealize.ShloMosaic.Pipeline (Dat)

variable {F : FTy → Type} [FloatOps F]
variable (m : (ℓ : Loc nD τ sig) → Buf (Elt F) ℓ) (ρ : Dev nD → PrngReg)

/-! ## Blockwise: what each point writes back, and the final array block by block -/

/-- WHAT POINT `t` WRITES BACK to output window 6's array: the body's result for that window (`Gen.out0_6`: its stores
    as pieces over the input windows' blocks), read through the window's block. -/
theorem flushed6 (c : Dev nD) (t : Fin cfg0.N) :
    (dats m 0 c).flushed 6 t = (cfg0.win 6).cut (grid0.coords t) (out0_6 (iblk m c 0 t) (iblk m c 1 t) (iblk m c 2 t) (iblk m c 3 t) (iblk m c 4 t) (iblk m c 5 t)) := by
  show (cfg0.win 6).cut (grid0.coords t) ((dats m 0 c).after 6 t) = _
  rw [after0_6]

/-- The index map sends distinct grid points to distinct block indices (decided over the 1 point). -/
theorem idx_inj6 : ∀ t t' : Fin cfg0.N, win0_6.index t = win0_6.index t' → t = t' :=
  (by decide +kernel : ∀ t t' : Fin grid0.N, win0_6.index t = win0_6.index t' → t = t')

/-- So two flushing points' blocks share no array index (Lib/Pipeline/Cells.lean `Window.disjoint_blk`). -/
theorem disjoint6 : ∀ t t' : Fin cfg0.N, (cfg0.win 6).flush t = true → (cfg0.win 6).flush t' = true → t ≠ t' →
    Disjoint ((cfg0.win 6).blk t).view.set ((cfg0.win 6).blk t').view.set :=
  fun t t' _ _ hne => (cfg0.win 6).disjoint_blk fun h => hne (idx_inj6 t t' h)

/-- BLOCK `t` OF THE FINAL ARRAY, read back through the window, is what point `t` wrote back (`flushed6`), for every
    point that writes back: no other point's block meets it. -/
theorem blocks6 (c : Dev nD) (t : Fin cfg0.N) (hf : (cfg0.win 6).flush t = true) :
    ((cfg0.win 6).blk t).view.read (Elt F) ((dats m 0 c).arrAt 6 cfg0.N) = (dats m 0 c).flushed 6 t :=
  (dats m 0 c).read_blk_arrAt_eq_flushed 6 disjoint6 cfg0.N t t.isLt hf

/-- An index that no flushing point's block covers keeps output window 6's array contents at region entry. -/
theorem entry6 (c : Dev nD) (i : S22528x3584.Idx) (h : ∀ t : Fin cfg0.N, (cfg0.win 6).flush t = true → i ∉ ((cfg0.win 6).blk t).view.set) :
    (dats m 0 c).arrAt 6 cfg0.N i = V m c (Pipeline.arrRef spec0 6) i := by
  rw [(dats m 0 c).arrAt_apply_of_forall_not_mem 6 cfg0.N i (fun t _ hf => h t hf), A_eq]

/-- WHAT POINT `t` WRITES BACK to output window 7's array: the body's result for that window (`Gen.out0_7`: its stores
    as pieces over the input windows' blocks), read through the window's block. -/
theorem flushed7 (c : Dev nD) (t : Fin cfg0.N) :
    (dats m 0 c).flushed 7 t = (cfg0.win 7).cut (grid0.coords t) (out0_7 (iblk m c 0 t) (iblk m c 1 t) (iblk m c 2 t) (iblk m c 3 t) (iblk m c 4 t) (iblk m c 5 t)) := by
  show (cfg0.win 7).cut (grid0.coords t) ((dats m 0 c).after 7 t) = _
  rw [after0_7]

/-- The index map sends distinct grid points to distinct block indices (decided over the 1 point). -/
theorem idx_inj7 : ∀ t t' : Fin cfg0.N, win0_7.index t = win0_7.index t' → t = t' :=
  (by decide +kernel : ∀ t t' : Fin grid0.N, win0_7.index t = win0_7.index t' → t = t')

/-- So two flushing points' blocks share no array index (Lib/Pipeline/Cells.lean `Window.disjoint_blk`). -/
theorem disjoint7 : ∀ t t' : Fin cfg0.N, (cfg0.win 7).flush t = true → (cfg0.win 7).flush t' = true → t ≠ t' →
    Disjoint ((cfg0.win 7).blk t).view.set ((cfg0.win 7).blk t').view.set :=
  fun t t' _ _ hne => (cfg0.win 7).disjoint_blk fun h => hne (idx_inj7 t t' h)

/-- BLOCK `t` OF THE FINAL ARRAY, read back through the window, is what point `t` wrote back (`flushed7`), for every
    point that writes back: no other point's block meets it. -/
theorem blocks7 (c : Dev nD) (t : Fin cfg0.N) (hf : (cfg0.win 7).flush t = true) :
    ((cfg0.win 7).blk t).view.read (Elt F) ((dats m 0 c).arrAt 7 cfg0.N) = (dats m 0 c).flushed 7 t :=
  (dats m 0 c).read_blk_arrAt_eq_flushed 7 disjoint7 cfg0.N t t.isLt hf

/-- An index that no flushing point's block covers keeps output window 7's array contents at region entry. -/
theorem entry7 (c : Dev nD) (i : S176x3584.Idx) (h : ∀ t : Fin cfg0.N, (cfg0.win 7).flush t = true → i ∉ ((cfg0.win 7).blk t).view.set) :
    (dats m 0 c).arrAt 7 cfg0.N i = V m c (Pipeline.arrRef spec0 7) i := by
  rw [(dats m 0 c).arrAt_apply_of_forall_not_mem 7 cfg0.N i (fun t _ hf => h t hf), A_eq]

/-- WHAT POINT `t` WRITES BACK to output window 8's array: the body's result for that window (`Gen.out0_8`: its stores
    as pieces over the input windows' blocks), read through the window's block. -/
theorem flushed8 (c : Dev nD) (t : Fin cfg0.N) :
    (dats m 0 c).flushed 8 t = (cfg0.win 8).cut (grid0.coords t) (out0_8 (iblk m c 0 t) (iblk m c 1 t) (iblk m c 2 t) (iblk m c 3 t) (iblk m c 4 t) (iblk m c 5 t)) := by
  show (cfg0.win 8).cut (grid0.coords t) ((dats m 0 c).after 8 t) = _
  rw [after0_8]

/-- The index map sends distinct grid points to distinct block indices (decided over the 1 point). -/
theorem idx_inj8 : ∀ t t' : Fin cfg0.N, win0_8.index t = win0_8.index t' → t = t' :=
  (by decide +kernel : ∀ t t' : Fin grid0.N, win0_8.index t = win0_8.index t' → t = t')

/-- So two flushing points' blocks share no array index (Lib/Pipeline/Cells.lean `Window.disjoint_blk`). -/
theorem disjoint8 : ∀ t t' : Fin cfg0.N, (cfg0.win 8).flush t = true → (cfg0.win 8).flush t' = true → t ≠ t' →
    Disjoint ((cfg0.win 8).blk t).view.set ((cfg0.win 8).blk t').view.set :=
  fun t t' _ _ hne => (cfg0.win 8).disjoint_blk fun h => hne (idx_inj8 t t' h)

/-- BLOCK `t` OF THE FINAL ARRAY, read back through the window, is what point `t` wrote back (`flushed8`), for every
    point that writes back: no other point's block meets it. -/
theorem blocks8 (c : Dev nD) (t : Fin cfg0.N) (hf : (cfg0.win 8).flush t = true) :
    ((cfg0.win 8).blk t).view.read (Elt F) ((dats m 0 c).arrAt 8 cfg0.N) = (dats m 0 c).flushed 8 t :=
  (dats m 0 c).read_blk_arrAt_eq_flushed 8 disjoint8 cfg0.N t t.isLt hf

/-- An index that no flushing point's block covers keeps output window 8's array contents at region entry. -/
theorem entry8 (c : Dev nD) (i : S72x3584.Idx) (h : ∀ t : Fin cfg0.N, (cfg0.win 8).flush t = true → i ∉ ((cfg0.win 8).blk t).view.set) :
    (dats m 0 c).arrAt 8 cfg0.N i = V m c (Pipeline.arrRef spec0 8) i := by
  rw [(dats m 0 c).arrAt_apply_of_forall_not_mem 8 cfg0.N i (fun t _ hf => h t hf), A_eq]

/-- WHAT POINT `t` WRITES BACK to output window 9's array: the body's result for that window (`Gen.out0_9`: its stores
    as pieces over the input windows' blocks), read through the window's block. -/
theorem flushed9 (c : Dev nD) (t : Fin cfg0.N) :
    (dats m 0 c).flushed 9 t = (cfg0.win 9).cut (grid0.coords t) (out0_9 (iblk m c 0 t) (iblk m c 1 t) (iblk m c 2 t) (iblk m c 3 t) (iblk m c 4 t) (iblk m c 5 t)) := by
  show (cfg0.win 9).cut (grid0.coords t) ((dats m 0 c).after 9 t) = _
  rw [after0_9]

/-- The index map sends distinct grid points to distinct block indices (decided over the 1 point). -/
theorem idx_inj9 : ∀ t t' : Fin cfg0.N, win0_9.index t = win0_9.index t' → t = t' :=
  (by decide +kernel : ∀ t t' : Fin grid0.N, win0_9.index t = win0_9.index t' → t = t')

/-- So two flushing points' blocks share no array index (Lib/Pipeline/Cells.lean `Window.disjoint_blk`). -/
theorem disjoint9 : ∀ t t' : Fin cfg0.N, (cfg0.win 9).flush t = true → (cfg0.win 9).flush t' = true → t ≠ t' →
    Disjoint ((cfg0.win 9).blk t).view.set ((cfg0.win 9).blk t').view.set :=
  fun t t' _ _ hne => (cfg0.win 9).disjoint_blk fun h => hne (idx_inj9 t t' h)

/-- BLOCK `t` OF THE FINAL ARRAY, read back through the window, is what point `t` wrote back (`flushed9`), for every
    point that writes back: no other point's block meets it. -/
theorem blocks9 (c : Dev nD) (t : Fin cfg0.N) (hf : (cfg0.win 9).flush t = true) :
    ((cfg0.win 9).blk t).view.read (Elt F) ((dats m 0 c).arrAt 9 cfg0.N) = (dats m 0 c).flushed 9 t :=
  (dats m 0 c).read_blk_arrAt_eq_flushed 9 disjoint9 cfg0.N t t.isLt hf

/-- An index that no flushing point's block covers keeps output window 9's array contents at region entry. -/
theorem entry9 (c : Dev nD) (i : S1x3584.Idx) (h : ∀ t : Fin cfg0.N, (cfg0.win 9).flush t = true → i ∉ ((cfg0.win 9).blk t).view.set) :
    (dats m 0 c).arrAt 9 cfg0.N i = V m c (Pipeline.arrRef spec0 9) i := by
  rw [(dats m 0 c).arrAt_apply_of_forall_not_mem 9 cfg0.N i (fun t _ hf => h t hf), A_eq]

/-- After the frame run, output window 6's array is `(dats m 0 c).arrAt 6 N`. -/
theorem post6 (r : PUnit × MemSt nD τ sig (Elt F)) (h : Pipeline.FramePost cfgs (dats m) 0 (V m) r) (c : Dev nD) :
    r.2.mem ((c : Thread nD τ).loc main_v0_0) = (dats m 0 c).arrAt 6 cfg0.N :=
  (h c).1 6

/-- After the frame run, output window 7's array is `(dats m 0 c).arrAt 7 N`. -/
theorem post7 (r : PUnit × MemSt nD τ sig (Elt F)) (h : Pipeline.FramePost cfgs (dats m) 0 (V m) r) (c : Dev nD) :
    r.2.mem ((c : Thread nD τ).loc main_v0_1) = (dats m 0 c).arrAt 7 cfg0.N :=
  (h c).1 7

/-- After the frame run, output window 8's array is `(dats m 0 c).arrAt 8 N`. -/
theorem post8 (r : PUnit × MemSt nD τ sig (Elt F)) (h : Pipeline.FramePost cfgs (dats m) 0 (V m) r) (c : Dev nD) :
    r.2.mem ((c : Thread nD τ).loc main_v0_2) = (dats m 0 c).arrAt 8 cfg0.N :=
  (h c).1 8

/-- After the frame run, output window 9's array is `(dats m 0 c).arrAt 9 N`. -/
theorem post9 (r : PUnit × MemSt nD τ sig (Elt F)) (h : Pipeline.FramePost cfgs (dats m) 0 (V m) r) (c : Dev nD) :
    r.2.mem ((c : Thread nD τ).loc main_v0_3) = (dats m 0 c).arrAt 9 cfg0.N :=
  (h c).1 9

/-- After the frame run, argument `main_arg0` is as launched: input window 0 stages it and never writes it back. -/
theorem kept_main_arg0 (r : PUnit × MemSt nD τ sig (Elt F)) (h : Pipeline.FramePost cfgs (dats m) 0 (V m) r) (c : Dev nD) :
    r.2.mem ((c : Thread nD τ).loc main_arg0) = m ((c : Thread nD τ).loc main_arg0) :=
  ((h c).1 0).trans (((dats m 0 c).arrAt_in 0 rfl _).trans ((A_eq m c 0).trans (V_main_arg0 m c)))

/-- After the frame run, argument `main_arg1` is as launched: input window 1 stages it and never writes it back. -/
theorem kept_main_arg1 (r : PUnit × MemSt nD τ sig (Elt F)) (h : Pipeline.FramePost cfgs (dats m) 0 (V m) r) (c : Dev nD) :
    r.2.mem ((c : Thread nD τ).loc main_arg1) = m ((c : Thread nD τ).loc main_arg1) :=
  ((h c).1 1).trans (((dats m 0 c).arrAt_in 1 rfl _).trans ((A_eq m c 1).trans (V_main_arg1 m c)))

/-- After the frame run, argument `main_arg2` is as launched: input window 2 stages it and never writes it back. -/
theorem kept_main_arg2 (r : PUnit × MemSt nD τ sig (Elt F)) (h : Pipeline.FramePost cfgs (dats m) 0 (V m) r) (c : Dev nD) :
    r.2.mem ((c : Thread nD τ).loc main_arg2) = m ((c : Thread nD τ).loc main_arg2) :=
  ((h c).1 2).trans (((dats m 0 c).arrAt_in 2 rfl _).trans ((A_eq m c 2).trans (V_main_arg2 m c)))

/-- After the frame run, argument `main_arg3` is as launched: input window 3 stages it and never writes it back. -/
theorem kept_main_arg3 (r : PUnit × MemSt nD τ sig (Elt F)) (h : Pipeline.FramePost cfgs (dats m) 0 (V m) r) (c : Dev nD) :
    r.2.mem ((c : Thread nD τ).loc main_arg3) = m ((c : Thread nD τ).loc main_arg3) :=
  ((h c).1 3).trans (((dats m 0 c).arrAt_in 3 rfl _).trans ((A_eq m c 3).trans (V_main_arg3 m c)))

/-- After the frame run, argument `main_arg4` is as launched: input window 4 stages it and never writes it back. -/
theorem kept_main_arg4 (r : PUnit × MemSt nD τ sig (Elt F)) (h : Pipeline.FramePost cfgs (dats m) 0 (V m) r) (c : Dev nD) :
    r.2.mem ((c : Thread nD τ).loc main_arg4) = m ((c : Thread nD τ).loc main_arg4) :=
  ((h c).1 4).trans (((dats m 0 c).arrAt_in 4 rfl _).trans ((A_eq m c 4).trans (V_main_arg4 m c)))

/-- After the frame run, argument `main_arg5` is as launched: input window 5 stages it and never writes it back. -/
theorem kept_main_arg5 (r : PUnit × MemSt nD τ sig (Elt F)) (h : Pipeline.FramePost cfgs (dats m) 0 (V m) r) (c : Dev nD) :
    r.2.mem ((c : Thread nD τ).loc main_arg5) = m ((c : Thread nD τ).loc main_arg5) :=
  ((h c).1 5).trans (((dats m 0 c).arrAt_in 5 rfl _).trans ((A_eq m c 5).trans (V_main_arg5 m c)))

/-- The frame run with each output array after the run NAMED — `(dats m 0 c).arrAt w N`, which `blocks_w` / `entry_w` read —,
    the arguments unchanged. -/
theorem run_blocks : θ_run defs (onTc (τ := τ) (main (F := F))) ⟨m, fun _ => 0, ρ⟩ fun r => ∀ c : Dev nD,
      r.2.mem ((c : Thread nD τ).loc main_v0_0) = (dats m 0 c).arrAt 6 cfg0.N
      ∧ r.2.mem ((c : Thread nD τ).loc main_v0_1) = (dats m 0 c).arrAt 7 cfg0.N
      ∧ r.2.mem ((c : Thread nD τ).loc main_v0_2) = (dats m 0 c).arrAt 8 cfg0.N
      ∧ r.2.mem ((c : Thread nD τ).loc main_v0_3) = (dats m 0 c).arrAt 9 cfg0.N
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5) :=
  (θ_run defs _ _).mono (fun r h c => ⟨post6 m r h c,
      post7 m r h c,
      post8 m r h c,
      post9 m r h c,
      kept_main_arg0 m r h c,
      kept_main_arg1 m r h c,
      kept_main_arg2 m r h c,
      kept_main_arg3 m r h c,
      kept_main_arg4 m r h c,
      kept_main_arg5 m r h c⟩)
    (run_main m ρ)

/-! ## Closed form at one grid point: every window's block is its array -/

theorem hz0 : (![0, 0] : Fin 2 → Nat) = fun _ => 0 := funext fun a => by fin_cases a <;> rfl

/-- Window 0's block index at the one point is zero on every axis. -/
theorem idx_zero0 : ∀ t : Fin cfg0.N, win0_0.index t (0 : Fin 2) = 0 ∧ win0_0.index t (1 : Fin 2) = 0 :=
  (by decide +kernel : ∀ t : Fin grid0.N, _)

/-- An index of window 0's block is the same index of its array. -/
theorem emb0 (t : Fin cfg0.N) (j : S22528x3584.Idx) : ((cfg0.win 0).blk t).view.emb j = j := by
  obtain ⟨e0, e1⟩ := idx_zero0 t
  funext a; apply Fin.ext
  match a with
  | ⟨0, _⟩ => show win0_0.index t (0 : Fin 2) * 22528 + 1 * (j 0).val = (j 0).val; omega
  | ⟨1, _⟩ => show win0_0.index t (1 : Fin 2) * 3584 + 1 * (j 1).val = (j 1).val; omega

/-- Input window 0's block at the point is its array as the region finds it. -/
theorem iblk0_eq (c : Dev nD) (t : Fin cfg0.N) : iblk m c 0 t = V m c main_arg0 := by
  funext j; show V m c main_arg0 (((cfg0.win 0).blk t).view.emb j) = V m c main_arg0 j; rw [emb0]

theorem hz1 : (![0, 0] : Fin 2 → Nat) = fun _ => 0 := funext fun a => by fin_cases a <;> rfl

/-- Window 1's block index at the one point is zero on every axis. -/
theorem idx_zero1 : ∀ t : Fin cfg0.N, win0_1.index t (0 : Fin 2) = 0 ∧ win0_1.index t (1 : Fin 2) = 0 :=
  (by decide +kernel : ∀ t : Fin grid0.N, _)

/-- An index of window 1's block is the same index of its array. -/
theorem emb1 (t : Fin cfg0.N) (j : S176x3584.Idx) : ((cfg0.win 1).blk t).view.emb j = j := by
  obtain ⟨e0, e1⟩ := idx_zero1 t
  funext a; apply Fin.ext
  match a with
  | ⟨0, _⟩ => show win0_1.index t (0 : Fin 2) * 176 + 1 * (j 0).val = (j 0).val; omega
  | ⟨1, _⟩ => show win0_1.index t (1 : Fin 2) * 3584 + 1 * (j 1).val = (j 1).val; omega

/-- Input window 1's block at the point is its array as the region finds it. -/
theorem iblk1_eq (c : Dev nD) (t : Fin cfg0.N) : iblk m c 1 t = V m c main_arg1 := by
  funext j; show V m c main_arg1 (((cfg0.win 1).blk t).view.emb j) = V m c main_arg1 j; rw [emb1]

theorem hz2 : (![0, 0] : Fin 2 → Nat) = fun _ => 0 := funext fun a => by fin_cases a <;> rfl

/-- Window 2's block index at the one point is zero on every axis. -/
theorem idx_zero2 : ∀ t : Fin cfg0.N, win0_2.index t (0 : Fin 2) = 0 ∧ win0_2.index t (1 : Fin 2) = 0 :=
  (by decide +kernel : ∀ t : Fin grid0.N, _)

/-- An index of window 2's block is the same index of its array. -/
theorem emb2 (t : Fin cfg0.N) (j : S80x22528.Idx) : ((cfg0.win 2).blk t).view.emb j = j := by
  obtain ⟨e0, e1⟩ := idx_zero2 t
  funext a; apply Fin.ext
  match a with
  | ⟨0, _⟩ => show win0_2.index t (0 : Fin 2) * 80 + 1 * (j 0).val = (j 0).val; omega
  | ⟨1, _⟩ => show win0_2.index t (1 : Fin 2) * 22528 + 1 * (j 1).val = (j 1).val; omega

/-- Input window 2's block at the point is its array as the region finds it. -/
theorem iblk2_eq (c : Dev nD) (t : Fin cfg0.N) : iblk m c 2 t = V m c main_arg2 := by
  funext j; show V m c main_arg2 (((cfg0.win 2).blk t).view.emb j) = V m c main_arg2 j; rw [emb2]

theorem hz3 : (![0, 0] : Fin 2 → Nat) = fun _ => 0 := funext fun a => by fin_cases a <;> rfl

/-- Window 3's block index at the one point is zero on every axis. -/
theorem idx_zero3 : ∀ t : Fin cfg0.N, win0_3.index t (0 : Fin 2) = 0 ∧ win0_3.index t (1 : Fin 2) = 0 :=
  (by decide +kernel : ∀ t : Fin grid0.N, _)

/-- An index of window 3's block is the same index of its array. -/
theorem emb3 (t : Fin cfg0.N) (j : S22528x128.Idx) : ((cfg0.win 3).blk t).view.emb j = j := by
  obtain ⟨e0, e1⟩ := idx_zero3 t
  funext a; apply Fin.ext
  match a with
  | ⟨0, _⟩ => show win0_3.index t (0 : Fin 2) * 22528 + 1 * (j 0).val = (j 0).val; omega
  | ⟨1, _⟩ => show win0_3.index t (1 : Fin 2) * 128 + 1 * (j 1).val = (j 1).val; omega

/-- Input window 3's block at the point is its array as the region finds it. -/
theorem iblk3_eq (c : Dev nD) (t : Fin cfg0.N) : iblk m c 3 t = V m c main_arg3 := by
  funext j; show V m c main_arg3 (((cfg0.win 3).blk t).view.emb j) = V m c main_arg3 j; rw [emb3]

theorem hz4 : (![0, 0] : Fin 2 → Nat) = fun _ => 0 := funext fun a => by fin_cases a <;> rfl

/-- Window 4's block index at the one point is zero on every axis. -/
theorem idx_zero4 : ∀ t : Fin cfg0.N, win0_4.index t (0 : Fin 2) = 0 ∧ win0_4.index t (1 : Fin 2) = 0 :=
  (by decide +kernel : ∀ t : Fin grid0.N, _)

/-- An index of window 4's block is the same index of its array. -/
theorem emb4 (t : Fin cfg0.N) (j : S176x128.Idx) : ((cfg0.win 4).blk t).view.emb j = j := by
  obtain ⟨e0, e1⟩ := idx_zero4 t
  funext a; apply Fin.ext
  match a with
  | ⟨0, _⟩ => show win0_4.index t (0 : Fin 2) * 176 + 1 * (j 0).val = (j 0).val; omega
  | ⟨1, _⟩ => show win0_4.index t (1 : Fin 2) * 128 + 1 * (j 1).val = (j 1).val; omega

/-- Input window 4's block at the point is its array as the region finds it. -/
theorem iblk4_eq (c : Dev nD) (t : Fin cfg0.N) : iblk m c 4 t = V m c main_arg4 := by
  funext j; show V m c main_arg4 (((cfg0.win 4).blk t).view.emb j) = V m c main_arg4 j; rw [emb4]

theorem hz5 : (![0, 0] : Fin 2 → Nat) = fun _ => 0 := funext fun a => by fin_cases a <;> rfl

/-- Window 5's block index at the one point is zero on every axis. -/
theorem idx_zero5 : ∀ t : Fin cfg0.N, win0_5.index t (0 : Fin 2) = 0 ∧ win0_5.index t (1 : Fin 2) = 0 :=
  (by decide +kernel : ∀ t : Fin grid0.N, _)

/-- An index of window 5's block is the same index of its array. -/
theorem emb5 (t : Fin cfg0.N) (j : S72x72.Idx) : ((cfg0.win 5).blk t).view.emb j = j := by
  obtain ⟨e0, e1⟩ := idx_zero5 t
  funext a; apply Fin.ext
  match a with
  | ⟨0, _⟩ => show win0_5.index t (0 : Fin 2) * 72 + 1 * (j 0).val = (j 0).val; omega
  | ⟨1, _⟩ => show win0_5.index t (1 : Fin 2) * 72 + 1 * (j 1).val = (j 1).val; omega

/-- Input window 5's block at the point is its array as the region finds it. -/
theorem iblk5_eq (c : Dev nD) (t : Fin cfg0.N) : iblk m c 5 t = V m c main_arg5 := by
  funext j; show V m c main_arg5 (((cfg0.win 5).blk t).view.emb j) = V m c main_arg5 j; rw [emb5]

theorem hz6 : (![0, 0] : Fin 2 → Nat) = fun _ => 0 := funext fun a => by fin_cases a <;> rfl

/-- Window 6's block index at the one point is zero on every axis. -/
theorem idx_zero6 : ∀ t : Fin cfg0.N, win0_6.index t (0 : Fin 2) = 0 ∧ win0_6.index t (1 : Fin 2) = 0 :=
  (by decide +kernel : ∀ t : Fin grid0.N, _)

/-- An index of window 6's block is the same index of its array. -/
theorem emb6 (t : Fin cfg0.N) (j : S22528x3584.Idx) : ((cfg0.win 6).blk t).view.emb j = j := by
  obtain ⟨e0, e1⟩ := idx_zero6 t
  funext a; apply Fin.ext
  match a with
  | ⟨0, _⟩ => show win0_6.index t (0 : Fin 2) * 22528 + 1 * (j 0).val = (j 0).val; omega
  | ⟨1, _⟩ => show win0_6.index t (1 : Fin 2) * 3584 + 1 * (j 1).val = (j 1).val; omega

theorem hz7 : (![0, 0] : Fin 2 → Nat) = fun _ => 0 := funext fun a => by fin_cases a <;> rfl

/-- Window 7's block index at the one point is zero on every axis. -/
theorem idx_zero7 : ∀ t : Fin cfg0.N, win0_7.index t (0 : Fin 2) = 0 ∧ win0_7.index t (1 : Fin 2) = 0 :=
  (by decide +kernel : ∀ t : Fin grid0.N, _)

/-- An index of window 7's block is the same index of its array. -/
theorem emb7 (t : Fin cfg0.N) (j : S176x3584.Idx) : ((cfg0.win 7).blk t).view.emb j = j := by
  obtain ⟨e0, e1⟩ := idx_zero7 t
  funext a; apply Fin.ext
  match a with
  | ⟨0, _⟩ => show win0_7.index t (0 : Fin 2) * 176 + 1 * (j 0).val = (j 0).val; omega
  | ⟨1, _⟩ => show win0_7.index t (1 : Fin 2) * 3584 + 1 * (j 1).val = (j 1).val; omega

theorem hz8 : (![0, 0] : Fin 2 → Nat) = fun _ => 0 := funext fun a => by fin_cases a <;> rfl

/-- Window 8's block index at the one point is zero on every axis. -/
theorem idx_zero8 : ∀ t : Fin cfg0.N, win0_8.index t (0 : Fin 2) = 0 ∧ win0_8.index t (1 : Fin 2) = 0 :=
  (by decide +kernel : ∀ t : Fin grid0.N, _)

/-- An index of window 8's block is the same index of its array. -/
theorem emb8 (t : Fin cfg0.N) (j : S72x3584.Idx) : ((cfg0.win 8).blk t).view.emb j = j := by
  obtain ⟨e0, e1⟩ := idx_zero8 t
  funext a; apply Fin.ext
  match a with
  | ⟨0, _⟩ => show win0_8.index t (0 : Fin 2) * 72 + 1 * (j 0).val = (j 0).val; omega
  | ⟨1, _⟩ => show win0_8.index t (1 : Fin 2) * 3584 + 1 * (j 1).val = (j 1).val; omega

theorem hz9 : (![0, 0] : Fin 2 → Nat) = fun _ => 0 := funext fun a => by fin_cases a <;> rfl

/-- Window 9's block index at the one point is zero on every axis. -/
theorem idx_zero9 : ∀ t : Fin cfg0.N, win0_9.index t (0 : Fin 2) = 0 ∧ win0_9.index t (1 : Fin 2) = 0 :=
  (by decide +kernel : ∀ t : Fin grid0.N, _)

/-- An index of window 9's block is the same index of its array. -/
theorem emb9 (t : Fin cfg0.N) (j : S1x3584.Idx) : ((cfg0.win 9).blk t).view.emb j = j := by
  obtain ⟨e0, e1⟩ := idx_zero9 t
  funext a; apply Fin.ext
  match a with
  | ⟨0, _⟩ => show win0_9.index t (0 : Fin 2) * 1 + 1 * (j 0).val = (j 0).val; omega
  | ⟨1, _⟩ => show win0_9.index t (1 : Fin 2) * 3584 + 1 * (j 1).val = (j 1).val; omega

/-! ### Output window 6: the array after the run -/

/-- What the window's array ends holding: `out0_6` applied to the argument arrays in place of the input blocks (a value that the
    frame states apart, `kK_payN a…`, keeps its loads inside its own definition). -/
abbrev G6 (a0 : Vec F S22528x3584 .fp8e4m3) (a1 : Vec F S176x3584 .f32) (a2 : Vec F S80x22528 .bf16) (a3 : Vec F S22528x128 .fp8e4m3) (a4 : Vec F S176x128 .f32) (a5 : Vec F S72x72 .f32) : Vec F S22528x3584 .fp8e4m3 :=
  k0_pay2 (k0_pay10 (k0_pay14 a0 a1 a2 a3 a4 a5) a1 (k0_pay15 a0 a1 a2 a3 a4 a5) (k0_pay16 a0 a1 a2 a3 a4 a5) (Scalar.ofBits .f32 0xC3E00000#32) (Scalar.ofBits .f32 0x43E00000#32) a3 a4) (k0_pay17 a0 a1 a2 a3 a4 a5) (k0_pay18 a0 a1 a2 a3 a4 a5) (k0_pay19 a0 a1 a2 a3 a4 a5)

/-- A load of the whole of a block reads the block, and the one store through the whole rectangle leaves its payload. -/
theorem out6_eq (a0 : Vec F S22528x3584 .fp8e4m3) (a1 : Vec F S176x3584 .f32) (a2 : Vec F S80x22528 .bf16) (a3 : Vec F S22528x128 .fp8e4m3) (a4 : Vec F S176x128 .f32) (a5 : Vec F S72x72 .f32) : out0_6 (F := F) a0 a1 a2 a3 a4 a5 = G6 a0 a1 a2 a3 a4 a5 := by
  unfold out0_6
  rw [View.canon_unit_zero hz6, View.ld_unit_zero (S := S176x3584) hz1 _ a1, View.ld_unit_zero (S := S22528x128) hz3 _ a3, View.ld_unit_zero (S := S176x128) hz4 _ a4]

/-- Cutting the point's block out of `X` and reading `X` through the block's view give the same. -/
theorem cut6_eq (t : Fin cfg0.N) (X : Vec F S22528x3584 .fp8e4m3) :
    (cfg0.win 6).cut (grid0.coords t) X = ((cfg0.win 6).blk t).view.read (Elt F) X := by
  funext j
  show X j = X (((cfg0.win 6).blk t).view.emb j)
  rw [emb6]

/-- WHAT THE POINT WRITES BACK is its block of `G6` of the argument arrays as the region finds them. -/
theorem flushed6_eq (c : Dev nD) (t : Fin cfg0.N) :
    (dats m 0 c).flushed 6 t = ((cfg0.win 6).blk t).view.read (Elt F) (G6 (V m c main_arg0) (V m c main_arg1) (V m c main_arg2) (V m c main_arg3) (V m c main_arg4) (V m c main_arg5)) := by
  show (cfg0.win 6).cut (grid0.coords t) ((dats m 0 c).after 6 t) = _
  rw [after0_6, out6_eq, iblk0_eq, iblk1_eq, iblk2_eq, iblk3_eq, iblk4_eq, iblk5_eq]
  exact cut6_eq t _

/-- Every index of the array is in the point's block. -/
theorem covered6 (i : S22528x3584.Idx) :
    ∃ t : Fin cfg0.N, (cfg0.win 6).flush t = true ∧ i ∈ ((cfg0.win 6).blk t).view.set :=
  ⟨(⟨0, by decide⟩ : Fin cfg0.N), flush0_6 _, by have h := ((cfg0.win 6).blk (⟨0, by decide⟩ : Fin cfg0.N)).view.emb_mem_set i; rwa [emb6] at h⟩

/-- THE ARRAY after the run: `G6` of the argument arrays as launched. -/
theorem final6 (c : Dev nD) : (dats m 0 c).arrAt 6 cfg0.N = G6 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) :=
  ((dats m 0 c).arrAt_eq_of_cover 6 (G6 (V m c main_arg0) (V m c main_arg1) (V m c main_arg2) (V m c main_arg3) (V m c main_arg4) (V m c main_arg5)) (fun t _ => flushed6_eq m c t) covered6).trans (by rw [V_main_arg0, V_main_arg1, V_main_arg2, V_main_arg3, V_main_arg4, V_main_arg5])

/-! ### Output window 7: the array after the run -/

/-- What the window's array ends holding: `out0_7` applied to the argument arrays in place of the input blocks (a value that the
    frame states apart, `kK_payN a…`, keeps its loads inside its own definition). -/
abbrev G7 (a0 : Vec F S22528x3584 .fp8e4m3) (a1 : Vec F S176x3584 .f32) (a2 : Vec F S80x22528 .bf16) (a3 : Vec F S22528x128 .fp8e4m3) (a4 : Vec F S176x128 .f32) (a5 : Vec F S72x72 .f32) : Vec F S176x3584 .f32 :=
  k0_pay3 (k0_pay17 a0 a1 a2 a3 a4 a5) (k0_pay18 a0 a1 a2 a3 a4 a5) (k0_pay19 a0 a1 a2 a3 a4 a5)

/-- The one store through the whole rectangle leaves its payload. -/
theorem out7_eq (a0 : Vec F S22528x3584 .fp8e4m3) (a1 : Vec F S176x3584 .f32) (a2 : Vec F S80x22528 .bf16) (a3 : Vec F S22528x128 .fp8e4m3) (a4 : Vec F S176x128 .f32) (a5 : Vec F S72x72 .f32) : out0_7 (F := F) a0 a1 a2 a3 a4 a5 = G7 a0 a1 a2 a3 a4 a5 := by
  unfold out0_7
  rw [View.canon_unit_zero hz7]

/-- Cutting the point's block out of `X` and reading `X` through the block's view give the same. -/
theorem cut7_eq (t : Fin cfg0.N) (X : Vec F S176x3584 .f32) :
    (cfg0.win 7).cut (grid0.coords t) X = ((cfg0.win 7).blk t).view.read (Elt F) X := by
  funext j
  show X j = X (((cfg0.win 7).blk t).view.emb j)
  rw [emb7]

/-- WHAT THE POINT WRITES BACK is its block of `G7` of the argument arrays as the region finds them. -/
theorem flushed7_eq (c : Dev nD) (t : Fin cfg0.N) :
    (dats m 0 c).flushed 7 t = ((cfg0.win 7).blk t).view.read (Elt F) (G7 (V m c main_arg0) (V m c main_arg1) (V m c main_arg2) (V m c main_arg3) (V m c main_arg4) (V m c main_arg5)) := by
  show (cfg0.win 7).cut (grid0.coords t) ((dats m 0 c).after 7 t) = _
  rw [after0_7, out7_eq, iblk0_eq, iblk1_eq, iblk2_eq, iblk3_eq, iblk4_eq, iblk5_eq]
  exact cut7_eq t _

/-- Every index of the array is in the point's block. -/
theorem covered7 (i : S176x3584.Idx) :
    ∃ t : Fin cfg0.N, (cfg0.win 7).flush t = true ∧ i ∈ ((cfg0.win 7).blk t).view.set :=
  ⟨(⟨0, by decide⟩ : Fin cfg0.N), flush0_7 _, by have h := ((cfg0.win 7).blk (⟨0, by decide⟩ : Fin cfg0.N)).view.emb_mem_set i; rwa [emb7] at h⟩

/-- THE ARRAY after the run: `G7` of the argument arrays as launched. -/
theorem final7 (c : Dev nD) : (dats m 0 c).arrAt 7 cfg0.N = G7 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) :=
  ((dats m 0 c).arrAt_eq_of_cover 7 (G7 (V m c main_arg0) (V m c main_arg1) (V m c main_arg2) (V m c main_arg3) (V m c main_arg4) (V m c main_arg5)) (fun t _ => flushed7_eq m c t) covered7).trans (by rw [V_main_arg0, V_main_arg1, V_main_arg2, V_main_arg3, V_main_arg4, V_main_arg5])

/-! ### Output window 8: the array after the run -/

/-- What the window's array ends holding: `out0_8` applied to the argument arrays in place of the input blocks (a value that the
    frame states apart, `kK_payN a…`, keeps its loads inside its own definition). -/
abbrev G8 (a0 : Vec F S22528x3584 .fp8e4m3) (a1 : Vec F S176x3584 .f32) (a2 : Vec F S80x22528 .bf16) (a3 : Vec F S22528x128 .fp8e4m3) (a4 : Vec F S176x128 .f32) (a5 : Vec F S72x72 .f32) : Vec F S72x3584 .fp8e4m3 :=
  k0_pay8 (k0_pay16 a0 a1 a2 a3 a4 a5) (Scalar.ofBits .f32 0xC3E00000#32) (Scalar.ofBits .f32 0x43E00000#32)

/-- The one store through the whole rectangle leaves its payload. -/
theorem out8_eq (a0 : Vec F S22528x3584 .fp8e4m3) (a1 : Vec F S176x3584 .f32) (a2 : Vec F S80x22528 .bf16) (a3 : Vec F S22528x128 .fp8e4m3) (a4 : Vec F S176x128 .f32) (a5 : Vec F S72x72 .f32) : out0_8 (F := F) a0 a1 a2 a3 a4 a5 = G8 a0 a1 a2 a3 a4 a5 := by
  unfold out0_8
  rw [View.canon_unit_zero hz8]

/-- Cutting the point's block out of `X` and reading `X` through the block's view give the same. -/
theorem cut8_eq (t : Fin cfg0.N) (X : Vec F S72x3584 .fp8e4m3) :
    (cfg0.win 8).cut (grid0.coords t) X = ((cfg0.win 8).blk t).view.read (Elt F) X := by
  funext j
  show X j = X (((cfg0.win 8).blk t).view.emb j)
  rw [emb8]

/-- WHAT THE POINT WRITES BACK is its block of `G8` of the argument arrays as the region finds them. -/
theorem flushed8_eq (c : Dev nD) (t : Fin cfg0.N) :
    (dats m 0 c).flushed 8 t = ((cfg0.win 8).blk t).view.read (Elt F) (G8 (V m c main_arg0) (V m c main_arg1) (V m c main_arg2) (V m c main_arg3) (V m c main_arg4) (V m c main_arg5)) := by
  show (cfg0.win 8).cut (grid0.coords t) ((dats m 0 c).after 8 t) = _
  rw [after0_8, out8_eq, iblk0_eq, iblk1_eq, iblk2_eq, iblk3_eq, iblk4_eq, iblk5_eq]
  exact cut8_eq t _

/-- Every index of the array is in the point's block. -/
theorem covered8 (i : S72x3584.Idx) :
    ∃ t : Fin cfg0.N, (cfg0.win 8).flush t = true ∧ i ∈ ((cfg0.win 8).blk t).view.set :=
  ⟨(⟨0, by decide⟩ : Fin cfg0.N), flush0_8 _, by have h := ((cfg0.win 8).blk (⟨0, by decide⟩ : Fin cfg0.N)).view.emb_mem_set i; rwa [emb8] at h⟩

/-- THE ARRAY after the run: `G8` of the argument arrays as launched. -/
theorem final8 (c : Dev nD) : (dats m 0 c).arrAt 8 cfg0.N = G8 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) :=
  ((dats m 0 c).arrAt_eq_of_cover 8 (G8 (V m c main_arg0) (V m c main_arg1) (V m c main_arg2) (V m c main_arg3) (V m c main_arg4) (V m c main_arg5)) (fun t _ => flushed8_eq m c t) covered8).trans (by rw [V_main_arg0, V_main_arg1, V_main_arg2, V_main_arg3, V_main_arg4, V_main_arg5])

/-! ### Output window 9: the array after the run -/

/-- What the window's array ends holding: `out0_9` applied to the argument arrays in place of the input blocks (a value that the
    frame states apart, `kK_payN a…`, keeps its loads inside its own definition). -/
abbrev G9 (a0 : Vec F S22528x3584 .fp8e4m3) (a1 : Vec F S176x3584 .f32) (a2 : Vec F S80x22528 .bf16) (a3 : Vec F S22528x128 .fp8e4m3) (a4 : Vec F S176x128 .f32) (a5 : Vec F S72x72 .f32) : Vec F S1x3584 .f32 :=
  k0_pay9 (k0_pay15 a0 a1 a2 a3 a4 a5)

/-- The one store through the whole rectangle leaves its payload. -/
theorem out9_eq (a0 : Vec F S22528x3584 .fp8e4m3) (a1 : Vec F S176x3584 .f32) (a2 : Vec F S80x22528 .bf16) (a3 : Vec F S22528x128 .fp8e4m3) (a4 : Vec F S176x128 .f32) (a5 : Vec F S72x72 .f32) : out0_9 (F := F) a0 a1 a2 a3 a4 a5 = G9 a0 a1 a2 a3 a4 a5 := by
  unfold out0_9
  rw [View.canon_unit_zero hz9]

/-- Cutting the point's block out of `X` and reading `X` through the block's view give the same. -/
theorem cut9_eq (t : Fin cfg0.N) (X : Vec F S1x3584 .f32) :
    (cfg0.win 9).cut (grid0.coords t) X = ((cfg0.win 9).blk t).view.read (Elt F) X := by
  funext j
  show X j = X (((cfg0.win 9).blk t).view.emb j)
  rw [emb9]

/-- WHAT THE POINT WRITES BACK is its block of `G9` of the argument arrays as the region finds them. -/
theorem flushed9_eq (c : Dev nD) (t : Fin cfg0.N) :
    (dats m 0 c).flushed 9 t = ((cfg0.win 9).blk t).view.read (Elt F) (G9 (V m c main_arg0) (V m c main_arg1) (V m c main_arg2) (V m c main_arg3) (V m c main_arg4) (V m c main_arg5)) := by
  show (cfg0.win 9).cut (grid0.coords t) ((dats m 0 c).after 9 t) = _
  rw [after0_9, out9_eq, iblk0_eq, iblk1_eq, iblk2_eq, iblk3_eq, iblk4_eq, iblk5_eq]
  exact cut9_eq t _

/-- Every index of the array is in the point's block. -/
theorem covered9 (i : S1x3584.Idx) :
    ∃ t : Fin cfg0.N, (cfg0.win 9).flush t = true ∧ i ∈ ((cfg0.win 9).blk t).view.set :=
  ⟨(⟨0, by decide⟩ : Fin cfg0.N), flush0_9 _, by have h := ((cfg0.win 9).blk (⟨0, by decide⟩ : Fin cfg0.N)).view.emb_mem_set i; rwa [emb9] at h⟩

/-- THE ARRAY after the run: `G9` of the argument arrays as launched. -/
theorem final9 (c : Dev nD) : (dats m 0 c).arrAt 9 cfg0.N = G9 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) :=
  ((dats m 0 c).arrAt_eq_of_cover 9 (G9 (V m c main_arg0) (V m c main_arg1) (V m c main_arg2) (V m c main_arg3) (V m c main_arg4) (V m c main_arg5)) (fun t _ => flushed9_eq m c t) covered9).trans (by rw [V_main_arg0, V_main_arg1, V_main_arg2, V_main_arg3, V_main_arg4, V_main_arg5])

/-! ## The run, read -/

/-- The frame run re-posted: each output array at its function of the arguments, the arguments unchanged. -/
theorem run : θ_run defs (onTc (τ := τ) (main (F := F))) ⟨m, fun _ => 0, ρ⟩ fun r => ∀ c : Dev nD,
      r.2.mem ((c : Thread nD τ).loc main_v0_0) = G6 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5))
      ∧ r.2.mem ((c : Thread nD τ).loc main_v0_1) = G7 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5))
      ∧ r.2.mem ((c : Thread nD τ).loc main_v0_2) = G8 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5))
      ∧ r.2.mem ((c : Thread nD τ).loc main_v0_3) = G9 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5) :=
  (θ_run defs _ _).mono (fun r h c => ⟨(post6 m r h c).trans (final6 m c),
      (post7 m r h c).trans (final7 m c),
      (post8 m r h c).trans (final8 m c),
      (post9 m r h c).trans (final9 m c),
      kept_main_arg0 m r h c,
      kept_main_arg1 m r h c,
      kept_main_arg2 m r h c,
      kept_main_arg3 m r h c,
      kept_main_arg4 m r h c,
      kept_main_arg5 m r h c⟩)
    (run_main m ρ)

end Cert.ReferenceIdeal.Read

end
-- ==== Proof.Scale.lean ====
/-
  The power-of-two scale of a block, at the extended reals. For `q ≥ 0`, the block's greatest magnitude divided by 448,
  the kernel finds the exponent field of `q` by comparing `q` with the powers of two (`field`) and makes the scale and
  its inverse out of the field (`kScale`, `kInv`); the reference takes the floor of the logarithm (`rExp`). Both give
  the same power of two (`scale_eq`, `inv_eq`), and where the greatest magnitude is zero both give one.
-/
module

public import Idealize.ShloMosaic.PureOps.Ideal

@[expose] public section

noncomputable section

open Idealize.ShloMosaic

namespace Cert.Proof.Scale

/-! ## Words of floats -/

theorem ofBits_f32 (b : BitVec 32) : Ideal.ofBits .f32 b = Ideal.ieee 8 23 b := by simp only [Ideal.ofBits]

/-- The field of the word of a positive normal number, its sign and its fraction: one decision over all fields. -/
theorem word_parts : ∀ n : Fin 256,
    (((BitVec.ofNat 32 n.val) <<< (23#32)).extractLsb' 23 8).toNat = n.val ∧
    (((BitVec.ofNat 32 n.val) <<< (23#32)).extractLsb' 0 23).toNat = 0 ∧
    (((BitVec.ofNat 32 n.val) <<< (23#32)).extractLsb' 31 1 == 1#1) = false := by decide +kernel

/-- The float whose word has the exponent field `n`, `1 ≤ n ≤ 254`, and nothing else, is `2 ^ (n - 127)`. -/
theorem ofBits_field (n : ℕ) (h1 : 1 ≤ n) (h2 : n ≤ 254) :
    Ideal.ofBits .f32 ((BitVec.ofNat 32 n) <<< (23#32)) = (((2 : ℝ) ^ ((n : ℤ) - 127) : ℝ) : EReal) := by
  obtain ⟨e, f, s⟩ := word_parts ⟨n, by omega⟩
  rw [ofBits_f32]
  generalize (BitVec.ofNat 32 n) <<< (23#32) = w at e f s ⊢
  have h255 : n ≠ 2 ^ 8 - 1 := by omega
  have h0 : n ≠ 0 := by omega
  unfold Ideal.ieee
  rw [e, f, s, if_neg h255, if_neg h0]
  congr 1
  have e2 : (2 : ℝ) ^ ((n : ℤ) - 127) = 2 ^ (23 : ℤ) * 2 ^ ((n : ℤ) - 150) := by
    rw [← zpow_add₀ (by norm_num : (2 : ℝ) ≠ 0)]
    congr 1
    ring
  rw [e2]
  norm_num
  ring

/-- The word with the field 255 and nothing else is the infinity. -/
theorem ofBits_top : Ideal.ofBits .f32 ((BitVec.ofNat 32 255) <<< (23#32)) = ⊤ := by
  obtain ⟨e, f, s⟩ := word_parts ⟨255, by omega⟩
  simp only at e f s
  rw [ofBits_f32]
  unfold Ideal.ieee
  simp only [Nat.reduceAdd, e, f, s]
  simp

theorem ofBits_two : Ideal.ofBits .f32 0x40000000#32 = ((2 : ℝ) : EReal) := by
  have h := ofBits_field 128 (by omega) (by omega)
  have e : (BitVec.ofNat 32 128) <<< (23#32) = 0x40000000#32 := by decide
  rw [e] at h; rw [h]; norm_num

theorem ofBits_one : Ideal.ofBits .f32 0x3F800000#32 = ((1 : ℝ) : EReal) := by
  have h := ofBits_field 127 (by omega) (by omega)
  have e : (BitVec.ofNat 32 127) <<< (23#32) = 0x3F800000#32 := by decide
  rw [e] at h; rw [h]; norm_num

theorem ofBits_zero : Ideal.ofBits .f32 0x00000000#32 = ((0 : ℝ) : EReal) := by
  rw [ofBits_f32]
  unfold Ideal.ieee
  simp

theorem ofBits_126 : Ideal.ofBits .f32 0x42FC0000#32 = ((126 : ℝ) : EReal) := by
  rw [ofBits_f32]
  unfold Ideal.ieee
  simp
  rw [← EReal.coe_mul]
  norm_num

theorem ofBits_neg126 : Ideal.ofBits .f32 0xC2FC0000#32 = ((-126 : ℝ) : EReal) := by
  rw [ofBits_f32]
  unfold Ideal.ieee
  simp
  rw [← EReal.coe_mul]
  norm_num

/-- The constant `1 / 448` of the two programs is a positive real. -/
theorem ofBits_recip448_pos : ∃ r : ℝ, 0 < r ∧ Ideal.ofBits .f32 0x3B124925#32 = (r : EReal) := by
  rw [ofBits_f32]
  unfold Ideal.ieee
  refine ⟨_, ?_, rfl⟩
  simp

/-- The float a word with the exponent field `n` stands for. -/
abbrev T (c : BitVec 32) : EReal := Ideal.ofBits .f32 (c <<< (23#32))

/-! ## The search -/

/-- One comparison of the search: the field `f` gets the bit `b` if `q` is at least the power of two of `f + b`. -/
def stp (q : EReal) (f b : BitVec 32) : BitVec 32 :=
  Scalar.select (Ideal.cmp .oge q (T (f + b))) (f + b) f

/-- The eight comparisons, greatest bit first. -/
def field (q : EReal) : BitVec 32 :=
  stp q (stp q (stp q (stp q (stp q (stp q (stp q (stp q 0#32 128#32) 64#32) 32#32) 16#32) 8#32) 4#32) 2#32) 1#32

/-- The exponent the kernel takes of the field: at most 252, less 126; zero where the block is zero. -/
def kExp (a q : EReal) : BitVec 32 :=
  Scalar.select (Ideal.cmp .oeq a (Ideal.ofBits .f32 0x00000000#32)) 0#32 (IntOp.minsi (field q) 252#32 - 126#32)

/-- The scale the kernel makes of a block whose greatest magnitude is `a`. -/
def kScale (a : EReal) : EReal := T (kExp a (a * Ideal.ofBits .f32 0x3B124925#32) + 127#32)
/-- Its inverse. -/
def kInv (a : EReal) : EReal := T (127#32 - kExp a (a * Ideal.ofBits .f32 0x3B124925#32))

/-- The exponent the reference takes. -/
def rExp (a : EReal) : EReal :=
  Scalar.select (Ideal.cmp .oeq a (Ideal.ofBits .f32 0x00000000#32)) (Ideal.ofBits .f32 0x00000000#32)
    (min (Ideal.ofBits .f32 0x42FC0000#32) (max (Ideal.ofBits .f32 0xC2FC0000#32)
      (Ideal.liftRound Int.floor (Ideal.div (Ideal.log (a * Ideal.ofBits .f32 0x3B124925#32)) (Ideal.log (Ideal.ofBits .f32 0x40000000#32)))
        + Ideal.ofBits .f32 0x3F800000#32)))
/-- The scale the reference gives a block whose greatest magnitude is `a`. -/
def rScale (a : EReal) : EReal := Ideal.exp2 (rExp a)
/-- Its inverse. -/
def rInv (a : EReal) : EReal := Ideal.exp2 (Ideal.ofBits .f32 0x00000000#32 - rExp a)

/-- If the powers of two that `q` reaches are those of the fields up to `n`, a step that halves the interval keeps `n`
    in it. -/
theorem stp_eq (q : EReal) (n : ℕ) (h : ∀ c, 1 ≤ c → c ≤ 255 → (T (BitVec.ofNat 32 c) ≤ q ↔ c ≤ n))
    (f b : ℕ) (hb : 1 ≤ b) (h1 : f ≤ n) (h2 : n < f + 2 * b) (h3 : f + 2 * b ≤ 256) :
    ∃ f', stp q (BitVec.ofNat 32 f) (BitVec.ofNat 32 b) = BitVec.ofNat 32 f' ∧ f' ≤ n ∧ n < f' + b ∧ f' + b ≤ 256 := by
  have e : BitVec.ofNat 32 f + BitVec.ofNat 32 b = BitVec.ofNat 32 (f + b) := (BitVec.ofNat_add ..).symm
  have hc := h (f + b) (by omega) (by omega)
  unfold stp Scalar.select Ideal.cmp
  rw [e]
  by_cases hq : T (BitVec.ofNat 32 (f + b)) ≤ q
  · have := hc.mp hq
    exact ⟨f + b, by simp [hq], by omega, by omega, by omega⟩
  · have : ¬ f + b ≤ n := fun hh => hq (hc.mpr hh)
    exact ⟨f, by simp [hq], by omega, by omega, by omega⟩

/-- Then the search finds `n`. -/
theorem field_eq (q : EReal) (n : ℕ) (hn : n ≤ 255) (h : ∀ c, 1 ≤ c → c ≤ 255 → (T (BitVec.ofNat 32 c) ≤ q ↔ c ≤ n)) :
    field q = BitVec.ofNat 32 n := by
  obtain ⟨f1, e1, a1, b1, c1⟩ := stp_eq q n h 0 128 (by omega) (by omega) (by omega) (by omega)
  obtain ⟨f2, e2, a2, b2, c2⟩ := stp_eq q n h f1 64 (by omega) a1 (by omega) (by omega)
  obtain ⟨f3, e3, a3, b3, c3⟩ := stp_eq q n h f2 32 (by omega) a2 (by omega) (by omega)
  obtain ⟨f4, e4, a4, b4, c4⟩ := stp_eq q n h f3 16 (by omega) a3 (by omega) (by omega)
  obtain ⟨f5, e5, a5, b5, c5⟩ := stp_eq q n h f4 8 (by omega) a4 (by omega) (by omega)
  obtain ⟨f6, e6, a6, b6, c6⟩ := stp_eq q n h f5 4 (by omega) a5 (by omega) (by omega)
  obtain ⟨f7, e7, a7, b7, c7⟩ := stp_eq q n h f6 2 (by omega) a6 (by omega) (by omega)
  obtain ⟨f8, e8, a8, b8, c8⟩ := stp_eq q n h f7 1 (by omega) a7 (by omega) (by omega)
  unfold field
  rw [e1, e2, e3, e4, e5, e6, e7, e8]
  congr 1; omega

/-- The field, limited to 252 and less 126, as an integer in `[-126, 126]`: what the words of the scale and of its
    inverse come to. -/
theorem words_of_field : ∀ n : Fin 256,
    IntOp.minsi (BitVec.ofNat 32 n.val) 252#32 - 126#32 + 127#32 = BitVec.ofNat 32 (min n.val 252 + 1) ∧
    127#32 - (IntOp.minsi (BitVec.ofNat 32 n.val) 252#32 - 126#32) = BitVec.ofNat 32 (253 - min n.val 252) := by
  decide +kernel

/-- `floor (log q / log 2) + 1`, kept within `[-126, 126]`. -/
def clampLog (q : EReal) : EReal :=
  min (126 : ℝ) (max ((-126 : ℝ) : EReal)
    (Ideal.liftRound Int.floor (Ideal.div (Ideal.log q) (Ideal.log ((2 : ℝ) : EReal))) + ((1 : ℝ) : EReal)))

theorem log_two : Ideal.log ((2 : ℝ) : EReal) = ((Real.log 2 : ℝ) : EReal) := by
  rw [Ideal.log_coe, if_neg (by norm_num)]

theorem log_two_pos : (0 : ℝ) < Real.log 2 := Real.log_pos (by norm_num)

/-- For `q ≥ 0` there is a field `n` that the search finds and whose exponent is the reference's. -/
theorem exists_field (q : EReal) (hq : 0 ≤ q) :
    ∃ n : ℕ, n ≤ 255 ∧ field q = BitVec.ofNat 32 n ∧ clampLog q = (((min n 252 : ℕ) : ℝ) - 126 : ℝ) := by
  induction q with
  | bot => simp at hq
  | top =>
    refine ⟨255, by omega, field_eq _ _ (by omega) (fun c _ h => by simp [h]), ?_⟩
    unfold clampLog
    rw [log_two, Ideal.log_top, Ideal.div_coe log_two_pos.ne', EReal.top_mul_coe_of_pos (by have := log_two_pos; positivity)]
    rw [Ideal.liftRound_top, EReal.top_add_coe, max_eq_right le_top, min_eq_left le_top]
    norm_num
  | coe r =>
    have hr : 0 ≤ r := by exact_mod_cast hq
    rcases hr.eq_or_lt with rfl | hpos
    · refine ⟨0, by omega, field_eq _ _ (by omega) (fun c h1 h2 => ?_), ?_⟩
      · rcases (show c = 255 ∨ c ≤ 254 by omega) with rfl | h
        · rw [T, ofBits_top]; simp
        · rw [T, ofBits_field c h1 h, EReal.coe_le_coe_iff]
          have : (0 : ℝ) < 2 ^ ((c : ℤ) - 127) := by positivity
          constructor
          · intro hh; linarith
          · intro hh; omega
      · unfold clampLog
        rw [log_two, Ideal.log_coe, if_pos le_rfl, Ideal.div_coe log_two_pos.ne', EReal.bot_mul_coe_of_pos (by have := log_two_pos; positivity)]
        rw [Ideal.liftRound_bot, EReal.bot_add, max_eq_left bot_le]
        rw [min_eq_right (by exact_mod_cast (by norm_num : (-126 : ℝ) ≤ 126))]
        norm_num
    · set k := ⌊Real.log r * (1 / Real.log 2)⌋ with hk
      have key : ∀ c : ℤ, (2 : ℝ) ^ c ≤ r ↔ c ≤ k := fun c => by
        rw [hk, Int.le_floor, mul_one_div, le_div_iff₀ log_two_pos, ← Real.log_zpow,
          Real.log_le_log_iff (by positivity) hpos]
      refine ⟨(max 0 (min 254 (k + 127))).toNat, by omega, field_eq _ _ (by omega) (fun c h1 h2 => ?_), ?_⟩
      · rcases (show c = 255 ∨ c ≤ 254 by omega) with rfl | h
        · rw [T, ofBits_top]
          constructor
          · intro hh; exact absurd (top_le_iff.mp hh) (EReal.coe_ne_top r)
          · intro hh; omega
        · rw [T, ofBits_field c h1 h, EReal.coe_le_coe_iff, key]
          omega
      · unfold clampLog
        rw [log_two, Ideal.log_coe, if_neg (not_le.mpr hpos), Ideal.div_coe log_two_pos.ne', ← EReal.coe_mul]
        rw [Ideal.liftRound_coe]
        rw [← hk, ← EReal.coe_add]
        rw [← Monotone.map_max EReal.coe_strictMono.monotone, ← Monotone.map_min EReal.coe_strictMono.monotone]
        congr 1
        have : (((max 0 (min 254 (k + 127))).toNat ⊓ 252 : ℕ) : ℤ) - 126 = min 126 (max (-126) (k + 1)) := by omega
        have := congrArg (fun z : ℤ => (z : ℝ)) this
        push_cast at this
        push_cast
        rw [this]

theorem exp2_int (z : ℤ) (x : ℝ) (h : x = (z : ℝ)) : Ideal.exp2 (x : EReal) = (((2 : ℝ) ^ z : ℝ) : EReal) := by
  rw [h, Ideal.exp2_coe]
  congr 1
  exact Real.rpow_intCast 2 z

theorem rExp_eq (a : EReal) : rExp a = Scalar.select (Ideal.cmp .oeq a (Ideal.ofBits .f32 0x00000000#32)) ((0 : ℝ) : EReal)
    (clampLog (a * Ideal.ofBits .f32 0x3B124925#32)) := by
  unfold rExp clampLog
  rw [ofBits_126, ofBits_neg126, ofBits_two, ofBits_one, ofBits_zero]

theorem q_nonneg (a : EReal) (ha : 0 ≤ a) : 0 ≤ a * Ideal.ofBits .f32 0x3B124925#32 := by
  obtain ⟨r, hr, e⟩ := ofBits_recip448_pos
  rw [e]
  exact mul_nonneg ha (by exact_mod_cast hr.le)

/-- The two scales and the two inverses are one power of two and its inverse. -/
theorem exists_exp (a : EReal) (ha : 0 ≤ a) :
    ∃ z : ℤ, kScale a = (((2 : ℝ) ^ z : ℝ) : EReal) ∧ rScale a = (((2 : ℝ) ^ z : ℝ) : EReal) ∧
      kInv a = (((2 : ℝ) ^ (-z) : ℝ) : EReal) ∧ rInv a = (((2 : ℝ) ^ (-z) : ℝ) : EReal) := by
  obtain ⟨n, hn, hf, hc⟩ := exists_field _ (q_nonneg a ha)
  unfold kScale kInv rScale rInv
  rw [rExp_eq, hc, ofBits_zero]
  unfold kExp
  rw [hf]
  by_cases h0 : Ideal.cmp .oeq a (Ideal.ofBits .f32 0x00000000#32) = 1
  · refine ⟨0, ?_, ?_, ?_, ?_⟩
    · rw [ofBits_zero] at h0; simp only [Scalar.select, ofBits_zero, h0, if_true]
      have := ofBits_field 127 (by omega) (by omega)
      rw [T, show (0#32 + 127#32) = BitVec.ofNat 32 127 by decide, this]; norm_num
    · rw [ofBits_zero] at h0; simp only [Scalar.select, ofBits_zero, h0, if_true]
      exact exp2_int 0 0 (by simp)
    · rw [ofBits_zero] at h0; simp only [Scalar.select, ofBits_zero, h0, if_true]
      have := ofBits_field 127 (by omega) (by omega)
      rw [T, show (127#32 - 0#32) = BitVec.ofNat 32 127 by decide, this]; norm_num
    · rw [ofBits_zero] at h0; simp only [Scalar.select, ofBits_zero, h0, if_true]
      rw [← EReal.coe_sub]
      exact exp2_int (-0) _ (by simp)
  · obtain ⟨w1, w2⟩ := words_of_field ⟨n, by omega⟩
    simp only at w1 w2
    rw [ofBits_zero] at h0
    refine ⟨(min n 252 : ℕ) - 126, ?_, ?_, ?_, ?_⟩
    · simp only [Scalar.select, ofBits_zero, h0, if_false]
      rw [T, w1, ofBits_field _ (by omega) (by omega)]
      congr 2; push_cast; ring
    · simp only [Scalar.select, ofBits_zero, h0, if_false]
      exact exp2_int _ _ (by push_cast; ring)
    · simp only [Scalar.select, ofBits_zero, h0, if_false]
      rw [T, w2, ofBits_field _ (by omega) (by omega)]
      congr 2; push_cast [Nat.cast_sub (show min n 252 ≤ 253 by omega)]; ring
    · simp only [Scalar.select, ofBits_zero, h0, if_false]
      rw [← EReal.coe_sub]
      exact exp2_int _ _ (by push_cast; ring)

theorem scale_eq (a : EReal) (ha : 0 ≤ a) : kScale a = rScale a := by
  obtain ⟨z, h1, h2, _, _⟩ := exists_exp a ha
  rw [h1, h2]

theorem inv_eq (a : EReal) (ha : 0 ≤ a) : kInv a = rInv a := by
  obtain ⟨z, _, _, h1, h2⟩ := exists_exp a ha
  rw [h1, h2]

end Cert.Proof.Scale

end
-- ==== Proof.Spec.lean ====
/-
  One column of the trailing update, at the extended reals: what the reference computes of it (`Col.y`, `Col.yCode`,
  `Col.upd`, …) and what the kernel computes of it (`Col.kUpd`, …), as functions of plain coordinates. The kernel
  divides the reflectors' scales by the scale of the column's block before it subtracts and multiplies by it
  afterwards; where the block's scale is positive and finite the two agree (`Col.kCode_eq`, `Col.kScl_eq`).
-/
module

public import Idealize.ShloMosaic.PureOps.Ideal
public import Idealize.ShloMosaic.PureOps.Ideal.Laws
public import proofs.«01_k».proof.Proof.Scale

@[expose] public section

noncomputable section

open Idealize.ShloMosaic

namespace Cert.Proof

open Scale

/-! ## The greatest magnitude and the clip -/

/-- The greatest magnitude of `f`: the maximum of the magnitudes, from minus infinity. -/
def mx {n : ℕ} (f : Fin n → EReal) : EReal :=
  Finset.univ.fold max (Ideal.ofBits .f32 0xFF800000#32) fun x => max (f x) (-f x)

/-- The clip to the largest finite fp8 number, ±448. -/
def clip (x : EReal) : EReal := min (Ideal.ofBits .f32 0x43E00000#32) (max (Ideal.ofBits .f32 0xC3E00000#32) x)

theorem ofBits_bot : Ideal.ofBits .f32 0xFF800000#32 = ⊥ := by
  rw [ofBits_f32]
  unfold Ideal.ieee
  simp

theorem mx_nonneg {n : ℕ} [NeZero n] (f : Fin n → EReal) : 0 ≤ mx f := by
  unfold mx
  rw [Finset.le_fold_max]
  refine Or.inr ⟨0, Finset.mem_univ _, ?_⟩
  rcases le_total 0 (f 0) with h | h
  · exact le_max_of_le_left h
  · exact le_max_of_le_right (by simpa using h)

/-- The greatest magnitude of a column scaled by a positive real. -/
theorem mx_mul {n : ℕ} (f : Fin n → EReal) (s : ℝ) (hs : 0 < s) : mx f * (s : EReal) = mx fun x => f x * (s : EReal) := by
  have hs' : (0 : EReal) < (s : EReal) := by exact_mod_cast hs
  have hm : Monotone fun x : EReal => x * (s : EReal) := fun a b h => mul_le_mul_of_nonneg_right h hs'.le
  have key : ∀ S : Finset (Fin n), S.fold max (⊥ : EReal) (fun x => max (f x) (-f x)) * (s : EReal)
      = S.fold max ⊥ fun x => max (f x * (s : EReal)) (-(f x * (s : EReal))) := by
    intro S
    induction S using Finset.induction_on with
    | empty => simp only [Finset.fold_empty]; exact EReal.bot_mul_coe_of_pos hs
    | insert a S ha ih =>
      rw [Finset.fold_insert ha, Finset.fold_insert ha, ← ih, ← EReal.neg_mul, ← hm.map_max, ← hm.map_max]
  unfold mx
  rw [ofBits_bot]
  exact key _

/-! ## One column -/

/-- The row `i` of block `b`. -/
abbrev row (b : Fin 176) (i : Fin 128) : Fin 22528 := ⟨b.val * 128 + i.val, by omega⟩
/-- The block of row `r`. -/
abbrev blk (r : Fin 22528) : Fin 176 := ⟨r.val / 128, by omega⟩
/-- The row `r` within its block. -/
abbrev sub (r : Fin 22528) : Fin 128 := ⟨r.val % 128, by omega⟩

/-- What the trailing update reads of a column: the column's codes `c` and block scales `s`, the transposed reflectors
    `v`, their codes `w` and block scales `vs`, and the triangular factor `t`. -/
structure Col where
  c : Fin 22528 → EReal
  s : Fin 176 → EReal
  v : Fin 80 → Fin 22528 → EReal
  w : Fin 22528 → Fin 128 → EReal
  vs : Fin 176 → EReal
  t : Fin 72 → Fin 72 → EReal

namespace Col

variable (K : Col)

/-- The product of the reflectors with the column, `Vᵀ C`. -/
def wy (x : Fin 80) : EReal := ∑ j, K.v x j * (K.c j * K.s (blk j))
/-- `Y = Tᵀ (Vᵀ C)`. -/
def y (p : Fin 72) : EReal := ∑ x, K.t x p * K.wy ⟨x.val, by omega⟩
/-- The greatest magnitude of `Y`'s column. -/
def yMax : EReal := mx K.y
/-- The code of `Y`. -/
def yCode (p : Fin 72) : EReal := clip (K.y p * rInv K.yMax)
/-- The scale of `Y`. -/
def yScl : EReal := rScale K.yMax
/-- The product of the reflectors' codes with `Y`'s. -/
def prod (r : Fin 22528) : EReal := ∑ q : Fin 72, K.w r ⟨q.val, by omega⟩ * K.yCode q
/-- The updated column, before it is quantised. -/
def upd (b : Fin 176) (i : Fin 128) : EReal :=
  K.c (row b i) * K.s b - K.prod (row b i) * K.vs b * K.yScl
/-- The greatest magnitude of a block of it. -/
def updMax (b : Fin 176) : EReal := mx (K.upd b)
/-- The code of the update. -/
def code (b : Fin 176) (i : Fin 128) : EReal := clip (K.upd b i * rInv (K.updMax b))
/-- The scale of a block of the update. -/
def scl (b : Fin 176) : EReal := rScale (K.updMax b)

/-! ## What the kernel computes -/

/-- The scale of the product, divided by the block's scale. -/
def kS (b : Fin 176) : EReal := K.vs b * kScale K.yMax * Ideal.div (Ideal.ofBits .f32 0x3F800000#32) (K.s b)
/-- The code of `Y` as the kernel finds it. -/
def kYCode (p : Fin 72) : EReal := clip (K.y p * kInv K.yMax)
/-- The product over the padded reflectors. -/
def kProd (r : Fin 22528) : EReal := ∑ q : Fin 128, K.w r q * (if h : q.val < 72 then K.kYCode ⟨q.val, h⟩ else Ideal.ofBits .f32 0#32)
/-- The update divided by the block's scale. -/
def kUpd (b : Fin 176) (i : Fin 128) : EReal := K.c (row b i) - K.kProd (row b i) * K.kS b
/-- The greatest magnitude of a block, multiplied by its scale again. -/
def kMax (b : Fin 176) : EReal := mx (K.kUpd b) * K.s b
/-- The kernel's code. -/
def kCode (b : Fin 176) (i : Fin 128) : EReal := clip (K.kUpd b i * (kInv (K.kMax b) * K.s b))
/-- The kernel's scale. -/
def kScl (b : Fin 176) : EReal := kScale (K.kMax b)

theorem yMax_nonneg : 0 ≤ K.yMax := mx_nonneg _
theorem updMax_nonneg (b : Fin 176) : 0 ≤ K.updMax b := mx_nonneg _

theorem kYCode_eq : K.kYCode = K.yCode := by
  funext p
  unfold kYCode yCode
  rw [inv_eq _ K.yMax_nonneg]

theorem kYScl_eq : kScale K.yMax = K.yScl := scale_eq _ K.yMax_nonneg

/-- The padding adds nothing. -/
theorem kProd_eq (r : Fin 22528) : K.kProd r = K.prod r := by
  unfold kProd prod
  rw [kYCode_eq]
  have h := Fin.sum_univ_add (a := 72) (b := 56) (fun q : Fin (72 + 56) =>
    K.w r q * (if h : q.val < 72 then K.yCode ⟨q.val, h⟩ else Ideal.ofBits .f32 0#32))
  refine h.trans ?_
  have h2 : ∀ q : Fin 56, K.w r (Fin.natAdd 72 q) *
      (if h : (Fin.natAdd 72 q).val < 72 then K.yCode ⟨_, h⟩ else Ideal.ofBits .f32 0#32) = 0 := by
    intro q
    rw [dif_neg (by simp), ofBits_zero, EReal.coe_zero, mul_zero]
  rw [Finset.sum_congr rfl fun q _ => h2 q, Finset.sum_const_zero, add_zero]
  refine Finset.sum_congr rfl fun q _ => ?_
  rw [dif_pos (show (Fin.castAdd 56 q).val < 72 from q.isLt)]
  rfl

/-- Where the block's scale is a positive real, the kernel's update times it is the reference's. -/
theorem kUpd_mul (b : Fin 176) (i : Fin 128) (s : ℝ) (hs : 0 < s) (h : K.s b = (s : EReal)) :
    K.kUpd b i * K.s b = K.upd b i := by
  unfold kUpd upd kS
  rw [kProd_eq, kYScl_eq, h, Ideal.div_coe hs.ne',
    EReal.sub_mul_of_nonneg_of_ne_top (by exact_mod_cast hs.le) (EReal.coe_ne_top s), ofBits_one, EReal.coe_one, one_mul]
  congr 1
  have h1 : ((1 / s : ℝ) : EReal) * (s : EReal) = 1 := by
    rw [← EReal.coe_mul, one_div, inv_mul_cancel₀ hs.ne', EReal.coe_one]
  rw [mul_assoc, mul_assoc, mul_assoc, h1, mul_one, mul_assoc]

theorem kMax_eq (b : Fin 176) (s : ℝ) (hs : 0 < s) (h : K.s b = (s : EReal)) : K.kMax b = K.updMax b := by
  unfold kMax updMax
  rw [h, mx_mul _ s hs]
  congr 1
  funext i
  rw [← h]
  exact K.kUpd_mul b i s hs h

/-- The kernel's code of the update is the reference's. -/
theorem kCode_eq (b : Fin 176) (i : Fin 128) (s : ℝ) (hs : 0 < s) (h : K.s b = (s : EReal)) : K.kCode b i = K.code b i := by
  unfold kCode code
  rw [K.kMax_eq b s hs h, inv_eq _ (K.updMax_nonneg b), mul_comm (rInv _) (K.s b), ← mul_assoc, K.kUpd_mul b i s hs h]

/-- The kernel's scale of the update is the reference's. -/
theorem kScl_eq (b : Fin 176) (s : ℝ) (hs : 0 < s) (h : K.s b = (s : EReal)) : K.kScl b = K.scl b := by
  unfold kScl scl
  rw [K.kMax_eq b s hs h, scale_eq _ (K.updMax_nonneg b)]

end Col

end Cert.Proof

end
-- ==== Proof.Column.lean ====
/-
  The column `d` of the arrays the trailing update reads (or of blocks of columns of them), as a `Col` of Spec.lean.
-/
module

public import proofs.«01_k».proof.Proof.Spec
public import Idealize.ShloMosaic.Lib.Pointwise

@[expose] public section

noncomputable section

open Idealize.ShloMosaic

namespace Cert.Proof

/-- Column `d` of the arrays; the reflectors' block scale is read in lane 0. -/
def colOf {N : ℕ} (a0 : Vec Ideal ⟨2, ![22528, N]⟩ .fp8e4m3) (a1 : Vec Ideal ⟨2, ![176, N]⟩ .f32)
    (a2 : Vec Ideal ⟨2, ![80, 22528]⟩ .bf16) (a3 : Vec Ideal ⟨2, ![22528, 128]⟩ .fp8e4m3)
    (a4 : Vec Ideal ⟨2, ![176, 128]⟩ .f32) (a5 : Vec Ideal ⟨2, ![72, 72]⟩ .f32) (d : Fin N) : Col where
  c r := a0 (ix2 r d)
  s b := a1 (ix2 b d)
  v x j := a2 (ix2 x j)
  w r q := a3 (ix2 r q)
  vs b := a4 (ix2 b 0)
  t x p := a5 (ix2 x p)

end Cert.Proof

end
-- ==== Proof.KerLoads.lean ====
/-
  What the kernel's loads read: the rows of the block of columns at the trip's offsets.
-/
module

public import proofs.«01_k».proof.Proof.Gen.KernelIdeal.Skeleton
public import proofs.«01_k».proof.Proof.Column
public import Idealize.ShloMosaic.Lib.Pipeline.ValueKit.Tiles
public import Idealize.ShloMosaic.Lib.Pipeline.FrameBody

@[expose] public section

set_option maxRecDepth 16384

noncomputable section

namespace Cert.KernelIdeal.Read

open Cert.KernelIdeal Cert.KernelIdeal.Gen Idealize.ShloMosaic Idealize.ShloMosaic.TcCoe Cert.Proof

/-- A load through a rectangle of a whole buffer holding `x` reads `x` at the placed index. -/
theorem rd {S : Shape} {e : EltTy} (m : Memref sig .tc .vmem S e) (hm : m.IsWhole) (x : S.Idx → Elt Ideal e)
    (off size : Fin S.rank → Nat) (inb : ∀ a, off a + size a ≤ S.size a) (y : (Rect.unit off size inb).shape.Idx) (i : S.Idx)
    (hi : ∀ a, (i a : Nat) = off a + y a) :
    View.readAt (Elt Ideal) m.view (Rect.unit off size inb).toLoadRect (hm.unread x) y = x i := by
  rw [View.readAt_eq_ld, hm.read_unread]
  exact View.ld_unit_apply_of x off size inb y i hi

theorem trips1 : k0_t1_loop.trips = 11 := by decide
theorem trips2 : k0_t2_loop.trips = 22 := by decide

/-- Block `b` of trip `k` of the second phase. -/
abbrev bk (k : Fin k0_t2_loop.trips) (b : Fin 8) : Fin 176 := ⟨k.val * 8 + b.val, by have := k.isLt; have := trips2; omega⟩
/-- Block `b` of trip `k` of the first phase. -/
abbrev ck (k : Fin k0_t1_loop.trips) (b : Fin 16) : Fin 176 := ⟨k.val * 16 + b.val, by have := k.isLt; have := trips1; omega⟩

theorem off1_eq : ∀ (k : Fin k0_t1_loop.trips) (b : Fin 16) (a : Fin 2), k0_off1 k (BitVec.ofNat 32 (128 * b.val)) a = ![k.val * 2048 + 128 * b.val, 0] a := by decide +kernel
theorem off2_eq : ∀ (k : Fin k0_t1_loop.trips) (b : Fin 16) (a : Fin 2), k0_off2 k (BitVec.ofNat 32 b.val) a = ![k.val * 16 + b.val, 0] a := by decide +kernel
theorem off3_eq : ∀ (k : Fin k0_t1_loop.trips) (a : Fin 2), k0_off3 k a = ![0, k.val * 2048] a := by decide +kernel
theorem off4_eq : ∀ (k : Fin k0_t2_loop.trips) (a : Fin 2), k0_off4 k a = ![k.val * 8, 0] a := by decide +kernel
theorem off5_eq : ∀ (k : Fin k0_t2_loop.trips) (a : Fin 2), k0_off5 k a = ![k.val * 8, 0] a := by decide +kernel
theorem off6_eq : ∀ (k : Fin k0_t2_loop.trips) (b : Fin 8) (a : Fin 2), k0_off6 k (BitVec.ofNat 32 (128 * b.val)) a = ![k.val * 1024 + 128 * b.val, 0] a := by decide +kernel
theorem off7_eq : ∀ (k : Fin k0_t2_loop.trips) (b : Fin 8) (a : Fin 2), k0_off7 k (BitVec.ofNat 32 (128 * b.val)) a = ![k.val * 1024 + 128 * b.val, 0] a := by decide +kernel

/-- A block of the column's codes, in the first phase. -/
theorem ld1 (m : Memref sig .tc .vmem S22528x256 .fp8e4m3) (hm : m.IsWhole) (x : Vec Ideal S22528x256 .fp8e4m3) (k : Fin k0_t1_loop.trips) (b : Fin 16)
    (n : BitVec 32) (hn : n = BitVec.ofNat 32 (128 * b.val)) (inb) (i : Fin 128) (d : Fin 256) :
    View.readAt (Elt Ideal) m.view (Rect.unit (s := S22528x256) (k0_off1 k n) S128x256.size inb).toLoadRect (hm.unread x) (ix2 i d) = x (ix2 (row (ck k b) i) d) := by
  subst hn
  refine rd m hm x _ _ inb (ix2 i d) (ix2 (row (ck k b) i) d) fun a => ?_
  rw [off1_eq]
  fin_cases a
  · show (k.val * 16 + b.val) * 128 + i.val = k.val * 2048 + 128 * b.val + i.val; omega
  · show d.val = 0 + d.val; omega

/-- A block's scale, in the first phase. -/
theorem ld2 (m : Memref sig .tc .vmem S176x256 .f32) (hm : m.IsWhole) (x : Vec Ideal S176x256 .f32) (k : Fin k0_t1_loop.trips) (b : Fin 16)
    (n : BitVec 32) (hn : n = BitVec.ofNat 32 b.val) (inb) (d : Fin 256) :
    View.readAt (Elt Ideal) m.view (Rect.unit (s := S176x256) (k0_off2 k n) S1x256.size inb).toLoadRect (hm.unread x) (ix2 0 d) = x (ix2 (ck k b) d) := by
  subst hn
  refine rd m hm x _ _ inb (ix2 0 d) (ix2 (ck k b) d) fun a => ?_
  rw [off2_eq]
  fin_cases a
  · show k.val * 16 + b.val = k.val * 16 + b.val + 0; omega
  · show d.val = 0 + d.val; omega

/-- The reflectors' lanes of a trip of the first phase. -/
theorem ld3 (m : Memref sig .tc .vmem S80x22528 .bf16) (hm : m.IsWhole) (x : Vec Ideal S80x22528 .bf16) (k : Fin k0_t1_loop.trips) (inb) (p : Fin 80) (j : Fin 2048) :
    View.readAt (Elt Ideal) m.view (Rect.unit (s := S80x22528) (k0_off3 k) S80x2048.size inb).toLoadRect (hm.unread x) (ix2 p j)
      = x (ix2 p ⟨k.val * 2048 + j.val, by have := k.isLt; have := trips1; omega⟩) := by
  refine rd m hm x _ _ inb (ix2 p j) _ fun a => ?_
  rw [off3_eq]
  fin_cases a
  · show p.val = 0 + p.val; omega
  · show k.val * 2048 + j.val = k.val * 2048 + j.val; rfl

/-- The scales of a trip's blocks. -/
theorem ld4 (m : Memref sig .tc .vmem S176x256 .f32) (hm : m.IsWhole) (x : Vec Ideal S176x256 .f32) (k : Fin k0_t2_loop.trips) (inb) (b : Fin 8) (d : Fin 256) :
    View.readAt (Elt Ideal) m.view (Rect.unit (s := S176x256) (k0_off4 k) S8x256.size inb).toLoadRect (hm.unread x) (ix2 b d) = x (ix2 (bk k b) d) := by
  refine rd m hm x _ _ inb (ix2 b d) (ix2 (bk k b) d) fun a => ?_
  rw [off4_eq]
  fin_cases a
  · show k.val * 8 + b.val = k.val * 8 + b.val; rfl
  · show d.val = 0 + d.val; omega

/-- The reflectors' scales of a trip's blocks. -/
theorem ld5 (m : Memref sig .tc .vmem S176x128 .f32) (hm : m.IsWhole) (x : Vec Ideal S176x128 .f32) (k : Fin k0_t2_loop.trips) (inb) (b : Fin 8) (q : Fin 128) :
    View.readAt (Elt Ideal) m.view (Rect.unit (s := S176x128) (k0_off5 k) S8x128.size inb).toLoadRect (hm.unread x) (ix2 b q) = x (ix2 (bk k b) q) := by
  refine rd m hm x _ _ inb (ix2 b q) (ix2 (bk k b) q) fun a => ?_
  rw [off5_eq]
  fin_cases a
  · show k.val * 8 + b.val = k.val * 8 + b.val; rfl
  · show q.val = 0 + q.val; omega

/-- A block of the reflectors' codes. -/
theorem ld6 (m : Memref sig .tc .vmem S22528x128 .fp8e4m3) (hm : m.IsWhole) (x : Vec Ideal S22528x128 .fp8e4m3) (k : Fin k0_t2_loop.trips) (b : Fin 8)
    (n : BitVec 32) (hn : n = BitVec.ofNat 32 (128 * b.val)) (inb) (i q : Fin 128) :
    View.readAt (Elt Ideal) m.view (Rect.unit (s := S22528x128) (k0_off6 k n) S128x128.size inb).toLoadRect (hm.unread x) (ix2 i q) = x (ix2 (row (bk k b) i) q) := by
  subst hn
  refine rd m hm x _ _ inb (ix2 i q) (ix2 (row (bk k b) i) q) fun a => ?_
  rw [off6_eq]
  fin_cases a
  · show (k.val * 8 + b.val) * 128 + i.val = k.val * 1024 + 128 * b.val + i.val; omega
  · show q.val = 0 + q.val; omega

/-- A block of the column's codes, in the second phase. -/
theorem ld7 (m : Memref sig .tc .vmem S22528x256 .fp8e4m3) (hm : m.IsWhole) (x : Vec Ideal S22528x256 .fp8e4m3) (k : Fin k0_t2_loop.trips) (b : Fin 8)
    (n : BitVec 32) (hn : n = BitVec.ofNat 32 (128 * b.val)) (inb) (i : Fin 128) (d : Fin 256) :
    View.readAt (Elt Ideal) m.view (Rect.unit (s := S22528x256) (k0_off7 k n) S128x256.size inb).toLoadRect (hm.unread x) (ix2 i d) = x (ix2 (row (bk k b) i) d) := by
  subst hn
  refine rd m hm x _ _ inb (ix2 i d) (ix2 (row (bk k b) i) d) fun a => ?_
  rw [off7_eq]
  fin_cases a
  · show (k.val * 8 + b.val) * 128 + i.val = k.val * 1024 + 128 * b.val + i.val; omega
  · show d.val = 0 + d.val; omega

/-- The triangular factor, read whole. -/
theorem ldT (m : Memref sig .tc .vmem S72x72 .f32) (hm : m.IsWhole) (x : Vec Ideal S72x72 .f32) (inb) (a b : Fin 72) :
    View.readAt (Elt Ideal) m.view (Rect.unit (s := S72x72) ![0, 0] S72x72.size inb).toLoadRect (hm.unread x) (ix2 a b) = x (ix2 a b) := by
  refine rd m hm x _ _ inb (ix2 a b) (ix2 a b) fun c => ?_
  fin_cases c
  · show a.val = 0 + a.val; omega
  · show b.val = 0 + b.val; omega

end Cert.KernelIdeal.Read

end
-- ==== Proof.KerCat.lean ====
/-
  The scaled columns of a trip of the first phase: sixteen blocks side by side, read at an index.
-/
module

public import proofs.«01_k».proof.Proof.KerLoads

@[expose] public section

set_option maxRecDepth 16384

noncomputable section

namespace Cert.KernelIdeal.Read

open Cert.KernelIdeal Cert.KernelIdeal.Gen Idealize.ShloMosaic Cert.Proof

/-- Sixteen blocks one above another, at row `j`: block `j / 128` at its row `j % 128`. -/
theorem cat16 (v0 v1 v2 v3 v4 v5 v6 v7 v8 v9 v10 v11 v12 v13 v14 v15 : FVec Ideal S128x256 .bf16) (j : Fin 2048) (d : Fin 256) :
    concatenate S2048x256 0 [⟨S128x256, v0⟩, ⟨S128x256, v1⟩, ⟨S128x256, v2⟩, ⟨S128x256, v3⟩, ⟨S128x256, v4⟩, ⟨S128x256, v5⟩, ⟨S128x256, v6⟩, ⟨S128x256, v7⟩,
      ⟨S128x256, v8⟩, ⟨S128x256, v9⟩, ⟨S128x256, v10⟩, ⟨S128x256, v11⟩, ⟨S128x256, v12⟩, ⟨S128x256, v13⟩, ⟨S128x256, v14⟩, ⟨S128x256, v15⟩]
      concatenates_S128x256_S128x256_S128x256_S128x256_S128x256_S128x256_S128x256_S128x256_S128x256_S128x256_S128x256_S128x256_S128x256_S128x256_S128x256_S128x256_S2048x256_d0
      (ix2 j d) = (![v0, v1, v2, v3, v4, v5, v6, v7, v8, v9, v10, v11, v12, v13, v14, v15] ⟨j.val / 128, by omega⟩) (ix2 ⟨j.val % 128, by omega⟩ d) := by
  exact concatenate_ofFn_apply (0 : Fin S2048x256.rank) (![v0, v1, v2, v3, v4, v5, v6, v7, v8, v9, v10, v11, v12, v13, v14, v15] : Fin 16 → FVec Ideal S128x256 .bf16)
    concatenates_S128x256_S128x256_S128x256_S128x256_S128x256_S128x256_S128x256_S128x256_S128x256_S128x256_S128x256_S128x256_S128x256_S128x256_S128x256_S128x256_S2048x256_d0
    rfl 128 rfl (ix2 j d) ⟨j.val / 128, by omega⟩ rfl (ix2 ⟨j.val % 128, by omega⟩ d) rfl (fun b hb => by
      fin_cases b
      · exact absurd rfl hb
      · rfl)

/-- A block's codes times its scale. -/
theorem pay6_apply (c : FVec Ideal S128x256 .fp8e4m3) (s : FVec Ideal S1x256 .f32) (i : Fin 128) (d : Fin 256) :
    @Eq EReal (k0_pay6 (F := Ideal) c s (ix2 i d)) (c (ix2 i d) * s (ix2 0 d)) := by
  pointwise [k0_pay6]

theorem pay7_apply (c : FVec Ideal S128x256 .fp8e4m3) (s : FVec Ideal S1x256 .f32) (i : Fin 128) (d : Fin 256) :
    @Eq EReal (k0_pay7 (F := Ideal) c s (ix2 i d)) (c (ix2 i d) * s (ix2 0 d)) := by
  pointwise [k0_pay7]

theorem pay8_apply (c : FVec Ideal S128x256 .fp8e4m3) (s : FVec Ideal S1x256 .f32) (i : Fin 128) (d : Fin 256) :
    @Eq EReal (k0_pay8 (F := Ideal) c s (ix2 i d)) (c (ix2 i d) * s (ix2 0 d)) := by
  pointwise [k0_pay8]

theorem pay11_apply (c : FVec Ideal S128x256 .fp8e4m3) (s : FVec Ideal S1x256 .f32) (i : Fin 128) (d : Fin 256) :
    @Eq EReal (k0_pay11 (F := Ideal) c s (ix2 i d)) (c (ix2 i d) * s (ix2 0 d)) := by
  pointwise [k0_pay11]

theorem pay12_apply (c : FVec Ideal S128x256 .fp8e4m3) (s : FVec Ideal S1x256 .f32) (i : Fin 128) (d : Fin 256) :
    @Eq EReal (k0_pay12 (F := Ideal) c s (ix2 i d)) (c (ix2 i d) * s (ix2 0 d)) := by
  pointwise [k0_pay12]

theorem pay13_apply (c : FVec Ideal S128x256 .fp8e4m3) (s : FVec Ideal S1x256 .f32) (i : Fin 128) (d : Fin 256) :
    @Eq EReal (k0_pay13 (F := Ideal) c s (ix2 i d)) (c (ix2 i d) * s (ix2 0 d)) := by
  pointwise [k0_pay13]

theorem pay14_apply (c : FVec Ideal S128x256 .fp8e4m3) (s : FVec Ideal S1x256 .f32) (i : Fin 128) (d : Fin 256) :
    @Eq EReal (k0_pay14 (F := Ideal) c s (ix2 i d)) (c (ix2 i d) * s (ix2 0 d)) := by
  pointwise [k0_pay14]

theorem pay15_apply (c : FVec Ideal S128x256 .fp8e4m3) (s : FVec Ideal S1x256 .f32) (i : Fin 128) (d : Fin 256) :
    @Eq EReal (k0_pay15 (F := Ideal) c s (ix2 i d)) (c (ix2 i d) * s (ix2 0 d)) := by
  pointwise [k0_pay15]

theorem pay16_apply (c : FVec Ideal S128x256 .fp8e4m3) (s : FVec Ideal S1x256 .f32) (i : Fin 128) (d : Fin 256) :
    @Eq EReal (k0_pay16 (F := Ideal) c s (ix2 i d)) (c (ix2 i d) * s (ix2 0 d)) := by
  pointwise [k0_pay16]

theorem pay17_apply (c : FVec Ideal S128x256 .fp8e4m3) (s : FVec Ideal S1x256 .f32) (i : Fin 128) (d : Fin 256) :
    @Eq EReal (k0_pay17 (F := Ideal) c s (ix2 i d)) (c (ix2 i d) * s (ix2 0 d)) := by
  pointwise [k0_pay17]

theorem pay18_apply (c : FVec Ideal S128x256 .fp8e4m3) (s : FVec Ideal S1x256 .f32) (i : Fin 128) (d : Fin 256) :
    @Eq EReal (k0_pay18 (F := Ideal) c s (ix2 i d)) (c (ix2 i d) * s (ix2 0 d)) := by
  pointwise [k0_pay18]

theorem pay19_apply (c : FVec Ideal S128x256 .fp8e4m3) (s : FVec Ideal S1x256 .f32) (i : Fin 128) (d : Fin 256) :
    @Eq EReal (k0_pay19 (F := Ideal) c s (ix2 i d)) (c (ix2 i d) * s (ix2 0 d)) := by
  pointwise [k0_pay19]

theorem pay20_apply (c : FVec Ideal S128x256 .fp8e4m3) (s : FVec Ideal S1x256 .f32) (i : Fin 128) (d : Fin 256) :
    @Eq EReal (k0_pay20 (F := Ideal) c s (ix2 i d)) (c (ix2 i d) * s (ix2 0 d)) := by
  pointwise [k0_pay20]

theorem pay64_apply (c : FVec Ideal S128x256 .fp8e4m3) (s : FVec Ideal S1x256 .f32) (i : Fin 128) (d : Fin 256) :
    @Eq EReal (k0_pay64 (F := Ideal) c s (ix2 i d)) (c (ix2 i d) * s (ix2 0 d)) := by
  pointwise [k0_pay64]

theorem pay10_apply (c : FVec Ideal S128x256 .fp8e4m3) (s : FVec Ideal S1x256 .f32) (i : Fin 128) (d : Fin 256) :
    @Eq EReal (k0_pay10 (F := Ideal) (k0_pay9 c) s (ix2 i d)) (c (ix2 i d) * s (ix2 0 d)) := by
  pointwise [k0_pay10, k0_pay9]

theorem pay63_apply (c : FVec Ideal S128x256 .fp8e4m3) (s : FVec Ideal S1x256 .f32) (i : Fin 128) (d : Fin 256) :
    @Eq EReal (k0_pay63 (F := Ideal) (k0_pay21 c) s (ix2 i d)) (c (ix2 i d) * s (ix2 0 d)) := by
  pointwise [k0_pay63, k0_pay21]

/-- The product of a trip's lanes with its columns, added to what was there. -/
theorem pay65_apply (acc : FVec Ideal S80x256 .f32) (x : FVec Ideal S2048x256 .bf16) (v : FVec Ideal S80x2048 .bf16) (p : Fin 80) (d : Fin 256) :
    k0_pay65 acc x v (ix2 p d) = acc (ix2 p d) + ∑ j : Fin 2048, v (ix2 p j) * x (ix2 j d) := by
  pointwise [k0_pay65]

theorem pay62_apply (p : Fin 80) (d : Fin 256) : k0_pay62 (F := Ideal) (ix2 p d) = 0 := by
  pointwise [k0_pay62]

end Cert.KernelIdeal.Read

end
-- ==== Proof.KerSum.lean ====
/-
  The first phase: the product of the reflectors with a column, added up over eleven trips of 2048 rows.
-/
module

public import proofs.«01_k».proof.Proof.Gen.KernelIdeal.Loops
public import proofs.«01_k».proof.Proof.KerCat

@[expose] public section

set_option maxRecDepth 16384

noncomputable section

namespace Cert.KernelIdeal.Read

open Cert.KernelIdeal Cert.KernelIdeal.Gen Idealize.ShloMosaic Idealize.ShloMosaic.TcCoe Cert.Proof

section
variable (arg1 : Memref sig .tc .vmem S22528x256 .fp8e4m3) (harg1 : arg1.IsWhole) (arg2 : Memref sig .tc .vmem S176x256 .f32) (harg2 : arg2.IsWhole)
  (x0 : Vec Ideal S22528x256 .fp8e4m3) (x1 : Vec Ideal S176x256 .f32) (k : Fin k0_t1_loop.trips) (i : Fin 128) (d : Fin 256)

/-- Block 0 of a trip: its codes times its scale. -/
theorem blk0 : @Eq EReal (trip_k0_t1.sl.r (F := Ideal) arg1 arg2 (harg1.unread x0) (harg2.unread x1) k (ix2 i d)) (x0 (ix2 (row (ck k 0) i) d) * x1 (ix2 (ck k 0) d)) := by
  unfold trip_k0_t1.sl.r
  exact (pay6_apply _ _ i d).trans (congrArg₂ (fun a b : EReal => a * b) (ld1 arg1 harg1 x0 k 0 _ rfl _ i d) (ld2 arg2 harg2 x1 k 0 _ rfl _ d))

/-- Block 1 of a trip: its codes times its scale. -/
theorem blk1 : @Eq EReal (trip_k0_t1.sl.r_1 (F := Ideal) arg1 arg2 (harg1.unread x0) (harg2.unread x1) k (ix2 i d)) (x0 (ix2 (row (ck k 1) i) d) * x1 (ix2 (ck k 1) d)) := by
  unfold trip_k0_t1.sl.r_1
  exact (pay7_apply _ _ i d).trans (congrArg₂ (fun a b : EReal => a * b) (ld1 arg1 harg1 x0 k 1 _ rfl _ i d) (ld2 arg2 harg2 x1 k 1 _ rfl _ d))

/-- Block 2 of a trip: its codes times its scale. -/
theorem blk2 : @Eq EReal (trip_k0_t1.sl.r_2 (F := Ideal) arg1 arg2 (harg1.unread x0) (harg2.unread x1) k (ix2 i d)) (x0 (ix2 (row (ck k 2) i) d) * x1 (ix2 (ck k 2) d)) := by
  unfold trip_k0_t1.sl.r_2
  exact (pay8_apply _ _ i d).trans (congrArg₂ (fun a b : EReal => a * b) (ld1 arg1 harg1 x0 k 2 _ rfl _ i d) (ld2 arg2 harg2 x1 k 2 _ rfl _ d))

/-- Block 3 of a trip: its codes times its scale. -/
theorem blk3 : @Eq EReal (trip_k0_t1.sl.r_4 (F := Ideal) arg1 arg2 (harg1.unread x0) (harg2.unread x1) k (ix2 i d)) (x0 (ix2 (row (ck k 3) i) d) * x1 (ix2 (ck k 3) d)) := by
  unfold trip_k0_t1.sl.r_4 trip_k0_t1.sl.r_3
  exact (pay10_apply _ _ i d).trans (congrArg₂ (fun a b : EReal => a * b) (ld1 arg1 harg1 x0 k 3 _ rfl _ i d) (ld2 arg2 harg2 x1 k 3 _ rfl _ d))

/-- Block 4 of a trip: its codes times its scale. -/
theorem blk4 : @Eq EReal (trip_k0_t1.sl.r_5 (F := Ideal) arg1 arg2 (harg1.unread x0) (harg2.unread x1) k (ix2 i d)) (x0 (ix2 (row (ck k 4) i) d) * x1 (ix2 (ck k 4) d)) := by
  unfold trip_k0_t1.sl.r_5
  exact (pay11_apply _ _ i d).trans (congrArg₂ (fun a b : EReal => a * b) (ld1 arg1 harg1 x0 k 4 _ rfl _ i d) (ld2 arg2 harg2 x1 k 4 _ rfl _ d))

/-- Block 5 of a trip: its codes times its scale. -/
theorem blk5 : @Eq EReal (trip_k0_t1.sl.r_6 (F := Ideal) arg1 arg2 (harg1.unread x0) (harg2.unread x1) k (ix2 i d)) (x0 (ix2 (row (ck k 5) i) d) * x1 (ix2 (ck k 5) d)) := by
  unfold trip_k0_t1.sl.r_6
  exact (pay12_apply _ _ i d).trans (congrArg₂ (fun a b : EReal => a * b) (ld1 arg1 harg1 x0 k 5 _ rfl _ i d) (ld2 arg2 harg2 x1 k 5 _ rfl _ d))

/-- Block 6 of a trip: its codes times its scale. -/
theorem blk6 : @Eq EReal (trip_k0_t1.sl.r_7 (F := Ideal) arg1 arg2 (harg1.unread x0) (harg2.unread x1) k (ix2 i d)) (x0 (ix2 (row (ck k 6) i) d) * x1 (ix2 (ck k 6) d)) := by
  unfold trip_k0_t1.sl.r_7
  exact (pay13_apply _ _ i d).trans (congrArg₂ (fun a b : EReal => a * b) (ld1 arg1 harg1 x0 k 6 _ rfl _ i d) (ld2 arg2 harg2 x1 k 6 _ rfl _ d))

/-- Block 7 of a trip: its codes times its scale. -/
theorem blk7 : @Eq EReal (trip_k0_t1.sl.r_8 (F := Ideal) arg1 arg2 (harg1.unread x0) (harg2.unread x1) k (ix2 i d)) (x0 (ix2 (row (ck k 7) i) d) * x1 (ix2 (ck k 7) d)) := by
  unfold trip_k0_t1.sl.r_8
  exact (pay14_apply _ _ i d).trans (congrArg₂ (fun a b : EReal => a * b) (ld1 arg1 harg1 x0 k 7 _ rfl _ i d) (ld2 arg2 harg2 x1 k 7 _ rfl _ d))

/-- Block 8 of a trip: its codes times its scale. -/
theorem blk8 : @Eq EReal (trip_k0_t1.sl.r_9 (F := Ideal) arg1 arg2 (harg1.unread x0) (harg2.unread x1) k (ix2 i d)) (x0 (ix2 (row (ck k 8) i) d) * x1 (ix2 (ck k 8) d)) := by
  unfold trip_k0_t1.sl.r_9
  exact (pay15_apply _ _ i d).trans (congrArg₂ (fun a b : EReal => a * b) (ld1 arg1 harg1 x0 k 8 _ rfl _ i d) (ld2 arg2 harg2 x1 k 8 _ rfl _ d))

/-- Block 9 of a trip: its codes times its scale. -/
theorem blk9 : @Eq EReal (trip_k0_t1.sl.r_10 (F := Ideal) arg1 arg2 (harg1.unread x0) (harg2.unread x1) k (ix2 i d)) (x0 (ix2 (row (ck k 9) i) d) * x1 (ix2 (ck k 9) d)) := by
  unfold trip_k0_t1.sl.r_10
  exact (pay16_apply _ _ i d).trans (congrArg₂ (fun a b : EReal => a * b) (ld1 arg1 harg1 x0 k 9 _ rfl _ i d) (ld2 arg2 harg2 x1 k 9 _ rfl _ d))

/-- Block 10 of a trip: its codes times its scale. -/
theorem blk10 : @Eq EReal (trip_k0_t1.sl.r_11 (F := Ideal) arg1 arg2 (harg1.unread x0) (harg2.unread x1) k (ix2 i d)) (x0 (ix2 (row (ck k 10) i) d) * x1 (ix2 (ck k 10) d)) := by
  unfold trip_k0_t1.sl.r_11
  exact (pay17_apply _ _ i d).trans (congrArg₂ (fun a b : EReal => a * b) (ld1 arg1 harg1 x0 k 10 _ rfl _ i d) (ld2 arg2 harg2 x1 k 10 _ rfl _ d))

/-- Block 11 of a trip: its codes times its scale. -/
theorem blk11 : @Eq EReal (trip_k0_t1.sl.r_12 (F := Ideal) arg1 arg2 (harg1.unread x0) (harg2.unread x1) k (ix2 i d)) (x0 (ix2 (row (ck k 11) i) d) * x1 (ix2 (ck k 11) d)) := by
  unfold trip_k0_t1.sl.r_12
  exact (pay18_apply _ _ i d).trans (congrArg₂ (fun a b : EReal => a * b) (ld1 arg1 harg1 x0 k 11 _ rfl _ i d) (ld2 arg2 harg2 x1 k 11 _ rfl _ d))

/-- Block 12 of a trip: its codes times its scale. -/
theorem blk12 : @Eq EReal (trip_k0_t1.sl.r_13 (F := Ideal) arg1 arg2 (harg1.unread x0) (harg2.unread x1) k (ix2 i d)) (x0 (ix2 (row (ck k 12) i) d) * x1 (ix2 (ck k 12) d)) := by
  unfold trip_k0_t1.sl.r_13
  exact (pay19_apply _ _ i d).trans (congrArg₂ (fun a b : EReal => a * b) (ld1 arg1 harg1 x0 k 12 _ rfl _ i d) (ld2 arg2 harg2 x1 k 12 _ rfl _ d))

/-- Block 13 of a trip: its codes times its scale. -/
theorem blk13 : @Eq EReal (trip_k0_t1.sl.r_14 (F := Ideal) arg1 arg2 (harg1.unread x0) (harg2.unread x1) k (ix2 i d)) (x0 (ix2 (row (ck k 13) i) d) * x1 (ix2 (ck k 13) d)) := by
  unfold trip_k0_t1.sl.r_14
  exact (pay20_apply _ _ i d).trans (congrArg₂ (fun a b : EReal => a * b) (ld1 arg1 harg1 x0 k 13 _ rfl _ i d) (ld2 arg2 harg2 x1 k 13 _ rfl _ d))

/-- Block 14 of a trip: its codes times its scale. -/
theorem blk14 : @Eq EReal (trip_k0_t1.sl.v269 (F := Ideal) arg1 arg2 (harg1.unread x0) (harg2.unread x1) k (ix2 i d)) (x0 (ix2 (row (ck k 14) i) d) * x1 (ix2 (ck k 14) d)) := by
  unfold trip_k0_t1.sl.v269 trip_k0_t1.sl.r_15
  exact (pay63_apply _ _ i d).trans (congrArg₂ (fun a b : EReal => a * b) (ld1 arg1 harg1 x0 k 14 _ rfl _ i d) (ld2 arg2 harg2 x1 k 14 _ rfl _ d))

/-- Block 15 of a trip: its codes times its scale. -/
theorem blk15 : @Eq EReal (trip_k0_t1.sl.v280 (F := Ideal) arg1 arg2 (harg1.unread x0) (harg2.unread x1) k (ix2 i d)) (x0 (ix2 (row (ck k 15) i) d) * x1 (ix2 (ck k 15) d)) := by
  unfold trip_k0_t1.sl.v280
  exact (pay64_apply _ _ i d).trans (congrArg₂ (fun a b : EReal => a * b) (ld1 arg1 harg1 x0 k 15 _ rfl _ i d) (ld2 arg2 harg2 x1 k 15 _ rfl _ d))

/-- Any block of a trip. -/
theorem blk_apply (b : Fin 16) : @Eq EReal ((![trip_k0_t1.sl.r (F := Ideal) arg1 arg2 (harg1.unread x0) (harg2.unread x1) k, trip_k0_t1.sl.r_1 (F := Ideal) arg1 arg2 (harg1.unread x0) (harg2.unread x1) k, trip_k0_t1.sl.r_2 (F := Ideal) arg1 arg2 (harg1.unread x0) (harg2.unread x1) k, trip_k0_t1.sl.r_4 (F := Ideal) arg1 arg2 (harg1.unread x0) (harg2.unread x1) k, trip_k0_t1.sl.r_5 (F := Ideal) arg1 arg2 (harg1.unread x0) (harg2.unread x1) k, trip_k0_t1.sl.r_6 (F := Ideal) arg1 arg2 (harg1.unread x0) (harg2.unread x1) k, trip_k0_t1.sl.r_7 (F := Ideal) arg1 arg2 (harg1.unread x0) (harg2.unread x1) k, trip_k0_t1.sl.r_8 (F := Ideal) arg1 arg2 (harg1.unread x0) (harg2.unread x1) k, trip_k0_t1.sl.r_9 (F := Ideal) arg1 arg2 (harg1.unread x0) (harg2.unread x1) k, trip_k0_t1.sl.r_10 (F := Ideal) arg1 arg2 (harg1.unread x0) (harg2.unread x1) k, trip_k0_t1.sl.r_11 (F := Ideal) arg1 arg2 (harg1.unread x0) (harg2.unread x1) k, trip_k0_t1.sl.r_12 (F := Ideal) arg1 arg2 (harg1.unread x0) (harg2.unread x1) k, trip_k0_t1.sl.r_13 (F := Ideal) arg1 arg2 (harg1.unread x0) (harg2.unread x1) k, trip_k0_t1.sl.r_14 (F := Ideal) arg1 arg2 (harg1.unread x0) (harg2.unread x1) k, trip_k0_t1.sl.v269 (F := Ideal) arg1 arg2 (harg1.unread x0) (harg2.unread x1) k, trip_k0_t1.sl.v280 (F := Ideal) arg1 arg2 (harg1.unread x0) (harg2.unread x1) k] : Fin 16 → FVec Ideal S128x256 .bf16) b (ix2 i d))
    (x0 (ix2 (row (ck k b) i) d) * x1 (ix2 (ck k b) d)) := by
  fin_cases b
  · exact blk0 arg1 harg1 arg2 harg2 x0 x1 k i d
  · exact blk1 arg1 harg1 arg2 harg2 x0 x1 k i d
  · exact blk2 arg1 harg1 arg2 harg2 x0 x1 k i d
  · exact blk3 arg1 harg1 arg2 harg2 x0 x1 k i d
  · exact blk4 arg1 harg1 arg2 harg2 x0 x1 k i d
  · exact blk5 arg1 harg1 arg2 harg2 x0 x1 k i d
  · exact blk6 arg1 harg1 arg2 harg2 x0 x1 k i d
  · exact blk7 arg1 harg1 arg2 harg2 x0 x1 k i d
  · exact blk8 arg1 harg1 arg2 harg2 x0 x1 k i d
  · exact blk9 arg1 harg1 arg2 harg2 x0 x1 k i d
  · exact blk10 arg1 harg1 arg2 harg2 x0 x1 k i d
  · exact blk11 arg1 harg1 arg2 harg2 x0 x1 k i d
  · exact blk12 arg1 harg1 arg2 harg2 x0 x1 k i d
  · exact blk13 arg1 harg1 arg2 harg2 x0 x1 k i d
  · exact blk14 arg1 harg1 arg2 harg2 x0 x1 k i d
  · exact blk15 arg1 harg1 arg2 harg2 x0 x1 k i d

/-- The trip's scaled columns at row `j`. -/
theorem v281_apply (j : Fin 2048) : @Eq EReal (trip_k0_t1.sl.v281 (F := Ideal) arg1 arg2 (harg1.unread x0) (harg2.unread x1) k (ix2 j d))
    (x0 (ix2 ⟨k.val * 2048 + j.val, by have := k.isLt; have := trips1; omega⟩ d) * x1 (ix2 ⟨(k.val * 2048 + j.val) / 128, by have := k.isLt; have := trips1; omega⟩ d)) := by
  unfold trip_k0_t1.sl.v281
  refine (cat16 _ _ _ _ _ _ _ _ _ _ _ _ _ _ _ _ j d).trans ((blk_apply arg1 harg1 arg2 harg2 x0 x1 k ⟨j.val % 128, by omega⟩ d ⟨j.val / 128, by omega⟩).trans ?_)
  have e1 : row (ck k ⟨j.val / 128, by omega⟩) ⟨j.val % 128, by omega⟩ = ⟨k.val * 2048 + j.val, by have := k.isLt; have := trips1; omega⟩ :=
    Fin.ext (by show (k.val * 16 + j.val / 128) * 128 + j.val % 128 = k.val * 2048 + j.val; omega)
  have e2 : ck k ⟨j.val / 128, by omega⟩ = ⟨(k.val * 2048 + j.val) / 128, by have := k.isLt; have := trips1; omega⟩ :=
    Fin.ext (by show k.val * 16 + j.val / 128 = (k.val * 2048 + j.val) / 128; omega)
  rw [e1, e2]

end

/-- A term of the product: row `j` of the reflectors' lane with the column's, zero past the last row. -/
def term (x0 : Vec Ideal S22528x256 .fp8e4m3) (x1 : Vec Ideal S176x256 .f32) (x2 : Vec Ideal S80x22528 .bf16) (p : Fin 80) (d : Fin 256) (j : ℕ) : EReal :=
  if h : j < 22528 then x2 (ix2 p ⟨j, h⟩) * (x0 (ix2 ⟨j, h⟩ d) * x1 (ix2 ⟨j / 128, by omega⟩ d)) else 0

/-- The product before trip `n`: the terms of the rows passed. -/
theorem st_apply (𝒱 : Variants) (c : Dev nD) (bd : Option 𝒱.V) (i : grid0.Coords) (arg1 : Memref sig .tc .vmem S22528x256 .fp8e4m3) (harg1 : arg1.IsWhole) (arg2 : Memref sig .tc .vmem S176x256 .f32) (harg2 : arg2.IsWhole) (arg3 : Memref sig .tc .vmem S80x22528 .bf16) (harg3 : arg3.IsWhole) (arg4 : Memref sig .tc .vmem S22528x128 .fp8e4m3) (harg4 : arg4.IsWhole) (arg5 : Memref sig .tc .vmem S176x128 .f32) (harg5 : arg5.IsWhole) (arg6 : Memref sig .tc .vmem S72x72 .f32) (harg6 : arg6.IsWhole) (arg7 : Memref sig .tc .vmem S22528x256 .fp8e4m3) (harg7 : arg7.IsWhole) (arg8 : Memref sig .tc .vmem S176x256 .f32) (harg8 : arg8.IsWhole) (arg9 : Memref sig .tc .vmem S72x256 .fp8e4m3) (harg9 : arg9.IsWhole) (arg10 : Memref sig .tc .vmem S1x256 .f32) (harg10 : arg10.IsWhole) (arg11 : Memref sig .tc .vmem S1024x256 .f32) (harg11 : arg11.IsWhole) (x0 : Vec Ideal S22528x256 .fp8e4m3) (x1 : Vec Ideal S176x256 .f32) (x2 : Vec Ideal S80x22528 .bf16) (p : Fin 80) (d : Fin 256) (n : ℕ) (hn : n ≤ 11) :
    @Eq EReal (st_k0_t1 (F := Ideal) 𝒱 c bd i arg1 harg1 arg2 harg2 arg3 harg3 arg4 harg4 arg5 harg5 arg6 harg6 arg7 harg7 arg8 harg8 arg9 harg9 arg10 harg10 arg11 harg11 (harg1.unread x0) (harg2.unread x1) (harg3.unread x2) k0_pay62 n (ix2 p d)) (∑ j ∈ Finset.range (n * 2048), term x0 x1 x2 p d j) := by
  induction n with
  | zero =>
    rw [st_k0_t1_zero, Nat.zero_mul, Finset.range_zero, Finset.sum_empty]
    exact pay62_apply p d
  | succ n ih =>
    have hlt : n < k0_t1_loop.trips := by rw [trips1]; omega
    have e := st_k0_t1_succ (F := Ideal) 𝒱 c bd i arg1 harg1 arg2 harg2 arg3 harg3 arg4 harg4 arg5 harg5 arg6 harg6 arg7 harg7 arg8 harg8 arg9 harg9 arg10 harg10 arg11 harg11 (harg1.unread x0) (harg2.unread x1) (harg3.unread x2) k0_pay62 ⟨n, hlt⟩
    rw [show (⟨n, hlt⟩ : Fin k0_t1_loop.trips).val = n from rfl] at e
    rw [e]
    generalize hacc : st_k0_t1 (F := Ideal) 𝒱 c bd i arg1 harg1 arg2 harg2 arg3 harg3 arg4 harg4 arg5 harg5 arg6 harg6 arg7 harg7 arg8 harg8 arg9 harg9 arg10 harg10 arg11 harg11 (harg1.unread x0) (harg2.unread x1) (harg3.unread x2) k0_pay62 n = acc at ih ⊢
    unfold tripR_k0_t1 trip_k0_t1
    dsimp only
    refine (pay65_apply _ _ _ p d).trans ?_
    rw [ih (by omega), Nat.succ_mul, Finset.sum_range_add, Finset.sum_range (n := 2048)]
    congr 1
    refine Finset.sum_congr rfl fun j _ => ?_
    have hj : n * 2048 + j.val < 22528 := by omega
    rw [term, dif_pos hj]
    exact congrArg₂ (fun a b : EReal => a * b) (ld3 arg3 harg3 x2 ⟨n, hlt⟩ _ p j) (v281_apply arg1 harg1 arg2 harg2 x0 x1 ⟨n, hlt⟩ d j)

/-- The whole product. -/
theorem st_last (𝒱 : Variants) (c : Dev nD) (bd : Option 𝒱.V) (i : grid0.Coords) (arg1 : Memref sig .tc .vmem S22528x256 .fp8e4m3) (harg1 : arg1.IsWhole) (arg2 : Memref sig .tc .vmem S176x256 .f32) (harg2 : arg2.IsWhole) (arg3 : Memref sig .tc .vmem S80x22528 .bf16) (harg3 : arg3.IsWhole) (arg4 : Memref sig .tc .vmem S22528x128 .fp8e4m3) (harg4 : arg4.IsWhole) (arg5 : Memref sig .tc .vmem S176x128 .f32) (harg5 : arg5.IsWhole) (arg6 : Memref sig .tc .vmem S72x72 .f32) (harg6 : arg6.IsWhole) (arg7 : Memref sig .tc .vmem S22528x256 .fp8e4m3) (harg7 : arg7.IsWhole) (arg8 : Memref sig .tc .vmem S176x256 .f32) (harg8 : arg8.IsWhole) (arg9 : Memref sig .tc .vmem S72x256 .fp8e4m3) (harg9 : arg9.IsWhole) (arg10 : Memref sig .tc .vmem S1x256 .f32) (harg10 : arg10.IsWhole) (arg11 : Memref sig .tc .vmem S1024x256 .f32) (harg11 : arg11.IsWhole) (x0 : Vec Ideal S22528x256 .fp8e4m3) (x1 : Vec Ideal S176x256 .f32) (x2 : Vec Ideal S80x22528 .bf16)
    (x3 : Vec Ideal S22528x128 .fp8e4m3) (x4 : Vec Ideal S176x128 .f32) (x5 : Vec Ideal S72x72 .f32) (p : Fin 80) (d : Fin 256) :
    @Eq EReal (st_k0_t1 (F := Ideal) 𝒱 c bd i arg1 harg1 arg2 harg2 arg3 harg3 arg4 harg4 arg5 harg5 arg6 harg6 arg7 harg7 arg8 harg8 arg9 harg9 arg10 harg10 arg11 harg11 (harg1.unread x0) (harg2.unread x1) (harg3.unread x2) k0_pay62
      (Scf.trips k0_t1_loop.lb k0_t1_loop.ub k0_t1_loop.st) (ix2 p d)) ((colOf x0 x1 x2 x3 x4 x5 d).wy p) := by
  rw [show Scf.trips k0_t1_loop.lb k0_t1_loop.ub k0_t1_loop.st = 11 from trips1]
  refine (st_apply 𝒱 c bd i arg1 harg1 arg2 harg2 arg3 harg3 arg4 harg4 arg5 harg5 arg6 harg6 arg7 harg7 arg8 harg8 arg9 harg9 arg10 harg10 arg11 harg11 x0 x1 x2 p d 11 le_rfl).trans ?_
  unfold Col.wy
  rw [show 11 * 2048 = 22528 from rfl, Finset.sum_range]
  refine Finset.sum_congr rfl fun j _ => ?_
  rw [term, dif_pos j.isLt]
  rfl

end Cert.KernelIdeal.Read

end
-- ==== Proof.KerQuant.lean ====
/-
  The kernel's quantiser read at an index, over any operands: its exponent field is found by eight comparisons.
-/
module

public import proofs.«01_k».proof.Proof.Gen.KernelIdeal.Skeleton
public import proofs.«01_k».proof.Proof.Column

@[expose] public section

set_option maxRecDepth 16384

noncomputable section

namespace Cert.KernelIdeal.Read

open Cert.KernelIdeal Cert.KernelIdeal.Gen Idealize.ShloMosaic Cert.Proof

/-- One comparison of the search, on vectors. -/
def vstp {F : FTy → Type} [FloatOps F] (q : FVec F S8x256 .f32) (f : IVec S8x256 32) (b : BitVec 32) : IVec S8x256 32 :=
  select (cmpf .oge q (bitcastToFloat .f32 (shli (addi f (broadcast S8x256 b)) (broadcast S8x256 23#32)))) (addi f (broadcast S8x256 b)) f

/-- A shift by the exponent's place. -/
theorem shl23 (x : BitVec 32) : IntOp.shli .vector x 23#32 = x <<< 23#32 := by
  unfold IntOp.shli
  rfl

theorem addi_eq (x y : BitVec 32) : IntOp.addi x y = x + y := rfl
theorem subi_eq (x y : BitVec 32) : IntOp.subi x y = x - y := rfl

theorem vstp_apply (q : FVec Ideal S8x256 .f32) (f : IVec S8x256 32) (b : BitVec 32) (r : Fin 8) (d : Fin 256) :
    vstp q f b (ix2 r d) = Scale.stp (q (ix2 r d)) (f (ix2 r d)) b := by
  unfold Scale.stp Scale.T
  pointwise [vstp]
  simp only [shl23, addi_eq]

section
variable {F : FTy → Type} [FloatOps F] (v261 v263 v108 : FVec F S8x256 .f32) (p : IVec S8x256 1) (f : IVec S8x256 32)

theorem pay51_eq : k0_pay51 v263 = vstp v263 (vstp v263 (vstp v263 (vstp v263 (vstp v263 (vstp v263 (broadcast S8x256 0#32) 128#32) 64#32) 32#32) 16#32) 8#32) 4#32 := by
  unfold k0_pay51 vstp
  rfl

theorem pay52_eq : k0_pay52 v263 p f 2#32
    = select p (broadcast S8x256 0#32) (subi (minsi (vstp v263 (vstp v263 f 2#32) 1#32) (broadcast S8x256 252#32)) (broadcast S8x256 126#32)) := by
  unfold k0_pay52 vstp
  rfl

theorem pay72_eq : k0_pay72 v263 p f (addi f (broadcast S8x256 16#32)) 23#32
    = select p (broadcast S8x256 0#32) (subi (minsi (vstp v263 (vstp v263 (vstp v263 (vstp v263 (vstp v263 f 16#32) 8#32) 4#32) 2#32) 1#32) (broadcast S8x256 252#32)) (broadcast S8x256 126#32)) := by
  unfold k0_pay72 vstp
  rfl

end

variable (v261 v263 v108 : FVec Ideal S8x256 .f32)

/-- The exponent of a field: at most 252, less 126, and zero where the block is. -/
theorem exp_apply (f : IVec S8x256 32) (r : Fin 8) (d : Fin 256) :
    select (k0_pay50 v261) (broadcast S8x256 0#32) (subi (minsi f (broadcast S8x256 252#32)) (broadcast S8x256 126#32)) (ix2 r d)
      = Scalar.select (Ideal.cmp .oeq (v261 (ix2 r d)) (Ideal.ofBits .f32 0x00000000#32)) 0#32 (IntOp.minsi (f (ix2 r d)) 252#32 - 126#32) := by
  pointwise [k0_pay50]
  simp only [subi_eq]

/-- The exponent of a block. -/
theorem pay52_apply (r : Fin 8) (d : Fin 256) (h : v263 (ix2 r d) = v261 (ix2 r d) * Ideal.ofBits .f32 0x3B124925#32) :
    k0_pay52 v263 (k0_pay50 v261) (k0_pay51 v263) 2#32 (ix2 r d) = Scale.kExp (v261 (ix2 r d)) (v261 (ix2 r d) * Ideal.ofBits .f32 0x3B124925#32) := by
  rw [← h, pay52_eq, pay51_eq]
  unfold Scale.kExp Scale.field
  rw [exp_apply]
  simp only [vstp_apply, broadcast]

/-- The scale of a block. -/
theorem pay53_apply (r : Fin 8) (d : Fin 256) (h : v263 (ix2 r d) = v261 (ix2 r d) * Ideal.ofBits .f32 0x3B124925#32) :
    k0_pay53 v263 (k0_pay50 v261) (k0_pay51 v263) 2#32 (ix2 r d) = Scale.kScale (v261 (ix2 r d)) := by
  unfold Scale.kScale Scale.T
  rw [← pay52_apply v261 v263 r d h]
  unfold k0_pay53
  generalize k0_pay52 v263 (k0_pay50 v261) (k0_pay51 v263) 2#32 = e
  pointwise []
  simp only [shl23, addi_eq, subi_eq]

/-- The factor of a block's codes. -/
theorem pay54_apply (r : Fin 8) (d : Fin 256) (h : v263 (ix2 r d) = v261 (ix2 r d) * Ideal.ofBits .f32 0x3B124925#32) :
    k0_pay54 v108 v263 (k0_pay50 v261) (k0_pay51 v263) 2#32 (ix2 r d) = Scale.kInv (v261 (ix2 r d)) * v108 (ix2 r d) := by
  unfold Scale.kInv Scale.T
  rw [← pay52_apply v261 v263 r d h]
  unfold k0_pay54
  generalize k0_pay52 v263 (k0_pay50 v261) (k0_pay51 v263) 2#32 = e
  pointwise []
  simp only [shl23, addi_eq, subi_eq]

/-! ## The quantiser of `Y` -/

section
variable (v2 : FVec Ideal S80x256 .f32) (t : FVec Ideal S72x72 .f32)

/-- `Y` at an index. -/
theorem pay66_apply (p : Fin 72) (d : Fin 256) :
    k0_pay66 v2 t (ix2 p d) = ∑ x : Fin 72, t (ix2 x p) * v2 (ix2 ⟨x.val, by omega⟩ d) := by
  pointwise [k0_pay66]

/-- Its greatest magnitude. -/
theorem pay67_apply (r : Fin 8) (d : Fin 256) : k0_pay67 v2 t (ix2 r d) = mx fun p => k0_pay66 v2 t (ix2 p d) := by
  unfold mx k0_pay67
  generalize k0_pay66 v2 t = u
  pointwise []
  simp only [Ideal.absf_def]

theorem pay70_eq {F : FTy → Type} [FloatOps F] (v2 : FVec F S80x256 .f32) (t : FVec F S72x72 .f32) : k0_pay70 v2 t = vstp (k0_pay68 v2 t) (vstp (k0_pay68 v2 t) (vstp (k0_pay68 v2 t) (broadcast S8x256 0#32) 128#32) 64#32) 32#32 := by
  unfold k0_pay70 vstp
  rfl

theorem pay71_eq {F : FTy → Type} [FloatOps F] (v2 : FVec F S80x256 .f32) (t : FVec F S72x72 .f32) : k0_pay71 v2 t = addi (k0_pay70 v2 t) (broadcast S8x256 16#32) := by
  unfold k0_pay71
  rfl

/-- Its exponent. -/
theorem pay72_apply (r : Fin 8) (d : Fin 256) :
    k0_pay72 (k0_pay68 v2 t) (k0_pay69 v2 t) (k0_pay70 v2 t) (k0_pay71 v2 t) 23#32 (ix2 r d)
      = Scale.kExp (k0_pay67 v2 t (ix2 r d)) (k0_pay67 v2 t (ix2 r d) * Ideal.ofBits .f32 0x3B124925#32) := by
  have h : k0_pay68 v2 t (ix2 r d) = k0_pay67 v2 t (ix2 r d) * Ideal.ofBits .f32 0x3B124925#32 := by
    unfold k0_pay68
    generalize k0_pay67 v2 t = u
    pointwise []
  rw [← h, pay71_eq, pay72_eq, pay70_eq]
  unfold Scale.kExp Scale.field k0_pay69
  generalize k0_pay68 v2 t = q
  generalize k0_pay67 v2 t = u
  refine (exp_apply u _ r d).trans ?_
  simp only [vstp_apply, broadcast]

/-- Its scale. -/
theorem pay73_apply (r : Fin 8) (d : Fin 256) :
    k0_pay73 (k0_pay68 v2 t) (k0_pay69 v2 t) (k0_pay70 v2 t) (k0_pay71 v2 t) 23#32 (ix2 r d) = Scale.kScale (k0_pay67 v2 t (ix2 r d)) := by
  unfold Scale.kScale Scale.T
  rw [← pay72_apply]
  unfold k0_pay73
  generalize k0_pay72 (k0_pay68 v2 t) (k0_pay69 v2 t) (k0_pay70 v2 t) (k0_pay71 v2 t) 23#32 = e
  pointwise []
  simp only [shl23, addi_eq, subi_eq]

/-- The field of the inverse scale. -/
theorem pay74_apply (r : Fin 8) (d : Fin 256) :
    Scale.T (k0_pay74 (k0_pay68 v2 t) (k0_pay69 v2 t) (k0_pay70 v2 t) (k0_pay71 v2 t) 23#32 (ix2 r d)) = Scale.kInv (k0_pay67 v2 t (ix2 r d)) := by
  unfold Scale.kInv
  rw [← pay72_apply]
  unfold k0_pay74
  generalize k0_pay72 (k0_pay68 v2 t) (k0_pay69 v2 t) (k0_pay70 v2 t) (k0_pay71 v2 t) 23#32 = e
  pointwise []
  simp only [subi_eq]

end

end Cert.KernelIdeal.Read

end
-- ==== Proof.KerPay.lean ====
/-
  The kernel's payloads of the update read at an index, over any operands.
-/
module

public import proofs.«01_k».proof.Proof.Gen.KernelIdeal.Skeleton
public import proofs.«01_k».proof.Proof.KerQuant

@[expose] public section

set_option maxRecDepth 16384

noncomputable section

namespace Cert.KernelIdeal.Read

open Cert.KernelIdeal Cert.KernelIdeal.Gen Idealize.ShloMosaic Cert.Proof

/-- A block's update: the codes less the product times the block's scale. -/
def uAt (yc c : FVec Ideal S128x256 .fp8e4m3) (s : FVec Ideal S8x256 .f32) (b : Fin 8) (w : FVec Ideal S128x128 .fp8e4m3) (i : Fin 128) (d : Fin 256) : EReal :=
  c (ix2 i d) - (∑ q : Fin 128, w (ix2 i q) * yc (ix2 q d)) * s (ix2 b d)

variable (v82 v108 v115 : FVec Ideal S8x256 .f32) (v112 : FVec Ideal S8x128 .f32) (yc c : FVec Ideal S128x256 .fp8e4m3)
  (w : FVec Ideal S128x128 .fp8e4m3)

/-- The product's scale: the reflectors' (read in lane `d % 128`), times the scale of `Y`, over the block's. -/
theorem pay22_apply (b : Fin 8) (d : Fin 256) :
    k0_pay22 v82 v108 v112 (ix2 b d)
      = v112 (ix2 b ⟨d.val % 128, Nat.mod_lt _ (by decide)⟩) * v82 (ix2 b d) * Ideal.div (Ideal.ofBits .f32 0x3F800000#32) (v108 (ix2 b d)) := by
  rcases lt_or_ge d.val 128 with h | h
  · have e : (⟨d.val % 128, Nat.mod_lt _ (by decide)⟩ : Fin 128) = ⟨d.val, h⟩ := Fin.ext (Nat.mod_eq_of_lt h)
    rw [e]
    pointwise [k0_pay22]
    simp [h]
  · have e : (⟨d.val % 128, Nat.mod_lt _ (by decide)⟩ : Fin 128) = ⟨d.val - 128, by omega⟩ := Fin.ext (by simp only []; omega)
    rw [e]
    pointwise [k0_pay22]
    simp [h]
    rw [dif_neg (by omega)]

/-- The kernel's code of `Y`, padded with zeros. -/
theorem pay4_apply (v5 : FVec Ideal S72x256 .f32) (v84 : IVec S8x256 32) (q : Fin 128) (d : Fin 256) :
    k0_pay4 v5 v84 (ix2 q d) = if h : q.val < 72 then clip (v5 (ix2 ⟨q.val, h⟩ d) * Scale.T (v84 (ix2 0 d))) else Ideal.ofBits .f32 0x00000000#32 := by
  unfold clip Scale.T
  pointwise [k0_pay4, k0_pay2]
  simp only [shl23]

/-- Block 0 of a trip. -/
theorem pay23_apply (i : Fin 128) (d : Fin 256) : k0_pay23 v82 yc v108 v112 w c (ix2 i d) = uAt yc c (k0_pay22 v82 v108 v112) 0 w i d := by
  unfold uAt
  unfold k0_pay23
  generalize k0_pay22 v82 v108 v112 = s
  pointwise []
/-- Block 2 of a trip. -/
theorem pay32_apply (i : Fin 128) (d : Fin 256) : k0_pay32 yc v115 w c (ix2 i d) = uAt yc c v115 2 w i d := by
  unfold uAt
  pointwise [k0_pay32]
/-- Block 3 of a trip. -/
theorem pay35_apply (i : Fin 128) (d : Fin 256) : k0_pay35 yc v115 w c (ix2 i d) = uAt yc c v115 3 w i d := by
  unfold uAt
  pointwise [k0_pay35]
/-- Block 4 of a trip. -/
theorem pay38_apply (i : Fin 128) (d : Fin 256) : k0_pay38 yc v115 w c (ix2 i d) = uAt yc c v115 4 w i d := by
  unfold uAt
  pointwise [k0_pay38]
/-- Block 5 of a trip. -/
theorem pay41_apply (i : Fin 128) (d : Fin 256) : k0_pay41 yc v115 w c (ix2 i d) = uAt yc c v115 5 w i d := by
  unfold uAt
  pointwise [k0_pay41]
/-- Block 6 of a trip. -/
theorem pay44_apply (i : Fin 128) (d : Fin 256) : k0_pay44 yc v115 w c (ix2 i d) = uAt yc c v115 6 w i d := by
  unfold uAt
  pointwise [k0_pay44]
/-- Block 7 of a trip. -/
theorem pay46_apply (i : Fin 128) (d : Fin 256) : k0_pay46 yc v115 w c (ix2 i d) = uAt yc c v115 7 w i d := by
  unfold uAt
  pointwise [k0_pay46]

/-- Block 1 of a trip, whose product, codes and scale are named apart. -/
theorem pay29_apply (i : Fin 128) (d : Fin 256) :
    k0_pay29 (k0_pay26 yc w) (k0_pay27 c) (k0_pay28 v82 v108 v112) (ix2 i d) = uAt yc c (k0_pay22 v82 v108 v112) 1 w i d := by
  unfold uAt k0_pay29 k0_pay28
  generalize k0_pay22 v82 v108 v112 = s
  pointwise [k0_pay26, k0_pay27]

/-! ## The greatest magnitudes of a trip's blocks -/

theorem pay25_apply (d : Fin 256) : k0_pay25 v82 yc v108 v112 w c (ix2 0 d) = mx fun i => uAt yc c (k0_pay22 v82 v108 v112) 0 w i d := by
  simp only [← pay23_apply]
  unfold mx k0_pay25
  generalize k0_pay23 v82 yc v108 v112 w c = u
  pointwise []
  simp only [Ideal.absf_def]

theorem pay31_apply (d : Fin 256) : k0_pay31 (k0_pay26 yc w) (k0_pay27 c) (k0_pay28 v82 v108 v112) (ix2 0 d)
    = mx fun i => uAt yc c (k0_pay22 v82 v108 v112) 1 w i d := by
  simp only [← pay29_apply]
  unfold mx k0_pay31
  generalize k0_pay29 (k0_pay26 yc w) (k0_pay27 c) (k0_pay28 v82 v108 v112) = u
  pointwise []
  simp only [Ideal.absf_def]

theorem pay34_apply (d : Fin 256) : k0_pay34 yc v115 w c (ix2 0 d) = mx fun i => uAt yc c v115 2 w i d := by
  simp only [← pay32_apply]
  unfold mx k0_pay34
  generalize k0_pay32 yc v115 w c = u
  pointwise []
  simp only [Ideal.absf_def]

theorem pay37_apply (d : Fin 256) : k0_pay37 (k0_pay35 yc v115 w c) (ix2 0 d) = mx fun i => uAt yc c v115 3 w i d := by
  simp only [← pay35_apply]
  unfold mx k0_pay37
  generalize k0_pay35 yc v115 w c = u
  pointwise []
  simp only [Ideal.absf_def]

theorem pay40_apply (d : Fin 256) : k0_pay40 yc v115 w c (ix2 0 d) = mx fun i => uAt yc c v115 4 w i d := by
  simp only [← pay38_apply]
  unfold mx k0_pay40
  generalize k0_pay38 yc v115 w c = u
  pointwise []
  simp only [Ideal.absf_def]

theorem pay43_apply (d : Fin 256) : k0_pay43 yc v115 w c (ix1 d) = mx fun i => uAt yc c v115 5 w i d := by
  simp only [← pay41_apply]
  unfold mx k0_pay43
  generalize k0_pay41 yc v115 w c = u
  pointwise []
  simp only [Ideal.absf_def]

/-- The blocks' greatest magnitudes, each times its block's scale. -/
theorem pay48_apply (m0 m1 m2 m3 m4 : FVec Ideal S1x256 .f32) (m5 : FVec Ideal S256 .f32)
    (w6 w7 : FVec Ideal S128x128 .fp8e4m3) (c6 c7 : FVec Ideal S128x256 .fp8e4m3) (b : Fin 8) (d : Fin 256) :
    k0_pay48 yc v108 v115 m0 m1 m2 m3 m4 m5 w6 c6 w7 c7 (ix2 b d)
      = (![m0 (ix2 0 d), m1 (ix2 0 d), m2 (ix2 0 d), m3 (ix2 0 d), m4 (ix2 0 d), m5 (ix1 d),
          mx fun i => uAt yc c6 v115 6 w6 i d, mx fun i => uAt yc c7 v115 7 w7 i d] b) * v108 (ix2 b d) := by
  simp only [← pay44_apply, ← pay46_apply]
  unfold mx k0_pay48
  generalize k0_pay44 yc v115 w6 c6 = u6
  generalize k0_pay46 yc v115 w7 c7 = u7
  fin_cases b <;> pointwise [] <;> simp [Ideal.absf_def]
  trace_state

/-! ## The blocks as they are stored -/

theorem pay24_apply (i : Fin 128) (d : Fin 256) : k0_pay24 v82 yc v108 v112 w c (ix2 i d) = uAt yc c (k0_pay22 v82 v108 v112) 0 w i d := by
  rw [← pay23_apply]
  unfold k0_pay24
  generalize k0_pay23 v82 yc v108 v112 w c = u
  pointwise []

theorem pay30_apply (i : Fin 128) (d : Fin 256) : k0_pay30 (k0_pay26 yc w) (k0_pay27 c) (k0_pay28 v82 v108 v112) (ix2 i d) = uAt yc c (k0_pay22 v82 v108 v112) 1 w i d := by
  rw [← pay29_apply]
  unfold k0_pay30
  generalize k0_pay29 (k0_pay26 yc w) (k0_pay27 c) (k0_pay28 v82 v108 v112) = u
  pointwise []

theorem pay33_apply (i : Fin 128) (d : Fin 256) : k0_pay33 yc v115 w c (ix2 i d) = uAt yc c v115 2 w i d := by
  rw [← pay32_apply]
  unfold k0_pay33
  generalize k0_pay32 yc v115 w c = u
  pointwise []

theorem pay36_apply (i : Fin 128) (d : Fin 256) : k0_pay36 (k0_pay35 yc v115 w c) (ix2 i d) = uAt yc c v115 3 w i d := by
  rw [← pay35_apply]
  unfold k0_pay36
  generalize k0_pay35 yc v115 w c = u
  pointwise []

theorem pay39_apply (i : Fin 128) (d : Fin 256) : k0_pay39 yc v115 w c (ix2 i d) = uAt yc c v115 4 w i d := by
  rw [← pay38_apply]
  unfold k0_pay39
  generalize k0_pay38 yc v115 w c = u
  pointwise []

theorem pay42_apply (i : Fin 128) (d : Fin 256) : k0_pay42 yc v115 w c (ix2 i d) = uAt yc c v115 5 w i d := by
  rw [← pay41_apply]
  unfold k0_pay42
  generalize k0_pay41 yc v115 w c = u
  pointwise []

theorem pay45_apply (i : Fin 128) (d : Fin 256) : k0_pay45 yc v115 w c (ix2 i d) = uAt yc c v115 6 w i d := by
  rw [← pay44_apply]
  unfold k0_pay45
  generalize k0_pay44 yc v115 w c = u
  pointwise []

theorem pay47_apply (i : Fin 128) (d : Fin 256) : k0_pay47 yc v115 w c (ix2 i d) = uAt yc c v115 7 w i d := by
  rw [← pay46_apply]
  unfold k0_pay47
  generalize k0_pay46 yc v115 w c = u
  pointwise []

/-- The quantiser's operand. -/
theorem pay49_apply (m0 m1 m2 m3 m4 : FVec Ideal S1x256 .f32) (m5 : FVec Ideal S256 .f32)
    (w6 w7 : FVec Ideal S128x128 .fp8e4m3) (c6 c7 : FVec Ideal S128x256 .fp8e4m3) (b : Fin 8) (d : Fin 256) :
    k0_pay49 yc v108 v115 m0 m1 m2 m3 m4 m5 w6 c6 w7 c7 (ix2 b d)
      = k0_pay48 yc v108 v115 m0 m1 m2 m3 m4 m5 w6 c6 w7 c7 (ix2 b d) * Ideal.ofBits .f32 0x3B124925#32 := by
  unfold k0_pay49
  generalize k0_pay48 yc v108 v115 m0 m1 m2 m3 m4 m5 w6 c6 w7 c7 = u
  pointwise []

/-! ## The codes -/

theorem pay56_apply (f : FVec Ideal S8x256 .f32) (u : FVec Ideal S128x256 .f32) (i : Fin 128) (d : Fin 256) :
    @Eq EReal (k0_pay56 (F := Ideal) f u (ix2 i d)) (clip (u (ix2 i d) * f (ix2 1 d))) := by
  unfold clip
  pointwise [k0_pay56]

theorem pay57_apply (f : FVec Ideal S8x256 .f32) (u : FVec Ideal S128x256 .f32) (i : Fin 128) (d : Fin 256) :
    @Eq EReal (k0_pay57 (F := Ideal) f u (ix2 i d)) (clip (u (ix2 i d) * f (ix2 2 d))) := by
  unfold clip
  pointwise [k0_pay57]

theorem pay58_apply (f : FVec Ideal S8x256 .f32) (u : FVec Ideal S128x256 .f32) (i : Fin 128) (d : Fin 256) :
    @Eq EReal (k0_pay58 (F := Ideal) f u (ix2 i d)) (clip (u (ix2 i d) * f (ix2 3 d))) := by
  unfold clip
  pointwise [k0_pay58]

theorem pay59_apply (f : FVec Ideal S8x256 .f32) (u : FVec Ideal S128x256 .f32) (i : Fin 128) (d : Fin 256) :
    @Eq EReal (k0_pay59 (F := Ideal) f u (ix2 i d)) (clip (u (ix2 i d) * f (ix2 4 d))) := by
  unfold clip
  pointwise [k0_pay59]

theorem pay60_apply (f : FVec Ideal S8x256 .f32) (u : FVec Ideal S128x256 .f32) (i : Fin 128) (d : Fin 256) :
    @Eq EReal (k0_pay60 (F := Ideal) f u (ix2 i d)) (clip (u (ix2 i d) * f (ix2 5 d))) := by
  unfold clip
  pointwise [k0_pay60]

theorem pay61_apply (f : FVec Ideal S8x256 .f32) (u : FVec Ideal S128x256 .f32) (i : Fin 128) (d : Fin 256) :
    @Eq EReal (k0_pay61 (F := Ideal) f u (ix2 i d)) (clip (u (ix2 i d) * f (ix2 6 d))) := by
  unfold clip
  pointwise [k0_pay61]

theorem pay5_apply (f : FVec Ideal S8x256 .f32) (u : FVec Ideal S128x256 .f32) (i : Fin 128) (d : Fin 256) :
    @Eq EReal (k0_pay5 (F := Ideal) f u (ix2 i d)) (clip (u (ix2 i d) * f (ix2 7 d))) := by
  unfold clip
  pointwise [k0_pay5]

theorem pay55_apply (q : FVec Ideal S8x256 .f32) (p : IVec S8x256 1) (e : IVec S8x256 32) (u : FVec Ideal S128x256 .f32) (i : Fin 128) (d : Fin 256) :
    @Eq EReal (k0_pay55 (F := Ideal) v108 q p e 2#32 u (ix2 i d)) (clip (u (ix2 i d) * k0_pay54 v108 q p e 2#32 (ix2 0 d))) := by
  unfold clip k0_pay55
  generalize k0_pay54 v108 q p e 2#32 = f
  pointwise []

/-- The codes of `Y`, as stored. -/
theorem pay3_apply (v5 : FVec Ideal S72x256 .f32) (v84 : IVec S8x256 32) (p : Fin 72) (d : Fin 256) :
    @Eq EReal (k0_pay3 (F := Ideal) v5 v84 (ix2 p d)) (clip (v5 (ix2 p d) * Scale.T (v84 (ix2 0 d)))) := by
  unfold clip Scale.T
  pointwise [k0_pay3, k0_pay2]
  simp only [shl23]

theorem pay1_apply (d : Fin 256) : k0_pay1 v82 (ix2 0 d) = v82 (ix2 0 d) := by
  pointwise [k0_pay1]

end Cert.KernelIdeal.Read

end
-- ==== Proof.KerTrip.lean ====
/-
  A trip of the second phase: the eight blocks it updates, their scales and their codes, as the column's (Spec.lean).
-/
module

public import proofs.«01_k».proof.Proof.Gen.KernelIdeal.Loops
public import proofs.«01_k».proof.Proof.KerPay
public import proofs.«01_k».proof.Proof.KerLoads
public import Idealize.ShloMosaic.Lib.Pipeline.RowLoads

@[expose] public section

set_option maxRecDepth 16384

noncomputable section

namespace Cert.KernelIdeal.Read

open Cert.KernelIdeal Cert.KernelIdeal.Gen Idealize.ShloMosaic Idealize.ShloMosaic.TcCoe Cert.Proof

/-- A block's update at an index, of a block of the column's codes and of the reflectors'. -/
theorem uAt_eq (K : Col) (yc c : FVec Ideal S128x256 .fp8e4m3) (s : FVec Ideal S8x256 .f32) (b : Fin 8) (w : FVec Ideal S128x128 .fp8e4m3) (B : Fin 176) (d : Fin 256)
    (hc : ∀ i, @Eq EReal (c (ix2 i d)) (K.c (row B i))) (hw : ∀ i q, @Eq EReal (w (ix2 i q)) (K.w (row B i) q))
    (hy : ∀ q : Fin 128, @Eq EReal (yc (ix2 q d)) (if h : q.val < 72 then K.kYCode ⟨q.val, h⟩ else Ideal.ofBits .f32 0x00000000#32))
    (hs : @Eq EReal (s (ix2 b d)) (K.kS B)) (i : Fin 128) : uAt yc c s b w i d = K.kUpd B i := by
  unfold uAt Col.kUpd Col.kProd
  rw [hs, hc]
  congr 2
  exact Finset.sum_congr rfl fun q _ => congrArg₂ (fun a b : EReal => a * b) (hw i q) (hy q)

/-- A list of eight numbers is a function when its entries are the function's. -/
theorem sel8 (f : Fin 8 → EReal) (a0 a1 a2 a3 a4 a5 a6 a7 : EReal) (h0 : a0 = f 0) (h1 : a1 = f 1) (h2 : a2 = f 2) (h3 : a3 = f 3)
    (h4 : a4 = f 4) (h5 : a5 = f 5) (h6 : a6 = f 6) (h7 : a7 = f 7) (b : Fin 8) : (![a0, a1, a2, a3, a4, a5, a6, a7] : Fin 8 → EReal) b = f b := by
  subst h0 h1 h2 h3 h4 h5 h6 h7
  fin_cases b <;> rfl

section
variable (arg1 : Memref sig .tc .vmem S22528x256 .fp8e4m3) (harg1 : arg1.IsWhole) (arg2 : Memref sig .tc .vmem S176x256 .f32) (harg2 : arg2.IsWhole)
  (arg4 : Memref sig .tc .vmem S22528x128 .fp8e4m3) (harg4 : arg4.IsWhole) (arg5 : Memref sig .tc .vmem S176x128 .f32) (harg5 : arg5.IsWhole)
  (arg11 : Memref sig .tc .vmem S1024x256 .f32)
  (v5 : FVec Ideal S72x256 .f32) (v82 : FVec Ideal S8x256 .f32) (v84 : IVec S8x256 32)
  (x0 : Vec Ideal S22528x256 .fp8e4m3) (x1 : Vec Ideal S176x256 .f32) (x2 : Vec Ideal S80x22528 .bf16)
  (x3 : Vec Ideal S22528x128 .fp8e4m3) (x4 : Vec Ideal S176x128 .f32) (x5 : Vec Ideal S72x72 .f32) (k : Fin k0_t2_loop.trips) (d : Fin 256)
  (hy : ∀ q : Fin 128, @Eq EReal (k0_pay4 v5 v84 (ix2 q d)) (if h : q.val < 72 then (colOf x0 x1 x2 x3 x4 x5 d).kYCode ⟨q.val, h⟩ else Ideal.ofBits .f32 0x00000000#32))
  (hv : ∀ b : Fin 8, @Eq EReal (v82 (ix2 b d)) (Scale.kScale (colOf x0 x1 x2 x3 x4 x5 d).yMax))
  (hl : ∀ (b : Fin 176) (q : Fin 128), @Eq EReal (x4 (ix2 b q)) (x4 (ix2 b 0)))

include hv hl in
/-- The product's scales. -/
theorem s_apply (b : Fin 8) (inb4) (inb5) :
    @Eq EReal (k0_pay22 v82 (View.readAt (Elt Ideal) arg2.view (Rect.unit (s := S176x256) (k0_off4 k) S8x256.size inb4).toLoadRect (harg2.unread x1))
      (View.readAt (Elt Ideal) arg5.view (Rect.unit (s := S176x128) (k0_off5 k) S8x128.size inb5).toLoadRect (harg5.unread x4)) (ix2 b d))
      ((colOf x0 x1 x2 x3 x4 x5 d).kS (bk k b)) := by
  rw [pay22_apply]
  unfold Col.kS
  exact congrArg₂ (fun a b : EReal => a * b) (congrArg₂ (fun a b : EReal => a * b)
    ((ld5 arg5 harg5 x4 k _ b _).trans (hl _ _)) (hv b)) (congrArg (Ideal.div _) (ld4 arg2 harg2 x1 k _ b d))

include hy in
/-- A block's update, whatever names its scales. -/
theorem uT (s : FVec Ideal S8x256 .f32) (b : Fin 8) (n : BitVec 32) (hn : n = BitVec.ofNat 32 (128 * b.val)) (inb6) (inb7)
    (hs : @Eq EReal (s (ix2 b d)) ((colOf x0 x1 x2 x3 x4 x5 d).kS (bk k b))) (i : Fin 128) :
    uAt (k0_pay4 v5 v84) (View.readAt (Elt Ideal) arg1.view (Rect.unit (s := S22528x256) (k0_off7 k n) S128x256.size inb7).toLoadRect (harg1.unread x0)) s b
      (View.readAt (Elt Ideal) arg4.view (Rect.unit (s := S22528x128) (k0_off6 k n) S128x128.size inb6).toLoadRect (harg4.unread x3)) i d
      = (colOf x0 x1 x2 x3 x4 x5 d).kUpd (bk k b) i :=
  uAt_eq _ _ _ s b _ (bk k b) d (fun i => ld7 arg1 harg1 x0 k b n hn _ i d) (fun i q => ld6 arg4 harg4 x3 k b n hn _ i q) hy hs i

include hv hl in
theorem r1_apply (b : Fin 8) : @Eq EReal (trip_k0_t2.sl.r_1 (F := Ideal) arg2 arg5 v82 (harg2.unread x1) (harg5.unread x4) k (ix2 b d)) ((colOf x0 x1 x2 x3 x4 x5 d).kS (bk k b)) := by
  unfold trip_k0_t2.sl.r_1
  exact s_apply arg2 harg2 arg5 harg5 v82 x0 x1 x2 x3 x4 x5 k d hv hl b _ _

include hy hv hl in
/-- What is read back of block 0. -/
theorem read0 (i : Fin 128) : @Eq EReal (trip_k0_t2.sl.v342 (F := Ideal) arg1 arg2 arg4 arg5 arg11 v5 v82 v84 (harg1.unread x0) (harg2.unread x1) (harg4.unread x3) (harg5.unread x4) k (ix2 i d)) ((colOf x0 x1 x2 x3 x4 x5 d).kUpd (bk k 0) i) := by
  unfold trip_k0_t2.sl.v342 trip_k0_t2.sl.HW_arg11_8
  rw [View.readCov_cons_of_rows_disjoint arg11.view 896 0 (by omega)]
  rw [View.readCov_cons_of_rows_disjoint arg11.view 768 0 (by omega)]
  rw [View.readCov_cons_of_rows_disjoint arg11.view 640 0 (by omega)]
  rw [View.readCov_cons_of_rows_disjoint arg11.view 512 0 (by omega)]
  rw [View.readCov_cons_of_rows_disjoint arg11.view 384 0 (by omega)]
  rw [View.readCov_cons_of_rows_disjoint arg11.view 256 0 (by omega)]
  rw [View.readCov_cons_of_rows_disjoint arg11.view 128 0 (by omega)]
  rw [View.readCov_cons_toLoadRect]
  refine (pay24_apply _ _ _ _ _ _ i d).trans ?_
  exact uT arg1 harg1 arg4 harg4 v5 v84 x0 x1 x2 x3 x4 x5 k d hy _ 0 _ rfl _ _ (s_apply arg2 harg2 arg5 harg5 v82 x0 x1 x2 x3 x4 x5 k d hv hl 0 _ _) i

include hy hv hl in
/-- What is read back of block 1. -/
theorem read1 (i : Fin 128) : @Eq EReal (trip_k0_t2.sl.v354 (F := Ideal) arg1 arg2 arg4 arg5 arg11 v5 v82 v84 (harg1.unread x0) (harg2.unread x1) (harg4.unread x3) (harg5.unread x4) k (ix2 i d)) ((colOf x0 x1 x2 x3 x4 x5 d).kUpd (bk k 1) i) := by
  unfold trip_k0_t2.sl.v354 trip_k0_t2.sl.HW_arg11_8
  rw [View.readCov_cons_of_rows_disjoint arg11.view 896 128 (by omega)]
  rw [View.readCov_cons_of_rows_disjoint arg11.view 768 128 (by omega)]
  rw [View.readCov_cons_of_rows_disjoint arg11.view 640 128 (by omega)]
  rw [View.readCov_cons_of_rows_disjoint arg11.view 512 128 (by omega)]
  rw [View.readCov_cons_of_rows_disjoint arg11.view 384 128 (by omega)]
  rw [View.readCov_cons_of_rows_disjoint arg11.view 256 128 (by omega)]
  rw [View.readCov_cons_toLoadRect]
  unfold trip_k0_t2.sl.r_3 trip_k0_t2.sl.r_4 trip_k0_t2.sl.r_5
  refine (pay30_apply _ _ _ _ _ _ i d).trans ?_
  exact uT arg1 harg1 arg4 harg4 v5 v84 x0 x1 x2 x3 x4 x5 k d hy _ 1 _ rfl _ _ (s_apply arg2 harg2 arg5 harg5 v82 x0 x1 x2 x3 x4 x5 k d hv hl 1 _ _) i

include hy hv hl in
/-- What is read back of block 2. -/
theorem read2 (i : Fin 128) : @Eq EReal (trip_k0_t2.sl.v366 (F := Ideal) arg1 arg2 arg4 arg5 arg11 v5 v82 v84 (harg1.unread x0) (harg2.unread x1) (harg4.unread x3) (harg5.unread x4) k (ix2 i d)) ((colOf x0 x1 x2 x3 x4 x5 d).kUpd (bk k 2) i) := by
  unfold trip_k0_t2.sl.v366 trip_k0_t2.sl.HW_arg11_8
  rw [View.readCov_cons_of_rows_disjoint arg11.view 896 256 (by omega)]
  rw [View.readCov_cons_of_rows_disjoint arg11.view 768 256 (by omega)]
  rw [View.readCov_cons_of_rows_disjoint arg11.view 640 256 (by omega)]
  rw [View.readCov_cons_of_rows_disjoint arg11.view 512 256 (by omega)]
  rw [View.readCov_cons_of_rows_disjoint arg11.view 384 256 (by omega)]
  rw [View.readCov_cons_toLoadRect]
  refine (pay33_apply _ _ _ _ i d).trans ?_
  exact uT arg1 harg1 arg4 harg4 v5 v84 x0 x1 x2 x3 x4 x5 k d hy _ 2 _ rfl _ _ (r1_apply arg2 harg2 arg5 harg5 v82 x0 x1 x2 x3 x4 x5 k d hv hl 2) i

include hy hv hl in
/-- What is read back of block 3. -/
theorem read3 (i : Fin 128) : @Eq EReal (trip_k0_t2.sl.v378 (F := Ideal) arg1 arg2 arg4 arg5 arg11 v5 v82 v84 (harg1.unread x0) (harg2.unread x1) (harg4.unread x3) (harg5.unread x4) k (ix2 i d)) ((colOf x0 x1 x2 x3 x4 x5 d).kUpd (bk k 3) i) := by
  unfold trip_k0_t2.sl.v378 trip_k0_t2.sl.HW_arg11_8
  rw [View.readCov_cons_of_rows_disjoint arg11.view 896 384 (by omega)]
  rw [View.readCov_cons_of_rows_disjoint arg11.view 768 384 (by omega)]
  rw [View.readCov_cons_of_rows_disjoint arg11.view 640 384 (by omega)]
  rw [View.readCov_cons_of_rows_disjoint arg11.view 512 384 (by omega)]
  rw [View.readCov_cons_toLoadRect]
  unfold trip_k0_t2.sl.r_8
  refine (pay36_apply _ _ _ _ i d).trans ?_
  exact uT arg1 harg1 arg4 harg4 v5 v84 x0 x1 x2 x3 x4 x5 k d hy _ 3 _ rfl _ _ (r1_apply arg2 harg2 arg5 harg5 v82 x0 x1 x2 x3 x4 x5 k d hv hl 3) i

include hy hv hl in
/-- What is read back of block 4. -/
theorem read4 (i : Fin 128) : @Eq EReal (trip_k0_t2.sl.v390 (F := Ideal) arg1 arg2 arg4 arg5 arg11 v5 v82 v84 (harg1.unread x0) (harg2.unread x1) (harg4.unread x3) (harg5.unread x4) k (ix2 i d)) ((colOf x0 x1 x2 x3 x4 x5 d).kUpd (bk k 4) i) := by
  unfold trip_k0_t2.sl.v390 trip_k0_t2.sl.HW_arg11_8
  rw [View.readCov_cons_of_rows_disjoint arg11.view 896 512 (by omega)]
  rw [View.readCov_cons_of_rows_disjoint arg11.view 768 512 (by omega)]
  rw [View.readCov_cons_of_rows_disjoint arg11.view 640 512 (by omega)]
  rw [View.readCov_cons_toLoadRect]
  refine (pay39_apply _ _ _ _ i d).trans ?_
  exact uT arg1 harg1 arg4 harg4 v5 v84 x0 x1 x2 x3 x4 x5 k d hy _ 4 _ rfl _ _ (r1_apply arg2 harg2 arg5 harg5 v82 x0 x1 x2 x3 x4 x5 k d hv hl 4) i

include hy hv hl in
/-- What is read back of block 5. -/
theorem read5 (i : Fin 128) : @Eq EReal (trip_k0_t2.sl.v402 (F := Ideal) arg1 arg2 arg4 arg5 arg11 v5 v82 v84 (harg1.unread x0) (harg2.unread x1) (harg4.unread x3) (harg5.unread x4) k (ix2 i d)) ((colOf x0 x1 x2 x3 x4 x5 d).kUpd (bk k 5) i) := by
  unfold trip_k0_t2.sl.v402 trip_k0_t2.sl.HW_arg11_8
  rw [View.readCov_cons_of_rows_disjoint arg11.view 896 640 (by omega)]
  rw [View.readCov_cons_of_rows_disjoint arg11.view 768 640 (by omega)]
  rw [View.readCov_cons_toLoadRect]
  refine (pay42_apply _ _ _ _ i d).trans ?_
  exact uT arg1 harg1 arg4 harg4 v5 v84 x0 x1 x2 x3 x4 x5 k d hy _ 5 _ rfl _ _ (r1_apply arg2 harg2 arg5 harg5 v82 x0 x1 x2 x3 x4 x5 k d hv hl 5) i

include hy hv hl in
/-- What is read back of block 6. -/
theorem read6 (i : Fin 128) : @Eq EReal (trip_k0_t2.sl.v414 (F := Ideal) arg1 arg2 arg4 arg5 arg11 v5 v82 v84 (harg1.unread x0) (harg2.unread x1) (harg4.unread x3) (harg5.unread x4) k (ix2 i d)) ((colOf x0 x1 x2 x3 x4 x5 d).kUpd (bk k 6) i) := by
  unfold trip_k0_t2.sl.v414 trip_k0_t2.sl.HW_arg11_8
  rw [View.readCov_cons_of_rows_disjoint arg11.view 896 768 (by omega)]
  rw [View.readCov_cons_toLoadRect]
  refine (pay45_apply _ _ _ _ i d).trans ?_
  exact uT arg1 harg1 arg4 harg4 v5 v84 x0 x1 x2 x3 x4 x5 k d hy _ 6 _ rfl _ _ (r1_apply arg2 harg2 arg5 harg5 v82 x0 x1 x2 x3 x4 x5 k d hv hl 6) i

include hy hv hl in
/-- What is read back of block 7. -/
theorem read7 (i : Fin 128) : @Eq EReal (trip_k0_t2.sl.v426 (F := Ideal) arg1 arg2 arg4 arg5 arg11 v5 v82 v84 (harg1.unread x0) (harg2.unread x1) (harg4.unread x3) (harg5.unread x4) k (ix2 i d)) ((colOf x0 x1 x2 x3 x4 x5 d).kUpd (bk k 7) i) := by
  unfold trip_k0_t2.sl.v426 trip_k0_t2.sl.HW_arg11_8
  rw [View.readCov_cons_toLoadRect]
  refine (pay47_apply _ _ _ _ i d).trans ?_
  exact uT arg1 harg1 arg4 harg4 v5 v84 x0 x1 x2 x3 x4 x5 k d hy _ 7 _ rfl _ _ (r1_apply arg2 harg2 arg5 harg5 v82 x0 x1 x2 x3 x4 x5 k d hv hl 7) i

include hy hv hl in
/-- The greatest magnitudes of the blocks, each times its block's scale. -/
theorem r12_apply (b : Fin 8) : @Eq EReal (trip_k0_t2.sl.r_12 (F := Ideal) arg1 arg2 arg4 arg5 v5 v82 v84 (harg1.unread x0) (harg2.unread x1) (harg4.unread x3) (harg5.unread x4) k (ix2 b d)) ((colOf x0 x1 x2 x3 x4 x5 d).kMax (bk k b)) := by
  unfold trip_k0_t2.sl.r_12 trip_k0_t2.sl.r trip_k0_t2.sl.r_2 trip_k0_t2.sl.r_6 trip_k0_t2.sl.r_7 trip_k0_t2.sl.r_9 trip_k0_t2.sl.r_10 trip_k0_t2.sl.r_11 trip_k0_t2.sl.r_8 trip_k0_t2.sl.r_3 trip_k0_t2.sl.r_4 trip_k0_t2.sl.r_5
  refine (pay48_apply _ _ _ _ _ _ _ _ _ _ _ _ _ b d).trans ?_
  unfold Col.kMax
  refine congrArg₂ (fun a b : EReal => a * b) ?_ (ld4 arg2 harg2 x1 k _ b d)
  refine sel8 (fun b => mx ((colOf x0 x1 x2 x3 x4 x5 d).kUpd (bk k b))) _ _ _ _ _ _ _ _ ?_ ?_ ?_ ?_ ?_ ?_ ?_ ?_ b
  · exact (pay25_apply _ _ _ _ _ _ d).trans (congrArg mx (funext fun i => uT arg1 harg1 arg4 harg4 v5 v84 x0 x1 x2 x3 x4 x5 k d hy _ 0 _ rfl _ _ (s_apply arg2 harg2 arg5 harg5 v82 x0 x1 x2 x3 x4 x5 k d hv hl 0 _ _) i))
  · exact (pay31_apply _ _ _ _ _ _ d).trans (congrArg mx (funext fun i => uT arg1 harg1 arg4 harg4 v5 v84 x0 x1 x2 x3 x4 x5 k d hy _ 1 _ rfl _ _ (s_apply arg2 harg2 arg5 harg5 v82 x0 x1 x2 x3 x4 x5 k d hv hl 1 _ _) i))
  · exact (pay34_apply _ _ _ _ d).trans (congrArg mx (funext fun i => uT arg1 harg1 arg4 harg4 v5 v84 x0 x1 x2 x3 x4 x5 k d hy _ 2 _ rfl _ _ (r1_apply arg2 harg2 arg5 harg5 v82 x0 x1 x2 x3 x4 x5 k d hv hl 2) i))
  · exact (pay37_apply _ _ _ _ d).trans (congrArg mx (funext fun i => uT arg1 harg1 arg4 harg4 v5 v84 x0 x1 x2 x3 x4 x5 k d hy _ 3 _ rfl _ _ (r1_apply arg2 harg2 arg5 harg5 v82 x0 x1 x2 x3 x4 x5 k d hv hl 3) i))
  · exact (pay40_apply _ _ _ _ d).trans (congrArg mx (funext fun i => uT arg1 harg1 arg4 harg4 v5 v84 x0 x1 x2 x3 x4 x5 k d hy _ 4 _ rfl _ _ (r1_apply arg2 harg2 arg5 harg5 v82 x0 x1 x2 x3 x4 x5 k d hv hl 4) i))
  · exact (pay43_apply _ _ _ _ d).trans (congrArg mx (funext fun i => uT arg1 harg1 arg4 harg4 v5 v84 x0 x1 x2 x3 x4 x5 k d hy _ 5 _ rfl _ _ (r1_apply arg2 harg2 arg5 harg5 v82 x0 x1 x2 x3 x4 x5 k d hv hl 5) i))
  · exact congrArg mx (funext fun i => uT arg1 harg1 arg4 harg4 v5 v84 x0 x1 x2 x3 x4 x5 k d hy _ 6 _ rfl _ _ (r1_apply arg2 harg2 arg5 harg5 v82 x0 x1 x2 x3 x4 x5 k d hv hl 6) i)
  · exact congrArg mx (funext fun i => uT arg1 harg1 arg4 harg4 v5 v84 x0 x1 x2 x3 x4 x5 k d hy _ 7 _ rfl _ _ (r1_apply arg2 harg2 arg5 harg5 v82 x0 x1 x2 x3 x4 x5 k d hv hl 7) i)

/-- The quantiser's operand: the greatest magnitudes over 448. -/
theorem r13_apply (b : Fin 8) : @Eq EReal (trip_k0_t2.sl.r_13 (F := Ideal) arg1 arg2 arg4 arg5 v5 v82 v84 (harg1.unread x0) (harg2.unread x1) (harg4.unread x3) (harg5.unread x4) k (ix2 b d)) (trip_k0_t2.sl.r_12 (F := Ideal) arg1 arg2 arg4 arg5 v5 v82 v84 (harg1.unread x0) (harg2.unread x1) (harg4.unread x3) (harg5.unread x4) k (ix2 b d) * Ideal.ofBits .f32 0x3B124925#32) := by
  unfold trip_k0_t2.sl.r_13 trip_k0_t2.sl.r_12
  exact pay49_apply _ _ _ _ _ _ _ _ _ _ _ _ _ b d

include hy hv hl in
/-- The scales of the blocks. -/
theorem scale_apply (b : Fin 8) : @Eq EReal (k0_pay53 (trip_k0_t2.sl.r_13 (F := Ideal) arg1 arg2 arg4 arg5 v5 v82 v84 (harg1.unread x0) (harg2.unread x1) (harg4.unread x3) (harg5.unread x4) k) (trip_k0_t2.sl.r_14 (F := Ideal) arg1 arg2 arg4 arg5 v5 v82 v84 (harg1.unread x0) (harg2.unread x1) (harg4.unread x3) (harg5.unread x4) k) (trip_k0_t2.sl.r_15 (F := Ideal) arg1 arg2 arg4 arg5 v5 v82 v84 (harg1.unread x0) (harg2.unread x1) (harg4.unread x3) (harg5.unread x4) k) 2#32 (ix2 b d)) ((colOf x0 x1 x2 x3 x4 x5 d).kScl (bk k b)) := by
  unfold trip_k0_t2.sl.r_14 trip_k0_t2.sl.r_15
  refine (pay53_apply (trip_k0_t2.sl.r_12 (F := Ideal) arg1 arg2 arg4 arg5 v5 v82 v84 (harg1.unread x0) (harg2.unread x1) (harg4.unread x3) (harg5.unread x4) k) _ b d (r13_apply arg1 harg1 arg2 harg2 arg4 harg4 arg5 harg5 v5 v82 v84 x0 x1 x3 x4 k d b)).trans ?_
  unfold Col.kScl
  exact congrArg Scale.kScale (r12_apply arg1 harg1 arg2 harg2 arg4 harg4 arg5 harg5 v5 v82 v84 x0 x1 x2 x3 x4 x5 k d hy hv hl b)

include hy hv hl in
/-- The factors of the blocks' codes. -/
theorem factor_apply (b : Fin 8) : @Eq EReal (k0_pay54 (trip_k0_t2.sl.r (F := Ideal) arg2 (harg2.unread x1) k) (trip_k0_t2.sl.r_13 (F := Ideal) arg1 arg2 arg4 arg5 v5 v82 v84 (harg1.unread x0) (harg2.unread x1) (harg4.unread x3) (harg5.unread x4) k) (trip_k0_t2.sl.r_14 (F := Ideal) arg1 arg2 arg4 arg5 v5 v82 v84 (harg1.unread x0) (harg2.unread x1) (harg4.unread x3) (harg5.unread x4) k) (trip_k0_t2.sl.r_15 (F := Ideal) arg1 arg2 arg4 arg5 v5 v82 v84 (harg1.unread x0) (harg2.unread x1) (harg4.unread x3) (harg5.unread x4) k) 2#32 (ix2 b d))
    (Scale.kInv ((colOf x0 x1 x2 x3 x4 x5 d).kMax (bk k b)) * (colOf x0 x1 x2 x3 x4 x5 d).s (bk k b)) := by
  unfold trip_k0_t2.sl.r_14 trip_k0_t2.sl.r_15
  refine (pay54_apply (trip_k0_t2.sl.r_12 (F := Ideal) arg1 arg2 arg4 arg5 v5 v82 v84 (harg1.unread x0) (harg2.unread x1) (harg4.unread x3) (harg5.unread x4) k) _ _ b d (r13_apply arg1 harg1 arg2 harg2 arg4 harg4 arg5 harg5 v5 v82 v84 x0 x1 x3 x4 k d b)).trans ?_
  refine congrArg₂ (fun a b : EReal => a * b) (congrArg Scale.kInv (r12_apply arg1 harg1 arg2 harg2 arg4 harg4 arg5 harg5 v5 v82 v84 x0 x1 x2 x3 x4 x5 k d hy hv hl b)) ?_
  unfold trip_k0_t2.sl.r
  exact ld4 arg2 harg2 x1 k _ b d

include hy hv hl in
theorem r16_apply (b : Fin 8) : @Eq EReal (trip_k0_t2.sl.r_16 (F := Ideal) arg1 arg2 arg4 arg5 v5 v82 v84 (harg1.unread x0) (harg2.unread x1) (harg4.unread x3) (harg5.unread x4) k (ix2 b d)) (Scale.kInv ((colOf x0 x1 x2 x3 x4 x5 d).kMax (bk k b)) * (colOf x0 x1 x2 x3 x4 x5 d).s (bk k b)) := by
  unfold trip_k0_t2.sl.r_16
  exact factor_apply arg1 harg1 arg2 harg2 arg4 harg4 arg5 harg5 v5 v82 v84 x0 x1 x2 x3 x4 x5 k d hy hv hl b

include hy hv hl in
/-- The codes stored for block 0. -/
theorem code0 (i : Fin 128) : @Eq EReal (trip_k0_t2.sl.r_17 (F := Ideal) arg1 arg2 arg4 arg5 arg11 v5 v82 v84 (harg1.unread x0) (harg2.unread x1) (harg4.unread x3) (harg5.unread x4) k (ix2 i d)) ((colOf x0 x1 x2 x3 x4 x5 d).kCode (bk k 0) i) := by
  unfold trip_k0_t2.sl.r_17
  refine (pay55_apply _ _ _ _ _ i d).trans ?_
  unfold Col.kCode
  exact congrArg clip (congrArg₂ (fun a b : EReal => a * b) (read0 arg1 harg1 arg2 harg2 arg4 harg4 arg5 harg5 arg11 v5 v82 v84 x0 x1 x2 x3 x4 x5 k d hy hv hl i) (factor_apply arg1 harg1 arg2 harg2 arg4 harg4 arg5 harg5 v5 v82 v84 x0 x1 x2 x3 x4 x5 k d hy hv hl 0))

include hy hv hl in
/-- The codes stored for block 1. -/
theorem code1 (i : Fin 128) : @Eq EReal (k0_pay56 (F := Ideal) (trip_k0_t2.sl.r_16 (F := Ideal) arg1 arg2 arg4 arg5 v5 v82 v84 (harg1.unread x0) (harg2.unread x1) (harg4.unread x3) (harg5.unread x4) k) (trip_k0_t2.sl.v354 (F := Ideal) arg1 arg2 arg4 arg5 arg11 v5 v82 v84 (harg1.unread x0) (harg2.unread x1) (harg4.unread x3) (harg5.unread x4) k) (ix2 i d)) ((colOf x0 x1 x2 x3 x4 x5 d).kCode (bk k 1) i) := by
  refine (pay56_apply _ _ i d).trans ?_
  unfold Col.kCode
  exact congrArg clip (congrArg₂ (fun a b : EReal => a * b) (read1 arg1 harg1 arg2 harg2 arg4 harg4 arg5 harg5 arg11 v5 v82 v84 x0 x1 x2 x3 x4 x5 k d hy hv hl i) (r16_apply arg1 harg1 arg2 harg2 arg4 harg4 arg5 harg5 v5 v82 v84 x0 x1 x2 x3 x4 x5 k d hy hv hl 1))

include hy hv hl in
/-- The codes stored for block 2. -/
theorem code2 (i : Fin 128) : @Eq EReal (k0_pay57 (F := Ideal) (trip_k0_t2.sl.r_16 (F := Ideal) arg1 arg2 arg4 arg5 v5 v82 v84 (harg1.unread x0) (harg2.unread x1) (harg4.unread x3) (harg5.unread x4) k) (trip_k0_t2.sl.v366 (F := Ideal) arg1 arg2 arg4 arg5 arg11 v5 v82 v84 (harg1.unread x0) (harg2.unread x1) (harg4.unread x3) (harg5.unread x4) k) (ix2 i d)) ((colOf x0 x1 x2 x3 x4 x5 d).kCode (bk k 2) i) := by
  refine (pay57_apply _ _ i d).trans ?_
  unfold Col.kCode
  exact congrArg clip (congrArg₂ (fun a b : EReal => a * b) (read2 arg1 harg1 arg2 harg2 arg4 harg4 arg5 harg5 arg11 v5 v82 v84 x0 x1 x2 x3 x4 x5 k d hy hv hl i) (r16_apply arg1 harg1 arg2 harg2 arg4 harg4 arg5 harg5 v5 v82 v84 x0 x1 x2 x3 x4 x5 k d hy hv hl 2))

include hy hv hl in
/-- The codes stored for block 3. -/
theorem code3 (i : Fin 128) : @Eq EReal (trip_k0_t2.sl.r_18 (F := Ideal) arg1 arg2 arg4 arg5 arg11 v5 v82 v84 (harg1.unread x0) (harg2.unread x1) (harg4.unread x3) (harg5.unread x4) k (ix2 i d)) ((colOf x0 x1 x2 x3 x4 x5 d).kCode (bk k 3) i) := by
  unfold trip_k0_t2.sl.r_18
  refine (pay58_apply _ _ i d).trans ?_
  unfold Col.kCode
  exact congrArg clip (congrArg₂ (fun a b : EReal => a * b) (read3 arg1 harg1 arg2 harg2 arg4 harg4 arg5 harg5 arg11 v5 v82 v84 x0 x1 x2 x3 x4 x5 k d hy hv hl i) (r16_apply arg1 harg1 arg2 harg2 arg4 harg4 arg5 harg5 v5 v82 v84 x0 x1 x2 x3 x4 x5 k d hy hv hl 3))

include hy hv hl in
/-- The codes stored for block 4. -/
theorem code4 (i : Fin 128) : @Eq EReal (k0_pay59 (F := Ideal) (trip_k0_t2.sl.r_16 (F := Ideal) arg1 arg2 arg4 arg5 v5 v82 v84 (harg1.unread x0) (harg2.unread x1) (harg4.unread x3) (harg5.unread x4) k) (trip_k0_t2.sl.v390 (F := Ideal) arg1 arg2 arg4 arg5 arg11 v5 v82 v84 (harg1.unread x0) (harg2.unread x1) (harg4.unread x3) (harg5.unread x4) k) (ix2 i d)) ((colOf x0 x1 x2 x3 x4 x5 d).kCode (bk k 4) i) := by
  refine (pay59_apply _ _ i d).trans ?_
  unfold Col.kCode
  exact congrArg clip (congrArg₂ (fun a b : EReal => a * b) (read4 arg1 harg1 arg2 harg2 arg4 harg4 arg5 harg5 arg11 v5 v82 v84 x0 x1 x2 x3 x4 x5 k d hy hv hl i) (r16_apply arg1 harg1 arg2 harg2 arg4 harg4 arg5 harg5 v5 v82 v84 x0 x1 x2 x3 x4 x5 k d hy hv hl 4))

include hy hv hl in
/-- The codes stored for block 5. -/
theorem code5 (i : Fin 128) : @Eq EReal (k0_pay60 (F := Ideal) (trip_k0_t2.sl.r_16 (F := Ideal) arg1 arg2 arg4 arg5 v5 v82 v84 (harg1.unread x0) (harg2.unread x1) (harg4.unread x3) (harg5.unread x4) k) (trip_k0_t2.sl.v402 (F := Ideal) arg1 arg2 arg4 arg5 arg11 v5 v82 v84 (harg1.unread x0) (harg2.unread x1) (harg4.unread x3) (harg5.unread x4) k) (ix2 i d)) ((colOf x0 x1 x2 x3 x4 x5 d).kCode (bk k 5) i) := by
  refine (pay60_apply _ _ i d).trans ?_
  unfold Col.kCode
  exact congrArg clip (congrArg₂ (fun a b : EReal => a * b) (read5 arg1 harg1 arg2 harg2 arg4 harg4 arg5 harg5 arg11 v5 v82 v84 x0 x1 x2 x3 x4 x5 k d hy hv hl i) (r16_apply arg1 harg1 arg2 harg2 arg4 harg4 arg5 harg5 v5 v82 v84 x0 x1 x2 x3 x4 x5 k d hy hv hl 5))

include hy hv hl in
/-- The codes stored for block 6. -/
theorem code6 (i : Fin 128) : @Eq EReal (k0_pay61 (F := Ideal) (trip_k0_t2.sl.r_16 (F := Ideal) arg1 arg2 arg4 arg5 v5 v82 v84 (harg1.unread x0) (harg2.unread x1) (harg4.unread x3) (harg5.unread x4) k) (trip_k0_t2.sl.v414 (F := Ideal) arg1 arg2 arg4 arg5 arg11 v5 v82 v84 (harg1.unread x0) (harg2.unread x1) (harg4.unread x3) (harg5.unread x4) k) (ix2 i d)) ((colOf x0 x1 x2 x3 x4 x5 d).kCode (bk k 6) i) := by
  refine (pay61_apply _ _ i d).trans ?_
  unfold Col.kCode
  exact congrArg clip (congrArg₂ (fun a b : EReal => a * b) (read6 arg1 harg1 arg2 harg2 arg4 harg4 arg5 harg5 arg11 v5 v82 v84 x0 x1 x2 x3 x4 x5 k d hy hv hl i) (r16_apply arg1 harg1 arg2 harg2 arg4 harg4 arg5 harg5 v5 v82 v84 x0 x1 x2 x3 x4 x5 k d hy hv hl 6))

include hy hv hl in
/-- The codes stored for block 7. -/
theorem code7 (i : Fin 128) : @Eq EReal (k0_pay5 (F := Ideal) (trip_k0_t2.sl.r_16 (F := Ideal) arg1 arg2 arg4 arg5 v5 v82 v84 (harg1.unread x0) (harg2.unread x1) (harg4.unread x3) (harg5.unread x4) k) (trip_k0_t2.sl.v426 (F := Ideal) arg1 arg2 arg4 arg5 arg11 v5 v82 v84 (harg1.unread x0) (harg2.unread x1) (harg4.unread x3) (harg5.unread x4) k) (ix2 i d)) ((colOf x0 x1 x2 x3 x4 x5 d).kCode (bk k 7) i) := by
  refine (pay5_apply _ _ i d).trans ?_
  unfold Col.kCode
  exact congrArg clip (congrArg₂ (fun a b : EReal => a * b) (read7 arg1 harg1 arg2 harg2 arg4 harg4 arg5 harg5 arg11 v5 v82 v84 x0 x1 x2 x3 x4 x5 k d hy hv hl i) (r16_apply arg1 harg1 arg2 harg2 arg4 harg4 arg5 harg5 v5 v82 v84 x0 x1 x2 x3 x4 x5 k d hy hv hl 7))

end

end Cert.KernelIdeal.Read

end
-- ==== Proof.KerOut.lean ====
/-
  What the kernel leaves in its blocks at an index: the column's codes and scales as the kernel finds them (Spec.lean).
-/
module

public import proofs.«01_k».proof.Proof.KernelFrame
public import proofs.«01_k».proof.Proof.KerSum
public import proofs.«01_k».proof.Proof.KerTrip

@[expose] public section

set_option maxRecDepth 16384

noncomputable section

namespace Cert.KernelIdeal.Read

open Cert.KernelIdeal Cert.KernelIdeal.Gen Idealize.ShloMosaic Idealize.ShloMosaic.TcCoe Idealize.ShloMosaic.View Cert.Proof

/-- An index of a matrix by its two coordinates. -/
theorem ix2_eta {m n : ℕ} (x : (⟨2, ![m, n]⟩ : Shape).Idx) : x = ix2 (x 0 : Fin m) (x 1 : Fin n) := by
  funext a
  fin_cases a <;> rfl

/-- A block of rows of the codes, whose rows are those of the column `d` of a function of blocks and rows. -/
theorem tile7 (k : Fin k0_t2_loop.trips) (b : Fin 8) (n : BitVec 32) (hn : n = BitVec.ofNat 32 (128 * b.val)) (w : S128x256.Idx → EReal) (r : Fin 22528) (d : Fin 256)
    (v : Fin 176 → Fin 128 → EReal) (hw : ∀ i : Fin 128, w (ix2 i d) = v (bk k b) i) :
    TileAt (S := S22528x256) (Val := Elt Ideal) (e := .fp8e4m3) (ix2 r d) (k0_off7 k n) ![128, 256] w (v (blk r) (sub r)) := by
  subst hn
  intro x hx
  have h0 : r.val = k0_off7 k (BitVec.ofNat 32 (128 * b.val)) 0 + (x 0).val := hx 0
  have h1 : d.val = k0_off7 k (BitVec.ofNat 32 (128 * b.val)) 1 + (x 1).val := hx 1
  rw [off7_eq] at h0 h1
  have hx0 : (x 0).val < 128 := (x 0).isLt
  have h0' : r.val = k.val * 1024 + 128 * b.val + (x 0).val := h0
  have h1' : d.val = 0 + (x 1).val := h1
  have e : x = ix2 (⟨(x 0).val, hx0⟩ : Fin 128) d := by
    funext a
    fin_cases a
    · rfl
    · exact Fin.ext (by show (x 1).val = d.val; omega)
  have eb : blk r = bk k b := Fin.ext (by show r.val / 128 = k.val * 8 + b.val; omega)
  have es : sub r = ⟨(x 0).val, hx0⟩ := Fin.ext (by show r.val % 128 = (x 0).val; omega)
  rw [eb, es]
  refine Eq.trans ?_ (hw ⟨(x 0).val, hx0⟩)
  exact congrArg w e

/-- Eight blocks' scales, likewise. -/
theorem tile4 (k : Fin k0_t2_loop.trips) (w : S8x256.Idx → EReal) (B : Fin 176) (d : Fin 256)
    (v : Fin 176 → EReal) (hw : ∀ b : Fin 8, w (ix2 b d) = v (bk k b)) :
    TileAt (S := S176x256) (Val := Elt Ideal) (e := .f32) (ix2 B d) (k0_off4 k) ![8, 256] w (v B) := by
  intro x hx
  have h0 : B.val = k0_off4 k 0 + (x 0).val := hx 0
  have h1 : d.val = k0_off4 k 1 + (x 1).val := hx 1
  rw [off4_eq] at h0 h1
  have hx0 : (x 0).val < 8 := (x 0).isLt
  have h0' : B.val = k.val * 8 + (x 0).val := h0
  have h1' : d.val = 0 + (x 1).val := h1
  have e : x = ix2 (⟨(x 0).val, hx0⟩ : Fin 8) d := by
    funext a
    fin_cases a
    · rfl
    · exact Fin.ext (by show (x 1).val = d.val; omega)
  have eb : B = bk k ⟨(x 0).val, hx0⟩ := Fin.ext h0'
  rw [eb]
  exact (congrArg w e).trans (hw ⟨(x 0).val, hx0⟩)

/-- A list of pieces put before another. -/
theorem allAt_append {S : Shape} {e : EltTy} (L L' : List (View.Piece (Elt Ideal) S e)) (y : S.Idx) (v : Elt Ideal e)
    (h : AllAt L y v) (h' : AllAt L' y v) : AllAt (L ++ L') y v := by
  intro p hp
  rcases List.mem_append.mp hp with hp | hp
  · exact h p hp
  · exact h' p hp

/-- A trip's codes are the column's. -/
theorem trip_codes (𝒱 : Variants) (c : Dev nD) (bd : Option 𝒱.V) (i : grid0.Coords) (arg1 : Memref sig .tc .vmem S22528x256 .fp8e4m3) (harg1 : arg1.IsWhole) (arg2 : Memref sig .tc .vmem S176x256 .f32) (harg2 : arg2.IsWhole) (arg3 : Memref sig .tc .vmem S80x22528 .bf16) (harg3 : arg3.IsWhole) (arg4 : Memref sig .tc .vmem S22528x128 .fp8e4m3) (harg4 : arg4.IsWhole) (arg5 : Memref sig .tc .vmem S176x128 .f32) (harg5 : arg5.IsWhole) (arg6 : Memref sig .tc .vmem S72x72 .f32) (harg6 : arg6.IsWhole) (arg7 : Memref sig .tc .vmem S22528x256 .fp8e4m3) (harg7 : arg7.IsWhole) (arg8 : Memref sig .tc .vmem S176x256 .f32) (harg8 : arg8.IsWhole) (arg9 : Memref sig .tc .vmem S72x256 .fp8e4m3) (harg9 : arg9.IsWhole) (arg10 : Memref sig .tc .vmem S1x256 .f32) (harg10 : arg10.IsWhole) (arg11 : Memref sig .tc .vmem S1024x256 .f32) (harg11 : arg11.IsWhole) (v5 : FVec Ideal S72x256 .f32) (v82 : FVec Ideal S8x256 .f32) (v84 : IVec S8x256 32) (x0 : Vec Ideal S22528x256 .fp8e4m3) (x1 : Vec Ideal S176x256 .f32) (x2 : Vec Ideal S80x22528 .bf16) (x3 : Vec Ideal S22528x128 .fp8e4m3) (x4 : Vec Ideal S176x128 .f32) (x5 : Vec Ideal S72x72 .f32) (k : Fin k0_t2_loop.trips) (d : Fin 256) (hy : ∀ q : Fin 128, @Eq EReal (k0_pay4 v5 v84 (ix2 q d)) (if h : q.val < 72 then (colOf x0 x1 x2 x3 x4 x5 d).kYCode ⟨q.val, h⟩ else Ideal.ofBits .f32 0x00000000#32))
  (hv : ∀ b : Fin 8, @Eq EReal (v82 (ix2 b d)) (Scale.kScale (colOf x0 x1 x2 x3 x4 x5 d).yMax)) (hl : ∀ (b : Fin 176) (q : Fin 128), @Eq EReal (x4 (ix2 b q)) (x4 (ix2 b 0)))
    (f7 : arg7.view.ty.Contents (Elt Ideal)) (f8 : arg8.view.ty.Contents (Elt Ideal)) (f11 : arg11.view.ty.Contents (Elt Ideal)) (r : Fin 22528) :
    AllAt (tripL_k0_t2 (F := Ideal) 𝒱 c bd i arg1 harg1 arg2 harg2 arg3 harg3 arg4 harg4 arg5 harg5 arg6 harg6 arg7 harg7 arg8 harg8 arg9 harg9 arg10 harg10 arg11 harg11 v5 v82 v84 (harg1.unread x0) (harg2.unread x1) (harg4.unread x3) (harg5.unread x4) k f7 f8 f11).1 (ix2 r d) ((colOf x0 x1 x2 x3 x4 x5 d).kCode (blk r) (sub r)) := by
  unfold tripL_k0_t2 trip_k0_t2
  dsimp only
  refine allAt_cons_unit _ _ _ _ _ (tile7 k 7 _ rfl _ r d (colOf x0 x1 x2 x3 x4 x5 d).kCode (code7 arg1 harg1 arg2 harg2 arg4 harg4 arg5 harg5 arg11 v5 v82 v84 x0 x1 x2 x3 x4 x5 k d hy hv hl)) ?_
  refine allAt_cons_unit _ _ _ _ _ (tile7 k 6 _ rfl _ r d (colOf x0 x1 x2 x3 x4 x5 d).kCode (code6 arg1 harg1 arg2 harg2 arg4 harg4 arg5 harg5 arg11 v5 v82 v84 x0 x1 x2 x3 x4 x5 k d hy hv hl)) ?_
  refine allAt_cons_unit _ _ _ _ _ (tile7 k 5 _ rfl _ r d (colOf x0 x1 x2 x3 x4 x5 d).kCode (code5 arg1 harg1 arg2 harg2 arg4 harg4 arg5 harg5 arg11 v5 v82 v84 x0 x1 x2 x3 x4 x5 k d hy hv hl)) ?_
  refine allAt_cons_unit _ _ _ _ _ (tile7 k 4 _ rfl _ r d (colOf x0 x1 x2 x3 x4 x5 d).kCode (code4 arg1 harg1 arg2 harg2 arg4 harg4 arg5 harg5 arg11 v5 v82 v84 x0 x1 x2 x3 x4 x5 k d hy hv hl)) ?_
  refine allAt_cons_unit _ _ _ _ _ (tile7 k 3 _ rfl _ r d (colOf x0 x1 x2 x3 x4 x5 d).kCode (code3 arg1 harg1 arg2 harg2 arg4 harg4 arg5 harg5 arg11 v5 v82 v84 x0 x1 x2 x3 x4 x5 k d hy hv hl)) ?_
  refine allAt_cons_unit _ _ _ _ _ (tile7 k 2 _ rfl _ r d (colOf x0 x1 x2 x3 x4 x5 d).kCode (code2 arg1 harg1 arg2 harg2 arg4 harg4 arg5 harg5 arg11 v5 v82 v84 x0 x1 x2 x3 x4 x5 k d hy hv hl)) ?_
  refine allAt_cons_unit _ _ _ _ _ (tile7 k 1 _ rfl _ r d (colOf x0 x1 x2 x3 x4 x5 d).kCode (code1 arg1 harg1 arg2 harg2 arg4 harg4 arg5 harg5 arg11 v5 v82 v84 x0 x1 x2 x3 x4 x5 k d hy hv hl)) ?_
  refine allAt_cons_unit _ _ _ _ _ (tile7 k 0 _ rfl _ r d (colOf x0 x1 x2 x3 x4 x5 d).kCode (code0 arg1 harg1 arg2 harg2 arg4 harg4 arg5 harg5 arg11 v5 v82 v84 x0 x1 x2 x3 x4 x5 k d hy hv hl)) ?_
  exact allAt_nil _ _

/-- A trip's scales are the column's. -/
theorem trip_scales (𝒱 : Variants) (c : Dev nD) (bd : Option 𝒱.V) (i : grid0.Coords) (arg1 : Memref sig .tc .vmem S22528x256 .fp8e4m3) (harg1 : arg1.IsWhole) (arg2 : Memref sig .tc .vmem S176x256 .f32) (harg2 : arg2.IsWhole) (arg3 : Memref sig .tc .vmem S80x22528 .bf16) (harg3 : arg3.IsWhole) (arg4 : Memref sig .tc .vmem S22528x128 .fp8e4m3) (harg4 : arg4.IsWhole) (arg5 : Memref sig .tc .vmem S176x128 .f32) (harg5 : arg5.IsWhole) (arg6 : Memref sig .tc .vmem S72x72 .f32) (harg6 : arg6.IsWhole) (arg7 : Memref sig .tc .vmem S22528x256 .fp8e4m3) (harg7 : arg7.IsWhole) (arg8 : Memref sig .tc .vmem S176x256 .f32) (harg8 : arg8.IsWhole) (arg9 : Memref sig .tc .vmem S72x256 .fp8e4m3) (harg9 : arg9.IsWhole) (arg10 : Memref sig .tc .vmem S1x256 .f32) (harg10 : arg10.IsWhole) (arg11 : Memref sig .tc .vmem S1024x256 .f32) (harg11 : arg11.IsWhole) (v5 : FVec Ideal S72x256 .f32) (v82 : FVec Ideal S8x256 .f32) (v84 : IVec S8x256 32) (x0 : Vec Ideal S22528x256 .fp8e4m3) (x1 : Vec Ideal S176x256 .f32) (x2 : Vec Ideal S80x22528 .bf16) (x3 : Vec Ideal S22528x128 .fp8e4m3) (x4 : Vec Ideal S176x128 .f32) (x5 : Vec Ideal S72x72 .f32) (k : Fin k0_t2_loop.trips) (d : Fin 256) (hy : ∀ q : Fin 128, @Eq EReal (k0_pay4 v5 v84 (ix2 q d)) (if h : q.val < 72 then (colOf x0 x1 x2 x3 x4 x5 d).kYCode ⟨q.val, h⟩ else Ideal.ofBits .f32 0x00000000#32))
  (hv : ∀ b : Fin 8, @Eq EReal (v82 (ix2 b d)) (Scale.kScale (colOf x0 x1 x2 x3 x4 x5 d).yMax)) (hl : ∀ (b : Fin 176) (q : Fin 128), @Eq EReal (x4 (ix2 b q)) (x4 (ix2 b 0)))
    (f7 : arg7.view.ty.Contents (Elt Ideal)) (f8 : arg8.view.ty.Contents (Elt Ideal)) (f11 : arg11.view.ty.Contents (Elt Ideal)) (B : Fin 176) :
    AllAt (tripL_k0_t2 (F := Ideal) 𝒱 c bd i arg1 harg1 arg2 harg2 arg3 harg3 arg4 harg4 arg5 harg5 arg6 harg6 arg7 harg7 arg8 harg8 arg9 harg9 arg10 harg10 arg11 harg11 v5 v82 v84 (harg1.unread x0) (harg2.unread x1) (harg4.unread x3) (harg5.unread x4) k f7 f8 f11).2.1 (ix2 B d) ((colOf x0 x1 x2 x3 x4 x5 d).kScl B) := by
  unfold tripL_k0_t2 trip_k0_t2
  dsimp only
  refine allAt_cons_unit _ _ _ _ _ (tile4 k _ B d (colOf x0 x1 x2 x3 x4 x5 d).kScl (scale_apply arg1 harg1 arg2 harg2 arg4 harg4 arg5 harg5 v5 v82 v84 x0 x1 x2 x3 x4 x5 k d hy hv hl)) ?_
  exact allAt_nil _ _

/-- The codes of all the trips so far. -/
theorem pb_codes (𝒱 : Variants) (c : Dev nD) (bd : Option 𝒱.V) (i : grid0.Coords) (arg1 : Memref sig .tc .vmem S22528x256 .fp8e4m3) (harg1 : arg1.IsWhole) (arg2 : Memref sig .tc .vmem S176x256 .f32) (harg2 : arg2.IsWhole) (arg3 : Memref sig .tc .vmem S80x22528 .bf16) (harg3 : arg3.IsWhole) (arg4 : Memref sig .tc .vmem S22528x128 .fp8e4m3) (harg4 : arg4.IsWhole) (arg5 : Memref sig .tc .vmem S176x128 .f32) (harg5 : arg5.IsWhole) (arg6 : Memref sig .tc .vmem S72x72 .f32) (harg6 : arg6.IsWhole) (arg7 : Memref sig .tc .vmem S22528x256 .fp8e4m3) (harg7 : arg7.IsWhole) (arg8 : Memref sig .tc .vmem S176x256 .f32) (harg8 : arg8.IsWhole) (arg9 : Memref sig .tc .vmem S72x256 .fp8e4m3) (harg9 : arg9.IsWhole) (arg10 : Memref sig .tc .vmem S1x256 .f32) (harg10 : arg10.IsWhole) (arg11 : Memref sig .tc .vmem S1024x256 .f32) (harg11 : arg11.IsWhole) (v5 : FVec Ideal S72x256 .f32) (v82 : FVec Ideal S8x256 .f32) (v84 : IVec S8x256 32) (x0 : Vec Ideal S22528x256 .fp8e4m3) (x1 : Vec Ideal S176x256 .f32) (x2 : Vec Ideal S80x22528 .bf16) (x3 : Vec Ideal S22528x128 .fp8e4m3) (x4 : Vec Ideal S176x128 .f32) (x5 : Vec Ideal S72x72 .f32) (d : Fin 256) (hy : ∀ q : Fin 128, @Eq EReal (k0_pay4 v5 v84 (ix2 q d)) (if h : q.val < 72 then (colOf x0 x1 x2 x3 x4 x5 d).kYCode ⟨q.val, h⟩ else Ideal.ofBits .f32 0x00000000#32))
  (hv : ∀ b : Fin 8, @Eq EReal (v82 (ix2 b d)) (Scale.kScale (colOf x0 x1 x2 x3 x4 x5 d).yMax)) (hl : ∀ (b : Fin 176) (q : Fin 128), @Eq EReal (x4 (ix2 b q)) (x4 (ix2 b 0)))
    (g7 : arg7.view.ty.Contents (Elt Ideal)) (g8 : arg8.view.ty.Contents (Elt Ideal)) (g11 : arg11.view.ty.Contents (Elt Ideal)) (r : Fin 22528) (n : ℕ) (hn : n ≤ 22) :
    AllAt (pb_k0_t2 (F := Ideal) 𝒱 c bd i arg1 harg1 arg2 harg2 arg3 harg3 arg4 harg4 arg5 harg5 arg6 harg6 arg7 harg7 arg8 harg8 arg9 harg9 arg10 harg10 arg11 harg11 v5 v82 v84 (harg1.unread x0) (harg2.unread x1) (harg4.unread x3) (harg5.unread x4) g7 g8 g11 n).1 (ix2 r d) ((colOf x0 x1 x2 x3 x4 x5 d).kCode (blk r) (sub r)) := by
  induction n with
  | zero => exact allAt_nil _ _
  | succ n ih =>
    have hlt : n < k0_t2_loop.trips := by rw [trips2]; omega
    have e := pb_k0_t2_succ (F := Ideal) 𝒱 c bd i arg1 harg1 arg2 harg2 arg3 harg3 arg4 harg4 arg5 harg5 arg6 harg6 arg7 harg7 arg8 harg8 arg9 harg9 arg10 harg10 arg11 harg11 v5 v82 v84 (harg1.unread x0) (harg2.unread x1) (harg4.unread x3) (harg5.unread x4) g7 g8 g11 ⟨n, hlt⟩
    rw [show (⟨n, hlt⟩ : Fin k0_t2_loop.trips).val = n from rfl] at e
    rw [e]
    exact allAt_append _ _ _ _ (trip_codes 𝒱 c bd i arg1 harg1 arg2 harg2 arg3 harg3 arg4 harg4 arg5 harg5 arg6 harg6 arg7 harg7 arg8 harg8 arg9 harg9 arg10 harg10 arg11 harg11 v5 v82 v84 x0 x1 x2 x3 x4 x5 ⟨n, hlt⟩ d hy hv hl _ _ _ r) (ih (by omega))

/-- The scales of all the trips so far. -/
theorem pb_scales (𝒱 : Variants) (c : Dev nD) (bd : Option 𝒱.V) (i : grid0.Coords) (arg1 : Memref sig .tc .vmem S22528x256 .fp8e4m3) (harg1 : arg1.IsWhole) (arg2 : Memref sig .tc .vmem S176x256 .f32) (harg2 : arg2.IsWhole) (arg3 : Memref sig .tc .vmem S80x22528 .bf16) (harg3 : arg3.IsWhole) (arg4 : Memref sig .tc .vmem S22528x128 .fp8e4m3) (harg4 : arg4.IsWhole) (arg5 : Memref sig .tc .vmem S176x128 .f32) (harg5 : arg5.IsWhole) (arg6 : Memref sig .tc .vmem S72x72 .f32) (harg6 : arg6.IsWhole) (arg7 : Memref sig .tc .vmem S22528x256 .fp8e4m3) (harg7 : arg7.IsWhole) (arg8 : Memref sig .tc .vmem S176x256 .f32) (harg8 : arg8.IsWhole) (arg9 : Memref sig .tc .vmem S72x256 .fp8e4m3) (harg9 : arg9.IsWhole) (arg10 : Memref sig .tc .vmem S1x256 .f32) (harg10 : arg10.IsWhole) (arg11 : Memref sig .tc .vmem S1024x256 .f32) (harg11 : arg11.IsWhole) (v5 : FVec Ideal S72x256 .f32) (v82 : FVec Ideal S8x256 .f32) (v84 : IVec S8x256 32) (x0 : Vec Ideal S22528x256 .fp8e4m3) (x1 : Vec Ideal S176x256 .f32) (x2 : Vec Ideal S80x22528 .bf16) (x3 : Vec Ideal S22528x128 .fp8e4m3) (x4 : Vec Ideal S176x128 .f32) (x5 : Vec Ideal S72x72 .f32) (d : Fin 256) (hy : ∀ q : Fin 128, @Eq EReal (k0_pay4 v5 v84 (ix2 q d)) (if h : q.val < 72 then (colOf x0 x1 x2 x3 x4 x5 d).kYCode ⟨q.val, h⟩ else Ideal.ofBits .f32 0x00000000#32))
  (hv : ∀ b : Fin 8, @Eq EReal (v82 (ix2 b d)) (Scale.kScale (colOf x0 x1 x2 x3 x4 x5 d).yMax)) (hl : ∀ (b : Fin 176) (q : Fin 128), @Eq EReal (x4 (ix2 b q)) (x4 (ix2 b 0)))
    (g7 : arg7.view.ty.Contents (Elt Ideal)) (g8 : arg8.view.ty.Contents (Elt Ideal)) (g11 : arg11.view.ty.Contents (Elt Ideal)) (B : Fin 176) (n : ℕ) (hn : n ≤ 22) :
    AllAt (pb_k0_t2 (F := Ideal) 𝒱 c bd i arg1 harg1 arg2 harg2 arg3 harg3 arg4 harg4 arg5 harg5 arg6 harg6 arg7 harg7 arg8 harg8 arg9 harg9 arg10 harg10 arg11 harg11 v5 v82 v84 (harg1.unread x0) (harg2.unread x1) (harg4.unread x3) (harg5.unread x4) g7 g8 g11 n).2.1 (ix2 B d) ((colOf x0 x1 x2 x3 x4 x5 d).kScl B) := by
  induction n with
  | zero => exact allAt_nil _ _
  | succ n ih =>
    have hlt : n < k0_t2_loop.trips := by rw [trips2]; omega
    have e := pb_k0_t2_succ (F := Ideal) 𝒱 c bd i arg1 harg1 arg2 harg2 arg3 harg3 arg4 harg4 arg5 harg5 arg6 harg6 arg7 harg7 arg8 harg8 arg9 harg9 arg10 harg10 arg11 harg11 v5 v82 v84 (harg1.unread x0) (harg2.unread x1) (harg4.unread x3) (harg5.unread x4) g7 g8 g11 ⟨n, hlt⟩
    rw [show (⟨n, hlt⟩ : Fin k0_t2_loop.trips).val = n from rfl] at e
    rw [e]
    exact allAt_append _ _ _ _ (trip_scales 𝒱 c bd i arg1 harg1 arg2 harg2 arg3 harg3 arg4 harg4 arg5 harg5 arg6 harg6 arg7 harg7 arg8 harg8 arg9 harg9 arg10 harg10 arg11 harg11 v5 v82 v84 x0 x1 x2 x3 x4 x5 ⟨n, hlt⟩ d hy hv hl _ _ _ B) (ih (by omega))

/-! ## The first phase's values -/

/-- `Y`. -/
theorem y_eq (c : Dev nD) (i : grid0.Coords) (arg1 : Memref sig .tc .vmem S22528x256 .fp8e4m3) (harg1 : arg1.IsWhole) (arg2 : Memref sig .tc .vmem S176x256 .f32) (harg2 : arg2.IsWhole) (arg3 : Memref sig .tc .vmem S80x22528 .bf16) (harg3 : arg3.IsWhole) (arg4 : Memref sig .tc .vmem S22528x128 .fp8e4m3) (harg4 : arg4.IsWhole) (arg5 : Memref sig .tc .vmem S176x128 .f32) (harg5 : arg5.IsWhole) (arg6 : Memref sig .tc .vmem S72x72 .f32) (harg6 : arg6.IsWhole) (arg7 : Memref sig .tc .vmem S22528x256 .fp8e4m3) (harg7 : arg7.IsWhole) (arg8 : Memref sig .tc .vmem S176x256 .f32) (harg8 : arg8.IsWhole) (arg9 : Memref sig .tc .vmem S72x256 .fp8e4m3) (harg9 : arg9.IsWhole) (arg10 : Memref sig .tc .vmem S1x256 .f32) (harg10 : arg10.IsWhole) (arg11 : Memref sig .tc .vmem S1024x256 .f32) (harg11 : arg11.IsWhole) (x0 : Vec Ideal S22528x256 .fp8e4m3) (x1 : Vec Ideal S176x256 .f32) (x2 : Vec Ideal S80x22528 .bf16) (x3 : Vec Ideal S22528x128 .fp8e4m3) (x4 : Vec Ideal S176x128 .f32) (x5 : Vec Ideal S72x72 .f32) (p : Fin 72) (d : Fin 256) (inb) :
    @Eq EReal (k0_pay66 (st_k0_t1 (F := Ideal) Variants.none c none i arg1 harg1 arg2 harg2 arg3 harg3 arg4 harg4 arg5 harg5 arg6 harg6 arg7 harg7 arg8 harg8 arg9 harg9 arg10 harg10 arg11 harg11 (harg1.unread x0) (harg2.unread x1) (harg3.unread x2) k0_pay62 (Scf.trips k0_t1_loop.lb k0_t1_loop.ub k0_t1_loop.st)) (View.readAt (Elt Ideal) arg6.view (Rect.unit (s := S72x72) ![0, 0] S72x72.size inb).toLoadRect (harg6.unread x5)) (ix2 p d)) ((colOf x0 x1 x2 x3 x4 x5 d).y p) := by
  refine (pay66_apply _ _ p d).trans ?_
  unfold Col.y
  refine Finset.sum_congr rfl fun x _ => ?_
  exact congrArg₂ (fun a b : EReal => a * b) (ldT arg6 harg6 x5 _ x p) (st_last Variants.none c none i arg1 harg1 arg2 harg2 arg3 harg3 arg4 harg4 arg5 harg5 arg6 harg6 arg7 harg7 arg8 harg8 arg9 harg9 arg10 harg10 arg11 harg11 x0 x1 x2 x3 x4 x5 _ d)

/-- Its greatest magnitude. -/
theorem ymax_eq (c : Dev nD) (i : grid0.Coords) (arg1 : Memref sig .tc .vmem S22528x256 .fp8e4m3) (harg1 : arg1.IsWhole) (arg2 : Memref sig .tc .vmem S176x256 .f32) (harg2 : arg2.IsWhole) (arg3 : Memref sig .tc .vmem S80x22528 .bf16) (harg3 : arg3.IsWhole) (arg4 : Memref sig .tc .vmem S22528x128 .fp8e4m3) (harg4 : arg4.IsWhole) (arg5 : Memref sig .tc .vmem S176x128 .f32) (harg5 : arg5.IsWhole) (arg6 : Memref sig .tc .vmem S72x72 .f32) (harg6 : arg6.IsWhole) (arg7 : Memref sig .tc .vmem S22528x256 .fp8e4m3) (harg7 : arg7.IsWhole) (arg8 : Memref sig .tc .vmem S176x256 .f32) (harg8 : arg8.IsWhole) (arg9 : Memref sig .tc .vmem S72x256 .fp8e4m3) (harg9 : arg9.IsWhole) (arg10 : Memref sig .tc .vmem S1x256 .f32) (harg10 : arg10.IsWhole) (arg11 : Memref sig .tc .vmem S1024x256 .f32) (harg11 : arg11.IsWhole) (x0 : Vec Ideal S22528x256 .fp8e4m3) (x1 : Vec Ideal S176x256 .f32) (x2 : Vec Ideal S80x22528 .bf16) (x3 : Vec Ideal S22528x128 .fp8e4m3) (x4 : Vec Ideal S176x128 .f32) (x5 : Vec Ideal S72x72 .f32) (b : Fin 8) (d : Fin 256) (inb) :
    @Eq EReal (k0_pay67 (st_k0_t1 (F := Ideal) Variants.none c none i arg1 harg1 arg2 harg2 arg3 harg3 arg4 harg4 arg5 harg5 arg6 harg6 arg7 harg7 arg8 harg8 arg9 harg9 arg10 harg10 arg11 harg11 (harg1.unread x0) (harg2.unread x1) (harg3.unread x2) k0_pay62 (Scf.trips k0_t1_loop.lb k0_t1_loop.ub k0_t1_loop.st)) (View.readAt (Elt Ideal) arg6.view (Rect.unit (s := S72x72) ![0, 0] S72x72.size inb).toLoadRect (harg6.unread x5)) (ix2 b d)) ((colOf x0 x1 x2 x3 x4 x5 d).yMax) := by
  refine (pay67_apply _ _ b d).trans ?_
  unfold Col.yMax
  exact congrArg mx (funext fun p => y_eq c i arg1 harg1 arg2 harg2 arg3 harg3 arg4 harg4 arg5 harg5 arg6 harg6 arg7 harg7 arg8 harg8 arg9 harg9 arg10 harg10 arg11 harg11 x0 x1 x2 x3 x4 x5 p d _)

/-- The stored value of `Y`. -/
theorem r_eq (c : Dev nD) (i : grid0.Coords) (arg1 : Memref sig .tc .vmem S22528x256 .fp8e4m3) (harg1 : arg1.IsWhole) (arg2 : Memref sig .tc .vmem S176x256 .f32) (harg2 : arg2.IsWhole) (arg3 : Memref sig .tc .vmem S80x22528 .bf16) (harg3 : arg3.IsWhole) (arg4 : Memref sig .tc .vmem S22528x128 .fp8e4m3) (harg4 : arg4.IsWhole) (arg5 : Memref sig .tc .vmem S176x128 .f32) (harg5 : arg5.IsWhole) (arg6 : Memref sig .tc .vmem S72x72 .f32) (harg6 : arg6.IsWhole) (arg7 : Memref sig .tc .vmem S22528x256 .fp8e4m3) (harg7 : arg7.IsWhole) (arg8 : Memref sig .tc .vmem S176x256 .f32) (harg8 : arg8.IsWhole) (arg9 : Memref sig .tc .vmem S72x256 .fp8e4m3) (harg9 : arg9.IsWhole) (arg10 : Memref sig .tc .vmem S1x256 .f32) (harg10 : arg10.IsWhole) (arg11 : Memref sig .tc .vmem S1024x256 .f32) (harg11 : arg11.IsWhole) (x0 : Vec Ideal S22528x256 .fp8e4m3) (x1 : Vec Ideal S176x256 .f32) (x2 : Vec Ideal S80x22528 .bf16) (x3 : Vec Ideal S22528x128 .fp8e4m3) (x4 : Vec Ideal S176x128 .f32) (x5 : Vec Ideal S72x72 .f32) (p : Fin 72) (d : Fin 256) : @Eq EReal (Run.kernelRun0_A.sl.r (F := Ideal) c i arg1 harg1 arg2 harg2 arg3 harg3 arg4 harg4 arg5 harg5 arg6 harg6 arg7 harg7 arg8 harg8 arg9 harg9 arg10 harg10 arg11 harg11 x0 x1 x2 x5 (ix2 p d)) ((colOf x0 x1 x2 x3 x4 x5 d).y p) := by
  unfold Run.kernelRun0_A.sl.r
  exact y_eq c i arg1 harg1 arg2 harg2 arg3 harg3 arg4 harg4 arg5 harg5 arg6 harg6 arg7 harg7 arg8 harg8 arg9 harg9 arg10 harg10 arg11 harg11 x0 x1 x2 x3 x4 x5 p d _

/-- The scale of `Y`. -/
theorem r5_eq (c : Dev nD) (i : grid0.Coords) (arg1 : Memref sig .tc .vmem S22528x256 .fp8e4m3) (harg1 : arg1.IsWhole) (arg2 : Memref sig .tc .vmem S176x256 .f32) (harg2 : arg2.IsWhole) (arg3 : Memref sig .tc .vmem S80x22528 .bf16) (harg3 : arg3.IsWhole) (arg4 : Memref sig .tc .vmem S22528x128 .fp8e4m3) (harg4 : arg4.IsWhole) (arg5 : Memref sig .tc .vmem S176x128 .f32) (harg5 : arg5.IsWhole) (arg6 : Memref sig .tc .vmem S72x72 .f32) (harg6 : arg6.IsWhole) (arg7 : Memref sig .tc .vmem S22528x256 .fp8e4m3) (harg7 : arg7.IsWhole) (arg8 : Memref sig .tc .vmem S176x256 .f32) (harg8 : arg8.IsWhole) (arg9 : Memref sig .tc .vmem S72x256 .fp8e4m3) (harg9 : arg9.IsWhole) (arg10 : Memref sig .tc .vmem S1x256 .f32) (harg10 : arg10.IsWhole) (arg11 : Memref sig .tc .vmem S1024x256 .f32) (harg11 : arg11.IsWhole) (x0 : Vec Ideal S22528x256 .fp8e4m3) (x1 : Vec Ideal S176x256 .f32) (x2 : Vec Ideal S80x22528 .bf16) (x3 : Vec Ideal S22528x128 .fp8e4m3) (x4 : Vec Ideal S176x128 .f32) (x5 : Vec Ideal S72x72 .f32) (b : Fin 8) (d : Fin 256) : @Eq EReal (Run.kernelRun0_A.sl.r_5 (F := Ideal) c i arg1 harg1 arg2 harg2 arg3 harg3 arg4 harg4 arg5 harg5 arg6 harg6 arg7 harg7 arg8 harg8 arg9 harg9 arg10 harg10 arg11 harg11 x0 x1 x2 x5 (ix2 b d)) (Scale.kScale (colOf x0 x1 x2 x3 x4 x5 d).yMax) := by
  unfold Run.kernelRun0_A.sl.r_5 Run.kernelRun0_A.sl.r_1 Run.kernelRun0_A.sl.r_2 Run.kernelRun0_A.sl.r_3 Run.kernelRun0_A.sl.r_4
  exact (pay73_apply _ _ b d).trans (congrArg Scale.kScale (ymax_eq c i arg1 harg1 arg2 harg2 arg3 harg3 arg4 harg4 arg5 harg5 arg6 harg6 arg7 harg7 arg8 harg8 arg9 harg9 arg10 harg10 arg11 harg11 x0 x1 x2 x3 x4 x5 b d _))

/-- Its inverse. -/
theorem r6_eq (c : Dev nD) (i : grid0.Coords) (arg1 : Memref sig .tc .vmem S22528x256 .fp8e4m3) (harg1 : arg1.IsWhole) (arg2 : Memref sig .tc .vmem S176x256 .f32) (harg2 : arg2.IsWhole) (arg3 : Memref sig .tc .vmem S80x22528 .bf16) (harg3 : arg3.IsWhole) (arg4 : Memref sig .tc .vmem S22528x128 .fp8e4m3) (harg4 : arg4.IsWhole) (arg5 : Memref sig .tc .vmem S176x128 .f32) (harg5 : arg5.IsWhole) (arg6 : Memref sig .tc .vmem S72x72 .f32) (harg6 : arg6.IsWhole) (arg7 : Memref sig .tc .vmem S22528x256 .fp8e4m3) (harg7 : arg7.IsWhole) (arg8 : Memref sig .tc .vmem S176x256 .f32) (harg8 : arg8.IsWhole) (arg9 : Memref sig .tc .vmem S72x256 .fp8e4m3) (harg9 : arg9.IsWhole) (arg10 : Memref sig .tc .vmem S1x256 .f32) (harg10 : arg10.IsWhole) (arg11 : Memref sig .tc .vmem S1024x256 .f32) (harg11 : arg11.IsWhole) (x0 : Vec Ideal S22528x256 .fp8e4m3) (x1 : Vec Ideal S176x256 .f32) (x2 : Vec Ideal S80x22528 .bf16) (x3 : Vec Ideal S22528x128 .fp8e4m3) (x4 : Vec Ideal S176x128 .f32) (x5 : Vec Ideal S72x72 .f32) (b : Fin 8) (d : Fin 256) : Scale.T (Run.kernelRun0_A.sl.r_6 (F := Ideal) c i arg1 harg1 arg2 harg2 arg3 harg3 arg4 harg4 arg5 harg5 arg6 harg6 arg7 harg7 arg8 harg8 arg9 harg9 arg10 harg10 arg11 harg11 x0 x1 x2 x5 (ix2 b d)) = Scale.kInv (colOf x0 x1 x2 x3 x4 x5 d).yMax := by
  unfold Run.kernelRun0_A.sl.r_6 Run.kernelRun0_A.sl.r_1 Run.kernelRun0_A.sl.r_2 Run.kernelRun0_A.sl.r_3 Run.kernelRun0_A.sl.r_4
  exact (pay74_apply _ _ b d).trans (congrArg Scale.kInv (ymax_eq c i arg1 harg1 arg2 harg2 arg3 harg3 arg4 harg4 arg5 harg5 arg6 harg6 arg7 harg7 arg8 harg8 arg9 harg9 arg10 harg10 arg11 harg11 x0 x1 x2 x3 x4 x5 b d _))

/-- The codes of `Y`, padded. -/
theorem yc_eq (c : Dev nD) (i : grid0.Coords) (arg1 : Memref sig .tc .vmem S22528x256 .fp8e4m3) (harg1 : arg1.IsWhole) (arg2 : Memref sig .tc .vmem S176x256 .f32) (harg2 : arg2.IsWhole) (arg3 : Memref sig .tc .vmem S80x22528 .bf16) (harg3 : arg3.IsWhole) (arg4 : Memref sig .tc .vmem S22528x128 .fp8e4m3) (harg4 : arg4.IsWhole) (arg5 : Memref sig .tc .vmem S176x128 .f32) (harg5 : arg5.IsWhole) (arg6 : Memref sig .tc .vmem S72x72 .f32) (harg6 : arg6.IsWhole) (arg7 : Memref sig .tc .vmem S22528x256 .fp8e4m3) (harg7 : arg7.IsWhole) (arg8 : Memref sig .tc .vmem S176x256 .f32) (harg8 : arg8.IsWhole) (arg9 : Memref sig .tc .vmem S72x256 .fp8e4m3) (harg9 : arg9.IsWhole) (arg10 : Memref sig .tc .vmem S1x256 .f32) (harg10 : arg10.IsWhole) (arg11 : Memref sig .tc .vmem S1024x256 .f32) (harg11 : arg11.IsWhole) (x0 : Vec Ideal S22528x256 .fp8e4m3) (x1 : Vec Ideal S176x256 .f32) (x2 : Vec Ideal S80x22528 .bf16) (x3 : Vec Ideal S22528x128 .fp8e4m3) (x4 : Vec Ideal S176x128 .f32) (x5 : Vec Ideal S72x72 .f32) (q : Fin 128) (d : Fin 256) :
    @Eq EReal (k0_pay4 (Run.kernelRun0_A.sl.r (F := Ideal) c i arg1 harg1 arg2 harg2 arg3 harg3 arg4 harg4 arg5 harg5 arg6 harg6 arg7 harg7 arg8 harg8 arg9 harg9 arg10 harg10 arg11 harg11 x0 x1 x2 x5) (Run.kernelRun0_A.sl.r_6 (F := Ideal) c i arg1 harg1 arg2 harg2 arg3 harg3 arg4 harg4 arg5 harg5 arg6 harg6 arg7 harg7 arg8 harg8 arg9 harg9 arg10 harg10 arg11 harg11 x0 x1 x2 x5) (ix2 q d)) (if h : q.val < 72 then (colOf x0 x1 x2 x3 x4 x5 d).kYCode ⟨q.val, h⟩ else Ideal.ofBits .f32 0x00000000#32) := by
  refine (pay4_apply _ _ q d).trans ?_
  unfold Col.kYCode
  rw [r6_eq]
  split_ifs with h
  · rw [r_eq]
  · rfl

/-! ## What is left in the blocks -/

/-- The codes of the update. -/
theorem out6 (c : Dev nD) (i : grid0.Coords) (arg1 : Memref sig .tc .vmem S22528x256 .fp8e4m3) (harg1 : arg1.IsWhole) (arg2 : Memref sig .tc .vmem S176x256 .f32) (harg2 : arg2.IsWhole) (arg3 : Memref sig .tc .vmem S80x22528 .bf16) (harg3 : arg3.IsWhole) (arg4 : Memref sig .tc .vmem S22528x128 .fp8e4m3) (harg4 : arg4.IsWhole) (arg5 : Memref sig .tc .vmem S176x128 .f32) (harg5 : arg5.IsWhole) (arg6 : Memref sig .tc .vmem S72x72 .f32) (harg6 : arg6.IsWhole) (arg7 : Memref sig .tc .vmem S22528x256 .fp8e4m3) (harg7 : arg7.IsWhole) (arg8 : Memref sig .tc .vmem S176x256 .f32) (harg8 : arg8.IsWhole) (arg9 : Memref sig .tc .vmem S72x256 .fp8e4m3) (harg9 : arg9.IsWhole) (arg10 : Memref sig .tc .vmem S1x256 .f32) (harg10 : arg10.IsWhole) (arg11 : Memref sig .tc .vmem S1024x256 .f32) (harg11 : arg11.IsWhole) (x0 : Vec Ideal S22528x256 .fp8e4m3) (x1 : Vec Ideal S176x256 .f32) (x2 : Vec Ideal S80x22528 .bf16) (x3 : Vec Ideal S22528x128 .fp8e4m3) (x4 : Vec Ideal S176x128 .f32) (x5 : Vec Ideal S72x72 .f32) (hl : ∀ (b : Fin 176) (q : Fin 128), @Eq EReal (x4 (ix2 b q)) (x4 (ix2 b 0))) (r : Fin 22528) (d : Fin 256) :
    @Eq EReal (Run.out0_A_6 (F := Ideal) c i arg1 harg1 arg2 harg2 arg3 harg3 arg4 harg4 arg5 harg5 arg6 harg6 arg7 harg7 arg8 harg8 arg9 harg9 arg10 harg10 arg11 harg11 x0 x1 x2 x3 x4 x5 (ix2 r d)) ((colOf x0 x1 x2 x3 x4 x5 d).kCode (blk r) (sub r)) := by
  unfold Run.out0_A_6
  rw [View.read_writes_eq_canon _ _ _ (Run.cover0_A_6 c i arg1 harg1 arg2 harg2 arg3 harg3 arg4 harg4 arg5 harg5 arg6 harg6 arg7 harg7 arg8 harg8 arg9 harg9 arg10 harg10 arg11 harg11 x0 x1 x2 x3 x4 x5)]
  refine canon_eq_of_allAt _ _ _ (Run.cover0_A_6 c i arg1 harg1 arg2 harg2 arg3 harg3 arg4 harg4 arg5 harg5 arg6 harg6 arg7 harg7 arg8 harg8 arg9 harg9 arg10 harg10 arg11 harg11 x0 x1 x2 x3 x4 x5 _) ?_
  unfold Run.kernelRun0_A
  dsimp only
  exact pb_codes Variants.none c none i arg1 harg1 arg2 harg2 arg3 harg3 arg4 harg4 arg5 harg5 arg6 harg6 arg7 harg7 arg8 harg8 arg9 harg9 arg10 harg10 arg11 harg11 _ _ _ x0 x1 x2 x3 x4 x5 d (fun q => yc_eq c i arg1 harg1 arg2 harg2 arg3 harg3 arg4 harg4 arg5 harg5 arg6 harg6 arg7 harg7 arg8 harg8 arg9 harg9 arg10 harg10 arg11 harg11 x0 x1 x2 x3 x4 x5 q d) (fun b => r5_eq c i arg1 harg1 arg2 harg2 arg3 harg3 arg4 harg4 arg5 harg5 arg6 harg6 arg7 harg7 arg8 harg8 arg9 harg9 arg10 harg10 arg11 harg11 x0 x1 x2 x3 x4 x5 b d) hl _ _ _ r _ trips2.le

/-- The scales of the update. -/
theorem out7 (c : Dev nD) (i : grid0.Coords) (arg1 : Memref sig .tc .vmem S22528x256 .fp8e4m3) (harg1 : arg1.IsWhole) (arg2 : Memref sig .tc .vmem S176x256 .f32) (harg2 : arg2.IsWhole) (arg3 : Memref sig .tc .vmem S80x22528 .bf16) (harg3 : arg3.IsWhole) (arg4 : Memref sig .tc .vmem S22528x128 .fp8e4m3) (harg4 : arg4.IsWhole) (arg5 : Memref sig .tc .vmem S176x128 .f32) (harg5 : arg5.IsWhole) (arg6 : Memref sig .tc .vmem S72x72 .f32) (harg6 : arg6.IsWhole) (arg7 : Memref sig .tc .vmem S22528x256 .fp8e4m3) (harg7 : arg7.IsWhole) (arg8 : Memref sig .tc .vmem S176x256 .f32) (harg8 : arg8.IsWhole) (arg9 : Memref sig .tc .vmem S72x256 .fp8e4m3) (harg9 : arg9.IsWhole) (arg10 : Memref sig .tc .vmem S1x256 .f32) (harg10 : arg10.IsWhole) (arg11 : Memref sig .tc .vmem S1024x256 .f32) (harg11 : arg11.IsWhole) (x0 : Vec Ideal S22528x256 .fp8e4m3) (x1 : Vec Ideal S176x256 .f32) (x2 : Vec Ideal S80x22528 .bf16) (x3 : Vec Ideal S22528x128 .fp8e4m3) (x4 : Vec Ideal S176x128 .f32) (x5 : Vec Ideal S72x72 .f32) (hl : ∀ (b : Fin 176) (q : Fin 128), @Eq EReal (x4 (ix2 b q)) (x4 (ix2 b 0))) (B : Fin 176) (d : Fin 256) :
    @Eq EReal (Run.out0_A_7 (F := Ideal) c i arg1 harg1 arg2 harg2 arg3 harg3 arg4 harg4 arg5 harg5 arg6 harg6 arg7 harg7 arg8 harg8 arg9 harg9 arg10 harg10 arg11 harg11 x0 x1 x2 x3 x4 x5 (ix2 B d)) ((colOf x0 x1 x2 x3 x4 x5 d).kScl B) := by
  unfold Run.out0_A_7
  rw [View.read_writes_eq_canon _ _ _ (Run.cover0_A_7 c i arg1 harg1 arg2 harg2 arg3 harg3 arg4 harg4 arg5 harg5 arg6 harg6 arg7 harg7 arg8 harg8 arg9 harg9 arg10 harg10 arg11 harg11 x0 x1 x2 x3 x4 x5)]
  refine canon_eq_of_allAt _ _ _ (Run.cover0_A_7 c i arg1 harg1 arg2 harg2 arg3 harg3 arg4 harg4 arg5 harg5 arg6 harg6 arg7 harg7 arg8 harg8 arg9 harg9 arg10 harg10 arg11 harg11 x0 x1 x2 x3 x4 x5 _) ?_
  unfold Run.kernelRun0_A
  dsimp only
  exact pb_scales Variants.none c none i arg1 harg1 arg2 harg2 arg3 harg3 arg4 harg4 arg5 harg5 arg6 harg6 arg7 harg7 arg8 harg8 arg9 harg9 arg10 harg10 arg11 harg11 _ _ _ x0 x1 x2 x3 x4 x5 d (fun q => yc_eq c i arg1 harg1 arg2 harg2 arg3 harg3 arg4 harg4 arg5 harg5 arg6 harg6 arg7 harg7 arg8 harg8 arg9 harg9 arg10 harg10 arg11 harg11 x0 x1 x2 x3 x4 x5 q d) (fun b => r5_eq c i arg1 harg1 arg2 harg2 arg3 harg3 arg4 harg4 arg5 harg5 arg6 harg6 arg7 harg7 arg8 harg8 arg9 harg9 arg10 harg10 arg11 harg11 x0 x1 x2 x3 x4 x5 b d) hl _ _ _ B _ trips2.le

/-- The codes of `Y`. -/
theorem out8 (c : Dev nD) (i : grid0.Coords) (arg1 : Memref sig .tc .vmem S22528x256 .fp8e4m3) (harg1 : arg1.IsWhole) (arg2 : Memref sig .tc .vmem S176x256 .f32) (harg2 : arg2.IsWhole) (arg3 : Memref sig .tc .vmem S80x22528 .bf16) (harg3 : arg3.IsWhole) (arg4 : Memref sig .tc .vmem S22528x128 .fp8e4m3) (harg4 : arg4.IsWhole) (arg5 : Memref sig .tc .vmem S176x128 .f32) (harg5 : arg5.IsWhole) (arg6 : Memref sig .tc .vmem S72x72 .f32) (harg6 : arg6.IsWhole) (arg7 : Memref sig .tc .vmem S22528x256 .fp8e4m3) (harg7 : arg7.IsWhole) (arg8 : Memref sig .tc .vmem S176x256 .f32) (harg8 : arg8.IsWhole) (arg9 : Memref sig .tc .vmem S72x256 .fp8e4m3) (harg9 : arg9.IsWhole) (arg10 : Memref sig .tc .vmem S1x256 .f32) (harg10 : arg10.IsWhole) (arg11 : Memref sig .tc .vmem S1024x256 .f32) (harg11 : arg11.IsWhole) (x0 : Vec Ideal S22528x256 .fp8e4m3) (x1 : Vec Ideal S176x256 .f32) (x2 : Vec Ideal S80x22528 .bf16) (x3 : Vec Ideal S22528x128 .fp8e4m3) (x4 : Vec Ideal S176x128 .f32) (x5 : Vec Ideal S72x72 .f32) (p : Fin 72) (d : Fin 256) :
    @Eq EReal (Run.out0_A_8 (F := Ideal) c i arg1 harg1 arg2 harg2 arg3 harg3 arg4 harg4 arg5 harg5 arg6 harg6 arg7 harg7 arg8 harg8 arg9 harg9 arg10 harg10 arg11 harg11 x0 x1 x2 x3 x4 x5 (ix2 p d)) ((colOf x0 x1 x2 x3 x4 x5 d).kYCode p) := by
  unfold Run.out0_A_8
  rw [View.read_writes_eq_canon _ _ _ (Run.cover0_A_8 c i arg1 harg1 arg2 harg2 arg3 harg3 arg4 harg4 arg5 harg5 arg6 harg6 arg7 harg7 arg8 harg8 arg9 harg9 arg10 harg10 arg11 harg11 x0 x1 x2 x3 x4 x5)]
  unfold Run.kernelRun0_A
  dsimp only
  unfold Run.kernelRun0_A.sl.H8_1
  rw [View.canon_cons_unit_zero (by funext a; fin_cases a <;> rfl)]
  refine (pay3_apply _ _ p d).trans ?_
  unfold Col.kYCode
  rw [r6_eq, r_eq]

/-- The scale of `Y`. -/
theorem out9 (c : Dev nD) (i : grid0.Coords) (arg1 : Memref sig .tc .vmem S22528x256 .fp8e4m3) (harg1 : arg1.IsWhole) (arg2 : Memref sig .tc .vmem S176x256 .f32) (harg2 : arg2.IsWhole) (arg3 : Memref sig .tc .vmem S80x22528 .bf16) (harg3 : arg3.IsWhole) (arg4 : Memref sig .tc .vmem S22528x128 .fp8e4m3) (harg4 : arg4.IsWhole) (arg5 : Memref sig .tc .vmem S176x128 .f32) (harg5 : arg5.IsWhole) (arg6 : Memref sig .tc .vmem S72x72 .f32) (harg6 : arg6.IsWhole) (arg7 : Memref sig .tc .vmem S22528x256 .fp8e4m3) (harg7 : arg7.IsWhole) (arg8 : Memref sig .tc .vmem S176x256 .f32) (harg8 : arg8.IsWhole) (arg9 : Memref sig .tc .vmem S72x256 .fp8e4m3) (harg9 : arg9.IsWhole) (arg10 : Memref sig .tc .vmem S1x256 .f32) (harg10 : arg10.IsWhole) (arg11 : Memref sig .tc .vmem S1024x256 .f32) (harg11 : arg11.IsWhole) (x0 : Vec Ideal S22528x256 .fp8e4m3) (x1 : Vec Ideal S176x256 .f32) (x2 : Vec Ideal S80x22528 .bf16) (x3 : Vec Ideal S22528x128 .fp8e4m3) (x4 : Vec Ideal S176x128 .f32) (x5 : Vec Ideal S72x72 .f32) (d : Fin 256) :
    @Eq EReal (Run.out0_A_9 (F := Ideal) c i arg1 harg1 arg2 harg2 arg3 harg3 arg4 harg4 arg5 harg5 arg6 harg6 arg7 harg7 arg8 harg8 arg9 harg9 arg10 harg10 arg11 harg11 x0 x1 x2 x3 x4 x5 (ix2 0 d)) (Scale.kScale (colOf x0 x1 x2 x3 x4 x5 d).yMax) := by
  unfold Run.out0_A_9
  rw [View.read_writes_eq_canon _ _ _ (Run.cover0_A_9 c i arg1 harg1 arg2 harg2 arg3 harg3 arg4 harg4 arg5 harg5 arg6 harg6 arg7 harg7 arg8 harg8 arg9 harg9 arg10 harg10 arg11 harg11 x0 x1 x2 x3 x4 x5)]
  unfold Run.kernelRun0_A
  dsimp only
  unfold Run.kernelRun0_A.sl.H9_1
  rw [View.canon_cons_unit_zero (by funext a; fin_cases a <;> rfl)]
  exact (pay1_apply _ d).trans (r5_eq c i arg1 harg1 arg2 harg2 arg3 harg3 arg4 harg4 arg5 harg5 arg6 harg6 arg7 harg7 arg8 harg8 arg9 harg9 arg10 harg10 arg11 harg11 x0 x1 x2 x3 x4 x5 0 d)

end Cert.KernelIdeal.Read

end
-- ==== Proof.RefPay.lean ====
/-
  The reference's payloads read at an index, over any operands.
-/
module

public import proofs.«01_k».proof.Proof.RefRun
public import proofs.«01_k».proof.Proof.Column

@[expose] public section

set_option maxRecDepth 16384

noncomputable section

namespace Cert.ReferenceIdeal.Read

open Cert.ReferenceIdeal Cert.ReferenceIdeal.Gen Idealize.ShloMosaic Cert.Proof

/-! ## The quantiser of a block, over any operands -/

variable (v1 : FVec Ideal S176x128x3584 .fp8e4m3) (v2 : Vec Ideal S176x3584 .f32) (v33 : FVec Ideal S1x3584 .f32)
  (v38 : FVec Ideal S72x3584 .f32) (c17 c18 : Ideal .f32) (v47 : Vec Ideal S22528x128 .fp8e4m3) (v50 : Vec Ideal S176x128 .f32)
  (v63 : FVec Ideal S176x128x3584 .f32) (v66 v79 v80 : FVec Ideal S176x1x3584 .f32)

/-- The greatest magnitude of a block is taken over its rows. -/
theorem pay11_apply (b : Fin 176) (d : Fin 3584) :
    k0_pay11 v1 v2 v33 v38 c17 c18 v47 v50 (ix3 b 0 d) = mx fun i => k0_pay10 v1 v2 v33 v38 c17 c18 v47 v50 (ix3 b i d) := by
  unfold mx
  pointwise [k0_pay11]
  simp only [Ideal.absf_def]

/-- The clipped exponent at an index, at any floats: elementwise of the greatest magnitude. -/
theorem pay12_scalar {F : FTy → Type} [FloatOps F] (v1 : FVec F S176x128x3584 .fp8e4m3) (v2 : Vec F S176x3584 .f32) (v33 : FVec F S1x3584 .f32)
    (v38 : FVec F S72x3584 .f32) (c17 c18 : F .f32) (v47 : Vec F S22528x128 .fp8e4m3) (v50 : Vec F S176x128 .f32) (j : S176x1x3584.Idx) :
    k0_pay12 v1 v2 v33 v38 c17 c18 v47 v50 j = FloatOps.minimumf (FloatOps.ofBits .f32 0x42FC0000#32) (FloatOps.maximumf (FloatOps.ofBits .f32 0xC2FC0000#32)
      (FloatOps.addf (FloatOps.floor (FloatOps.divf (FloatOps.log (FloatOps.mulf (k0_pay11 v1 v2 v33 v38 c17 c18 v47 v50 j) (FloatOps.ofBits .f32 0x3B124925#32)))
        (FloatOps.log (FloatOps.ofBits .f32 0x40000000#32)))) (FloatOps.ofBits .f32 0x3F800000#32))) := by
  unfold k0_pay12
  rfl

/-- The same of a number, at the extended reals. -/
theorem clampLog_scalar (w : Ideal .f32) :
    FloatOps.minimumf (F := Ideal) (FloatOps.ofBits .f32 0x42FC0000#32) (FloatOps.maximumf (FloatOps.ofBits .f32 0xC2FC0000#32)
      (FloatOps.addf (FloatOps.floor (FloatOps.divf (FloatOps.log (FloatOps.mulf w (FloatOps.ofBits .f32 0x3B124925#32)))
        (FloatOps.log (FloatOps.ofBits .f32 0x40000000#32)))) (FloatOps.ofBits .f32 0x3F800000#32)))
    = min (Ideal.ofBits .f32 0x42FC0000#32) (max (Ideal.ofBits .f32 0xC2FC0000#32)
      (Ideal.liftRound Int.floor (Ideal.div (Ideal.log (w * Ideal.ofBits .f32 0x3B124925#32)) (Ideal.log (Ideal.ofBits .f32 0x40000000#32)))
        + Ideal.ofBits .f32 0x3F800000#32)) := rfl

/-- The clipped exponent, of the greatest magnitude. -/
theorem pay12_apply (b : Fin 176) (d : Fin 3584) :
    k0_pay12 v1 v2 v33 v38 c17 c18 v47 v50 (ix3 b 0 d) = min (Ideal.ofBits .f32 0x42FC0000#32) (max (Ideal.ofBits .f32 0xC2FC0000#32)
      (Ideal.liftRound Int.floor (Ideal.div (Ideal.log (k0_pay11 v1 v2 v33 v38 c17 c18 v47 v50 (ix3 b 0 d) * Ideal.ofBits .f32 0x3B124925#32)) (Ideal.log (Ideal.ofBits .f32 0x40000000#32)))
        + Ideal.ofBits .f32 0x3F800000#32)) := by
  rw [pay12_scalar]
  exact clampLog_scalar _

theorem pay13_apply (b : Fin 176) (d : Fin 3584) : k0_pay13 (F := Ideal) (ix3 b 0 d) = Ideal.ofBits .f32 0x00000000#32 := by
  pointwise [k0_pay13]

/-- The exponent is zero where the block is. -/
theorem pay1_apply (b : Fin 176) (d : Fin 3584) :
    k0_pay1 v66 v79 v80 (ix3 b 0 d) = Scalar.select (Ideal.cmp .oeq (v66 (ix3 b 0 d)) (v80 (ix3 b 0 d))) (Ideal.ofBits .f32 0x00000000#32) (v79 (ix3 b 0 d)) := by
  pointwise [k0_pay1]

/-- The codes. -/
theorem pay2_apply (r : Fin 22528) (d : Fin 3584) :
    k0_pay2 v63 v66 v79 v80 (ix2 r d)
      = clip (v63 (ix3 (blk r) (sub r) d) * Ideal.exp2 (Ideal.ofBits .f32 0x00000000#32 - k0_pay1 v66 v79 v80 (ix3 (blk r) 0 d))) := by
  unfold clip
  pointwise [k0_pay2]
  rfl

/-- The scales. -/
theorem pay3_apply (b : Fin 176) (d : Fin 3584) :
    k0_pay3 v66 v79 v80 (ix2 b d) = Ideal.exp2 (k0_pay1 v66 v79 v80 (ix3 b 0 d)) := by
  pointwise [k0_pay3]
  rfl

end Cert.ReferenceIdeal.Read

end
-- ==== Proof.RefRead.lean ====
/-
  What the reference's four results hold at an index, by the columns of Spec.lean: the codes and the scale of `Y`, the
  codes and the block scales of the updated matrix.
-/
module

public import proofs.«01_k».proof.Proof.RefRun
public import proofs.«01_k».proof.Proof.Column
public import proofs.«01_k».proof.Proof.RefPay

@[expose] public section

set_option maxRecDepth 16384

noncomputable section

namespace Cert.ReferenceIdeal.Read

open Cert.ReferenceIdeal Cert.ReferenceIdeal.Gen Idealize.ShloMosaic Cert.Proof

variable (a0 : Vec Ideal S22528x3584 .fp8e4m3) (a1 : Vec Ideal S176x3584 .f32) (a2 : Vec Ideal S80x22528 .bf16)
  (a3 : Vec Ideal S22528x128 .fp8e4m3) (a4 : Vec Ideal S176x128 .f32) (a5 : Vec Ideal S72x72 .f32)

/-- `Y = Tᵀ (Vᵀ C)` at an index. -/
theorem y_apply (p : Fin 72) (d : Fin 3584) : k0_pay5 a0 a1 a2 a5 (ix2 p d) = (colOf a0 a1 a2 a3 a4 a5 d).y p := by
  pointwise [k0_pay5, k0_pay4]
  rfl

/-- The exponent of `Y`'s column. -/
theorem yExp_apply (d : Fin 3584) : k0_pay6 a0 a1 a2 a5 (ix2 0 d) = Scale.rExp (colOf a0 a1 a2 a3 a4 a5 d).yMax := by
  have h : ∀ p, k0_pay5 a0 a1 a2 a5 (ix2 p d) = (colOf a0 a1 a2 a3 a4 a5 d).y p := fun p => y_apply a0 a1 a2 a3 a4 a5 p d
  have hm : Finset.fold max (Ideal.ofBits FTy.f32 4286578688#32)
      (fun x => FloatOps.absf (k0_pay5 a0 a1 a2 a5 (ix2 x d))) Finset.univ = (colOf a0 a1 a2 a3 a4 a5 d).yMax := by
    simp only [h]; rfl
  unfold Scale.rExp
  pointwise [k0_pay6]
  rw [hm]

/-! ## The values the body shares, at the whole arrays (each load reads a whole array) -/

theorem pay14_eq : k0_pay14 a0 a1 a2 a3 a4 a5 = k0_pay4 a0 := by
  unfold k0_pay14
  rw [View.ld_unit_zero (S := S22528x3584) hz0 _ a0]

theorem pay15_eq : k0_pay15 a0 a1 a2 a3 a4 a5 = k0_pay6 a0 a1 a2 a5 := by
  unfold k0_pay15
  rw [View.ld_unit_zero (S := S22528x3584) hz0 _ a0, View.ld_unit_zero (S := S176x3584) hz1 _ a1,
    View.ld_unit_zero (S := S80x22528) hz2 _ a2, View.ld_unit_zero (S := S72x72) hz5 _ a5]

theorem pay16_eq : k0_pay16 a0 a1 a2 a3 a4 a5 = k0_pay7 a0 a1 a2 a5 := by
  unfold k0_pay16
  rw [View.ld_unit_zero (S := S22528x3584) hz0 _ a0, View.ld_unit_zero (S := S176x3584) hz1 _ a1,
    View.ld_unit_zero (S := S80x22528) hz2 _ a2, View.ld_unit_zero (S := S72x72) hz5 _ a5]

/-- The codes of `Y`. -/
theorem yCode_apply (p : Fin 72) (d : Fin 3584) :
    G8 a0 a1 a2 a3 a4 a5 (ix2 p d) = (colOf a0 a1 a2 a3 a4 a5 d).yCode p := by
  have h := y_apply a0 a1 a2 a3 a4 a5 p d
  have he := yExp_apply a0 a1 a2 a3 a4 a5 d
  unfold Col.yCode clip Scale.rInv G8
  rw [pay16_eq]
  pointwise [k0_pay8, k0_pay7]
  rw [h, he]
  rfl

/-- The scale of `Y`. -/
theorem yScl_apply (d : Fin 3584) : G9 a0 a1 a2 a3 a4 a5 (ix2 0 d) = (colOf a0 a1 a2 a3 a4 a5 d).yScl := by
  have he := yExp_apply a0 a1 a2 a3 a4 a5 d
  unfold Col.yScl Scale.rScale G9
  rw [pay15_eq]
  pointwise [k0_pay9]
  rw [he]
  rfl

/-- The updated matrix before it is quantised, as the body computes it. -/
abbrev U : FVec Ideal S176x128x3584 .f32 :=
  k0_pay10 (k0_pay14 a0 a1 a2 a3 a4 a5) a1 (k0_pay15 a0 a1 a2 a3 a4 a5) (k0_pay16 a0 a1 a2 a3 a4 a5) (Scalar.ofBits .f32 0xC3E00000#32) (Scalar.ofBits .f32 0x43E00000#32) a3 a4

/-- It is the column's update. -/
theorem upd_apply (b : Fin 176) (i : Fin 128) (d : Fin 3584) :
    U a0 a1 a2 a3 a4 a5 (ix3 b i d) = (colOf a0 a1 a2 a3 a4 a5 d).upd b i := by
  have hs := yScl_apply a0 a1 a2 a3 a4 a5 d
  have hc := fun q => yCode_apply a0 a1 a2 a3 a4 a5 q d
  unfold G9 at hs
  unfold G8 at hc
  unfold Col.upd Col.prod U
  simp only [← hs, ← hc]
  rw [pay14_eq]
  pointwise [k0_pay10, k0_pay4]
  rfl

/-- The greatest magnitude of a block. -/
theorem updMax_apply (b : Fin 176) (d : Fin 3584) :
    k0_pay17 a0 a1 a2 a3 a4 a5 (ix3 b 0 d) = (colOf a0 a1 a2 a3 a4 a5 d).updMax b := by
  have h : (fun i => U a0 a1 a2 a3 a4 a5 (ix3 b i d)) = (colOf a0 a1 a2 a3 a4 a5 d).upd b :=
    funext fun i => upd_apply a0 a1 a2 a3 a4 a5 b i d
  unfold k0_pay17 Col.updMax
  rw [View.ld_unit_zero (S := S176x3584) hz1 _ a1, View.ld_unit_zero (S := S22528x128) hz3 _ a3, View.ld_unit_zero (S := S176x128) hz4 _ a4,
    pay11_apply, ← h]

/-- The exponent of a block. -/
theorem updExp_apply (b : Fin 176) (d : Fin 3584) :
    k0_pay1 (k0_pay17 a0 a1 a2 a3 a4 a5) (k0_pay18 a0 a1 a2 a3 a4 a5) (k0_pay19 a0 a1 a2 a3 a4 a5) (ix3 b 0 d)
      = Scale.rExp ((colOf a0 a1 a2 a3 a4 a5 d).updMax b) := by
  have h := updMax_apply a0 a1 a2 a3 a4 a5 b d
  rw [pay1_apply, h]
  unfold k0_pay17 at h
  unfold k0_pay18 k0_pay19 Scale.rExp
  rw [pay12_apply, h, pay13_apply]

/-- The codes of the updated matrix. -/
theorem code_apply (r : Fin 22528) (d : Fin 3584) :
    G6 a0 a1 a2 a3 a4 a5 (ix2 r d) = (colOf a0 a1 a2 a3 a4 a5 d).code (blk r) (sub r) := by
  have hu := upd_apply a0 a1 a2 a3 a4 a5 (blk r) (sub r) d
  have he := updExp_apply a0 a1 a2 a3 a4 a5 (blk r) d
  unfold Col.code Scale.rInv
  rw [← he, ← hu]
  unfold G6
  rw [pay2_apply]

/-- The scales of the updated matrix. -/
theorem scl_apply (b : Fin 176) (d : Fin 3584) :
    G7 a0 a1 a2 a3 a4 a5 (ix2 b d) = (colOf a0 a1 a2 a3 a4 a5 d).scl b := by
  have he := updExp_apply a0 a1 a2 a3 a4 a5 b d
  unfold Col.scl Scale.rScale
  rw [← he]
  unfold G7
  rw [pay3_apply]

end Cert.ReferenceIdeal.Read

end
-- ==== Proof.KerArr.lean ====
/-
  The kernel's four result arrays, over the memory the launch found, are the reference's four functions of the same
  arguments: the grid point `n` reads and writes the columns `256 n …`, and its blocks hold what KerOut.lean states.
-/
module

public import proofs.«01_k».proof.Proof.KernelBlocks
public import proofs.«01_k».proof.Proof.KerOut
public import proofs.«01_k».proof.Proof.RefRead

@[expose] public section

set_option maxRecDepth 16384

noncomputable section

namespace Cert.KernelIdeal.Read

open Cert.KernelIdeal Cert.KernelIdeal.Gen Cert.KernelIdeal.Run Cert.KernelIdeal.Value
open Idealize.ShloMosaic Idealize.ShloMosaic.TcCoe Idealize.SL.Sem Cert.Proof
open Idealize.ShloMosaic.Pipeline (Dat)

variable (m : (ℓ : Loc nD τ sig) → Buf (Elt Ideal) ℓ)

/-- Two columns are the same when their entries are. -/
theorem col_ext {K K' : Col} (hc : ∀ r, K.c r = K'.c r) (hs : ∀ b, K.s b = K'.s b) (hv : ∀ x j, K.v x j = K'.v x j)
    (hw : ∀ r q, K.w r q = K'.w r q) (hvs : ∀ b, K.vs b = K'.vs b) (ht : ∀ x p, K.t x p = K'.t x p) : K = K' := by
  cases K
  cases K'
  simp only [Col.mk.injEq]
  exact ⟨funext hc, funext hs, funext fun x => funext (hv x), funext fun r => funext (hw r), funext hvs, funext fun x => funext (ht x)⟩

/-- There are 14 points. -/
theorem pts (t : Fin cfg0.N) : t.val < 14 := t.isLt

/-- The array's column of a block's column. -/
def col (t : Fin cfg0.N) (d : Fin 256) : Fin 3584 := ⟨t.val * 256 + d.val, by have := pts t; omega⟩

/-! ## The blocks of the arguments -/

/-- Window 0\'s block index at a point. -/
theorem idx0 : ∀ t : Fin cfg0.N, win0_0.index t (0 : Fin 2) = 0 ∧ win0_0.index t (1 : Fin 2) = t.val :=
  (by decide +kernel : ∀ t : Fin grid0.N, _)

/-- Window 0's block at a point is its columns of the array. -/
theorem emb0 (t : Fin cfg0.N) (r : Fin 22528) (d : Fin 256) : ((cfg0.win 0).blk t).view.emb (ix2 r d : S22528x256.Idx) = (ix2 r (col t d) : S22528x3584.Idx) := by
  obtain ⟨e0, e1⟩ := idx0 t
  funext a; apply Fin.ext
  match a with
  | ⟨0, _⟩ => show win0_0.index t (0 : Fin 2) * 22528 + 1 * r.val = r.val; omega
  | ⟨1, _⟩ => show win0_0.index t (1 : Fin 2) * 256 + 1 * d.val = t.val * 256 + d.val; omega

/-- Window 0\'s block at an index, by the argument. -/
theorem iblk0 (c : Dev nD) (t : Fin cfg0.N) (r : Fin 22528) (d : Fin 256) :
    iblk m c 0 t (ix2 r d : S22528x256.Idx) = V m c main_arg0 (ix2 r (col t d) : S22528x3584.Idx) := by
  show V m c main_arg0 (((cfg0.win 0).blk t).view.emb (ix2 r d : S22528x256.Idx)) = _
  rw [emb0]

/-- Window 1\'s block index at a point. -/
theorem idx1 : ∀ t : Fin cfg0.N, win0_1.index t (0 : Fin 2) = 0 ∧ win0_1.index t (1 : Fin 2) = t.val :=
  (by decide +kernel : ∀ t : Fin grid0.N, _)

/-- Window 1's block at a point is its columns of the array. -/
theorem emb1 (t : Fin cfg0.N) (r : Fin 176) (d : Fin 256) : ((cfg0.win 1).blk t).view.emb (ix2 r d : S176x256.Idx) = (ix2 r (col t d) : S176x3584.Idx) := by
  obtain ⟨e0, e1⟩ := idx1 t
  funext a; apply Fin.ext
  match a with
  | ⟨0, _⟩ => show win0_1.index t (0 : Fin 2) * 176 + 1 * r.val = r.val; omega
  | ⟨1, _⟩ => show win0_1.index t (1 : Fin 2) * 256 + 1 * d.val = t.val * 256 + d.val; omega

/-- Window 1\'s block at an index, by the argument. -/
theorem iblk1 (c : Dev nD) (t : Fin cfg0.N) (r : Fin 176) (d : Fin 256) :
    iblk m c 1 t (ix2 r d : S176x256.Idx) = V m c main_arg1 (ix2 r (col t d) : S176x3584.Idx) := by
  show V m c main_arg1 (((cfg0.win 1).blk t).view.emb (ix2 r d : S176x256.Idx)) = _
  rw [emb1]

/-- Window 2\'s block index at a point. -/
theorem idx2 : ∀ t : Fin cfg0.N, win0_2.index t (0 : Fin 2) = 0 ∧ win0_2.index t (1 : Fin 2) = 0 :=
  (by decide +kernel : ∀ t : Fin grid0.N, _)

/-- Window 2's block is its array. -/
theorem emb2 (t : Fin cfg0.N) (r : Fin 80) (d : Fin 22528) : ((cfg0.win 2).blk t).view.emb (ix2 r d : S80x22528.Idx) = (ix2 r d : S80x22528.Idx) := by
  obtain ⟨e0, e1⟩ := idx2 t
  funext a; apply Fin.ext
  match a with
  | ⟨0, _⟩ => show win0_2.index t (0 : Fin 2) * 80 + 1 * r.val = r.val; omega
  | ⟨1, _⟩ => show win0_2.index t (1 : Fin 2) * 22528 + 1 * d.val = d.val; omega

/-- Window 2\'s block at an index, by the argument. -/
theorem iblk2 (c : Dev nD) (t : Fin cfg0.N) (r : Fin 80) (d : Fin 22528) :
    iblk m c 2 t (ix2 r d : S80x22528.Idx) = V m c main_arg2 (ix2 r d : S80x22528.Idx) := by
  show V m c main_arg2 (((cfg0.win 2).blk t).view.emb (ix2 r d : S80x22528.Idx)) = _
  rw [emb2]

/-- Window 3\'s block index at a point. -/
theorem idx3 : ∀ t : Fin cfg0.N, win0_3.index t (0 : Fin 2) = 0 ∧ win0_3.index t (1 : Fin 2) = 0 :=
  (by decide +kernel : ∀ t : Fin grid0.N, _)

/-- Window 3's block is its array. -/
theorem emb3 (t : Fin cfg0.N) (r : Fin 22528) (d : Fin 128) : ((cfg0.win 3).blk t).view.emb (ix2 r d : S22528x128.Idx) = (ix2 r d : S22528x128.Idx) := by
  obtain ⟨e0, e1⟩ := idx3 t
  funext a; apply Fin.ext
  match a with
  | ⟨0, _⟩ => show win0_3.index t (0 : Fin 2) * 22528 + 1 * r.val = r.val; omega
  | ⟨1, _⟩ => show win0_3.index t (1 : Fin 2) * 128 + 1 * d.val = d.val; omega

/-- Window 3\'s block at an index, by the argument. -/
theorem iblk3 (c : Dev nD) (t : Fin cfg0.N) (r : Fin 22528) (d : Fin 128) :
    iblk m c 3 t (ix2 r d : S22528x128.Idx) = V m c main_arg3 (ix2 r d : S22528x128.Idx) := by
  show V m c main_arg3 (((cfg0.win 3).blk t).view.emb (ix2 r d : S22528x128.Idx)) = _
  rw [emb3]

/-- Window 4\'s block index at a point. -/
theorem idx4 : ∀ t : Fin cfg0.N, win0_4.index t (0 : Fin 2) = 0 ∧ win0_4.index t (1 : Fin 2) = 0 :=
  (by decide +kernel : ∀ t : Fin grid0.N, _)

/-- Window 4's block is its array. -/
theorem emb4 (t : Fin cfg0.N) (r : Fin 176) (d : Fin 128) : ((cfg0.win 4).blk t).view.emb (ix2 r d : S176x128.Idx) = (ix2 r d : S176x128.Idx) := by
  obtain ⟨e0, e1⟩ := idx4 t
  funext a; apply Fin.ext
  match a with
  | ⟨0, _⟩ => show win0_4.index t (0 : Fin 2) * 176 + 1 * r.val = r.val; omega
  | ⟨1, _⟩ => show win0_4.index t (1 : Fin 2) * 128 + 1 * d.val = d.val; omega

/-- Window 4\'s block at an index, by the argument. -/
theorem iblk4 (c : Dev nD) (t : Fin cfg0.N) (r : Fin 176) (d : Fin 128) :
    iblk m c 4 t (ix2 r d : S176x128.Idx) = V m c main_arg4 (ix2 r d : S176x128.Idx) := by
  show V m c main_arg4 (((cfg0.win 4).blk t).view.emb (ix2 r d : S176x128.Idx)) = _
  rw [emb4]

/-- Window 5\'s block index at a point. -/
theorem idx5 : ∀ t : Fin cfg0.N, win0_5.index t (0 : Fin 2) = 0 ∧ win0_5.index t (1 : Fin 2) = 0 :=
  (by decide +kernel : ∀ t : Fin grid0.N, _)

/-- Window 5's block is its array. -/
theorem emb5 (t : Fin cfg0.N) (r : Fin 72) (d : Fin 72) : ((cfg0.win 5).blk t).view.emb (ix2 r d : S72x72.Idx) = (ix2 r d : S72x72.Idx) := by
  obtain ⟨e0, e1⟩ := idx5 t
  funext a; apply Fin.ext
  match a with
  | ⟨0, _⟩ => show win0_5.index t (0 : Fin 2) * 72 + 1 * r.val = r.val; omega
  | ⟨1, _⟩ => show win0_5.index t (1 : Fin 2) * 72 + 1 * d.val = d.val; omega

/-- Window 5\'s block at an index, by the argument. -/
theorem iblk5 (c : Dev nD) (t : Fin cfg0.N) (r : Fin 72) (d : Fin 72) :
    iblk m c 5 t (ix2 r d : S72x72.Idx) = V m c main_arg5 (ix2 r d : S72x72.Idx) := by
  show V m c main_arg5 (((cfg0.win 5).blk t).view.emb (ix2 r d : S72x72.Idx)) = _
  rw [emb5]

/-- Window 6\'s block index at a point. -/
theorem idx6 : ∀ t : Fin cfg0.N, win0_6.index t (0 : Fin 2) = 0 ∧ win0_6.index t (1 : Fin 2) = t.val :=
  (by decide +kernel : ∀ t : Fin grid0.N, _)

/-- Window 6's block at a point is its columns of the array. -/
theorem emb6 (t : Fin cfg0.N) (r : Fin 22528) (d : Fin 256) : ((cfg0.win 6).blk t).view.emb (ix2 r d : S22528x256.Idx) = (ix2 r (col t d) : S22528x3584.Idx) := by
  obtain ⟨e0, e1⟩ := idx6 t
  funext a; apply Fin.ext
  match a with
  | ⟨0, _⟩ => show win0_6.index t (0 : Fin 2) * 22528 + 1 * r.val = r.val; omega
  | ⟨1, _⟩ => show win0_6.index t (1 : Fin 2) * 256 + 1 * d.val = t.val * 256 + d.val; omega

/-- Window 7\'s block index at a point. -/
theorem idx7 : ∀ t : Fin cfg0.N, win0_7.index t (0 : Fin 2) = 0 ∧ win0_7.index t (1 : Fin 2) = t.val :=
  (by decide +kernel : ∀ t : Fin grid0.N, _)

/-- Window 7's block at a point is its columns of the array. -/
theorem emb7 (t : Fin cfg0.N) (r : Fin 176) (d : Fin 256) : ((cfg0.win 7).blk t).view.emb (ix2 r d : S176x256.Idx) = (ix2 r (col t d) : S176x3584.Idx) := by
  obtain ⟨e0, e1⟩ := idx7 t
  funext a; apply Fin.ext
  match a with
  | ⟨0, _⟩ => show win0_7.index t (0 : Fin 2) * 176 + 1 * r.val = r.val; omega
  | ⟨1, _⟩ => show win0_7.index t (1 : Fin 2) * 256 + 1 * d.val = t.val * 256 + d.val; omega

/-- Window 8\'s block index at a point. -/
theorem idx8 : ∀ t : Fin cfg0.N, win0_8.index t (0 : Fin 2) = 0 ∧ win0_8.index t (1 : Fin 2) = t.val :=
  (by decide +kernel : ∀ t : Fin grid0.N, _)

/-- Window 8's block at a point is its columns of the array. -/
theorem emb8 (t : Fin cfg0.N) (r : Fin 72) (d : Fin 256) : ((cfg0.win 8).blk t).view.emb (ix2 r d : S72x256.Idx) = (ix2 r (col t d) : S72x3584.Idx) := by
  obtain ⟨e0, e1⟩ := idx8 t
  funext a; apply Fin.ext
  match a with
  | ⟨0, _⟩ => show win0_8.index t (0 : Fin 2) * 72 + 1 * r.val = r.val; omega
  | ⟨1, _⟩ => show win0_8.index t (1 : Fin 2) * 256 + 1 * d.val = t.val * 256 + d.val; omega

/-- Window 9\'s block index at a point. -/
theorem idx9 : ∀ t : Fin cfg0.N, win0_9.index t (0 : Fin 2) = 0 ∧ win0_9.index t (1 : Fin 2) = t.val :=
  (by decide +kernel : ∀ t : Fin grid0.N, _)

/-- Window 9's block at a point is its columns of the array. -/
theorem emb9 (t : Fin cfg0.N) (r : Fin 1) (d : Fin 256) : ((cfg0.win 9).blk t).view.emb (ix2 r d : S1x256.Idx) = (ix2 r (col t d) : S1x3584.Idx) := by
  obtain ⟨e0, e1⟩ := idx9 t
  funext a; apply Fin.ext
  match a with
  | ⟨0, _⟩ => show win0_9.index t (0 : Fin 2) * 1 + 1 * r.val = r.val; omega
  | ⟨1, _⟩ => show win0_9.index t (1 : Fin 2) * 256 + 1 * d.val = t.val * 256 + d.val; omega

/-- A column of a point's blocks is the column of the arguments. -/
theorem colOf_blk (c : Dev nD) (t : Fin cfg0.N) (d : Fin 256) :
    colOf (N := 256) (iblk m c 0 t) (iblk m c 1 t) (iblk m c 2 t) (iblk m c 3 t) (iblk m c 4 t) (iblk m c 5 t) d
      = colOf (N := 3584) (V m c main_arg0) (V m c main_arg1) (V m c main_arg2) (V m c main_arg3) (V m c main_arg4) (V m c main_arg5) (col t d) :=
  col_ext (fun r => iblk0 m c t r d) (fun b => iblk1 m c t b d) (fun x j => iblk2 m c t x j) (fun r q => iblk3 m c t r q)
    (fun b => iblk4 m c t b 0) (fun x p => iblk5 m c t x p)

/-- The point whose blocks hold a column, -/
def pt (D : Fin 3584) : Fin cfg0.N := ⟨D.val / 256, by show _ < 14; omega⟩

/-- the column's place in them, -/
def cl (D : Fin 3584) : Fin 256 := ⟨D.val % 256, by omega⟩

/-- and the column again. -/
theorem col_pt (D : Fin 3584) : col (pt D) (cl D) = D :=
  Fin.ext (by show D.val / 256 * 256 + D.val % 256 = D.val; omega)

/-! ## The arrays after the run -/

/-- Every block scale of C is a positive real. -/
abbrev ScalesPos (a1 : S176x3584.Idx → EReal) : Prop := ∀ (b : Fin 176) (d : Fin 3584), ∃ s : ℝ, 0 < s ∧ a1 (ix2 b d) = (s : EReal)

/-- Each row of the reflectors' scales is one number. -/
abbrev ScalesFill (a4 : S176x128.Idx → EReal) : Prop := ∀ (b : Fin 176) (q : Fin 128), a4 (ix2 b q) = a4 (ix2 b 0)

/-- A point's block of window 6 is the point's block of an array that agrees with it column by column. -/
theorem cut6 (t : Fin cfg0.N) (X : Vec Ideal S22528x256 .fp8e4m3) (Y : Vec Ideal S22528x3584 .fp8e4m3)
    (h : ∀ (r : Fin 22528) (d : Fin 256), @Eq EReal (X (ix2 r d)) (Y (ix2 r (col t d)))) :
    (cfg0.win 6).cut (grid0.coords t) X = ((cfg0.win 6).blk t).view.read (Elt Ideal) Y := by
  funext j
  show X j = Y (((cfg0.win 6).blk t).view.emb j)
  have e : j = (ix2 (j 0 : Fin 22528) (j 1 : Fin 256) : S22528x256.Idx) := ix2_eta (m := 22528) (n := 256) j
  exact (congrArg X e).trans ((h (j 0) (j 1)).trans (congrArg Y
    ((emb6 t (j 0) (j 1)).symm.trans (congrArg (fun k : S22528x256.Idx => ((cfg0.win 6).blk t).view.emb k) e.symm))))

/-- Where a column of the blocks is a column of arrays, window 6 holds what the reference has there. -/
theorem at6 (c : Dev nD) (i : grid0.Coords) (arg1 : Memref sig .tc .vmem S22528x256 .fp8e4m3) (harg1 : arg1.IsWhole) (arg2 : Memref sig .tc .vmem S176x256 .f32) (harg2 : arg2.IsWhole) (arg3 : Memref sig .tc .vmem S80x22528 .bf16) (harg3 : arg3.IsWhole) (arg4 : Memref sig .tc .vmem S22528x128 .fp8e4m3) (harg4 : arg4.IsWhole) (arg5 : Memref sig .tc .vmem S176x128 .f32) (harg5 : arg5.IsWhole) (arg6 : Memref sig .tc .vmem S72x72 .f32) (harg6 : arg6.IsWhole) (arg7 : Memref sig .tc .vmem S22528x256 .fp8e4m3) (harg7 : arg7.IsWhole) (arg8 : Memref sig .tc .vmem S176x256 .f32) (harg8 : arg8.IsWhole) (arg9 : Memref sig .tc .vmem S72x256 .fp8e4m3) (harg9 : arg9.IsWhole) (arg10 : Memref sig .tc .vmem S1x256 .f32) (harg10 : arg10.IsWhole) (arg11 : Memref sig .tc .vmem S1024x256 .f32) (harg11 : arg11.IsWhole) (x0 : Vec Ideal S22528x256 .fp8e4m3) (x1 : Vec Ideal S176x256 .f32) (x2 : Vec Ideal S80x22528 .bf16) (x3 : Vec Ideal S22528x128 .fp8e4m3) (x4 : Vec Ideal S176x128 .f32) (x5 : Vec Ideal S72x72 .f32) (a0 : Vec Ideal S22528x3584 .fp8e4m3) (a1 : Vec Ideal S176x3584 .f32) (a2 : Vec Ideal S80x22528 .bf16) (a3 : Vec Ideal S22528x128 .fp8e4m3) (a4 : Vec Ideal S176x128 .f32) (a5 : Vec Ideal S72x72 .f32)
    (d : Fin 256) (D : Fin 3584) (hc : (colOf (N := 256) x0 x1 x2 x3 x4 x5 d) = (colOf (N := 3584) a0 a1 a2 a3 a4 a5 D)) (hs : ScalesPos a1) (hl : ScalesFill x4) (r : Fin 22528) :
    @Eq EReal (out0_A_6 (F := Ideal) c i arg1 harg1 arg2 harg2 arg3 harg3 arg4 harg4 arg5 harg5 arg6 harg6 arg7 harg7 arg8 harg8 arg9 harg9 arg10 harg10 arg11 harg11 x0 x1 x2 x3 x4 x5 (ix2 r d)) (Cert.ReferenceIdeal.Read.G6 (F := Ideal) a0 a1 a2 a3 a4 a5 (ix2 r D)) := by
  obtain ⟨s, h0, h1⟩ := hs (blk r) D
  exact (out6 c i arg1 harg1 arg2 harg2 arg3 harg3 arg4 harg4 arg5 harg5 arg6 harg6 arg7 harg7 arg8 harg8 arg9 harg9 arg10 harg10 arg11 harg11 x0 x1 x2 x3 x4 x5 hl r d).trans ((congrArg (fun K : Col => K.kCode (blk r) (sub r)) hc).trans
    ((Col.kCode_eq _ _ _ s h0 h1).trans (Cert.ReferenceIdeal.Read.code_apply a0 a1 a2 a3 a4 a5 r D).symm))

/-- What a point writes back is its block of the reference's function. -/
theorem flushed6_eq (c : Dev nD) (hs : ScalesPos (V m c main_arg1)) (hl : ScalesFill (V m c main_arg4)) (t : Fin cfg0.N) :
    (dats m 0 c).flushed 6 t = ((cfg0.win 6).blk t).view.read (Elt Ideal) (Cert.ReferenceIdeal.Read.G6 (F := Ideal) (V m c main_arg0) (V m c main_arg1) (V m c main_arg2) (V m c main_arg3) (V m c main_arg4) (V m c main_arg5)) := by
  rw [flushed6_A]
  exact cut6 t _ _ fun r d => at6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) (iblk m c 0 t) (iblk m c 1 t) (iblk m c 2 t) (iblk m c 3 t) (iblk m c 4 t) (iblk m c 5 t) (V m c main_arg0) (V m c main_arg1) (V m c main_arg2) (V m c main_arg3) (V m c main_arg4) (V m c main_arg5) d (col t d) (colOf_blk m c t d) hs (fun b q => (iblk4 m c t b q).trans ((hl b q).trans (iblk4 m c t b 0).symm)) r

/-- Every index of the array is in some point's block. -/
theorem covered6 (i : S22528x3584.Idx) :
    ∃ t : Fin cfg0.N, (cfg0.win 6).flush t = true ∧ i ∈ ((cfg0.win 6).blk t).view.set := by
  have h := ((cfg0.win 6).blk (pt (i 1))).view.emb_mem_set (ix2 (i 0 : Fin 22528) (cl (i 1)) : S22528x256.Idx)
  have e := (emb6 (pt (i 1)) (i 0) (cl (i 1))).trans ((congrArg (fun D => (ix2 (i 0 : Fin 22528) D : S22528x3584.Idx)) (col_pt (i 1))).trans
    (ix2_eta (m := 22528) (n := 3584) i).symm)
  exact ⟨pt (i 1), flush0_6 (pt (i 1)), (congrArg (fun k => k ∈ ((cfg0.win 6).blk (pt (i 1))).view.set) e).mp h⟩

/-- The array after the run is the reference's function of the arguments. -/
theorem final6 (c : Dev nD) (hs : ScalesPos (V m c main_arg1)) (hl : ScalesFill (V m c main_arg4)) :
    (dats m 0 c).arrAt 6 cfg0.N = Cert.ReferenceIdeal.Read.G6 (F := Ideal) (V m c main_arg0) (V m c main_arg1) (V m c main_arg2) (V m c main_arg3) (V m c main_arg4) (V m c main_arg5) :=
  (dats m 0 c).arrAt_eq_of_cover 6 _ (fun t _ => flushed6_eq m c hs hl t) covered6

/-- A point's block of window 7 is the point's block of an array that agrees with it column by column. -/
theorem cut7 (t : Fin cfg0.N) (X : Vec Ideal S176x256 .f32) (Y : Vec Ideal S176x3584 .f32)
    (h : ∀ (r : Fin 176) (d : Fin 256), @Eq EReal (X (ix2 r d)) (Y (ix2 r (col t d)))) :
    (cfg0.win 7).cut (grid0.coords t) X = ((cfg0.win 7).blk t).view.read (Elt Ideal) Y := by
  funext j
  show X j = Y (((cfg0.win 7).blk t).view.emb j)
  have e : j = (ix2 (j 0 : Fin 176) (j 1 : Fin 256) : S176x256.Idx) := ix2_eta (m := 176) (n := 256) j
  exact (congrArg X e).trans ((h (j 0) (j 1)).trans (congrArg Y
    ((emb7 t (j 0) (j 1)).symm.trans (congrArg (fun k : S176x256.Idx => ((cfg0.win 7).blk t).view.emb k) e.symm))))

/-- Where a column of the blocks is a column of arrays, window 7 holds what the reference has there. -/
theorem at7 (c : Dev nD) (i : grid0.Coords) (arg1 : Memref sig .tc .vmem S22528x256 .fp8e4m3) (harg1 : arg1.IsWhole) (arg2 : Memref sig .tc .vmem S176x256 .f32) (harg2 : arg2.IsWhole) (arg3 : Memref sig .tc .vmem S80x22528 .bf16) (harg3 : arg3.IsWhole) (arg4 : Memref sig .tc .vmem S22528x128 .fp8e4m3) (harg4 : arg4.IsWhole) (arg5 : Memref sig .tc .vmem S176x128 .f32) (harg5 : arg5.IsWhole) (arg6 : Memref sig .tc .vmem S72x72 .f32) (harg6 : arg6.IsWhole) (arg7 : Memref sig .tc .vmem S22528x256 .fp8e4m3) (harg7 : arg7.IsWhole) (arg8 : Memref sig .tc .vmem S176x256 .f32) (harg8 : arg8.IsWhole) (arg9 : Memref sig .tc .vmem S72x256 .fp8e4m3) (harg9 : arg9.IsWhole) (arg10 : Memref sig .tc .vmem S1x256 .f32) (harg10 : arg10.IsWhole) (arg11 : Memref sig .tc .vmem S1024x256 .f32) (harg11 : arg11.IsWhole) (x0 : Vec Ideal S22528x256 .fp8e4m3) (x1 : Vec Ideal S176x256 .f32) (x2 : Vec Ideal S80x22528 .bf16) (x3 : Vec Ideal S22528x128 .fp8e4m3) (x4 : Vec Ideal S176x128 .f32) (x5 : Vec Ideal S72x72 .f32) (a0 : Vec Ideal S22528x3584 .fp8e4m3) (a1 : Vec Ideal S176x3584 .f32) (a2 : Vec Ideal S80x22528 .bf16) (a3 : Vec Ideal S22528x128 .fp8e4m3) (a4 : Vec Ideal S176x128 .f32) (a5 : Vec Ideal S72x72 .f32)
    (d : Fin 256) (D : Fin 3584) (hc : (colOf (N := 256) x0 x1 x2 x3 x4 x5 d) = (colOf (N := 3584) a0 a1 a2 a3 a4 a5 D)) (hs : ScalesPos a1) (hl : ScalesFill x4) (r : Fin 176) :
    @Eq EReal (out0_A_7 (F := Ideal) c i arg1 harg1 arg2 harg2 arg3 harg3 arg4 harg4 arg5 harg5 arg6 harg6 arg7 harg7 arg8 harg8 arg9 harg9 arg10 harg10 arg11 harg11 x0 x1 x2 x3 x4 x5 (ix2 r d)) (Cert.ReferenceIdeal.Read.G7 (F := Ideal) a0 a1 a2 a3 a4 a5 (ix2 r D)) := by
  obtain ⟨s, h0, h1⟩ := hs r D
  exact (out7 c i arg1 harg1 arg2 harg2 arg3 harg3 arg4 harg4 arg5 harg5 arg6 harg6 arg7 harg7 arg8 harg8 arg9 harg9 arg10 harg10 arg11 harg11 x0 x1 x2 x3 x4 x5 hl r d).trans ((congrArg (fun K : Col => K.kScl r) hc).trans
    ((Col.kScl_eq _ _ s h0 h1).trans (Cert.ReferenceIdeal.Read.scl_apply a0 a1 a2 a3 a4 a5 r D).symm))

/-- What a point writes back is its block of the reference's function. -/
theorem flushed7_eq (c : Dev nD) (hs : ScalesPos (V m c main_arg1)) (hl : ScalesFill (V m c main_arg4)) (t : Fin cfg0.N) :
    (dats m 0 c).flushed 7 t = ((cfg0.win 7).blk t).view.read (Elt Ideal) (Cert.ReferenceIdeal.Read.G7 (F := Ideal) (V m c main_arg0) (V m c main_arg1) (V m c main_arg2) (V m c main_arg3) (V m c main_arg4) (V m c main_arg5)) := by
  rw [flushed7_A]
  exact cut7 t _ _ fun r d => at7 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) (iblk m c 0 t) (iblk m c 1 t) (iblk m c 2 t) (iblk m c 3 t) (iblk m c 4 t) (iblk m c 5 t) (V m c main_arg0) (V m c main_arg1) (V m c main_arg2) (V m c main_arg3) (V m c main_arg4) (V m c main_arg5) d (col t d) (colOf_blk m c t d) hs (fun b q => (iblk4 m c t b q).trans ((hl b q).trans (iblk4 m c t b 0).symm)) r

/-- Every index of the array is in some point's block. -/
theorem covered7 (i : S176x3584.Idx) :
    ∃ t : Fin cfg0.N, (cfg0.win 7).flush t = true ∧ i ∈ ((cfg0.win 7).blk t).view.set := by
  have h := ((cfg0.win 7).blk (pt (i 1))).view.emb_mem_set (ix2 (i 0 : Fin 176) (cl (i 1)) : S176x256.Idx)
  have e := (emb7 (pt (i 1)) (i 0) (cl (i 1))).trans ((congrArg (fun D => (ix2 (i 0 : Fin 176) D : S176x3584.Idx)) (col_pt (i 1))).trans
    (ix2_eta (m := 176) (n := 3584) i).symm)
  exact ⟨pt (i 1), flush0_7 (pt (i 1)), (congrArg (fun k => k ∈ ((cfg0.win 7).blk (pt (i 1))).view.set) e).mp h⟩

/-- The array after the run is the reference's function of the arguments. -/
theorem final7 (c : Dev nD) (hs : ScalesPos (V m c main_arg1)) (hl : ScalesFill (V m c main_arg4)) :
    (dats m 0 c).arrAt 7 cfg0.N = Cert.ReferenceIdeal.Read.G7 (F := Ideal) (V m c main_arg0) (V m c main_arg1) (V m c main_arg2) (V m c main_arg3) (V m c main_arg4) (V m c main_arg5) :=
  (dats m 0 c).arrAt_eq_of_cover 7 _ (fun t _ => flushed7_eq m c hs hl t) covered7

/-- A point's block of window 8 is the point's block of an array that agrees with it column by column. -/
theorem cut8 (t : Fin cfg0.N) (X : Vec Ideal S72x256 .fp8e4m3) (Y : Vec Ideal S72x3584 .fp8e4m3)
    (h : ∀ (r : Fin 72) (d : Fin 256), @Eq EReal (X (ix2 r d)) (Y (ix2 r (col t d)))) :
    (cfg0.win 8).cut (grid0.coords t) X = ((cfg0.win 8).blk t).view.read (Elt Ideal) Y := by
  funext j
  show X j = Y (((cfg0.win 8).blk t).view.emb j)
  have e : j = (ix2 (j 0 : Fin 72) (j 1 : Fin 256) : S72x256.Idx) := ix2_eta (m := 72) (n := 256) j
  exact (congrArg X e).trans ((h (j 0) (j 1)).trans (congrArg Y
    ((emb8 t (j 0) (j 1)).symm.trans (congrArg (fun k : S72x256.Idx => ((cfg0.win 8).blk t).view.emb k) e.symm))))

/-- Where a column of the blocks is a column of arrays, window 8 holds what the reference has there. -/
theorem at8 (c : Dev nD) (i : grid0.Coords) (arg1 : Memref sig .tc .vmem S22528x256 .fp8e4m3) (harg1 : arg1.IsWhole) (arg2 : Memref sig .tc .vmem S176x256 .f32) (harg2 : arg2.IsWhole) (arg3 : Memref sig .tc .vmem S80x22528 .bf16) (harg3 : arg3.IsWhole) (arg4 : Memref sig .tc .vmem S22528x128 .fp8e4m3) (harg4 : arg4.IsWhole) (arg5 : Memref sig .tc .vmem S176x128 .f32) (harg5 : arg5.IsWhole) (arg6 : Memref sig .tc .vmem S72x72 .f32) (harg6 : arg6.IsWhole) (arg7 : Memref sig .tc .vmem S22528x256 .fp8e4m3) (harg7 : arg7.IsWhole) (arg8 : Memref sig .tc .vmem S176x256 .f32) (harg8 : arg8.IsWhole) (arg9 : Memref sig .tc .vmem S72x256 .fp8e4m3) (harg9 : arg9.IsWhole) (arg10 : Memref sig .tc .vmem S1x256 .f32) (harg10 : arg10.IsWhole) (arg11 : Memref sig .tc .vmem S1024x256 .f32) (harg11 : arg11.IsWhole) (x0 : Vec Ideal S22528x256 .fp8e4m3) (x1 : Vec Ideal S176x256 .f32) (x2 : Vec Ideal S80x22528 .bf16) (x3 : Vec Ideal S22528x128 .fp8e4m3) (x4 : Vec Ideal S176x128 .f32) (x5 : Vec Ideal S72x72 .f32) (a0 : Vec Ideal S22528x3584 .fp8e4m3) (a1 : Vec Ideal S176x3584 .f32) (a2 : Vec Ideal S80x22528 .bf16) (a3 : Vec Ideal S22528x128 .fp8e4m3) (a4 : Vec Ideal S176x128 .f32) (a5 : Vec Ideal S72x72 .f32)
    (d : Fin 256) (D : Fin 3584) (hc : (colOf (N := 256) x0 x1 x2 x3 x4 x5 d) = (colOf (N := 3584) a0 a1 a2 a3 a4 a5 D))  (r : Fin 72) :
    @Eq EReal (out0_A_8 (F := Ideal) c i arg1 harg1 arg2 harg2 arg3 harg3 arg4 harg4 arg5 harg5 arg6 harg6 arg7 harg7 arg8 harg8 arg9 harg9 arg10 harg10 arg11 harg11 x0 x1 x2 x3 x4 x5 (ix2 r d)) (Cert.ReferenceIdeal.Read.G8 (F := Ideal) a0 a1 a2 a3 a4 a5 (ix2 r D)) := by
  exact (out8 c i arg1 harg1 arg2 harg2 arg3 harg3 arg4 harg4 arg5 harg5 arg6 harg6 arg7 harg7 arg8 harg8 arg9 harg9 arg10 harg10 arg11 harg11 x0 x1 x2 x3 x4 x5 r d).trans ((congrArg (fun K : Col => K.kYCode r) hc).trans
    ((congrFun (Col.kYCode_eq _) r).trans (Cert.ReferenceIdeal.Read.yCode_apply a0 a1 a2 a3 a4 a5 r D).symm))

/-- What a point writes back is its block of the reference's function. -/
theorem flushed8_eq (c : Dev nD)  (t : Fin cfg0.N) :
    (dats m 0 c).flushed 8 t = ((cfg0.win 8).blk t).view.read (Elt Ideal) (Cert.ReferenceIdeal.Read.G8 (F := Ideal) (V m c main_arg0) (V m c main_arg1) (V m c main_arg2) (V m c main_arg3) (V m c main_arg4) (V m c main_arg5)) := by
  rw [flushed8_A]
  exact cut8 t _ _ fun r d => at8 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) (iblk m c 0 t) (iblk m c 1 t) (iblk m c 2 t) (iblk m c 3 t) (iblk m c 4 t) (iblk m c 5 t) (V m c main_arg0) (V m c main_arg1) (V m c main_arg2) (V m c main_arg3) (V m c main_arg4) (V m c main_arg5) d (col t d) (colOf_blk m c t d)  r

/-- Every index of the array is in some point's block. -/
theorem covered8 (i : S72x3584.Idx) :
    ∃ t : Fin cfg0.N, (cfg0.win 8).flush t = true ∧ i ∈ ((cfg0.win 8).blk t).view.set := by
  have h := ((cfg0.win 8).blk (pt (i 1))).view.emb_mem_set (ix2 (i 0 : Fin 72) (cl (i 1)) : S72x256.Idx)
  have e := (emb8 (pt (i 1)) (i 0) (cl (i 1))).trans ((congrArg (fun D => (ix2 (i 0 : Fin 72) D : S72x3584.Idx)) (col_pt (i 1))).trans
    (ix2_eta (m := 72) (n := 3584) i).symm)
  exact ⟨pt (i 1), flush0_8 (pt (i 1)), (congrArg (fun k => k ∈ ((cfg0.win 8).blk (pt (i 1))).view.set) e).mp h⟩

/-- The array after the run is the reference's function of the arguments. -/
theorem final8 (c : Dev nD)  :
    (dats m 0 c).arrAt 8 cfg0.N = Cert.ReferenceIdeal.Read.G8 (F := Ideal) (V m c main_arg0) (V m c main_arg1) (V m c main_arg2) (V m c main_arg3) (V m c main_arg4) (V m c main_arg5) :=
  (dats m 0 c).arrAt_eq_of_cover 8 _ (fun t _ => flushed8_eq m c  t) covered8

/-- A point's block of window 9 is the point's block of an array that agrees with it column by column. -/
theorem cut9 (t : Fin cfg0.N) (X : Vec Ideal S1x256 .f32) (Y : Vec Ideal S1x3584 .f32)
    (h : ∀ (r : Fin 1) (d : Fin 256), @Eq EReal (X (ix2 r d)) (Y (ix2 r (col t d)))) :
    (cfg0.win 9).cut (grid0.coords t) X = ((cfg0.win 9).blk t).view.read (Elt Ideal) Y := by
  funext j
  show X j = Y (((cfg0.win 9).blk t).view.emb j)
  have e : j = (ix2 (j 0 : Fin 1) (j 1 : Fin 256) : S1x256.Idx) := ix2_eta (m := 1) (n := 256) j
  exact (congrArg X e).trans ((h (j 0) (j 1)).trans (congrArg Y
    ((emb9 t (j 0) (j 1)).symm.trans (congrArg (fun k : S1x256.Idx => ((cfg0.win 9).blk t).view.emb k) e.symm))))

/-- Where a column of the blocks is a column of arrays, window 9 holds what the reference has there. -/
theorem at9 (c : Dev nD) (i : grid0.Coords) (arg1 : Memref sig .tc .vmem S22528x256 .fp8e4m3) (harg1 : arg1.IsWhole) (arg2 : Memref sig .tc .vmem S176x256 .f32) (harg2 : arg2.IsWhole) (arg3 : Memref sig .tc .vmem S80x22528 .bf16) (harg3 : arg3.IsWhole) (arg4 : Memref sig .tc .vmem S22528x128 .fp8e4m3) (harg4 : arg4.IsWhole) (arg5 : Memref sig .tc .vmem S176x128 .f32) (harg5 : arg5.IsWhole) (arg6 : Memref sig .tc .vmem S72x72 .f32) (harg6 : arg6.IsWhole) (arg7 : Memref sig .tc .vmem S22528x256 .fp8e4m3) (harg7 : arg7.IsWhole) (arg8 : Memref sig .tc .vmem S176x256 .f32) (harg8 : arg8.IsWhole) (arg9 : Memref sig .tc .vmem S72x256 .fp8e4m3) (harg9 : arg9.IsWhole) (arg10 : Memref sig .tc .vmem S1x256 .f32) (harg10 : arg10.IsWhole) (arg11 : Memref sig .tc .vmem S1024x256 .f32) (harg11 : arg11.IsWhole) (x0 : Vec Ideal S22528x256 .fp8e4m3) (x1 : Vec Ideal S176x256 .f32) (x2 : Vec Ideal S80x22528 .bf16) (x3 : Vec Ideal S22528x128 .fp8e4m3) (x4 : Vec Ideal S176x128 .f32) (x5 : Vec Ideal S72x72 .f32) (a0 : Vec Ideal S22528x3584 .fp8e4m3) (a1 : Vec Ideal S176x3584 .f32) (a2 : Vec Ideal S80x22528 .bf16) (a3 : Vec Ideal S22528x128 .fp8e4m3) (a4 : Vec Ideal S176x128 .f32) (a5 : Vec Ideal S72x72 .f32)
    (d : Fin 256) (D : Fin 3584) (hc : (colOf (N := 256) x0 x1 x2 x3 x4 x5 d) = (colOf (N := 3584) a0 a1 a2 a3 a4 a5 D))  (r : Fin 1) :
    @Eq EReal (out0_A_9 (F := Ideal) c i arg1 harg1 arg2 harg2 arg3 harg3 arg4 harg4 arg5 harg5 arg6 harg6 arg7 harg7 arg8 harg8 arg9 harg9 arg10 harg10 arg11 harg11 x0 x1 x2 x3 x4 x5 (ix2 r d)) (Cert.ReferenceIdeal.Read.G9 (F := Ideal) a0 a1 a2 a3 a4 a5 (ix2 r D)) := by
  obtain rfl : r = 0 := Fin.ext (by omega)
  exact (out9 c i arg1 harg1 arg2 harg2 arg3 harg3 arg4 harg4 arg5 harg5 arg6 harg6 arg7 harg7 arg8 harg8 arg9 harg9 arg10 harg10 arg11 harg11 x0 x1 x2 x3 x4 x5 d).trans ((congrArg (fun K : Col => Scale.kScale K.yMax) hc).trans
    ((Col.kYScl_eq _).trans (Cert.ReferenceIdeal.Read.yScl_apply a0 a1 a2 a3 a4 a5 D).symm))

/-- What a point writes back is its block of the reference's function. -/
theorem flushed9_eq (c : Dev nD)  (t : Fin cfg0.N) :
    (dats m 0 c).flushed 9 t = ((cfg0.win 9).blk t).view.read (Elt Ideal) (Cert.ReferenceIdeal.Read.G9 (F := Ideal) (V m c main_arg0) (V m c main_arg1) (V m c main_arg2) (V m c main_arg3) (V m c main_arg4) (V m c main_arg5)) := by
  rw [flushed9_A]
  exact cut9 t _ _ fun r d => at9 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) scM0_0 (Memref.isWhole_whole _) (iblk m c 0 t) (iblk m c 1 t) (iblk m c 2 t) (iblk m c 3 t) (iblk m c 4 t) (iblk m c 5 t) (V m c main_arg0) (V m c main_arg1) (V m c main_arg2) (V m c main_arg3) (V m c main_arg4) (V m c main_arg5) d (col t d) (colOf_blk m c t d)  r

/-- Every index of the array is in some point's block. -/
theorem covered9 (i : S1x3584.Idx) :
    ∃ t : Fin cfg0.N, (cfg0.win 9).flush t = true ∧ i ∈ ((cfg0.win 9).blk t).view.set := by
  have h := ((cfg0.win 9).blk (pt (i 1))).view.emb_mem_set (ix2 (i 0 : Fin 1) (cl (i 1)) : S1x256.Idx)
  have e := (emb9 (pt (i 1)) (i 0) (cl (i 1))).trans ((congrArg (fun D => (ix2 (i 0 : Fin 1) D : S1x3584.Idx)) (col_pt (i 1))).trans
    (ix2_eta (m := 1) (n := 3584) i).symm)
  exact ⟨pt (i 1), flush0_9 (pt (i 1)), (congrArg (fun k => k ∈ ((cfg0.win 9).blk (pt (i 1))).view.set) e).mp h⟩

/-- The array after the run is the reference's function of the arguments. -/
theorem final9 (c : Dev nD)  :
    (dats m 0 c).arrAt 9 cfg0.N = Cert.ReferenceIdeal.Read.G9 (F := Ideal) (V m c main_arg0) (V m c main_arg1) (V m c main_arg2) (V m c main_arg3) (V m c main_arg4) (V m c main_arg5) :=
  (dats m 0 c).arrAt_eq_of_cover 9 _ (fun t _ => flushed9_eq m c  t) covered9

end Cert.KernelIdeal.Read

end
-- ==== Proof.Precond.lean ====
/-
  What the precondition gives: every block scale of C is a positive real, and each row of the reflectors' scales is one
  number.
-/
module

public import proofs.«01_k».proof.Defs
public import proofs.«01_k».proof.Proof.Gen.Pre_scales_ok
public import Idealize.ShloMosaic.Lib.ReduceAll
public import Idealize.ShloMosaic.Lib.Pointwise

@[expose] public section

set_option maxRecDepth 16384

noncomputable section

namespace Cert.Pre_scales_ok.Read

open Cert.Pre_scales_ok Idealize.ShloMosaic

/-- A number above zero and below some bound is a positive real. -/
theorem pos_real (x u : EReal) (h0 : 0 < x) (h1 : x < u) : ∃ s : ℝ, 0 < s ∧ x = (s : EReal) := by
  induction x with
  | bot => exact absurd h0 (by simp)
  | top => exact absurd h1 (by simp)
  | coe s => exact ⟨s, by exact_mod_cast h0, rfl⟩

/-- A one-bit word that is one was made from `true`. -/
theorem ofBool_one {b : Bool} (h : BitVec.ofBool b = 1#1) : b = true := by
  revert h
  cases b <;> simp

variable [Facts] (a0 : FVec Ideal S22528x3584 .fp8e4m3) (a1 : FVec Ideal S176x3584 .f32) (a2 : FVec Ideal S80x22528 .bf16)
  (a3 : FVec Ideal S22528x128 .fp8e4m3) (a4 : FVec Ideal S176x128 .f32) (a5 : FVec Ideal S72x72 .f32)

/-- The two halves of the precondition. -/
theorem halves (h : fn (F := Ideal) a0 a1 a2 a3 a4 a5 = fun _ => 1#1) :
    (∀ i, @LT.lt EReal _ 0 (a1 i) ∧ @LT.lt EReal _ (a1 i) (Ideal.ofBits .f32 0x7F800000#32))
      ∧ ∀ (b : Fin 176) (q : Fin 128), @Eq EReal (a4 (ix2 b q)) (a4 (ix2 b 0)) := by
  have e := congrFun h (fun a => a.elim0)
  unfold fn at e
  dsimp only at e
  obtain ⟨e1, e2⟩ := IntOp.andi_eq_one.1 e
  refine ⟨fun i => ?_, fun b q => ?_⟩
  · have g := Host.reduce_andi_all _ _ _ _ _ e1 i
    obtain ⟨g1, g2⟩ := IntOp.andi_eq_one.1 g
    revert g1 g2
    pointwise []
    exact fun g1 g2 => ⟨of_decide_eq_true (ofBool_one g1), of_decide_eq_true (ofBool_one g2)⟩
  · have g := Host.reduce_andi_all _ _ _ _ _ e2 (ix2 b q)
    revert g
    pointwise []
    exact fun g => of_decide_eq_true (ofBool_one g)

/-- Every block scale of C is a positive real. -/
theorem pos (h : fn (F := Ideal) a0 a1 a2 a3 a4 a5 = fun _ => 1#1) (b : Fin 176) (d : Fin 3584) :
    ∃ s : ℝ, 0 < s ∧ @Eq EReal (a1 (ix2 b d)) (s : EReal) :=
  have g := (halves a0 a1 a2 a3 a4 a5 h).1 (ix2 b d)
  pos_real _ _ g.1 g.2

/-- Each row of the reflectors' scales is one number. -/
theorem fill (h : fn (F := Ideal) a0 a1 a2 a3 a4 a5 = fun _ => 1#1) (b : Fin 176) (q : Fin 128) :
    @Eq EReal (a4 (ix2 b q)) (a4 (ix2 b 0)) :=
  (halves a0 a1 a2 a3 a4 a5 h).2 b q

end Cert.Pre_scales_ok.Read

end
-- ==== Proof.PanelLoop.lean ====
/- The two outer loops of the factorisation: the transposing copy and the column steps, each by an invariant. -/
module

public import proofs.«01_k».proof.Proof.Gen.PanelIdeal.Loops

@[expose] public section

set_option maxRecDepth 16384

noncomputable section

namespace Cert.PanelIdeal.Run

open Cert.PanelIdeal Cert.PanelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligation cellOf)

variable {F : FTy → Type} [FloatOps F]

local notation "𝕄" => MT nD τ sig Unit (Elt F) ℕ (UR sig nD τ) ℕ

set_option maxHeartbeats 4000000 in
set_option warn.classDefReducibility false in
/-- The transposing copy: before every trip the argument is as it was and the working copy holds something. -/
@[sl_loop] def loopInv_k0_t1 (𝒱 : Variants) (c : Dev nD) (bd : Option 𝒱.V) (E : Set ℕ) (arg0 : Memref sig .tc .vmem S22528x72 .f32) (harg0 : arg0.IsWhole) (arg1 : Memref sig .tc .vmem S22528x72 .f32) (harg1 : arg1.IsWhole) (arg2 : Memref sig .tc .vmem S72x72 .f32) (harg2 : arg2.IsWhole) (arg3 : Memref sig .tc .vmem S72x72 .f32) (harg3 : arg3.IsWhole) (arg4 : Memref sig .tc .vmem S22528x72 .fp8e4m3) (harg4 : arg4.IsWhole) (arg5 : Memref sig .tc .vmem S176x128 .f32) (harg5 : arg5.IsWhole) (arg6 : Memref sig .tc .vmem S80x22528 .bf16) (harg6 : arg6.IsWhole) (arg7 : Memref sig .tc .vmem S22528x128 .fp8e4m3) (harg7 : arg7.IsWhole) (arg8 : Memref sig .tc .vmem S12751x128 .f32) (harg8 : arg8.IsWhole) (arg9 : Memref sig .tc .vmem S1152x128 .f32) (harg9 : arg9.IsWhole) (arg10 : Memref sig .tc .vmem S72x128 .f32) (harg10 : arg10.IsWhole) (arg11 : Memref sig .tc .vmem S72x128 .f32) (harg11 : arg11.IsWhole) (X_arg0 : BufTy.Contents (Elt F) arg0.view.ty) :
    LoopInvTy_k0_t1 (F := F) Unit ℕ (UR sig nD τ) ℕ 𝒱 c bd E arg0 harg0 arg1 harg1 arg2 harg2 arg3 harg3 arg4 harg4 arg5 harg5 arg6 harg6 arg7 harg7 arg8 harg8 arg9 harg9 arg10 harg10 arg11 harg11 where
  inv _ _ := iprop((arg0.view.loc (c : Thread nD τ) ↦[arg0.view.set]{fullShare} X_arg0) ∗ (∃ f8, (arg8.view.loc (c : Thread nD τ) ↦[arg8.view.set]{fullShare} f8)))
  step k acc := by
    unfold k0_t1_body
    iintro ⟨H0, ⟨%f8, H8⟩⟩
    sl_exec
    sl_step
    isplitl [H0]; · iexact H0
    iexists _; iexact H8

set_option maxHeartbeats 4000000 in
set_option warn.classDefReducibility false in
/-- The column steps: before every trip the four scratch buffers hold something. -/
@[sl_loop] def loopInv_k0_t2 (𝒱 : Variants) (c : Dev nD) (bd : Option 𝒱.V) (E : Set ℕ) (arg0 : Memref sig .tc .vmem S22528x72 .f32) (harg0 : arg0.IsWhole) (arg1 : Memref sig .tc .vmem S22528x72 .f32) (harg1 : arg1.IsWhole) (arg2 : Memref sig .tc .vmem S72x72 .f32) (harg2 : arg2.IsWhole) (arg3 : Memref sig .tc .vmem S72x72 .f32) (harg3 : arg3.IsWhole) (arg4 : Memref sig .tc .vmem S22528x72 .fp8e4m3) (harg4 : arg4.IsWhole) (arg5 : Memref sig .tc .vmem S176x128 .f32) (harg5 : arg5.IsWhole) (arg6 : Memref sig .tc .vmem S80x22528 .bf16) (harg6 : arg6.IsWhole) (arg7 : Memref sig .tc .vmem S22528x128 .fp8e4m3) (harg7 : arg7.IsWhole) (arg8 : Memref sig .tc .vmem S12751x128 .f32) (harg8 : arg8.IsWhole) (arg9 : Memref sig .tc .vmem S1152x128 .f32) (harg9 : arg9.IsWhole) (arg10 : Memref sig .tc .vmem S72x128 .f32) (harg10 : arg10.IsWhole) (arg11 : Memref sig .tc .vmem S72x128 .f32) (harg11 : arg11.IsWhole) (v1 : IVec S8x128 32) :
    LoopInvTy_k0_t2 (F := F) Unit ℕ (UR sig nD τ) ℕ 𝒱 c bd E arg0 harg0 arg1 harg1 arg2 harg2 arg3 harg3 arg4 harg4 arg5 harg5 arg6 harg6 arg7 harg7 arg8 harg8 arg9 harg9 arg10 harg10 arg11 harg11 v1 where
  inv _ _ := iprop((∃ f8, (arg8.view.loc (c : Thread nD τ) ↦[arg8.view.set]{fullShare} f8)) ∗ (∃ f9, (arg9.view.loc (c : Thread nD τ) ↦[arg9.view.set]{fullShare} f9)) ∗ (∃ f10, (arg10.view.loc (c : Thread nD τ) ↦[arg10.view.set]{fullShare} f10)) ∗ (∃ f11, (arg11.view.loc (c : Thread nD τ) ↦[arg11.view.set]{fullShare} f11)))
  step k acc := by
    unfold k0_t2_body
    iintro ⟨⟨%f8, H8⟩, ⟨%f9, H9⟩, ⟨%f10, H10⟩, ⟨%f11, H11⟩⟩
    sl_exec
    sl_step
    isplitl [H8]; · iexists _; iexact H8
    isplitl [H9]; · iexists _; iexact H9
    isplitl [H10]; · iexists _; iexact H10
    iexists _; iexact H11

end Cert.PanelIdeal.Run

end
-- ==== Proof.PanelFrame.lean ====
/- The whole body of the factorisation, run once, and the frame of its call. -/
module

public import proofs.«01_k».proof.Proof.PanelLoop
public import proofs.«01_k».proof.Proof.Gen.PanelIdeal.Frame
public import Idealize.ShloMosaic.Lib.Claim

@[expose] public section

set_option maxRecDepth 16384

noncomputable section

namespace Cert.PanelIdeal.Run

open Cert.PanelIdeal Cert.PanelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligation cellOf)

variable {F : FTy → Type} [FloatOps F]

local notation "𝕄" => MT nD τ sig Unit (Elt F) ℕ (UR sig nD τ) ℕ

set_option maxHeartbeats 4000000 in
/-- The body on whole memrefs, the argument's at its contents, the results' and the scratch at anything: it runs to
    the continuation holding the argument's as it was and the others at some contents. -/
theorem bodyRun (c : Dev nD) (arg0 : Memref sig .tc .vmem S22528x72 .f32) (harg0 : arg0.IsWhole) (arg1 : Memref sig .tc .vmem S22528x72 .f32) (harg1 : arg1.IsWhole) (arg2 : Memref sig .tc .vmem S72x72 .f32) (harg2 : arg2.IsWhole) (arg3 : Memref sig .tc .vmem S72x72 .f32) (harg3 : arg3.IsWhole) (arg4 : Memref sig .tc .vmem S22528x72 .fp8e4m3) (harg4 : arg4.IsWhole) (arg5 : Memref sig .tc .vmem S176x128 .f32) (harg5 : arg5.IsWhole) (arg6 : Memref sig .tc .vmem S80x22528 .bf16) (harg6 : arg6.IsWhole) (arg7 : Memref sig .tc .vmem S22528x128 .fp8e4m3) (harg7 : arg7.IsWhole) (arg8 : Memref sig .tc .vmem S12751x128 .f32) (harg8 : arg8.IsWhole) (arg9 : Memref sig .tc .vmem S1152x128 .f32) (harg9 : arg9.IsWhole) (arg10 : Memref sig .tc .vmem S72x128 .f32) (harg10 : arg10.IsWhole) (arg11 : Memref sig .tc .vmem S72x128 .f32) (harg11 : arg11.IsWhole) (x0 : Vec F S22528x72 .f32) (E : Set ℕ) (K : PUnit → sProp 𝕄) :
    iprop(owns (c : Thread nD τ) arg0 fullShare x0 ∗ (∃ d, owns (c : Thread nD τ) arg1 fullShare d) ∗ (∃ d, owns (c : Thread nD τ) arg2 fullShare d) ∗ (∃ d, owns (c : Thread nD τ) arg3 fullShare d) ∗ (∃ d, owns (c : Thread nD τ) arg4 fullShare d) ∗ (∃ d, owns (c : Thread nD τ) arg5 fullShare d) ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (iprop(owns (c : Thread nD τ) arg0 fullShare x0 ∗ (∃ d, owns (c : Thread nD τ) arg1 fullShare d) ∗ (∃ d, owns (c : Thread nD τ) arg2 fullShare d) ∗ (∃ d, owns (c : Thread nD τ) arg3 fullShare d) ∗ (∃ d, owns (c : Thread nD τ) arg4 fullShare d) ∗ (∃ d, owns (c : Thread nD τ) arg5 fullShare d) ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d)) -∗ K ⟨⟩))
      ⊢ wp frame (wpE (defs₀ (F := F)) Variants.none c none) E (cc0_panel arg0 harg0 arg1 harg1 arg2 harg2 arg3 harg3 arg4 harg4 arg5 harg5 arg6 harg6 arg7 harg7 arg8 harg8 arg9 harg9 arg10 harg10 arg11 harg11) K := by
  simp only [cc0_panel_eq_skeleton]; unfold cc0_panel_skel
  simp only [k0_part35_eq_skeleton]
  unfold owns
  iintro ⟨⟨%f0, %hf0, H0⟩, ⟨%d1, %f1, -, H1⟩, ⟨%d2, %f2, -, H2⟩, ⟨%d3, %f3, -, H3⟩, ⟨%d4, %f4, -, H4⟩, ⟨%d5, %f5, -, H5⟩, ⟨%d6, %f6, -, H6⟩, ⟨%d7, %f7, -, H7⟩, ⟨%d8, %f8, -, H8⟩, ⟨%d9, %f9, -, H9⟩, ⟨%d10, %f10, -, H10⟩, ⟨%d11, %f11, -, H11⟩, Hk⟩
  obtain rfl := harg0.eq_unread hf0
  sl_exec
  sl_step
  iapply Hk
  isplitl [H0]
  · iexists _; isplitr; · ipureintro; exact harg0.read_unread _
    iexact H0
  isplitl [H1]
  · iexists _, _; isplitr; swap; · iexact H1
    ipureintro; rfl
  isplitl [H2]
  · iexists _, _; isplitr; swap; · iexact H2
    ipureintro; rfl
  isplitl [H3]
  · iexists _, _; isplitr; swap; · iexact H3
    ipureintro; rfl
  isplitl [H4]
  · iexists _, _; isplitr; swap; · iexact H4
    ipureintro; rfl
  isplitl [H5]
  · iexists _, _; isplitr; swap; · iexact H5
    ipureintro; rfl
  isplitl [H6]
  · iexists _, _; isplitr; swap; · iexact H6
    ipureintro; rfl
  isplitl [H7]
  · iexists _, _; isplitr; swap; · iexact H7
    ipureintro; rfl
  isplitl [H8]
  · iexists _, _; isplitr; swap; · iexact H8
    ipureintro; rfl
  isplitl [H9]
  · iexists _, _; isplitr; swap; · iexact H9
    ipureintro; rfl
  isplitl [H10]
  · iexists _, _; isplitr; swap; · iexact H10
    ipureintro; rfl
  iexists _, _; isplitr; swap; · iexact H11
  ipureintro; rfl

variable (m : (ℓ : Loc nD τ sig) → Buf (Elt F) ℓ) (ρ : Dev nD → PrngReg)

/-- The invariant with the scratch operands as memrefs owned at some contents. -/
theorem PhiA0_eq (c : Dev nD) :
    (Pipeline.ΦA spec0 c : sProp 𝕄)
      = iprop(iprop((∃ d, owns (c : Thread nD τ) (Memref.whole cc0_scratch0) fullShare d) ∗ (∃ d, owns (c : Thread nD τ) (Memref.whole cc0_scratch1) fullShare d) ∗ (∃ d, owns (c : Thread nD τ) (Memref.whole cc0_scratch2) fullShare d) ∗ (∃ d, owns (c : Thread nD τ) (Memref.whole cc0_scratch3) fullShare d)) ∗ (∃ r, prngReg c r)) := by
  unfold Pipeline.ΦA; rw [scopedRest0_eq]; simp only [owns_whole]; try rfl

/-- The proof data: the arrays as the call finds them; of what the body leaves in a result, nothing is said. -/
def rdats (c : Dev nD) : RDat τ (Elt F) Unit ℕ (UR sig nD τ) ℕ cfg0 c where
  A w := V m c (Pipeline.arrRef spec0 w)
  after _ _ _ _ := True
  Φ _ := Pipeline.ΦA spec0 c
  q _ := fullShare
  owed _ := 0

/-- What the body is called with, the windows one by one. -/
def bodyPre (c : Dev nD) (t : Fin cfg0.N) (Y : (w : Fin 8) → (cfg0.win w).block.Idx → Elt F (cfg0.win w).elt) : sProp 𝕄 :=
  iprop((rdats m c).Φ t.castSucc ∗ (rdats m c).owesAt () t.castSucc
    ∗ owns (c : Thread nD τ) (st0_0 t) fullShare (Y 0)
    ∗ owns (c : Thread nD τ) (st0_1 t) fullShare (Y 1)
    ∗ owns (c : Thread nD τ) (st0_2 t) fullShare (Y 2)
    ∗ owns (c : Thread nD τ) (st0_3 t) fullShare (Y 3)
    ∗ owns (c : Thread nD τ) (st0_4 t) fullShare (Y 4)
    ∗ owns (c : Thread nD τ) (st0_5 t) fullShare (Y 5)
    ∗ owns (c : Thread nD τ) (st0_6 t) fullShare (Y 6)
    ∗ owns (c : Thread nD τ) (st0_7 t) fullShare (Y 7))

/-- What it returns. -/
def bodyPost (c : Dev nD) (t : Fin cfg0.N) (Y : (w : Fin 8) → (cfg0.win w).block.Idx → Elt F (cfg0.win w).elt) : sProp 𝕄 :=
  iprop((rdats m c).Φ t.succ ∗ (rdats m c).owesAt () t.succ
    ∗ (∃ X, ⌜(rdats m c).after 0 t (Y 0) X⌝ ∗ owns (c : Thread nD τ) (st0_0 t) fullShare X)
    ∗ (∃ X, ⌜(rdats m c).after 1 t (Y 1) X⌝ ∗ owns (c : Thread nD τ) (st0_1 t) fullShare X)
    ∗ (∃ X, ⌜(rdats m c).after 2 t (Y 2) X⌝ ∗ owns (c : Thread nD τ) (st0_2 t) fullShare X)
    ∗ (∃ X, ⌜(rdats m c).after 3 t (Y 3) X⌝ ∗ owns (c : Thread nD τ) (st0_3 t) fullShare X)
    ∗ (∃ X, ⌜(rdats m c).after 4 t (Y 4) X⌝ ∗ owns (c : Thread nD τ) (st0_4 t) fullShare X)
    ∗ (∃ X, ⌜(rdats m c).after 5 t (Y 5) X⌝ ∗ owns (c : Thread nD τ) (st0_5 t) fullShare X)
    ∗ (∃ X, ⌜(rdats m c).after 6 t (Y 6) X⌝ ∗ owns (c : Thread nD τ) (st0_6 t) fullShare X)
    ∗ (∃ X, ⌜(rdats m c).after 7 t (Y 7) X⌝ ∗ owns (c : Thread nD τ) (st0_7 t) fullShare X))

set_option maxHeartbeats 800000 in
/-- The body at the point. -/
theorem sound_body (c : Dev nD) (t : Fin cfg0.N) (Y : (w : Fin 8) → (cfg0.win w).block.Idx → Elt F (cfg0.win w).elt) :
    bodyPre m c t Y ⊢ wp frame (wpE (defs₀ (F := F)) Variants.none c none) Set.univ (bodyAt0 t) (fun _ => bodyPost m c t Y) := by
  unfold bodyPre bodyPost bodyAt0
  rw [show (rdats m c).Φ t.succ = (rdats m c).Φ t.castSucc from rfl,
    show (rdats m c).owesAt () t.succ = (rdats m c).owesAt () t.castSucc from rfl]
  rw [show (rdats m c).Φ t.castSucc = Pipeline.ΦA spec0 c from rfl, PhiA0_eq]
  iintro ⟨⟨⟨S0, S1, S2, S3⟩, Hg⟩, Ho, H0, H1, H2, H3, H4, H5, H6, H7⟩
  iapply (bodyRun c _ _ _ _ _ _ _ _ _ _ _ _ _ _ _ _ _ _ _ _ _ _ _ _ (Y 0) Set.univ _)
  isplitl [H0]; · iexact H0
  isplitl [H1]; · iexists _; iexact H1
  isplitl [H2]; · iexists _; iexact H2
  isplitl [H3]; · iexists _; iexact H3
  isplitl [H4]; · iexists _; iexact H4
  isplitl [H5]; · iexists _; iexact H5
  isplitl [H6]; · iexists _; iexact H6
  isplitl [H7]; · iexists _; iexact H7
  isplitl [S0]; · iexact S0
  isplitl [S1]; · iexact S1
  isplitl [S2]; · iexact S2
  isplitl [S3]; · iexact S3
  iintro ⟨H0, ⟨%e1, H1⟩, ⟨%e2, H2⟩, ⟨%e3, H3⟩, ⟨%e4, H4⟩, ⟨%e5, H5⟩, ⟨%e6, H6⟩, ⟨%e7, H7⟩, S0, S1, S2, S3⟩
  isplitl [S0 S1 S2 S3 Hg]
  · isplitl [S0 S1 S2 S3]
    · isplitl [S0]; · iexact S0
      isplitl [S1]; · iexact S1
      isplitl [S2]; · iexact S2
      iexact S3
    iexact Hg
  isplitl [Ho]; · iexact Ho
  isplitl [H0]
  · iexists _; isplitr; swap; · iexact H0
    ipureintro; trivial
  isplitl [H1]
  · iexists _; isplitr; swap; · iexact H1
    ipureintro; trivial
  isplitl [H2]
  · iexists _; isplitr; swap; · iexact H2
    ipureintro; trivial
  isplitl [H3]
  · iexists _; isplitr; swap; · iexact H3
    ipureintro; trivial
  isplitl [H4]
  · iexists _; isplitr; swap; · iexact H4
    ipureintro; trivial
  isplitl [H5]
  · iexists _; isplitr; swap; · iexact H5
    ipureintro; trivial
  isplitl [H6]
  · iexists _; isplitr; swap; · iexact H6
    ipureintro; trivial
  iexists _; isplitr; swap; · iexact H7
  ipureintro; trivial

/-- The body table's row at the point's slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation. -/
theorem body_obligation (c : Dev nD) : (rdats (F := F) m c).BodyObligation (defs₀ (F := F)) Variants.none () Set.univ := fun t Y _ => by
  rw [bigSep_W0, bigSep_W0, defs₀_row]
  exact triple_restated (sound_body m c t Y) rfl .rfl fun _ => .rfl

set_option backward.isDefEq.respectTransparency.types false in
/-- The launch: every array of the call at contents the proof data allows, and every semaphore counter at zero. -/
theorem run_main_quiescent : θ_run defs (onTc (τ := τ) (main (F := F))) (s₀ m ρ) (fun r => RDat.FramePost cfg0 (rdats m) (V m) r ∧ r.2.sem = fun _ => 0) :=
  RDat.θ_run_frame (Q' := _) cfgs (0 : Fin 1) launch0 defs₀ Variants.none (rdats m) m ρ main
    (hbody := body_obligation m) (hshare := fun c w => by unfold RDat.share; split <;> rfl)
    (howed := fun _ _ => rfl) (V := V m) (hmain := hmain m Variants.none) (hA := fun _ _ => rfl) (hΦ := fun _ _ => rfl)

/-- The frame: every fair execution of @main terminates with the argument array unchanged, and every semaphore counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0))
      ∧ r.2.sem = fun _ => 0) :=
  (θ_run defs _ _).mono (fun _ h => ⟨fun c => h.1.arr_in c 0 rfl, h.2⟩) (run_main_quiescent m ρ)

end Cert.PanelIdeal.Run

end
-- ==== Proof.PanelRawLoop.lean ====
/- The two outer loops of the factorisation: the transposing copy and the column steps, each by an invariant. -/
module

public import proofs.«01_k».proof.Proof.Gen.Panel.Loops

@[expose] public section

set_option maxRecDepth 16384

noncomputable section

namespace Cert.Panel.Run

open Cert.Panel Cert.Panel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligation cellOf)

variable {F : FTy → Type} [FloatOps F]

local notation "𝕄" => MT nD τ sig Unit (Elt F) ℕ (UR sig nD τ) ℕ

set_option maxHeartbeats 4000000 in
set_option warn.classDefReducibility false in
/-- The transposing copy: before every trip the argument is as it was and the working copy holds something. -/
@[sl_loop] def loopInv_k0_t1 (𝒱 : Variants) (c : Dev nD) (bd : Option 𝒱.V) (E : Set ℕ) (arg0 : Memref sig .tc .vmem S22528x72 .f32) (harg0 : arg0.IsWhole) (arg1 : Memref sig .tc .vmem S22528x72 .f32) (harg1 : arg1.IsWhole) (arg2 : Memref sig .tc .vmem S72x72 .f32) (harg2 : arg2.IsWhole) (arg3 : Memref sig .tc .vmem S72x72 .f32) (harg3 : arg3.IsWhole) (arg4 : Memref sig .tc .vmem S22528x72 .fp8e4m3) (harg4 : arg4.IsWhole) (arg5 : Memref sig .tc .vmem S176x128 .f32) (harg5 : arg5.IsWhole) (arg6 : Memref sig .tc .vmem S80x22528 .bf16) (harg6 : arg6.IsWhole) (arg7 : Memref sig .tc .vmem S22528x128 .fp8e4m3) (harg7 : arg7.IsWhole) (arg8 : Memref sig .tc .vmem S12751x128 .f32) (harg8 : arg8.IsWhole) (arg9 : Memref sig .tc .vmem S1152x128 .f32) (harg9 : arg9.IsWhole) (arg10 : Memref sig .tc .vmem S72x128 .f32) (harg10 : arg10.IsWhole) (arg11 : Memref sig .tc .vmem S72x128 .f32) (harg11 : arg11.IsWhole) (X_arg0 : BufTy.Contents (Elt F) arg0.view.ty) :
    LoopInvTy_k0_t1 (F := F) Unit ℕ (UR sig nD τ) ℕ 𝒱 c bd E arg0 harg0 arg1 harg1 arg2 harg2 arg3 harg3 arg4 harg4 arg5 harg5 arg6 harg6 arg7 harg7 arg8 harg8 arg9 harg9 arg10 harg10 arg11 harg11 where
  inv _ _ := iprop((arg0.view.loc (c : Thread nD τ) ↦[arg0.view.set]{fullShare} X_arg0) ∗ (∃ f8, (arg8.view.loc (c : Thread nD τ) ↦[arg8.view.set]{fullShare} f8)))
  step k acc := by
    unfold k0_t1_body
    iintro ⟨H0, ⟨%f8, H8⟩⟩
    sl_exec
    sl_step
    isplitl [H0]; · iexact H0
    iexists _; iexact H8

set_option maxHeartbeats 4000000 in
set_option warn.classDefReducibility false in
/-- The column steps: before every trip the four scratch buffers hold something. -/
@[sl_loop] def loopInv_k0_t2 (𝒱 : Variants) (c : Dev nD) (bd : Option 𝒱.V) (E : Set ℕ) (arg0 : Memref sig .tc .vmem S22528x72 .f32) (harg0 : arg0.IsWhole) (arg1 : Memref sig .tc .vmem S22528x72 .f32) (harg1 : arg1.IsWhole) (arg2 : Memref sig .tc .vmem S72x72 .f32) (harg2 : arg2.IsWhole) (arg3 : Memref sig .tc .vmem S72x72 .f32) (harg3 : arg3.IsWhole) (arg4 : Memref sig .tc .vmem S22528x72 .fp8e4m3) (harg4 : arg4.IsWhole) (arg5 : Memref sig .tc .vmem S176x128 .f32) (harg5 : arg5.IsWhole) (arg6 : Memref sig .tc .vmem S80x22528 .bf16) (harg6 : arg6.IsWhole) (arg7 : Memref sig .tc .vmem S22528x128 .fp8e4m3) (harg7 : arg7.IsWhole) (arg8 : Memref sig .tc .vmem S12751x128 .f32) (harg8 : arg8.IsWhole) (arg9 : Memref sig .tc .vmem S1152x128 .f32) (harg9 : arg9.IsWhole) (arg10 : Memref sig .tc .vmem S72x128 .f32) (harg10 : arg10.IsWhole) (arg11 : Memref sig .tc .vmem S72x128 .f32) (harg11 : arg11.IsWhole) (v1 : IVec S8x128 32) :
    LoopInvTy_k0_t2 (F := F) Unit ℕ (UR sig nD τ) ℕ 𝒱 c bd E arg0 harg0 arg1 harg1 arg2 harg2 arg3 harg3 arg4 harg4 arg5 harg5 arg6 harg6 arg7 harg7 arg8 harg8 arg9 harg9 arg10 harg10 arg11 harg11 v1 where
  inv _ _ := iprop((∃ f8, (arg8.view.loc (c : Thread nD τ) ↦[arg8.view.set]{fullShare} f8)) ∗ (∃ f9, (arg9.view.loc (c : Thread nD τ) ↦[arg9.view.set]{fullShare} f9)) ∗ (∃ f10, (arg10.view.loc (c : Thread nD τ) ↦[arg10.view.set]{fullShare} f10)) ∗ (∃ f11, (arg11.view.loc (c : Thread nD τ) ↦[arg11.view.set]{fullShare} f11)))
  step k acc := by
    unfold k0_t2_body
    iintro ⟨⟨%f8, H8⟩, ⟨%f9, H9⟩, ⟨%f10, H10⟩, ⟨%f11, H11⟩⟩
    sl_exec
    sl_step
    isplitl [H8]; · iexists _; iexact H8
    isplitl [H9]; · iexists _; iexact H9
    isplitl [H10]; · iexists _; iexact H10
    iexists _; iexact H11

end Cert.Panel.Run

end
-- ==== Proof.PanelRawFrame.lean ====
/- The whole body of the factorisation, run once, and the frame of its call. -/
module

public import proofs.«01_k».proof.Proof.PanelRawLoop
public import proofs.«01_k».proof.Proof.Gen.Panel.Frame
public import Idealize.ShloMosaic.Lib.Claim

@[expose] public section

set_option maxRecDepth 16384

noncomputable section

namespace Cert.Panel.Run

open Cert.Panel Cert.Panel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligation cellOf)

variable {F : FTy → Type} [FloatOps F]

local notation "𝕄" => MT nD τ sig Unit (Elt F) ℕ (UR sig nD τ) ℕ

set_option maxHeartbeats 4000000 in
/-- The body on whole memrefs, the argument's at its contents, the results' and the scratch at anything: it runs to
    the continuation holding the argument's as it was and the others at some contents. -/
theorem bodyRun (c : Dev nD) (arg0 : Memref sig .tc .vmem S22528x72 .f32) (harg0 : arg0.IsWhole) (arg1 : Memref sig .tc .vmem S22528x72 .f32) (harg1 : arg1.IsWhole) (arg2 : Memref sig .tc .vmem S72x72 .f32) (harg2 : arg2.IsWhole) (arg3 : Memref sig .tc .vmem S72x72 .f32) (harg3 : arg3.IsWhole) (arg4 : Memref sig .tc .vmem S22528x72 .fp8e4m3) (harg4 : arg4.IsWhole) (arg5 : Memref sig .tc .vmem S176x128 .f32) (harg5 : arg5.IsWhole) (arg6 : Memref sig .tc .vmem S80x22528 .bf16) (harg6 : arg6.IsWhole) (arg7 : Memref sig .tc .vmem S22528x128 .fp8e4m3) (harg7 : arg7.IsWhole) (arg8 : Memref sig .tc .vmem S12751x128 .f32) (harg8 : arg8.IsWhole) (arg9 : Memref sig .tc .vmem S1152x128 .f32) (harg9 : arg9.IsWhole) (arg10 : Memref sig .tc .vmem S72x128 .f32) (harg10 : arg10.IsWhole) (arg11 : Memref sig .tc .vmem S72x128 .f32) (harg11 : arg11.IsWhole) (x0 : Vec F S22528x72 .f32) (E : Set ℕ) (K : PUnit → sProp 𝕄) :
    iprop(owns (c : Thread nD τ) arg0 fullShare x0 ∗ (∃ d, owns (c : Thread nD τ) arg1 fullShare d) ∗ (∃ d, owns (c : Thread nD τ) arg2 fullShare d) ∗ (∃ d, owns (c : Thread nD τ) arg3 fullShare d) ∗ (∃ d, owns (c : Thread nD τ) arg4 fullShare d) ∗ (∃ d, owns (c : Thread nD τ) arg5 fullShare d) ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (iprop(owns (c : Thread nD τ) arg0 fullShare x0 ∗ (∃ d, owns (c : Thread nD τ) arg1 fullShare d) ∗ (∃ d, owns (c : Thread nD τ) arg2 fullShare d) ∗ (∃ d, owns (c : Thread nD τ) arg3 fullShare d) ∗ (∃ d, owns (c : Thread nD τ) arg4 fullShare d) ∗ (∃ d, owns (c : Thread nD τ) arg5 fullShare d) ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d)) -∗ K ⟨⟩))
      ⊢ wp frame (wpE (defs₀ (F := F)) Variants.none c none) E (cc0_panel arg0 harg0 arg1 harg1 arg2 harg2 arg3 harg3 arg4 harg4 arg5 harg5 arg6 harg6 arg7 harg7 arg8 harg8 arg9 harg9 arg10 harg10 arg11 harg11) K := by
  simp only [cc0_panel_eq_skeleton]; unfold cc0_panel_skel
  simp only [k0_part35_eq_skeleton]
  unfold owns
  iintro ⟨⟨%f0, %hf0, H0⟩, ⟨%d1, %f1, -, H1⟩, ⟨%d2, %f2, -, H2⟩, ⟨%d3, %f3, -, H3⟩, ⟨%d4, %f4, -, H4⟩, ⟨%d5, %f5, -, H5⟩, ⟨%d6, %f6, -, H6⟩, ⟨%d7, %f7, -, H7⟩, ⟨%d8, %f8, -, H8⟩, ⟨%d9, %f9, -, H9⟩, ⟨%d10, %f10, -, H10⟩, ⟨%d11, %f11, -, H11⟩, Hk⟩
  obtain rfl := harg0.eq_unread hf0
  sl_exec
  sl_step
  iapply Hk
  isplitl [H0]
  · iexists _; isplitr; · ipureintro; exact harg0.read_unread _
    iexact H0
  isplitl [H1]
  · iexists _, _; isplitr; swap; · iexact H1
    ipureintro; rfl
  isplitl [H2]
  · iexists _, _; isplitr; swap; · iexact H2
    ipureintro; rfl
  isplitl [H3]
  · iexists _, _; isplitr; swap; · iexact H3
    ipureintro; rfl
  isplitl [H4]
  · iexists _, _; isplitr; swap; · iexact H4
    ipureintro; rfl
  isplitl [H5]
  · iexists _, _; isplitr; swap; · iexact H5
    ipureintro; rfl
  isplitl [H6]
  · iexists _, _; isplitr; swap; · iexact H6
    ipureintro; rfl
  isplitl [H7]
  · iexists _, _; isplitr; swap; · iexact H7
    ipureintro; rfl
  isplitl [H8]
  · iexists _, _; isplitr; swap; · iexact H8
    ipureintro; rfl
  isplitl [H9]
  · iexists _, _; isplitr; swap; · iexact H9
    ipureintro; rfl
  isplitl [H10]
  · iexists _, _; isplitr; swap; · iexact H10
    ipureintro; rfl
  iexists _, _; isplitr; swap; · iexact H11
  ipureintro; rfl

variable (m : (ℓ : Loc nD τ sig) → Buf (Elt F) ℓ) (ρ : Dev nD → PrngReg)

/-- The invariant with the scratch operands as memrefs owned at some contents. -/
theorem PhiA0_eq (c : Dev nD) :
    (Pipeline.ΦA spec0 c : sProp 𝕄)
      = iprop(iprop((∃ d, owns (c : Thread nD τ) (Memref.whole cc0_scratch0) fullShare d) ∗ (∃ d, owns (c : Thread nD τ) (Memref.whole cc0_scratch1) fullShare d) ∗ (∃ d, owns (c : Thread nD τ) (Memref.whole cc0_scratch2) fullShare d) ∗ (∃ d, owns (c : Thread nD τ) (Memref.whole cc0_scratch3) fullShare d)) ∗ (∃ r, prngReg c r)) := by
  unfold Pipeline.ΦA; rw [scopedRest0_eq]; simp only [owns_whole]; try rfl

/-- The proof data: the arrays as the call finds them; of what the body leaves in a result, nothing is said. -/
def rdats (c : Dev nD) : RDat τ (Elt F) Unit ℕ (UR sig nD τ) ℕ cfg0 c where
  A w := V m c (Pipeline.arrRef spec0 w)
  after _ _ _ _ := True
  Φ _ := Pipeline.ΦA spec0 c
  q _ := fullShare
  owed _ := 0

/-- What the body is called with, the windows one by one. -/
def bodyPre (c : Dev nD) (t : Fin cfg0.N) (Y : (w : Fin 8) → (cfg0.win w).block.Idx → Elt F (cfg0.win w).elt) : sProp 𝕄 :=
  iprop((rdats m c).Φ t.castSucc ∗ (rdats m c).owesAt () t.castSucc
    ∗ owns (c : Thread nD τ) (st0_0 t) fullShare (Y 0)
    ∗ owns (c : Thread nD τ) (st0_1 t) fullShare (Y 1)
    ∗ owns (c : Thread nD τ) (st0_2 t) fullShare (Y 2)
    ∗ owns (c : Thread nD τ) (st0_3 t) fullShare (Y 3)
    ∗ owns (c : Thread nD τ) (st0_4 t) fullShare (Y 4)
    ∗ owns (c : Thread nD τ) (st0_5 t) fullShare (Y 5)
    ∗ owns (c : Thread nD τ) (st0_6 t) fullShare (Y 6)
    ∗ owns (c : Thread nD τ) (st0_7 t) fullShare (Y 7))

/-- What it returns. -/
def bodyPost (c : Dev nD) (t : Fin cfg0.N) (Y : (w : Fin 8) → (cfg0.win w).block.Idx → Elt F (cfg0.win w).elt) : sProp 𝕄 :=
  iprop((rdats m c).Φ t.succ ∗ (rdats m c).owesAt () t.succ
    ∗ (∃ X, ⌜(rdats m c).after 0 t (Y 0) X⌝ ∗ owns (c : Thread nD τ) (st0_0 t) fullShare X)
    ∗ (∃ X, ⌜(rdats m c).after 1 t (Y 1) X⌝ ∗ owns (c : Thread nD τ) (st0_1 t) fullShare X)
    ∗ (∃ X, ⌜(rdats m c).after 2 t (Y 2) X⌝ ∗ owns (c : Thread nD τ) (st0_2 t) fullShare X)
    ∗ (∃ X, ⌜(rdats m c).after 3 t (Y 3) X⌝ ∗ owns (c : Thread nD τ) (st0_3 t) fullShare X)
    ∗ (∃ X, ⌜(rdats m c).after 4 t (Y 4) X⌝ ∗ owns (c : Thread nD τ) (st0_4 t) fullShare X)
    ∗ (∃ X, ⌜(rdats m c).after 5 t (Y 5) X⌝ ∗ owns (c : Thread nD τ) (st0_5 t) fullShare X)
    ∗ (∃ X, ⌜(rdats m c).after 6 t (Y 6) X⌝ ∗ owns (c : Thread nD τ) (st0_6 t) fullShare X)
    ∗ (∃ X, ⌜(rdats m c).after 7 t (Y 7) X⌝ ∗ owns (c : Thread nD τ) (st0_7 t) fullShare X))

set_option maxHeartbeats 800000 in
/-- The body at the point. -/
theorem sound_body (c : Dev nD) (t : Fin cfg0.N) (Y : (w : Fin 8) → (cfg0.win w).block.Idx → Elt F (cfg0.win w).elt) :
    bodyPre m c t Y ⊢ wp frame (wpE (defs₀ (F := F)) Variants.none c none) Set.univ (bodyAt0 t) (fun _ => bodyPost m c t Y) := by
  unfold bodyPre bodyPost bodyAt0
  rw [show (rdats m c).Φ t.succ = (rdats m c).Φ t.castSucc from rfl,
    show (rdats m c).owesAt () t.succ = (rdats m c).owesAt () t.castSucc from rfl]
  rw [show (rdats m c).Φ t.castSucc = Pipeline.ΦA spec0 c from rfl, PhiA0_eq]
  iintro ⟨⟨⟨S0, S1, S2, S3⟩, Hg⟩, Ho, H0, H1, H2, H3, H4, H5, H6, H7⟩
  iapply (bodyRun c _ _ _ _ _ _ _ _ _ _ _ _ _ _ _ _ _ _ _ _ _ _ _ _ (Y 0) Set.univ _)
  isplitl [H0]; · iexact H0
  isplitl [H1]; · iexists _; iexact H1
  isplitl [H2]; · iexists _; iexact H2
  isplitl [H3]; · iexists _; iexact H3
  isplitl [H4]; · iexists _; iexact H4
  isplitl [H5]; · iexists _; iexact H5
  isplitl [H6]; · iexists _; iexact H6
  isplitl [H7]; · iexists _; iexact H7
  isplitl [S0]; · iexact S0
  isplitl [S1]; · iexact S1
  isplitl [S2]; · iexact S2
  isplitl [S3]; · iexact S3
  iintro ⟨H0, ⟨%e1, H1⟩, ⟨%e2, H2⟩, ⟨%e3, H3⟩, ⟨%e4, H4⟩, ⟨%e5, H5⟩, ⟨%e6, H6⟩, ⟨%e7, H7⟩, S0, S1, S2, S3⟩
  isplitl [S0 S1 S2 S3 Hg]
  · isplitl [S0 S1 S2 S3]
    · isplitl [S0]; · iexact S0
      isplitl [S1]; · iexact S1
      isplitl [S2]; · iexact S2
      iexact S3
    iexact Hg
  isplitl [Ho]; · iexact Ho
  isplitl [H0]
  · iexists _; isplitr; swap; · iexact H0
    ipureintro; trivial
  isplitl [H1]
  · iexists _; isplitr; swap; · iexact H1
    ipureintro; trivial
  isplitl [H2]
  · iexists _; isplitr; swap; · iexact H2
    ipureintro; trivial
  isplitl [H3]
  · iexists _; isplitr; swap; · iexact H3
    ipureintro; trivial
  isplitl [H4]
  · iexists _; isplitr; swap; · iexact H4
    ipureintro; trivial
  isplitl [H5]
  · iexists _; isplitr; swap; · iexact H5
    ipureintro; trivial
  isplitl [H6]
  · iexists _; isplitr; swap; · iexact H6
    ipureintro; trivial
  iexists _; isplitr; swap; · iexact H7
  ipureintro; trivial

/-- The body table's row at the point's slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation. -/
theorem body_obligation (c : Dev nD) : (rdats (F := F) m c).BodyObligation (defs₀ (F := F)) Variants.none () Set.univ := fun t Y _ => by
  rw [bigSep_W0, bigSep_W0, defs₀_row]
  exact triple_restated (sound_body m c t Y) rfl .rfl fun _ => .rfl

set_option backward.isDefEq.respectTransparency.types false in
/-- The launch: every array of the call at contents the proof data allows, and every semaphore counter at zero. -/
theorem run_main_quiescent : θ_run defs (onTc (τ := τ) (main (F := F))) (s₀ m ρ) (fun r => RDat.FramePost cfg0 (rdats m) (V m) r ∧ r.2.sem = fun _ => 0) :=
  RDat.θ_run_frame (Q' := _) cfgs (0 : Fin 1) launch0 defs₀ Variants.none (rdats m) m ρ main
    (hbody := body_obligation m) (hshare := fun c w => by unfold RDat.share; split <;> rfl)
    (howed := fun _ _ => rfl) (V := V m) (hmain := hmain m Variants.none) (hA := fun _ _ => rfl) (hΦ := fun _ _ => rfl)

/-- The frame: every fair execution of @main terminates with the argument array unchanged, and every semaphore counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0))
      ∧ r.2.sem = fun _ => 0) :=
  (θ_run defs _ _).mono (fun _ h => ⟨fun c => h.1.arr_in c 0 rfl, h.2⟩) (run_main_quiescent m ρ)

end Cert.Panel.Run

end
-- ==== Proof.PanelSpec.lean ====
/-
  The factorisation's mathematics: one column step as the reference states it and as the kernel does, and that both leave
  the same triangle when the entries are numbers.
-/
module

public import Idealize.ShloMosaic.PureOps.Ideal

@[expose] public section

noncomputable section

open Idealize.ShloMosaic

namespace Cert.Proof.Panel

/-- The working panel: column, then row. -/
abbrev Cols := ℕ → ℕ → EReal

/-- The product of two columns. -/
def dot (f g : ℕ → EReal) : EReal := ∑ s ∈ Finset.range 22528, f s * g s

/-- A column below its diagonal. -/
def below (A : Cols) (j s : ℕ) : EReal := if s ≤ j then 0 else A j s

/-- The new diagonal entry: the norm with the sign that does not cancel. -/
def alphaOf (x0 n : EReal) : EReal := if 0 ≤ x0 then -n else n
/-- The reflector's factor. -/
def tauOf (x0 al : EReal) : EReal := Ideal.div (al - x0) al
/-- The reflector's scaling. -/
def invOf (x0 al : EReal) : EReal := Ideal.div 1 (x0 - al)

/-! ## The kernel's step -/

/-- The column's norm as the kernel adds it up: the diagonal apart. -/
def kNrm (A : Cols) (j : ℕ) : EReal := Ideal.sqrt (A j j * A j j + dot (below A j) (A j))
def kAlpha (A : Cols) (j : ℕ) : EReal := alphaOf (A j j) (kNrm A j)
def kTau (A : Cols) (j : ℕ) : EReal := tauOf (A j j) (kAlpha A j)
def kInv (A : Cols) (j : ℕ) : EReal := invOf (A j j) (kAlpha A j)
/-- The reflector's entries. -/
def kV (A : Cols) (j s : ℕ) : EReal := if s = j then 1 else below A j s * kInv A j
/-- The reflector's product with a column, scaled after adding up. -/
def kW (A : Cols) (j k : ℕ) : EReal := A k j + dot (below A j) (A k) * kInv A j
/-- A column after the step. -/
def kStep (A : Cols) (j : ℕ) : Cols := fun k s => A k s - kTau A j * kW A j k * kV A j s
/-- The finished column. -/
def kTop (A : Cols) (j i : ℕ) : EReal := if i < j then A j i else if i = j then kAlpha A j else 0
/-- The panel before step `j`. -/
def kSeq (A : Cols) : ℕ → Cols
  | 0 => A
  | j + 1 => kStep (kSeq A j) j

/-! ## The reference's step -/

/-- A column from its diagonal on. -/
def rX (A : Cols) (j s : ℕ) : EReal := if j ≤ s then A j s else 0
def rNrm (A : Cols) (j : ℕ) : EReal := Ideal.sqrt (dot (rX A j) (rX A j))
def rAlpha (A : Cols) (j : ℕ) : EReal := alphaOf (A j j) (rNrm A j)
def rTau (A : Cols) (j : ℕ) : EReal := tauOf (A j j) (rAlpha A j)
def rInv (A : Cols) (j : ℕ) : EReal := invOf (A j j) (rAlpha A j)
/-- The reflector's entries. -/
def rV (A : Cols) (j s : ℕ) : EReal := if s = j then 1 else rX A j s * rInv A j
/-- The reflector's product with a column. -/
def rW (A : Cols) (j k : ℕ) : EReal := dot (rV A j) (A k)
/-- The panel after the step: the columns to the right reflected, the column itself finished. -/
def rStep (A : Cols) (j : ℕ) : Cols := fun k s =>
  if j < k then A k s - rTau A j * rV A j s * rW A j k
  else if k = j then (if s < j then A k s else if s = j then rAlpha A j else 0) else A k s
/-- The panel before step `j`. -/
def rSeq (A : Cols) : ℕ → Cols
  | 0 => A
  | j + 1 => rStep (rSeq A j) j

/-! ## They agree -/

/-- A number, not an infinity. -/
def Real' (x : EReal) : Prop := ∃ r : ℝ, x = (r : EReal)

theorem Real'.mul {x y : EReal} (hx : Real' x) (hy : Real' y) : Real' (x * y) := by
  obtain ⟨a, rfl⟩ := hx; obtain ⟨b, rfl⟩ := hy; exact ⟨a * b, (EReal.coe_mul a b).symm⟩
theorem Real'.sub {x y : EReal} (hx : Real' x) (hy : Real' y) : Real' (x - y) := by
  obtain ⟨a, rfl⟩ := hx; obtain ⟨b, rfl⟩ := hy; exact ⟨a - b, (EReal.coe_sub a b).symm⟩
theorem Real'.add {x y : EReal} (hx : Real' x) (hy : Real' y) : Real' (x + y) := by
  obtain ⟨a, rfl⟩ := hx; obtain ⟨b, rfl⟩ := hy; exact ⟨a + b, (EReal.coe_add a b).symm⟩
theorem Real'.zero : Real' 0 := ⟨0, EReal.coe_zero.symm⟩
theorem Real'.one : Real' 1 := ⟨1, EReal.coe_one.symm⟩

/-- A sum of numbers, each read as a real one. -/
theorem sum_coe (n : ℕ) (f : ℕ → ℝ) : (∑ s ∈ Finset.range n, (f s : EReal)) = ((∑ s ∈ Finset.range n, f s : ℝ) : EReal) := by
  induction n with
  | zero => simp
  | succ n ih => rw [Finset.sum_range_succ, Finset.sum_range_succ, ih, EReal.coe_add]

theorem sum_choose (n : ℕ) (g : ℕ → EReal) (h : ∀ s, s < n → Real' (g s)) :
    ∃ f : ℕ → ℝ, (∀ s, s < n → g s = (f s : EReal)) ∧ ∑ s ∈ Finset.range n, g s = ((∑ s ∈ Finset.range n, f s : ℝ) : EReal) := by
  refine ⟨fun s => (g s).toReal, fun s hs => ?_, ?_⟩
  · obtain ⟨r, hr⟩ := h s hs; dsimp only; rw [hr, EReal.toReal_coe]
  · rw [← sum_coe]
    refine Finset.sum_congr rfl fun s hs => ?_
    obtain ⟨r, hr⟩ := h s (Finset.mem_range.mp hs); rw [hr, EReal.toReal_coe]

theorem sum_real (n : ℕ) (g : ℕ → EReal) (h : ∀ s, s < n → Real' (g s)) : Real' (∑ s ∈ Finset.range n, g s) := by
  obtain ⟨f, _, e⟩ := sum_choose n g h; exact ⟨_, e⟩

/-- A number times a sum of numbers. -/
theorem sum_mul_real (n : ℕ) (g : ℕ → EReal) (i : EReal) (h : ∀ s, s < n → Real' (g s)) (hi : Real' i) :
    ∑ s ∈ Finset.range n, g s * i = (∑ s ∈ Finset.range n, g s) * i := by
  obtain ⟨f, hf, e⟩ := sum_choose n g h
  obtain ⟨r, rfl⟩ := hi
  rw [e, ← EReal.coe_mul, Finset.sum_mul, ← sum_coe]
  refine Finset.sum_congr rfl fun s hs => ?_
  rw [hf s (Finset.mem_range.mp hs), ← EReal.coe_mul]

/-- The quotient of numbers by one that is not zero. -/
theorem div_real {x y : EReal} (hx : Real' x) (hy : Real' y) (h0 : y ≠ 0) : Real' (Ideal.div x y) := by
  obtain ⟨a, rfl⟩ := hx; obtain ⟨b, rfl⟩ := hy
  unfold Ideal.div
  rw [if_neg h0, ← EReal.coe_inv, ← EReal.coe_mul]
  exact ⟨_, rfl⟩

section
variable (A : Cols) (j : ℕ) (hj : j < 22528) (hA : ∀ s, s < 22528 → j ≤ s → Real' (A j s))

include hA in
theorem below_real (s : ℕ) (hs : s < 22528) : Real' (below A j s) := by
  unfold below
  split
  · exact Real'.zero
  · exact hA s hs (by omega)

include hj hA in
/-- Either the column is zero below its diagonal, or the reflector's factor and scaling are numbers. -/
theorem cases_step : (∀ s, s < 22528 → below A j s = 0) ∨ (Real' (kTau A j) ∧ Real' (kInv A j)) := by
  obtain ⟨x, hx⟩ := hA j hj le_rfl
  obtain ⟨f, hf, -⟩ := sum_choose 22528 (below A j) (below_real A j hA)
  have hd : dot (below A j) (A j) = ((∑ s ∈ Finset.range 22528, f s * f s : ℝ) : EReal) := by
    rw [← sum_coe]
    refine Finset.sum_congr rfl fun s hs => ?_
    have e := hf s (Finset.mem_range.mp hs)
    rw [EReal.coe_mul, ← e]
    unfold below
    split
    · rw [zero_mul, zero_mul]
    · rfl
  have hq : 0 ≤ ∑ s ∈ Finset.range 22528, f s * f s := Finset.sum_nonneg fun s _ => mul_self_nonneg _
  have hn : kNrm A j = ((Real.sqrt (x * x + ∑ s ∈ Finset.range 22528, f s * f s) : ℝ) : EReal) := by
    unfold kNrm
    rw [hx, hd, ← EReal.coe_mul, ← EReal.coe_add, Ideal.sqrt_coe, if_neg]
    have := mul_self_nonneg x
    linarith
  by_cases h0 : x * x + ∑ s ∈ Finset.range 22528, f s * f s = 0
  · left
    intro s hs
    have hz : ∑ s ∈ Finset.range 22528, f s * f s = 0 := by
      have := mul_self_nonneg x
      linarith
    have h1 := (Finset.sum_eq_zero_iff_of_nonneg fun s _ => mul_self_nonneg (f s)).mp hz s (Finset.mem_range.mpr hs)
    rw [hf s hs, mul_self_eq_zero.mp h1, EReal.coe_zero]
  · right
    have hpos : 0 < Real.sqrt (x * x + ∑ s ∈ Finset.range 22528, f s * f s) := by
      apply Real.sqrt_pos.mpr
      have := mul_self_nonneg x
      exact lt_of_le_of_ne (by linarith) (Ne.symm h0)
    generalize hN : Real.sqrt (x * x + ∑ s ∈ Finset.range 22528, f s * f s) = N at hn hpos
    have hal : ∃ a : ℝ, kAlpha A j = (a : EReal) ∧ a ≠ 0 ∧ x - a ≠ 0 := by
      unfold kAlpha alphaOf
      rw [hn, hx]
      by_cases hx0 : (0 : EReal) ≤ (x : EReal)
      · rw [if_pos hx0]
        have : 0 ≤ x := by exact_mod_cast hx0
        exact ⟨-N, (EReal.coe_neg N).symm, ne_of_lt (neg_neg_of_pos hpos), by
          have : 0 < x - -N := by linarith
          exact ne_of_gt this⟩
      · rw [if_neg hx0]
        have : x < 0 := by
          by_contra hc
          exact hx0 (by exact_mod_cast not_lt.mp hc)
        exact ⟨N, rfl, ne_of_gt hpos, by
          have : x - N < 0 := by linarith
          exact ne_of_lt this⟩
    obtain ⟨a, ha, ha0, hxa⟩ := hal
    constructor
    · unfold kTau tauOf
      rw [ha, hx]
      exact div_real ⟨a - x, (EReal.coe_sub a x).symm⟩ ⟨a, rfl⟩ (by exact_mod_cast ha0)
    · unfold kInv invOf
      rw [ha, hx]
      exact div_real Real'.one ⟨x - a, (EReal.coe_sub x a).symm⟩ (by rw [← EReal.coe_sub]; exact_mod_cast hxa)

include hj hA in
/-- A column right of the step's keeps its entries below the step's row numbers. -/
theorem kStep_real (k s : ℕ) (hs : s < 22528) (hjs : j < s) (hk : ∀ s, s < 22528 → j ≤ s → Real' (A k s)) : Real' (kStep A j k s) := by
  unfold kStep
  rcases cases_step A j hj hA with h | ⟨ht, hi⟩
  · have hv : kV A j s = 0 := by
      unfold kV
      rw [if_neg (by omega), h s hs, zero_mul]
    rw [hv, mul_zero, sub_zero]
    exact hk s hs hjs.le
  · refine (hk s hs hjs.le).sub ((ht.mul ?_).mul ?_)
    · unfold kW
      refine (hk j hj le_rfl).add (Real'.mul (sum_real _ _ fun s hs => ?_) hi)
      unfold below
      split
      · rw [zero_mul]; exact Real'.zero
      · exact (hA s hs (by omega)).mul (hk s hs (by omega))
    · unfold kV
      split
      · exact Real'.one
      · exact (below_real A j hA s hs).mul hi

include hj in
/-- The reference's norm is the kernel's. -/
theorem rNrm_eq : rNrm A j = kNrm A j := by
  unfold rNrm kNrm
  refine congrArg Ideal.sqrt ?_
  unfold dot
  have e : ∀ s ∈ Finset.range 22528, rX A j s * rX A j s = (if s = j then A j j * A j j else 0) + below A j s * A j s := by
    intro s _
    unfold rX below
    by_cases h : s = j
    · subst h; simp
    · by_cases h' : j ≤ s
      · rw [if_pos h', if_neg h, if_neg (by omega), zero_add]
      · rw [if_neg h', if_neg h, if_pos (by omega), zero_add, zero_mul, zero_mul]
  rw [Finset.sum_congr rfl e, Finset.sum_add_distrib, Finset.sum_ite_eq' (Finset.range 22528) j, if_pos (Finset.mem_range.mpr hj)]

include hj in
theorem rAlpha_eq : rAlpha A j = kAlpha A j := by unfold rAlpha kAlpha; rw [rNrm_eq A j hj]
include hj in
theorem rTau_eq : rTau A j = kTau A j := by unfold rTau kTau; rw [rAlpha_eq A j hj]
include hj in
theorem rInv_eq : rInv A j = kInv A j := by unfold rInv kInv; rw [rAlpha_eq A j hj]
include hj in
theorem rV_eq (s : ℕ) : rV A j s = kV A j s := by
  unfold rV kV
  rw [rInv_eq A j hj]
  by_cases h : s = j
  · rw [if_pos h, if_pos h]
  · rw [if_neg h, if_neg h]
    unfold rX below
    by_cases h' : j ≤ s
    · rw [if_pos h', if_neg (by omega)]
    · rw [if_neg h', if_pos (by omega)]

include hj hA in
theorem rW_eq (k : ℕ) (hk : ∀ s, s < 22528 → j ≤ s → Real' (A k s)) : rW A j k = kW A j k := by
  unfold rW kW dot
  have hone : ∑ s ∈ Finset.range 22528, (if s = j then A k j else 0) = A k j := by
    rw [Finset.sum_ite_eq' (Finset.range 22528) j, if_pos (Finset.mem_range.mpr hj)]
  rcases cases_step A j hj hA with h | ⟨ht, hi⟩
  · have h0 : ∑ s ∈ Finset.range 22528, below A j s * A k s = 0 :=
      Finset.sum_eq_zero fun s hs => by rw [h s (Finset.mem_range.mp hs), zero_mul]
    rw [h0, zero_mul, add_zero, ← hone]
    refine Finset.sum_congr rfl fun s hs => ?_
    rw [rV_eq A j hj]
    unfold kV
    by_cases hsj : s = j
    · subst hsj; rw [if_pos rfl, if_pos rfl, one_mul]
    · rw [if_neg hsj, if_neg hsj, h s (Finset.mem_range.mp hs), zero_mul, zero_mul]
  · rw [← sum_mul_real 22528 (fun s => below A j s * A k s) _ (fun s hs => ?_) hi]
    · refine Eq.trans ?_ (congrArg (· + _) hone)
      rw [← Finset.sum_add_distrib]
      refine Finset.sum_congr rfl fun s hs => ?_
      rw [rV_eq A j hj]
      unfold kV
      by_cases hsj : s = j
      · subst hsj
        rw [if_pos rfl, if_pos rfl, one_mul]
        unfold below
        rw [if_pos le_rfl, zero_mul, zero_mul, add_zero]
      · rw [if_neg hsj, if_neg hsj, zero_add, mul_right_comm]
    · show Real' (below A j s * A k s)
      unfold below
      split
      · rw [zero_mul]; exact Real'.zero
      · exact (hA s hs (by omega)).mul (hk s hs (by omega))
end

/-- The kernel's step of panels that agree on the columns from the step's on. -/
theorem kStep_congr (A B : Cols) (j k s : ℕ) (hj : j < 22528) (hs : s < 22528) (hA : ∀ s, s < 22528 → A j s = B j s) (hk : ∀ s, s < 22528 → A k s = B k s) :
    kStep A j k s = kStep B j k s := by
  have hb : ∀ s, s < 22528 → below A j s = below B j s := fun s hs => by unfold below; rw [hA s hs]
  have hd : ∀ g h : ℕ → EReal, (∀ s, s < 22528 → g s = h s) → dot (below A j) g = dot (below B j) h := fun g h e =>
    Finset.sum_congr rfl fun s hs => by rw [hb s (Finset.mem_range.mp hs), e s (Finset.mem_range.mp hs)]
  have ha : kAlpha A j = kAlpha B j := by
    unfold kAlpha kNrm
    rw [hA j hj, hd _ _ hA]
  have ht : kTau A j = kTau B j := by unfold kTau; rw [ha, hA j hj]
  have hi : kInv A j = kInv B j := by unfold kInv; rw [ha, hA j hj]
  unfold kStep kW kV
  rw [ht, hi, hk s hs, hk j hj, hd _ _ hk, hb s hs]

theorem kAlpha_congr (A B : Cols) (j : ℕ) (hj : j < 22528) (hA : ∀ s, s < 22528 → A j s = B j s) : kAlpha A j = kAlpha B j := by
  unfold kAlpha kNrm
  have hd : dot (below A j) (A j) = dot (below B j) (B j) := Finset.sum_congr rfl fun s hs => by
    unfold below
    rw [hA s (Finset.mem_range.mp hs)]
  rw [hA j hj, hd]

variable (A : Cols) (hA : ∀ k s, k < 72 → s < 22528 → Real' (A k s))

include hA in
/-- Before every step the two panels agree on the columns not yet finished, and these are numbers from the step's row on. -/
theorem seq_eq (j : ℕ) (hj : j ≤ 72) : ∀ k, j ≤ k → k < 72 → ∀ s, s < 22528 → rSeq A j k s = kSeq A j k s ∧ (j ≤ s → Real' (kSeq A j k s)) := by
  induction j with
  | zero => exact fun k _ hk s hs => ⟨rfl, fun _ => hA k s hk hs⟩
  | succ j ih =>
    intro k hjk hk s hs
    have ih' := ih (by omega)
    have hR : ∀ k, j ≤ k → k < 72 → ∀ s, s < 22528 → j ≤ s → Real' (rSeq A j k s) := fun k h1 h2 s h3 h4 => by
      rw [(ih' k h1 h2 s h3).1]; exact (ih' k h1 h2 s h3).2 h4
    have hkk : ∀ s, s < 22528 → j ≤ s → Real' (rSeq A j k s) := hR k (by omega) hk
    have hjj : ∀ s, s < 22528 → j ≤ s → Real' (rSeq A j j s) := hR j le_rfl (by omega)
    have e : rSeq A (j + 1) k s = kStep (rSeq A j) j k s := by
      show rStep (rSeq A j) j k s = _
      unfold rStep kStep
      rw [if_pos (by omega), rTau_eq _ j (by omega), rV_eq _ j (by omega), rW_eq _ j (by omega) hjj k hkk, mul_right_comm]
    have e' : kStep (rSeq A j) j k s = kStep (kSeq A j) j k s :=
      kStep_congr _ _ j k s (by omega) hs (fun s hs => (ih' j le_rfl (by omega) s hs).1) (fun s hs => (ih' k (by omega) hk s hs).1)
    refine ⟨e.trans e', fun hjs => ?_⟩
    show Real' (kStep (kSeq A j) j k s)
    rw [← e']
    exact kStep_real _ j (by omega) hjj k s hs (by omega) hkk

/-- A finished column stays. -/
theorem rSeq_done (k i : ℕ) (j : ℕ) (hj : k < j) : rSeq A j k i = rSeq A (k + 1) k i := by
  induction j with
  | zero => omega
  | succ j ih =>
    by_cases h : j = k
    · subst h; rfl
    · rw [← ih (by omega)]
      show rStep (rSeq A j) j k i = _
      unfold rStep
      rw [if_neg (by omega), if_neg (by omega)]

include hA in
/-- The reference's triangle is the kernel's. -/
theorem tri_eq (k i : ℕ) (hk : k < 72) (hi : i < 22528) : rSeq A 72 k i = kTop (kSeq A k) k i := by
  rw [rSeq_done A k i 72 hk]
  have h := seq_eq A hA k (by omega)
  show rStep (rSeq A k) k k i = _
  unfold rStep kTop
  rw [if_neg (lt_irrefl k), if_pos rfl, rAlpha_eq _ k (by omega), (h k le_rfl hk i hi).1,
    kAlpha_congr _ _ k (by omega) fun s hs => (h k le_rfl hk s hs).1]

end Cert.Proof.Panel

end
-- ==== Proof.PanelVTile.lean ====
/- The working copy of the panel as columns: what a written tile leaves, and what a loaded one reads. -/
module

public import proofs.«01_k».proof.Proof.Gen.PanelIdeal.Loops
public import proofs.«01_k».proof.Proof.PanelSpec
public import proofs.«01_k».proof.Proof.Column
public import Idealize.ShloMosaic.Lib.Pipeline.ValueKit.Tiles
public import Idealize.ShloMosaic.PureOps.Ideal

@[expose] public section

set_option maxRecDepth 16384

noncomputable section

namespace Cert.PanelIdeal.Val

open Cert.PanelIdeal Cert.PanelIdeal.Gen Cert.Proof Cert.Proof.Panel
open Idealize.ShloMosaic Idealize.ShloMosaic.TcCoe

/-- The working copy as columns: row `s` of column `k` lies in lane `s % 128` of row `s / 128` of the column's block. -/
def at8 (x : Vec Ideal S12751x128 .f32) : Cols := fun k s =>
  if h : k * 177 + s / 128 < 12751 then x (ix2 ⟨k * 177 + s / 128, h⟩ ⟨s % 128, Nat.mod_lt _ (by decide)⟩) else 0

theorem at8_of (x : Vec Ideal S12751x128 .f32) (k s : ℕ) (hk : k < 72) (hs : s < 22528) :
    at8 x k s = x (ix2 ⟨k * 177 + s / 128, by omega⟩ ⟨s % 128, Nat.mod_lt _ (by decide)⟩) := by
  unfold at8
  rw [dif_pos (by omega)]

theorem trips1 : k0_t1_loop.trips = 176 := by decide
theorem trips2 : k0_t2_loop.trips = 72 := by decide

theorem off1_eq : ∀ b : Fin k0_t1_loop.trips, k0_off1 b = ![128 * b.val, 0] := by decide +kernel
theorem off2_eq : ∀ (b : Fin k0_t1_loop.trips) (g : Fin 9), k0_off2 b (BitVec.ofNat 32 (1416 * g.val)) = ![1416 * g.val + b.val, 0] := by decide +kernel

variable (v : View sig .tc .vmem S12751x128 .f32) (f : BufTy.Contents (Elt Ideal) v.ty)

/-- The transposing copy's store of eight columns' parts in one block of rows. -/
theorem at8_cons1 (g : Fin 9) (b : Fin k0_t1_loop.trips) (c : BitVec 32) (hc : c = BitVec.ofNat 32 (1416 * g.val)) (inb) (sp)
    (val : S8x128.Idx → Elt Ideal .f32) (L : List (View.Piece (Elt Ideal) S12751x128 .f32)) (k s : ℕ) (hk : k < 72) (hs : s < 22528) :
    at8 (v.read (Elt Ideal) (v.writes (Elt Ideal) f ((⟨⟨(⟨k0_off2 b c, S8x128.size, ![177, 1], inb⟩ : LoadRect S12751x128), sp⟩, val⟩ : View.Piece (Elt Ideal) S12751x128 .f32) :: L))) k s
      = if s / 128 = b.val ∧ k / 8 = g.val then val (ix2 ⟨k % 8, Nat.mod_lt _ (by decide)⟩ ⟨s % 128, Nat.mod_lt _ (by decide)⟩)
        else at8 (v.read (Elt Ideal) (v.writes (Elt Ideal) f L)) k s := by
  subst hc
  have hb := b.isLt
  have ht := trips1
  rw [at8_of _ k s hk hs, at8_of _ k s hk hs]
  split
  · rename_i h
    refine View.read_writes_cons_hit_of_coords v f ⟨(⟨k0_off2 b (BitVec.ofNat 32 (1416 * g.val)), S8x128.size, ![177, 1], inb⟩ : LoadRect S12751x128), sp⟩ val L _ _ fun a => ?_
    fin_cases a
    · show k * 177 + s / 128 = k0_off2 b (BitVec.ofNat 32 (1416 * g.val)) 0 + 177 * (k % 8)
      rw [congrFun (off2_eq b g) 0]
      show k * 177 + s / 128 = 1416 * g.val + b.val + 177 * (k % 8)
      omega
    · show s % 128 = k0_off2 b (BitVec.ofNat 32 (1416 * g.val)) 1 + 1 * (s % 128)
      rw [congrFun (off2_eq b g) 1]
      show s % 128 = 0 + 1 * (s % 128)
      omega
  · rename_i h
    refine View.read_writes_cons_miss v f _ L _ fun hm => ?_
    obtain ⟨i, hi, e⟩ := (Idealize.ShloMosaic.LoadRect.mem_set _).mp hm 0
    have e' : k * 177 + s / 128 = k0_off2 b (BitVec.ofNat 32 (1416 * g.val)) 0 + 177 * i := e
    rw [congrFun (off2_eq b g) 0] at e'
    have e2 : k * 177 + s / 128 = 1416 * g.val + b.val + 177 * i := e'
    have hi : i < 8 := hi
    omega

end Cert.PanelIdeal.Val

end
-- ==== Proof.PanelVPay.lean ====
/- The factorisation's payloads, place by place. -/
module

public import proofs.«01_k».proof.Proof.PanelVTile
public import proofs.«01_k».proof.Proof.Scale

@[expose] public section

set_option maxRecDepth 16384

noncomputable section

namespace Cert.PanelIdeal.Val

open Cert.PanelIdeal Cert.PanelIdeal.Gen Cert.Proof Cert.Proof.Panel
open Idealize.ShloMosaic Idealize.ShloMosaic.TcCoe

section
variable (v43 : Vec Ideal S128x72 .f32) (i : Fin 8) (q : Fin 128)

theorem pay5_apply : k0_pay5 v43 (ix2 i q) = v43 (ix2 q ⟨i.val, by omega⟩) := by
  pointwise [k0_pay5, k0_pay4]
theorem pay6_apply : k0_pay6 v43 (ix2 i q) = v43 (ix2 q ⟨8 + i.val, by omega⟩) := by
  pointwise [k0_pay6, k0_pay4]
theorem pay7_apply : k0_pay7 v43 (ix2 i q) = v43 (ix2 q ⟨16 + i.val, by omega⟩) := by
  pointwise [k0_pay7, k0_pay4]
theorem pay8_apply : k0_pay8 v43 (ix2 i q) = v43 (ix2 q ⟨24 + i.val, by omega⟩) := by
  pointwise [k0_pay8, k0_pay4]
theorem pay9_apply : k0_pay9 v43 (ix2 i q) = v43 (ix2 q ⟨32 + i.val, by omega⟩) := by
  pointwise [k0_pay9, k0_pay4]
theorem pay136_apply : k0_pay136 (k0_pay10 v43) (ix2 i q) = v43 (ix2 q ⟨40 + i.val, by omega⟩) := by
  pointwise [k0_pay136, k0_pay10, k0_pay4]
theorem pay137_apply : k0_pay137 (k0_pay4 v43) (ix2 i q) = v43 (ix2 q ⟨48 + i.val, by omega⟩) := by
  pointwise [k0_pay137, k0_pay4]
theorem pay138_apply : k0_pay138 (k0_pay4 v43) (ix2 i q) = v43 (ix2 q ⟨56 + i.val, by omega⟩) := by
  pointwise [k0_pay138, k0_pay4]
theorem pay139_apply : k0_pay139 (k0_pay4 v43) (ix2 i q) = v43 (ix2 q ⟨64 + i.val, by omega⟩) := by
  pointwise [k0_pay139, k0_pay4]
end

end Cert.PanelIdeal.Val

end
-- ==== Proof.PanelVLoop.lean ====
/- The transposing copy of the factorisation, by an invariant that says what the working copy holds. -/
module

public import proofs.«01_k».proof.Proof.PanelVPay

@[expose] public section

set_option maxRecDepth 16384

noncomputable section

namespace Cert.PanelIdeal.Val

open Cert.PanelIdeal Cert.PanelIdeal.Gen Cert.Proof Cert.Proof.Panel
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligation cellOf)

local notation "𝕄" => MT nD τ sig Unit (Elt Ideal) ℕ (UR sig nD τ) ℕ

/-- The argument as columns. -/
def cols0 (arg0 : Memref sig .tc .vmem S22528x72 .f32) (X : BufTy.Contents (Elt Ideal) arg0.view.ty) : Cols := fun k s =>
  if h : k < 72 ∧ s < 22528 then arg0.view.read (Elt Ideal) X (ix2 ⟨s, h.2⟩ ⟨k, h.1⟩) else 0

/-- A loaded block of the argument's rows. -/
theorem ld0 (arg0 : Memref sig .tc .vmem S22528x72 .f32) (X : BufTy.Contents (Elt Ideal) arg0.view.ty) (b : Fin k0_t1_loop.trips) (inb) (q : Fin 128) (k : Fin 72)
    (k' s : ℕ) (hk : k' = k.val) (hs : s = 128 * b.val + q.val) :
    View.readAt (Elt Ideal) arg0.view (Rect.unit (s := S22528x72) (k0_off1 b) S128x72.size inb).toLoadRect X (ix2 q k) = cols0 arg0 X k' s := by
  have hb := b.isLt
  have ht := trips1
  subst hk hs
  unfold cols0
  rw [dif_pos ⟨k.isLt, by omega⟩, View.readAt_eq_ld]
  refine View.ld_unit_apply_of _ _ _ inb (ix2 q k) _ fun a => ?_
  fin_cases a
  · show 128 * b.val + q.val = k0_off1 b 0 + q.val
    rw [off1_eq]; rfl
  · show k.val = k0_off1 b 1 + k.val
    rw [off1_eq]; show k.val = 0 + k.val; omega

/-- The first blocks of rows of the working copy hold the argument's. -/
def Copied (arg0 : Memref sig .tc .vmem S22528x72 .f32) (X : BufTy.Contents (Elt Ideal) arg0.view.ty) (x : Vec Ideal S12751x128 .f32) (n : ℕ) : Prop :=
  ∀ k s, k < 72 → s < 22528 → s / 128 < n → at8 x k s = cols0 arg0 X k s

set_option maxHeartbeats 4000000 in
set_option warn.classDefReducibility false in
/-- The transposing copy: before every trip the argument is as it was and the blocks copied so far hold its columns. -/
@[sl_loop] def loopInv_k0_t1 (𝒱 : Variants) (c : Dev nD) (bd : Option 𝒱.V) (E : Set ℕ) (arg0 : Memref sig .tc .vmem S22528x72 .f32) (harg0 : arg0.IsWhole) (arg1 : Memref sig .tc .vmem S22528x72 .f32) (harg1 : arg1.IsWhole) (arg2 : Memref sig .tc .vmem S72x72 .f32) (harg2 : arg2.IsWhole) (arg3 : Memref sig .tc .vmem S72x72 .f32) (harg3 : arg3.IsWhole) (arg4 : Memref sig .tc .vmem S22528x72 .fp8e4m3) (harg4 : arg4.IsWhole) (arg5 : Memref sig .tc .vmem S176x128 .f32) (harg5 : arg5.IsWhole) (arg6 : Memref sig .tc .vmem S80x22528 .bf16) (harg6 : arg6.IsWhole) (arg7 : Memref sig .tc .vmem S22528x128 .fp8e4m3) (harg7 : arg7.IsWhole) (arg8 : Memref sig .tc .vmem S12751x128 .f32) (harg8 : arg8.IsWhole) (arg9 : Memref sig .tc .vmem S1152x128 .f32) (harg9 : arg9.IsWhole) (arg10 : Memref sig .tc .vmem S72x128 .f32) (harg10 : arg10.IsWhole) (arg11 : Memref sig .tc .vmem S72x128 .f32) (harg11 : arg11.IsWhole) (X_arg0 : BufTy.Contents (Elt Ideal) arg0.view.ty) :
    LoopInvTy_k0_t1 (F := Ideal) Unit ℕ (UR sig nD τ) ℕ 𝒱 c bd E arg0 harg0 arg1 harg1 arg2 harg2 arg3 harg3 arg4 harg4 arg5 harg5 arg6 harg6 arg7 harg7 arg8 harg8 arg9 harg9 arg10 harg10 arg11 harg11 where
  inv n _ := iprop((arg0.view.loc (c : Thread nD τ) ↦[arg0.view.set]{fullShare} X_arg0) ∗ (∃ f8, ⌜Copied arg0 X_arg0 (arg8.view.read (Elt Ideal) f8) n⌝ ∗ (arg8.view.loc (c : Thread nD τ) ↦[arg8.view.set]{fullShare} f8)))
  step k acc := by
    unfold k0_t1_body
    iintro ⟨H0, ⟨%f8, %h8, H8⟩⟩
    sl_exec
    sl_step
    isplitl [H0]; · iexact H0
    iexists _; isplitr; swap; · iexact H8
    ipureintro
    intro k' s hk hs hn
    rw [at8_cons1 _ _ 8 k 11328#32 rfl _ _ _ _ k' s hk hs, at8_cons1 _ _ 7 k 9912#32 rfl _ _ _ _ k' s hk hs, at8_cons1 _ _ 6 k 8496#32 rfl _ _ _ _ k' s hk hs,
      at8_cons1 _ _ 5 k 7080#32 rfl _ _ _ _ k' s hk hs, at8_cons1 _ _ 4 k 5664#32 rfl _ _ _ _ k' s hk hs, at8_cons1 _ _ 3 k 4248#32 rfl _ _ _ _ k' s hk hs,
      at8_cons1 _ _ 2 k 2832#32 rfl _ _ _ _ k' s hk hs, at8_cons1 _ _ 1 k 1416#32 rfl _ _ _ _ k' s hk hs, at8_cons1 _ _ 0 k 0#32 rfl _ _ _ _ k' s hk hs]
    split_ifs with h8' h7 h6 h5 h4 h3 h2 h1 h0
    · refine (pay139_apply (View.readAt (Elt Ideal) arg0.view (Rect.unit (s := S22528x72) (k0_off1 k) S128x72.size (k0_off1_inb k)).toLoadRect X_arg0) _ _).trans ?_; exact ld0 arg0 _ k _ _ _ k' s (by have := h8'.2; show k' = 64 + k' % 8; change k' / 8 = 8 at this; omega) (by have := h8'.1; show s = 128 * k.val + s % 128; omega)
    · refine (pay138_apply (View.readAt (Elt Ideal) arg0.view (Rect.unit (s := S22528x72) (k0_off1 k) S128x72.size (k0_off1_inb k)).toLoadRect X_arg0) _ _).trans ?_; exact ld0 arg0 _ k _ _ _ k' s (by have := h7.2; show k' = 56 + k' % 8; change k' / 8 = 7 at this; omega) (by have := h7.1; show s = 128 * k.val + s % 128; omega)
    · refine (pay137_apply (View.readAt (Elt Ideal) arg0.view (Rect.unit (s := S22528x72) (k0_off1 k) S128x72.size (k0_off1_inb k)).toLoadRect X_arg0) _ _).trans ?_; exact ld0 arg0 _ k _ _ _ k' s (by have := h6.2; show k' = 48 + k' % 8; change k' / 8 = 6 at this; omega) (by have := h6.1; show s = 128 * k.val + s % 128; omega)
    · refine (pay136_apply (View.readAt (Elt Ideal) arg0.view (Rect.unit (s := S22528x72) (k0_off1 k) S128x72.size (k0_off1_inb k)).toLoadRect X_arg0) _ _).trans ?_; exact ld0 arg0 _ k _ _ _ k' s (by have := h5.2; show k' = 40 + k' % 8; change k' / 8 = 5 at this; omega) (by have := h5.1; show s = 128 * k.val + s % 128; omega)
    · refine (pay9_apply (View.readAt (Elt Ideal) arg0.view (Rect.unit (s := S22528x72) (k0_off1 k) S128x72.size (k0_off1_inb k)).toLoadRect X_arg0) _ _).trans ?_; exact ld0 arg0 _ k _ _ _ k' s (by have := h4.2; show k' = 32 + k' % 8; change k' / 8 = 4 at this; omega) (by have := h4.1; show s = 128 * k.val + s % 128; omega)
    · refine (pay8_apply (View.readAt (Elt Ideal) arg0.view (Rect.unit (s := S22528x72) (k0_off1 k) S128x72.size (k0_off1_inb k)).toLoadRect X_arg0) _ _).trans ?_; exact ld0 arg0 _ k _ _ _ k' s (by have := h3.2; show k' = 24 + k' % 8; change k' / 8 = 3 at this; omega) (by have := h3.1; show s = 128 * k.val + s % 128; omega)
    · refine (pay7_apply (View.readAt (Elt Ideal) arg0.view (Rect.unit (s := S22528x72) (k0_off1 k) S128x72.size (k0_off1_inb k)).toLoadRect X_arg0) _ _).trans ?_; exact ld0 arg0 _ k _ _ _ k' s (by have := h2.2; show k' = 16 + k' % 8; change k' / 8 = 2 at this; omega) (by have := h2.1; show s = 128 * k.val + s % 128; omega)
    · refine (pay6_apply (View.readAt (Elt Ideal) arg0.view (Rect.unit (s := S22528x72) (k0_off1 k) S128x72.size (k0_off1_inb k)).toLoadRect X_arg0) _ _).trans ?_; exact ld0 arg0 _ k _ _ _ k' s (by have := h1.2; show k' = 8 + k' % 8; change k' / 8 = 1 at this; omega) (by have := h1.1; show s = 128 * k.val + s % 128; omega)
    · refine (pay5_apply (View.readAt (Elt Ideal) arg0.view (Rect.unit (s := S22528x72) (k0_off1 k) S128x72.size (k0_off1_inb k)).toLoadRect X_arg0) _ _).trans ?_; exact ld0 arg0 _ k _ _ _ k' s (by have := h0.2; show k' = k' % 8; change k' / 8 = 0 at this; omega) (by have := h0.1; show s = 128 * k.val + s % 128; omega)
    · show at8 (arg8.view.read (Elt Ideal) f8) k' s = _
      exact h8 k' s hk hs (by omega)

end Cert.PanelIdeal.Val

end
-- ==== Proof.PanelVOff.lean ====
/- Where the loads and stores of the column steps lie. -/
module

public import proofs.«01_k».proof.Proof.PanelVTile

@[expose] public section

set_option maxRecDepth 16384

noncomputable section

namespace Cert.PanelIdeal.Val

open Cert.PanelIdeal Cert.PanelIdeal.Gen Cert.Proof Cert.Proof.Panel
open Idealize.ShloMosaic Idealize.ShloMosaic.TcCoe

theorem tileNat : ∀ (m : Fin 73) (g : Fin 22), (Scalar.indexCast (Scalar.addi (Scalar.muli (BitVec.ofNat 32 m.val) 177#32) (BitVec.ofNat 32 (8 * g.val)))).toNat = m.val * 177 + 8 * g.val := by decide +kernel
theorem trips3 : ∀ j : Fin k0_t2_loop.trips, (k0_t3_loop j).trips = 72 - j.val := by decide +kernel
theorem trips5 : ∀ j : Fin k0_t2_loop.trips, (k0_t5_loop j).trips = 71 - j.val := by decide +kernel
theorem off12_eq : ∀ (j : Fin k0_t2_loop.trips) (k : Fin (k0_t5_loop j).trips), k0_off12 j k = ![(72 + (j.val + 1 + k.val)) * 8, 0] := by decide +kernel
theorem off13_eq : ∀ (j : Fin k0_t2_loop.trips) (k : Fin (k0_t5_loop j).trips), k0_off13 j k = ![(j.val + 1 + k.val) * 8, 0] := by decide +kernel
theorem off5_eq : ∀ (j : Fin k0_t2_loop.trips) (k : Fin (k0_t3_loop j).trips), k0_off5 j k = ![(j.val + k.val) * 8, 0] := by decide +kernel
theorem off6_eq : ∀ (j : Fin k0_t2_loop.trips) (k : Fin (k0_t3_loop j).trips), k0_off6 j k = ![(72 + (j.val + k.val)) * 8, 0] := by decide +kernel
theorem off10_eq : ∀ (j : Fin k0_t2_loop.trips), k0_off10 j = ![j.val * 8, 0] := by decide +kernel
theorem off11_eq : ∀ (j : Fin k0_t2_loop.trips), k0_off11 j = ![j.val, 0] := by decide +kernel
theorem off3_eq : ∀ (j : Fin k0_t2_loop.trips) (g : Fin 22), k0_off3 j (BitVec.ofNat 32 (8 * g.val)) = ![j.val * 177 + 8 * g.val, 0] := by decide +kernel

theorem iv3 : ∀ (j : Fin k0_t2_loop.trips) (k : Fin (k0_t3_loop j).trips), Scf.iv (Scf.iv 0#32 1#32 j) 1#32 k = BitVec.ofNat 32 (j.val + k.val) := by decide +kernel
theorem iv5 : ∀ (j : Fin k0_t2_loop.trips) (k : Fin (k0_t5_loop j).trips), Scf.iv (Scalar.addi (Scf.iv 0#32 1#32 j) 1#32) 1#32 k = BitVec.ofNat 32 (j.val + 1 + k.val) := by decide +kernel
theorem iv2 : ∀ (j : Fin k0_t2_loop.trips), Scf.iv 0#32 1#32 j = BitVec.ofNat 32 j.val := by decide +kernel

theorem off4_eq (j : Fin k0_t2_loop.trips) (k : Fin (k0_t3_loop j).trips) (g : Fin 22) : k0_off4 j k (BitVec.ofNat 32 (8 * g.val)) = ![(j.val + k.val) * 177 + 8 * g.val, 0] := by
  have h : k.val < 72 - j.val := lt_of_lt_of_eq k.isLt (trips3 j)
  have hj : j.val < 72 := lt_of_lt_of_eq j.isLt trips2
  show ![(Scalar.indexCast (Scalar.addi (Scalar.muli (Scf.iv (Scf.iv 0#32 1#32 j) 1#32 k) 177#32) (BitVec.ofNat 32 (8 * g.val)))).toNat, 0] = _
  rw [iv3, tileNat ⟨j.val + k.val, by omega⟩ g]

theorem off14_eq (j : Fin k0_t2_loop.trips) (k : Fin (k0_t5_loop j).trips) (g : Fin 22) : k0_off14 j k (BitVec.ofNat 32 (8 * g.val)) = ![(j.val + 1 + k.val) * 177 + 8 * g.val, 0] := by
  have h : k.val < 71 - j.val := lt_of_lt_of_eq k.isLt (trips5 j)
  have hj : j.val < 72 := lt_of_lt_of_eq j.isLt trips2
  show ![(Scalar.indexCast (Scalar.addi (Scalar.muli (Scf.iv (Scalar.addi (Scf.iv 0#32 1#32 j) 1#32) 1#32 k) 177#32) (BitVec.ofNat 32 (8 * g.val)))).toNat, 0] = _
  rw [iv5, tileNat ⟨j.val + 1 + k.val, by omega⟩ g]

end Cert.PanelIdeal.Val

end
-- ==== Proof.PanelVCol.lean ====
/- One column of the working copy, tile by tile. -/
module

public import proofs.«01_k».proof.Proof.PanelVOff
public import Idealize.ShloMosaic.Lib.WritesUnit

@[expose] public section

set_option maxRecDepth 16384

noncomputable section

namespace Cert.PanelIdeal.Val

open Cert.PanelIdeal Cert.PanelIdeal.Gen Cert.Proof Cert.Proof.Panel
open Idealize.ShloMosaic Idealize.ShloMosaic.TcCoe

variable (v : View sig .tc .vmem S12751x128 .f32) (f : BufTy.Contents (Elt Ideal) v.ty)

/-- A stored tile of one column. -/
theorem at8_tile (kk g : ℕ) (hkk : kk < 72) (hg : g < 22) (off : Fin 2 → ℕ) (hoff : off = ![kk * 177 + 8 * g, 0]) (inb)
    (val : S8x128.Idx → Elt Ideal .f32) (L : List (View.Piece (Elt Ideal) S12751x128 .f32)) (k s : ℕ) (hk : k < 72) (hs : s < 22528) :
    at8 (v.read (Elt Ideal) (v.writes (Elt Ideal) f ((⟨Rect.unit (s := S12751x128) off S8x128.size inb, val⟩ : View.Piece (Elt Ideal) S12751x128 .f32) :: L))) k s
      = if k = kk ∧ s / 1024 = g then val (ix2 ⟨s / 128 % 8, Nat.mod_lt _ (by decide)⟩ ⟨s % 128, Nat.mod_lt _ (by decide)⟩)
        else at8 (v.read (Elt Ideal) (v.writes (Elt Ideal) f L)) k s := by
  rw [at8_of _ k s hk hs, at8_of _ k s hk hs]
  split
  · rename_i h
    refine View.read_writes_cons_rows_of_mem v f inb val L _ _ hoff ?_ rfl
    show k * 177 + s / 128 = kk * 177 + 8 * g + s / 128 % 8
    omega
  · rename_i h
    refine View.read_writes_cons_rows_of_not_mem v f inb val L _ hoff rfl ?_
    show k * 177 + s / 128 < kk * 177 + 8 * g ∨ kk * 177 + 8 * g + 8 ≤ k * 177 + s / 128
    omega

/-- A loaded tile of one column. -/
theorem ld_tile (kk g : ℕ) (hkk : kk < 72) (hg : g < 22) (off : Fin 2 → ℕ) (hoff : off = ![kk * 177 + 8 * g, 0]) (inb) (i : Fin 8) (q : Fin 128) :
    View.readAt (Elt Ideal) v (Rect.unit (s := S12751x128) off S8x128.size inb).toLoadRect f (ix2 i q) = at8 (v.read (Elt Ideal) f) kk (1024 * g + 128 * i.val + q.val) := by
  subst hoff
  have hi := i.isLt
  have hq := q.isLt
  rw [at8_of _ kk _ hkk (by omega), View.readAt_eq_ld]
  refine View.ld_unit_apply_of _ _ _ inb (ix2 i q) _ fun a => ?_
  fin_cases a
  · show kk * 177 + (1024 * g + 128 * i.val + q.val) / 128 = kk * 177 + 8 * g + i.val
    omega
  · show (1024 * g + 128 * i.val + q.val) % 128 = 0 + q.val
    omega

/-- One more tile of a column whose rows are being replaced from the top. -/
theorem at8_next (B C : Cols) (kk g : ℕ) (hkk : kk < 72) (hg : g < 22) (off : Fin 2 → ℕ) (hoff : off = ![kk * 177 + 8 * g, 0]) (inb)
    (val : S8x128.Idx → Elt Ideal .f32) (L : List (View.Piece (Elt Ideal) S12751x128 .f32))
    (hval : ∀ (i : Fin 8) (q : Fin 128), val (ix2 i q) = C kk (1024 * g + 128 * i.val + q.val))
    (hL : ∀ k s, k < 72 → s < 22528 → at8 (v.read (Elt Ideal) (v.writes (Elt Ideal) f L)) k s = if k = kk ∧ s < 1024 * g then C k s else B k s) :
    ∀ k s, k < 72 → s < 22528 → at8 (v.read (Elt Ideal) (v.writes (Elt Ideal) f ((⟨Rect.unit (s := S12751x128) off S8x128.size inb, val⟩ : View.Piece (Elt Ideal) S12751x128 .f32) :: L))) k s
      = if k = kk ∧ s < 1024 * (g + 1) then C k s else B k s := by
  intro k s hk hs
  rw [at8_tile v f kk g hkk hg off hoff inb val L k s hk hs]
  split
  · rename_i h
    rw [if_pos ⟨h.1, by omega⟩, hval, h.1]
    refine congrArg (C kk) ?_
    show 1024 * g + 128 * (s / 128 % 8) + s % 128 = s
    omega
  · rename_i h
    rw [hL k s hk hs]
    refine if_congr ?_ rfl rfl
    omega

end Cert.PanelIdeal.Val

end
-- ==== Proof.PanelVUpd.lean ====
/- What the updating loop of a column step leaves in the working copy. -/
module

public import proofs.«01_k».proof.Proof.PanelVCol
public import proofs.«01_k».proof.Proof.PanelVPay

@[expose] public section

set_option maxRecDepth 16384

noncomputable section

namespace Cert.PanelIdeal.Val

open Cert.PanelIdeal Cert.PanelIdeal.Gen Cert.Proof Cert.Proof.Panel
open Idealize.ShloMosaic Idealize.ShloMosaic.TcCoe

theorem pay142_apply (vt v l : FVec Ideal S8x128 .f32) (i : Fin 8) (q : Fin 128) : k0_pay142 vt v l (ix2 i q) = l (ix2 i q) - v (ix2 i q) * vt (ix2 i q) := by
  pointwise [k0_pay142]
theorem pay17_apply (a b l l' : FVec Ideal S8x128 .f32) (i : Fin 8) (q : Fin 128) : k0_pay17 a b l l' (ix2 i q) = a (ix2 i q) * (l (ix2 i q) + l' (ix2 i q) * b (ix2 i q)) := by
  pointwise [k0_pay17]

/-- A loaded row block of the column products. -/
theorem ld9 (v : View sig .tc .vmem S1152x128 .f32) (f : BufTy.Contents (Elt Ideal) v.ty) (r : ℕ) (off : Fin 2 → ℕ) (hoff : off = ![r, 0]) (inb) (i : Fin 8) (q : Fin 128) (hr : r + i.val < 1152) :
    View.readAt (Elt Ideal) v (Rect.unit (s := S1152x128) off S8x128.size inb).toLoadRect f (ix2 i q) = v.read (Elt Ideal) f (ix2 ⟨r + i.val, hr⟩ q) := by
  subst hoff
  rw [View.readAt_eq_ld]
  refine View.ld_unit_apply_of _ _ _ inb (ix2 i q) _ fun a => ?_
  fin_cases a
  · rfl
  · show q.val = 0 + q.val
    omega

set_option maxHeartbeats 1000000 in
/-- One trip of the updating loop changes one column. -/
theorem trip5 (𝒱 : Variants) (c : Dev nD) (bd : Option 𝒱.V) (arg0 : Memref sig .tc .vmem S22528x72 .f32) (harg0) (arg1) (harg1) (arg2) (harg2) (arg3) (harg3) (arg4) (harg4) (arg5) (harg5) (arg6) (harg6) (arg7) (harg7) (arg8 : Memref sig .tc .vmem S12751x128 .f32) (harg8) (arg9 : Memref sig .tc .vmem S1152x128 .f32) (harg9) (arg10) (harg10) (arg11) (harg11) (j : Fin k0_t2_loop.trips)
    (v164 v167 v172 v173 v174 v175 v176 v177 v178 v179 v180 v181 v182 v183 v184 v185 v186 v187 v188 v189 v190 v191 v192 v194 : FVec Ideal S8x128 .f32) (v344) (X9 : BufTy.Contents (Elt Ideal) arg9.view.ty) (k : Fin (k0_t5_loop j).trips) (acc) (f8 : BufTy.Contents (Elt Ideal) arg8.view.ty)
    (V : ℕ → EReal) (τ' ι : EReal) (D E : ℕ → EReal)
    (hV : ∀ (g : Fin 22) (i : Fin 8) (q : Fin 128), (![v194, v172, v173, v174, v175, v176, v177, v178, v179, v180, v181, v182, v183, v184, v185, v186, v187, v188, v189, v190, v191, v192] g) (ix2 i q) = V (1024 * g.val + 128 * i.val + q.val))
    (hτ : ∀ (i : Fin 8) (q : Fin 128), v164 (ix2 i q) = τ') (hι : ∀ (i : Fin 8) (q : Fin 128), v167 (ix2 i q) = ι)
    (hD : ∀ (k : ℕ) (h1 : j.val + 1 ≤ k) (h2 : k < 72) (i : Fin 8) (q : Fin 128), arg9.view.read (Elt Ideal) X9 (ix2 ⟨k * 8 + i.val, by omega⟩ q) = D k)
    (hE : ∀ (k : ℕ) (h1 : j.val + 1 ≤ k) (h2 : k < 72) (i : Fin 8) (q : Fin 128), arg9.view.read (Elt Ideal) X9 (ix2 ⟨(72 + k) * 8 + i.val, by omega⟩ q) = E k) :
    ∀ k' s, k' < 72 → s < 22528 → at8 (arg8.view.read (Elt Ideal) (arg8.view.writes (Elt Ideal) f8 (tripL_k0_t5 (F := Ideal) 𝒱 c bd arg0 harg0 arg1 harg1 arg2 harg2 arg3 harg3 arg4 harg4 arg5 harg5 arg6 harg6 arg7 harg7 arg8 harg8 arg9 harg9 arg10 harg10 arg11 harg11 j v164 v167 v172 v173 v174 v175 v176 v177 v178 v179 v180 v181 v182 v183 v184 v185 v186 v187 v188 v189 v190 v191 v192 v194 v344 X9 k acc f8))) k' s
      = if k' = j.val + 1 + k.val then at8 (arg8.view.read (Elt Ideal) f8) k' s - τ' * (E k' + D k' * ι) * V s else at8 (arg8.view.read (Elt Ideal) f8) k' s := by
  have h : k.val < 71 - j.val := lt_of_lt_of_eq k.isLt (trips5 j)
  have hj : j.val < 72 := lt_of_lt_of_eq j.isLt trips2
  have hkk : j.val + 1 + k.val < 72 := by omega
  have hn : ∀ (g : ℕ) (hg : g < 22) (cc : BitVec 32) (hc : cc = BitVec.ofNat 32 (8 * g)) (inb) (val : FVec Ideal S8x128 .f32) (L : List (View.Piece (Elt Ideal) S12751x128 .f32))
      (hd : val = k0_pay142 (![v194, v172, v173, v174, v175, v176, v177, v178, v179, v180, v181, v182, v183, v184, v185, v186, v187, v188, v189, v190, v191, v192] ⟨g, hg⟩) (k0_pay17 v164 v167 (View.readAt (Elt Ideal) arg9.view (Rect.unit (s := S1152x128) (k0_off12 j k) S8x128.size (k0_off12_inb j k)).toLoadRect X9)
          (View.readAt (Elt Ideal) arg9.view (Rect.unit (s := S1152x128) (k0_off13 j k) S8x128.size (k0_off13_inb j k)).toLoadRect X9))
        (View.readAt (Elt Ideal) arg8.view (Rect.unit (s := S12751x128) (k0_off14 j k cc) S8x128.size inb).toLoadRect f8))
      (hL : ∀ k' s, k' < 72 → s < 22528 → at8 (arg8.view.read (Elt Ideal) (arg8.view.writes (Elt Ideal) f8 L)) k' s
        = if k' = j.val + 1 + k.val ∧ s < 1024 * g then at8 (arg8.view.read (Elt Ideal) f8) k' s - τ' * (E k' + D k' * ι) * V s else at8 (arg8.view.read (Elt Ideal) f8) k' s),
      ∀ k' s, k' < 72 → s < 22528 → at8 (arg8.view.read (Elt Ideal) (arg8.view.writes (Elt Ideal) f8 ((⟨Rect.unit (s := S12751x128) (k0_off14 j k cc) S8x128.size inb, val⟩ : View.Piece (Elt Ideal) S12751x128 .f32) :: L))) k' s
        = if k' = j.val + 1 + k.val ∧ s < 1024 * (g + 1) then at8 (arg8.view.read (Elt Ideal) f8) k' s - τ' * (E k' + D k' * ι) * V s else at8 (arg8.view.read (Elt Ideal) f8) k' s := by
    intro g hg cc hc inb val L hd hL
    subst hc
    refine at8_next arg8.view f8 (at8 (arg8.view.read (Elt Ideal) f8)) (fun k' s => at8 (arg8.view.read (Elt Ideal) f8) k' s - τ' * (E k' + D k' * ι) * V s) (j.val + 1 + k.val) g hkk hg _ (off14_eq j k ⟨g, hg⟩) inb val L (fun i q => ?_) hL
    rw [hd, pay142_apply, pay17_apply, hV, hτ, hι, ld_tile arg8.view f8 _ g hkk hg _ (off14_eq j k ⟨g, hg⟩),
      ld9 _ _ _ _ (off12_eq j k) _ _ _ (by omega), ld9 _ _ _ _ (off13_eq j k) _ _ _ (by omega), hD _ (by omega) hkk, hE _ (by omega) hkk]
  unfold tripL_k0_t5 trip_k0_t5
  dsimp only
  have hfin : ∀ (y8 : Cols), (∀ k' s, k' < 72 → s < 22528 → y8 k' s = if k' = j.val + 1 + k.val ∧ s < 1024 * 22 then at8 (arg8.view.read (Elt Ideal) f8) k' s - τ' * (E k' + D k' * ι) * V s else at8 (arg8.view.read (Elt Ideal) f8) k' s) →
      ∀ k' s, k' < 72 → s < 22528 → y8 k' s = if k' = j.val + 1 + k.val then at8 (arg8.view.read (Elt Ideal) f8) k' s - τ' * (E k' + D k' * ι) * V s else at8 (arg8.view.read (Elt Ideal) f8) k' s := by
    intro y8 hy k' s hk hs
    rw [hy k' s hk hs]
    exact if_congr (by omega) rfl rfl
  refine hfin _ ?_
  iterate 22 (refine hn _ (by decide) _ (by rfl) _ _ _ (by rfl) ?_)
  intro k' s hk hs
  rw [if_neg (by omega)]
  rfl

/-- The updating loop changes the columns past the step's, one by one. -/
theorem upto5 (𝒱 : Variants) (c : Dev nD) (bd : Option 𝒱.V) (arg0 : Memref sig .tc .vmem S22528x72 .f32) (harg0) (arg1) (harg1) (arg2) (harg2) (arg3) (harg3) (arg4) (harg4) (arg5) (harg5) (arg6) (harg6) (arg7) (harg7) (arg8 : Memref sig .tc .vmem S12751x128 .f32) (harg8) (arg9 : Memref sig .tc .vmem S1152x128 .f32) (harg9) (arg10) (harg10) (arg11) (harg11) (j : Fin k0_t2_loop.trips)
    (v164 v167 v172 v173 v174 v175 v176 v177 v178 v179 v180 v181 v182 v183 v184 v185 v186 v187 v188 v189 v190 v191 v192 v194 : FVec Ideal S8x128 .f32) (v344) (X9 : BufTy.Contents (Elt Ideal) arg9.view.ty) (init) (f8 : BufTy.Contents (Elt Ideal) arg8.view.ty)
    (V : ℕ → EReal) (τ' ι : EReal) (D E : ℕ → EReal)
    (hV : ∀ (g : Fin 22) (i : Fin 8) (q : Fin 128), (![v194, v172, v173, v174, v175, v176, v177, v178, v179, v180, v181, v182, v183, v184, v185, v186, v187, v188, v189, v190, v191, v192] g) (ix2 i q) = V (1024 * g.val + 128 * i.val + q.val))
    (hτ : ∀ (i : Fin 8) (q : Fin 128), v164 (ix2 i q) = τ') (hι : ∀ (i : Fin 8) (q : Fin 128), v167 (ix2 i q) = ι)
    (hD : ∀ (k : ℕ) (h1 : j.val + 1 ≤ k) (h2 : k < 72) (i : Fin 8) (q : Fin 128), arg9.view.read (Elt Ideal) X9 (ix2 ⟨k * 8 + i.val, by omega⟩ q) = D k)
    (hE : ∀ (k : ℕ) (h1 : j.val + 1 ≤ k) (h2 : k < 72) (i : Fin 8) (q : Fin 128), arg9.view.read (Elt Ideal) X9 (ix2 ⟨(72 + k) * 8 + i.val, by omega⟩ q) = E k) :
    ∀ n, n ≤ 71 - j.val → ∀ k' s, k' < 72 → s < 22528 → at8 (arg8.view.read (Elt Ideal) (arg8.view.writes (Elt Ideal) f8 (st_k0_t5 (F := Ideal) 𝒱 c bd arg0 harg0 arg1 harg1 arg2 harg2 arg3 harg3 arg4 harg4 arg5 harg5 arg6 harg6 arg7 harg7 arg8 harg8 arg9 harg9 arg10 harg10 arg11 harg11 j v164 v167 v172 v173 v174 v175 v176 v177 v178 v179 v180 v181 v182 v183 v184 v185 v186 v187 v188 v189 v190 v191 v192 v194 v344 X9 f8 init n).2)) k' s
      = if j.val + 1 ≤ k' ∧ k' < j.val + 1 + n then at8 (arg8.view.read (Elt Ideal) f8) k' s - τ' * (E k' + D k' * ι) * V s else at8 (arg8.view.read (Elt Ideal) f8) k' s := by
  intro n
  induction n with
  | zero =>
    intro _ k' s _ _
    rw [if_neg (by omega)]
    rfl
  | succ n ih =>
    intro hn k' s hk hs
    have e := st_k0_t5_succ (F := Ideal) 𝒱 c bd arg0 harg0 arg1 harg1 arg2 harg2 arg3 harg3 arg4 harg4 arg5 harg5 arg6 harg6 arg7 harg7 arg8 harg8 arg9 harg9 arg10 harg10 arg11 harg11 j v164 v167 v172 v173 v174 v175 v176 v177 v178 v179 v180 v181 v182 v183 v184 v185 v186 v187 v188 v189 v190 v191 v192 v194 v344 X9 f8 init ⟨n, lt_of_lt_of_eq (by omega : n < 71 - j.val) (trips5 j).symm⟩
    rw [show (st_k0_t5 (F := Ideal) 𝒱 c bd arg0 harg0 arg1 harg1 arg2 harg2 arg3 harg3 arg4 harg4 arg5 harg5 arg6 harg6 arg7 harg7 arg8 harg8 arg9 harg9 arg10 harg10 arg11 harg11 j v164 v167 v172 v173 v174 v175 v176 v177 v178 v179 v180 v181 v182 v183 v184 v185 v186 v187 v188 v189 v190 v191 v192 v194 v344 X9 f8 init (n + 1)) = _ from e]
    dsimp only
    rw [View.writes_append]
    refine (trip5 𝒱 c bd arg0 harg0 arg1 harg1 arg2 harg2 arg3 harg3 arg4 harg4 arg5 harg5 arg6 harg6 arg7 harg7 arg8 harg8 arg9 harg9 arg10 harg10 arg11 harg11 j v164 v167 v172 v173 v174 v175 v176 v177 v178 v179 v180 v181 v182 v183 v184 v185 v186 v187 v188 v189 v190 v191 v192 v194 v344 X9 ⟨n, _⟩ _ _ V τ' ι D E hV hτ hι hD hE k' s hk hs).trans ?_
    dsimp only
    rw [ih (by omega) k' s hk hs]
    split_ifs <;> first | rfl | (exfalso; omega)

end Cert.PanelIdeal.Val

end
-- ==== Proof.PanelVDot.lean ====
/- What the product loop of a column step leaves beside the working copy. -/
module

public import Idealize.ShloMosaic.Lib.IdealHost
public import proofs.«01_k».proof.Proof.PanelVUpd

@[expose] public section

set_option maxRecDepth 16384

noncomputable section

namespace Cert.PanelIdeal.Val

open Cert.PanelIdeal Cert.PanelIdeal.Gen Cert.Proof Cert.Proof.Panel
open Idealize.ShloMosaic Idealize.ShloMosaic.TcCoe

/-- The sum of a whole tile, in every place. -/
def red (x : FVec Ideal S8x128 .f32) : FVec Ideal S8x128 .f32 :=
  shapeCast S8x128 (broadcastTo S8x128 (shapeCast S1x1 (shapeCast S1x1 (multiReduction .add [0] S1 (shapeCast S8x1 (multiReduction .add [1] S8 x 0x00000000#32 reduces_S8x128_S8 (.inl rfl) rfl) shapeCasts_S8_S8x1) 0x00000000#32 reduces_S8x1_S1 (.inl rfl) rfl) shapeCasts_S1_S1x1) shapeCasts_S1x1_S1x1) broadcasts_S1x1_S8x128) shapeCasts_S8x128_S8x128

theorem red_apply (x : FVec Ideal S8x128 .f32) (i : Fin 8) (q : Fin 128) : red x (ix2 i q) = ∑ i' : Fin 8, ∑ q' : Fin 128, x (ix2 i' q') := by
  pointwise [red]

theorem sum_blocks (h : ℕ → EReal) (n m : ℕ) : ∑ s ∈ Finset.range (n * m), h s = ∑ a ∈ Finset.range n, ∑ b ∈ Finset.range m, h (m * a + b) := by
  induction n with
  | zero => simp
  | succ n ih => rw [Nat.succ_mul, Finset.sum_range_add, ih, Finset.sum_range_succ, Nat.mul_comm n m]

theorem sum_tiles (h : ℕ → EReal) : ∑ i : Fin 8, ∑ q : Fin 128, ∑ g : Fin 22, h (1024 * g.val + 128 * i.val + q.val) = ∑ s ∈ Finset.range 22528, h s := by
  rw [show (22528 : ℕ) = 22 * (8 * 128) from rfl, sum_blocks h 22 (8 * 128)]
  rw [show (∑ a ∈ Finset.range 22, ∑ b ∈ Finset.range (8 * 128), h (8 * 128 * a + b)) = ∑ g : Fin 22, ∑ i : Fin 8, ∑ q : Fin 128, h (1024 * g.val + 128 * i.val + q.val) from ?_]
  · exact (Finset.sum_congr rfl fun i _ => Finset.sum_comm).trans Finset.sum_comm
  · rw [Finset.sum_range]
    refine Finset.sum_congr rfl fun g _ => ?_
    rw [sum_blocks (fun b => h (8 * 128 * g.val + b)) 8 128, Finset.sum_range]
    refine Finset.sum_congr rfl fun i _ => ?_
    rw [Finset.sum_range]
    refine Finset.sum_congr rfl fun q _ => congrArg h ?_
    omega

theorem acc_apply (v132 v47 v51 v55 v59 v63 v67 v71 v75 v79 v83 v87 v91 v95 v99 v103 v107 v111 v115 v119 v123 v127 v355 v359 v363 v367 v371 v375 v379 v383 v387 v391 v395 v399 v403 v407 v411 v415 v419 v423 v427 v431 v435 v439 : FVec Ideal S8x128 .f32) (i : Fin 8) (q : Fin 128) :
    (addf (addf (addf (addf (addf (addf (addf (addf (addf (addf (addf (addf (addf (addf (addf (addf (addf (addf (addf (addf (addf (mulf v132 v355) (mulf v47 v359)) (mulf v51 v363)) (mulf v55 v367)) (mulf v59 v371)) (mulf v63 v375)) (mulf v67 v379)) (mulf v71 v383)) (mulf v75 v387)) (mulf v79 v391)) (mulf v83 v395)) (mulf v87 v399)) (mulf v91 v403)) (mulf v95 v407)) (mulf v99 v411)) (mulf v103 v415)) (mulf v107 v419)) (mulf v111 v423)) (mulf v115 v427)) (mulf v119 v431)) (mulf v123 v435)) (mulf v127 v439)) (ix2 i q)
      = ∑ g : Fin 22, (![v132, v47, v51, v55, v59, v63, v67, v71, v75, v79, v83, v87, v91, v95, v99, v103, v107, v111, v115, v119, v123, v127] g) (ix2 i q) * (![v355, v359, v363, v367, v371, v375, v379, v383, v387, v391, v395, v399, v403, v407, v411, v415, v419, v423, v427, v431, v435, v439] g) (ix2 i q) := by
  simp only [Fin.sum_univ_castSucc, Finset.univ_eq_empty, Finset.sum_empty, zero_add]
  rfl

theorem pay12_apply (v132 v47 v51 v55 v59 v63 v67 v71 v75 v79 v83 v87 v91 v95 v99 v103 v107 v111 v115 v119 v123 v127 v355 v359 v363 v367 v371 v375 v379 v383 v387 v391 v395 v399 v403 v407 v411 v415 v419 v423 v427 v431 v435 v439 : FVec Ideal S8x128 .f32) (U B : ℕ → EReal)
    (hU : ∀ (g : Fin 22) (i : Fin 8) (q : Fin 128), (![v132, v47, v51, v55, v59, v63, v67, v71, v75, v79, v83, v87, v91, v95, v99, v103, v107, v111, v115, v119, v123, v127] g) (ix2 i q) = U (1024 * g.val + 128 * i.val + q.val))
    (hB : ∀ (g : Fin 22) (i : Fin 8) (q : Fin 128), (![v355, v359, v363, v367, v371, v375, v379, v383, v387, v391, v395, v399, v403, v407, v411, v415, v419, v423, v427, v431, v435, v439] g) (ix2 i q) = B (1024 * g.val + 128 * i.val + q.val)) (i : Fin 8) (q : Fin 128) :
    k0_pay12 v95 v99 v103 v107 v111 v115 v119 v123 v127 v407 v411 v415 v419 v423 v427 v431 v435 v439 (k0_pay11 v47 v51 v55 v59 v63 v67 v71 v75 v79 v83 v87 v91 v132 v355 v359 v363 v367 v371 v375 v379 v383 v387 v391 v395 v399 v403) (ix2 i q) = dot U B := by
  refine (red_apply _ i q).trans ?_
  refine (Finset.sum_congr rfl fun i' _ => Finset.sum_congr rfl fun q' _ => (acc_apply v132 v47 v51 v55 v59 v63 v67 v71 v75 v79 v83 v87 v91 v95 v99 v103 v107 v111 v115 v119 v123 v127 v355 v359 v363 v367 v371 v375 v379 v383 v387 v391 v395 v399 v403 v407 v411 v415 v419 v423 v427 v431 v435 v439 i' q').trans (Finset.sum_congr rfl fun g _ => congrArg₂ (· * ·) (hU g i' q') (hB g i' q'))).trans ?_
  exact sum_tiles fun s => U s * B s

theorem lane_eq : ∀ (q : Fin 128) (j : Fin 72), IntOp.cmpi CmpIPredicate.eq (BitVec.ofNat 32 q.val) (BitVec.ofNat 32 j.val) = if q.val = j.val then 1#1 else 0#1 := by decide +kernel
theorem lane_le : ∀ (q : Fin 128) (j : Fin 72), IntOp.cmpi CmpIPredicate.sle (BitVec.ofNat 32 q.val) (BitVec.ofNat 32 j.val) = if q.val ≤ j.val then 1#1 else 0#1 := by decide +kernel
theorem sub_eq : ∀ (i : Fin 8), IntOp.cmpi CmpIPredicate.eq (BitVec.ofNat 32 i.val) 0#32 = if i.val = 0 then 1#1 else 0#1 := by decide +kernel

theorem sel_eq (a b : FVec Ideal S8x128 .f32) (j : Fin 72) (i : Fin 8) (q : Fin 128) :
    select (andi k0_pay140 (cmpi .eq (iota .tc S8x128 32 [1] iota_S8x128_d1_w32) (broadcast S8x128 (BitVec.ofNat 32 j.val)))) a b (ix2 i q)
      = if i.val = 0 ∧ q.val = j.val then a (ix2 i q) else b (ix2 i q) := by
  pointwise [k0_pay140]
  rw [sub_eq, lane_eq]
  by_cases h1 : i.val = 0 <;> by_cases h2 : q.val = j.val <;> simp only [h1, h2, and_self, and_true, true_and, and_false, false_and, if_true, if_false] <;> rfl

theorem sel_le (a b : FVec Ideal S8x128 .f32) (j : Fin 72) (i : Fin 8) (q : Fin 128) :
    select (andi k0_pay140 (cmpi .sle (iota .tc S8x128 32 [1] iota_S8x128_d1_w32) (broadcast S8x128 (BitVec.ofNat 32 j.val)))) a b (ix2 i q)
      = if i.val = 0 ∧ q.val ≤ j.val then a (ix2 i q) else b (ix2 i q) := by
  pointwise [k0_pay140]
  rw [sub_eq, lane_le]
  by_cases h1 : i.val = 0 <;> by_cases h2 : q.val ≤ j.val <;> simp only [h1, h2, and_self, and_true, true_and, and_false, false_and, if_true, if_false] <;> rfl

theorem red_pick (l z : FVec Ideal S8x128 .f32) (hz : ∀ i q, z (ix2 i q) = 0) (j : Fin 72) (i : Fin 8) (q : Fin 128) :
    red (select (andi k0_pay140 (cmpi .eq (iota .tc S8x128 32 [1] iota_S8x128_d1_w32) (broadcast S8x128 (BitVec.ofNat 32 j.val)))) l z) (ix2 i q)
      = l (ix2 0 ⟨j.val, by omega⟩) := by
  rw [red_apply, Finset.sum_eq_single (0 : Fin 8), Finset.sum_eq_single (⟨j.val, by omega⟩ : Fin 128)]
  · rw [sel_eq, if_pos ⟨rfl, rfl⟩]
  · intro q' _ hq
    rw [sel_eq, if_neg (fun h => hq (Fin.ext h.2)), hz]
  · intro h
    exact absurd (Finset.mem_univ _) h
  · intro i' _ hi
    refine Finset.sum_eq_zero fun q' _ => ?_
    rw [sel_eq, if_neg (fun h => hi (Fin.ext h.1)), hz]
  · intro h
    exact absurd (Finset.mem_univ _) h

theorem bzero (i : Fin 8) (q : Fin 128) : (broadcast S8x128 (Scalar.ofBits .f32 0x00000000#32) : FVec Ideal S8x128 .f32) (ix2 i q) = 0 :=
  Ideal.ofBits_zero_f32

theorem pay13_apply (l : FVec Ideal S8x128 .f32) (j : Fin 72) (i : Fin 8) (q : Fin 128) :
    k0_pay13 (iota .tc S8x128 32 [1] iota_S8x128_d1_w32) k0_pay140 (BitVec.ofNat 32 j.val) l (ix2 i q) = l (ix2 0 ⟨j.val, by omega⟩) :=
  red_pick l _ bzero j i q

section
set_option maxHeartbeats 1000000
/-- The product loop leaves every later column's product with the step's column, and its leading entry. -/
theorem trip3 (𝒱 : Variants) (c : Dev nD) (bd : Option 𝒱.V) (arg0 : Memref sig .tc .vmem S22528x72 .f32) (harg0) (arg1) (harg1) (arg2) (harg2) (arg3) (harg3) (arg4) (harg4) (arg5) (harg5) (arg6) (harg6) (arg7) (harg7) (arg8 : Memref sig .tc .vmem S12751x128 .f32) (harg8) (arg9 : Memref sig .tc .vmem S1152x128 .f32) (harg9) (arg10) (harg10) (arg11) (harg11) (j : Fin k0_t2_loop.trips)
    (v132 v47 v51 v55 v59 v63 v67 v71 v75 v79 v83 v87 v91 v95 v99 v103 v107 v111 v115 v119 v123 v127 v143 : FVec Ideal S8x128 .f32) (c0 v144 c1) (X8 : BufTy.Contents (Elt Ideal) arg8.view.ty) (k : Fin (k0_t3_loop j).trips) (acc) (G : BufTy.Contents (Elt Ideal) arg9.view.ty) (U : ℕ → EReal)
    (hU : ∀ (g : Fin 22) (i : Fin 8) (q : Fin 128), (![v132, v47, v51, v55, v59, v63, v67, v71, v75, v79, v83, v87, v91, v95, v99, v103, v107, v111, v115, v119, v123, v127] g) (ix2 i q) = U (1024 * g.val + 128 * i.val + q.val)) (L : List (View.Piece (Elt Ideal) S1152x128 .f32)) (r : Fin 1152) (q : Fin 128) :
    arg9.view.read (Elt Ideal) (arg9.view.writes (Elt Ideal) G (tripL_k0_t3 (F := Ideal) 𝒱 c bd arg0 harg0 arg1 harg1 arg2 harg2 arg3 harg3 arg4 harg4 arg5 harg5 arg6 harg6 arg7 harg7 arg8 harg8 arg9 harg9 arg10 harg10 arg11 harg11 (iota .tc S8x128 32 [1] iota_S8x128_d1_w32) k0_pay140 j (Scf.iv 0#32 1#32 j) v47 v51 v55 v59 v63 v67 v71 v75 v79 v83 v87 v91 v95 v99 v103 v107 v111 v115 v119 v123 v127 v132 v143 c0 v144 c1 X8 k acc ++ L)) (ix2 r q)
      = if r.val / 8 = 72 + (j.val + k.val) then at8 (arg8.view.read (Elt Ideal) X8) (j.val + k.val) j.val
        else if r.val / 8 = j.val + k.val then dot U (at8 (arg8.view.read (Elt Ideal) X8) (j.val + k.val)) else arg9.view.read (Elt Ideal) (arg9.view.writes (Elt Ideal) G L) (ix2 r q) := by
  have h : k.val < 72 - j.val := lt_of_lt_of_eq k.isLt (trips3 j)
  have hj : j.val < 72 := lt_of_lt_of_eq j.isLt trips2
  have hkk : j.val + k.val < 72 := by omega
  have hr := r.isLt
  unfold tripL_k0_t3 trip_k0_t3
  dsimp only
  split_ifs with h1 h2
  · refine (View.read_writes_cons_rows_of_mem arg9.view G _ _ _ (ix2 r q) (ix2 ⟨r.val % 8, Nat.mod_lt _ (by decide)⟩ q) (off6_eq j k) ?_ rfl).trans ?_
    · show r.val = (72 + (j.val + k.val)) * 8 + r.val % 8
      omega
    rw [iv2]
    refine (pay13_apply (View.readAt (Elt Ideal) arg8.view (Rect.unit (s := S12751x128) (k0_off4 j k (BitVec.ofNat 32 (8 * (0 : Fin 22).val))) S8x128.size (k0_off4_inb j k 0)).toLoadRect X8) ⟨j.val, hj⟩ _ q).trans ?_
    rw [ld_tile arg8.view X8 _ 0 hkk (by decide) _ (off4_eq j k 0)]
    refine congrArg (at8 _ _) ?_
    show 1024 * 0 + 128 * 0 + j.val = j.val
    omega
  · refine (View.read_writes_cons_rows_of_not_mem arg9.view G _ _ _ (ix2 r q) (off6_eq j k) rfl ?_).trans ?_
    · show r.val < (72 + (j.val + k.val)) * 8 ∨ (72 + (j.val + k.val)) * 8 + 8 ≤ r.val
      omega
    refine (View.read_writes_cons_rows_of_mem arg9.view G _ _ _ (ix2 r q) (ix2 ⟨r.val % 8, Nat.mod_lt _ (by decide)⟩ q) (off5_eq j k) ?_ rfl).trans ?_
    · show r.val = ((j.val + k.val)) * 8 + r.val % 8
      omega
    refine pay12_apply v132 v47 v51 v55 v59 v63 v67 v71 v75 v79 v83 v87 v91 v95 v99 v103 v107 v111 v115 v119 v123 v127 (View.readAt (Elt Ideal) arg8.view (Rect.unit (s := S12751x128) (k0_off4 j k 0#32) S8x128.size (k0_off4_inb j k 0)).toLoadRect X8) (View.readAt (Elt Ideal) arg8.view (Rect.unit (s := S12751x128) (k0_off4 j k 8#32) S8x128.size (k0_off4_inb j k 1)).toLoadRect X8) (View.readAt (Elt Ideal) arg8.view (Rect.unit (s := S12751x128) (k0_off4 j k 16#32) S8x128.size (k0_off4_inb j k 2)).toLoadRect X8) (View.readAt (Elt Ideal) arg8.view (Rect.unit (s := S12751x128) (k0_off4 j k 24#32) S8x128.size (k0_off4_inb j k 3)).toLoadRect X8) (View.readAt (Elt Ideal) arg8.view (Rect.unit (s := S12751x128) (k0_off4 j k 32#32) S8x128.size (k0_off4_inb j k 4)).toLoadRect X8) (View.readAt (Elt Ideal) arg8.view (Rect.unit (s := S12751x128) (k0_off4 j k 40#32) S8x128.size (k0_off4_inb j k 5)).toLoadRect X8) (View.readAt (Elt Ideal) arg8.view (Rect.unit (s := S12751x128) (k0_off4 j k 48#32) S8x128.size (k0_off4_inb j k 6)).toLoadRect X8) (View.readAt (Elt Ideal) arg8.view (Rect.unit (s := S12751x128) (k0_off4 j k 56#32) S8x128.size (k0_off4_inb j k 7)).toLoadRect X8) (View.readAt (Elt Ideal) arg8.view (Rect.unit (s := S12751x128) (k0_off4 j k 64#32) S8x128.size (k0_off4_inb j k 8)).toLoadRect X8) (View.readAt (Elt Ideal) arg8.view (Rect.unit (s := S12751x128) (k0_off4 j k 72#32) S8x128.size (k0_off4_inb j k 9)).toLoadRect X8) (View.readAt (Elt Ideal) arg8.view (Rect.unit (s := S12751x128) (k0_off4 j k 80#32) S8x128.size (k0_off4_inb j k 10)).toLoadRect X8) (View.readAt (Elt Ideal) arg8.view (Rect.unit (s := S12751x128) (k0_off4 j k 88#32) S8x128.size (k0_off4_inb j k 11)).toLoadRect X8) (View.readAt (Elt Ideal) arg8.view (Rect.unit (s := S12751x128) (k0_off4 j k 96#32) S8x128.size (k0_off4_inb j k 12)).toLoadRect X8) (View.readAt (Elt Ideal) arg8.view (Rect.unit (s := S12751x128) (k0_off4 j k 104#32) S8x128.size (k0_off4_inb j k 13)).toLoadRect X8) (View.readAt (Elt Ideal) arg8.view (Rect.unit (s := S12751x128) (k0_off4 j k 112#32) S8x128.size (k0_off4_inb j k 14)).toLoadRect X8) (View.readAt (Elt Ideal) arg8.view (Rect.unit (s := S12751x128) (k0_off4 j k 120#32) S8x128.size (k0_off4_inb j k 15)).toLoadRect X8) (View.readAt (Elt Ideal) arg8.view (Rect.unit (s := S12751x128) (k0_off4 j k 128#32) S8x128.size (k0_off4_inb j k 16)).toLoadRect X8) (View.readAt (Elt Ideal) arg8.view (Rect.unit (s := S12751x128) (k0_off4 j k 136#32) S8x128.size (k0_off4_inb j k 17)).toLoadRect X8) (View.readAt (Elt Ideal) arg8.view (Rect.unit (s := S12751x128) (k0_off4 j k 144#32) S8x128.size (k0_off4_inb j k 18)).toLoadRect X8) (View.readAt (Elt Ideal) arg8.view (Rect.unit (s := S12751x128) (k0_off4 j k 152#32) S8x128.size (k0_off4_inb j k 19)).toLoadRect X8) (View.readAt (Elt Ideal) arg8.view (Rect.unit (s := S12751x128) (k0_off4 j k 160#32) S8x128.size (k0_off4_inb j k 20)).toLoadRect X8) (View.readAt (Elt Ideal) arg8.view (Rect.unit (s := S12751x128) (k0_off4 j k 168#32) S8x128.size (k0_off4_inb j k 21)).toLoadRect X8) U _ hU ?_ _ q
    intro g i q'
    rw [← ld_tile arg8.view X8 _ g.val hkk g.isLt _ (off4_eq j k g) (k0_off4_inb j k g)]
    fin_cases g <;> rfl
  · refine (View.read_writes_cons_rows_of_not_mem arg9.view G _ _ _ (ix2 r q) (off6_eq j k) rfl ?_).trans ?_
    · show r.val < (72 + (j.val + k.val)) * 8 ∨ (72 + (j.val + k.val)) * 8 + 8 ≤ r.val
      omega
    refine (View.read_writes_cons_rows_of_not_mem arg9.view G _ _ _ (ix2 r q) (off5_eq j k) rfl ?_).trans ?_
    · show r.val < (j.val + k.val) * 8 ∨ (j.val + k.val) * 8 + 8 ≤ r.val
      omega
    rfl

theorem upto3 (𝒱 : Variants) (c : Dev nD) (bd : Option 𝒱.V) (arg0 : Memref sig .tc .vmem S22528x72 .f32) (harg0) (arg1) (harg1) (arg2) (harg2) (arg3) (harg3) (arg4) (harg4) (arg5) (harg5) (arg6) (harg6) (arg7) (harg7) (arg8 : Memref sig .tc .vmem S12751x128 .f32) (harg8) (arg9 : Memref sig .tc .vmem S1152x128 .f32) (harg9) (arg10) (harg10) (arg11) (harg11) (j : Fin k0_t2_loop.trips)
    (v132 v47 v51 v55 v59 v63 v67 v71 v75 v79 v83 v87 v91 v95 v99 v103 v107 v111 v115 v119 v123 v127 v143 : FVec Ideal S8x128 .f32) (c0 v144 c1) (X8 : BufTy.Contents (Elt Ideal) arg8.view.ty) (init) (G : BufTy.Contents (Elt Ideal) arg9.view.ty) (U : ℕ → EReal)
    (hU : ∀ (g : Fin 22) (i : Fin 8) (q : Fin 128), (![v132, v47, v51, v55, v59, v63, v67, v71, v75, v79, v83, v87, v91, v95, v99, v103, v107, v111, v115, v119, v123, v127] g) (ix2 i q) = U (1024 * g.val + 128 * i.val + q.val)) :
    ∀ n, n ≤ 72 - j.val → ∀ (k : ℕ), j.val ≤ k → k < j.val + n → ∀ (r : Fin 1152) (q : Fin 128),
      (r.val / 8 = k → arg9.view.read (Elt Ideal) (arg9.view.writes (Elt Ideal) G (st_k0_t3 (F := Ideal) 𝒱 c bd arg0 harg0 arg1 harg1 arg2 harg2 arg3 harg3 arg4 harg4 arg5 harg5 arg6 harg6 arg7 harg7 arg8 harg8 arg9 harg9 arg10 harg10 arg11 harg11 (iota .tc S8x128 32 [1] iota_S8x128_d1_w32) k0_pay140 j (Scf.iv 0#32 1#32 j) v47 v51 v55 v59 v63 v67 v71 v75 v79 v83 v87 v91 v95 v99 v103 v107 v111 v115 v119 v123 v127 v132 v143 c0 v144 c1 X8 init n).2) (ix2 r q)
        = dot U (at8 (arg8.view.read (Elt Ideal) X8) k))
      ∧ (r.val / 8 = 72 + k → arg9.view.read (Elt Ideal) (arg9.view.writes (Elt Ideal) G (st_k0_t3 (F := Ideal) 𝒱 c bd arg0 harg0 arg1 harg1 arg2 harg2 arg3 harg3 arg4 harg4 arg5 harg5 arg6 harg6 arg7 harg7 arg8 harg8 arg9 harg9 arg10 harg10 arg11 harg11 (iota .tc S8x128 32 [1] iota_S8x128_d1_w32) k0_pay140 j (Scf.iv 0#32 1#32 j) v47 v51 v55 v59 v63 v67 v71 v75 v79 v83 v87 v91 v95 v99 v103 v107 v111 v115 v119 v123 v127 v132 v143 c0 v144 c1 X8 init n).2) (ix2 r q)
        = at8 (arg8.view.read (Elt Ideal) X8) k j.val) := by
  intro n
  induction n with
  | zero =>
    intro _ k h1 h2
    omega
  | succ n ih =>
    intro hn k h1 h2 r q
    have e := st_k0_t3_succ (F := Ideal) 𝒱 c bd arg0 harg0 arg1 harg1 arg2 harg2 arg3 harg3 arg4 harg4 arg5 harg5 arg6 harg6 arg7 harg7 arg8 harg8 arg9 harg9 arg10 harg10 arg11 harg11 (iota .tc S8x128 32 [1] iota_S8x128_d1_w32) k0_pay140 j (Scf.iv 0#32 1#32 j) v47 v51 v55 v59 v63 v67 v71 v75 v79 v83 v87 v91 v95 v99 v103 v107 v111 v115 v119 v123 v127 v132 v143 c0 v144 c1 X8 init ⟨n, lt_of_lt_of_eq (by omega : n < 72 - j.val) (trips3 j).symm⟩
    rw [show (st_k0_t3 (F := Ideal) 𝒱 c bd arg0 harg0 arg1 harg1 arg2 harg2 arg3 harg3 arg4 harg4 arg5 harg5 arg6 harg6 arg7 harg7 arg8 harg8 arg9 harg9 arg10 harg10 arg11 harg11 (iota .tc S8x128 32 [1] iota_S8x128_d1_w32) k0_pay140 j (Scf.iv 0#32 1#32 j) v47 v51 v55 v59 v63 v67 v71 v75 v79 v83 v87 v91 v95 v99 v103 v107 v111 v115 v119 v123 v127 v132 v143 c0 v144 c1 X8 init (n + 1)) = _ from e]
    dsimp only
    rw [trip3 𝒱 c bd arg0 harg0 arg1 harg1 arg2 harg2 arg3 harg3 arg4 harg4 arg5 harg5 arg6 harg6 arg7 harg7 arg8 harg8 arg9 harg9 arg10 harg10 arg11 harg11 j v132 v47 v51 v55 v59 v63 v67 v71 v75 v79 v83 v87 v91 v95 v99 v103 v107 v111 v115 v119 v123 v127 v143 c0 v144 c1 X8 ⟨n, _⟩ _ G U hU _ r q]
    dsimp only
    have hj : j.val < 72 := lt_of_lt_of_eq j.isLt trips2
    refine ⟨fun hr => ?_, fun hr => ?_⟩
    · rw [if_neg (by omega)]
      split_ifs with h3
      · rw [show k = j.val + n by omega]
      · exact (ih (by omega) k h1 (by omega) r q).1 hr
    · split_ifs with h3 h4
      · rw [show k = j.val + n by omega]
      · omega
      · exact (ih (by omega) k h1 (by omega) r q).2 hr
end

end Cert.PanelIdeal.Val

end
-- ==== Proof.PanelVRefl.lean ====
/- The reflector of a column step, place by place. -/
module

public import proofs.«01_k».proof.Proof.PanelVDot

@[expose] public section

set_option maxRecDepth 16384

noncomputable section

namespace Cert.PanelIdeal.Val

open Cert.PanelIdeal Cert.PanelIdeal.Gen Cert.Proof Cert.Proof.Panel
open Idealize.ShloMosaic Idealize.ShloMosaic.TcCoe

theorem lane_lt : ∀ (q : Fin 128) (j : Fin 72), IntOp.cmpi CmpIPredicate.slt (BitVec.ofNat 32 q.val) (BitVec.ofNat 32 j.val) = if q.val < j.val then 1#1 else 0#1 := by decide +kernel

section
variable (A : Cols) (j : Fin k0_t2_loop.trips)

/-- The place of a tile holding the step's row. -/
abbrev here : IVec S8x128 1 := andi k0_pay140 (cmpi .eq (iota .tc S8x128 32 [1] iota_S8x128_d1_w32) (broadcast S8x128 (Scf.iv 0#32 1#32 j)))
/-- The places of the first tile down to the step's row. -/
abbrev upTo : IVec S8x128 1 := andi k0_pay140 (cmpi .sle (iota .tc S8x128 32 [1] iota_S8x128_d1_w32) (broadcast S8x128 (Scf.iv 0#32 1#32 j)))
abbrev zeroT : FVec Ideal S8x128 .f32 := broadcast S8x128 (Scalar.ofBits .f32 0x00000000#32)
abbrev oneT : FVec Ideal S8x128 .f32 := broadcast S8x128 (Scalar.ofBits .f32 0x3F800000#32)

theorem here_apply (a b : FVec Ideal S8x128 .f32) (i : Fin 8) (q : Fin 128) : select (here j) a b (ix2 i q) = if i.val = 0 ∧ q.val = j.val then a (ix2 i q) else b (ix2 i q) := by
  unfold here
  rw [iv2]
  exact sel_eq a b ⟨j.val, lt_of_lt_of_eq j.isLt trips2⟩ i q
theorem upTo_apply (a b : FVec Ideal S8x128 .f32) (i : Fin 8) (q : Fin 128) : select (upTo j) a b (ix2 i q) = if i.val = 0 ∧ q.val ≤ j.val then a (ix2 i q) else b (ix2 i q) := by
  unfold upTo
  rw [iv2]
  exact sel_le a b ⟨j.val, lt_of_lt_of_eq j.isLt trips2⟩ i q

theorem oneT_apply (i : Fin 8) (q : Fin 128) : oneT (ix2 i q) = 1 := Ideal.ofBits_one_f32

/-- The diagonal entry, in every place. -/
def xT (l : FVec Ideal S8x128 .f32) : FVec Ideal S8x128 .f32 :=
  broadcastTo S8x128 (shapeCast S1x1 (shapeCast S1x1 (multiReduction .add [0] S1 (shapeCast S8x1 (multiReduction .add [1] S8 (select (here j) l zeroT) 0x00000000#32 reduces_S8x128_S8 (.inl rfl) rfl) shapeCasts_S8_S8x1) 0x00000000#32 reduces_S8x1_S1 (.inl rfl) rfl) shapeCasts_S1_S1x1) shapeCasts_S1x1_S1x1) broadcasts_S1x1_S8x128

theorem bcast_red (x : FVec Ideal S8x128 .f32) (i : Fin 8) (q : Fin 128) :
    (broadcastTo S8x128 (shapeCast S1x1 (shapeCast S1x1 (multiReduction .add [0] S1 (shapeCast S8x1 (multiReduction .add [1] S8 x 0x00000000#32 reduces_S8x128_S8 (.inl rfl) rfl) shapeCasts_S8_S8x1) 0x00000000#32 reduces_S8x1_S1 (.inl rfl) rfl) shapeCasts_S1_S1x1) shapeCasts_S1x1_S1x1) broadcasts_S1x1_S8x128 : FVec Ideal S8x128 .f32) (ix2 i q)
      = red x (ix2 i q) := by
  rw [red_apply]
  pointwise []

theorem xT_apply (l : FVec Ideal S8x128 .f32) (hl : ∀ (i : Fin 8) (q : Fin 128), l (ix2 i q) = A j.val (1024 * 0 + 128 * i.val + q.val)) (i : Fin 8) (q : Fin 128) : xT j l (ix2 i q) = A j.val j.val := by
  have hj : j.val < 72 := lt_of_lt_of_eq j.isLt trips2
  refine (bcast_red _ i q).trans ?_
  unfold here
  rw [iv2]
  refine (red_pick l zeroT bzero ⟨j.val, hj⟩ i q).trans ?_
  rw [hl]
  refine congrArg (A j.val) ?_
  show 1024 * 0 + 128 * 0 + j.val = j.val
  omega

/-- The new diagonal entry from the diagonal entry and the column's product below. -/
def alT (x t : FVec Ideal S8x128 .f32) : FVec Ideal S8x128 .f32 :=
  select (cmpf .oge x zeroT) (subf zeroT (sqrt (addf (mulf x x) t))) (sqrt (addf (mulf x x) t))

theorem alT_apply (x t : FVec Ideal S8x128 .f32) (i : Fin 8) (q : Fin 128) (hx : x (ix2 i q) = A j.val j.val) (ht : t (ix2 i q) = dot (below A j.val) (A j.val)) :
    alT x t (ix2 i q) = kAlpha A j.val := by
  unfold kAlpha kNrm alphaOf
  rw [← hx, ← ht]
  pointwise [alT]
  rw [zero_sub]

theorem tauT_apply (x al : FVec Ideal S8x128 .f32) (i : Fin 8) (q : Fin 128) (hx : x (ix2 i q) = A j.val j.val) (ha : al (ix2 i q) = kAlpha A j.val) :
    (divf (subf al x) al) (ix2 i q) = kTau A j.val := by
  unfold kTau tauOf
  rw [← hx, ← ha]
  pointwise []
theorem invT_apply (x al : FVec Ideal S8x128 .f32) (i : Fin 8) (q : Fin 128) (hx : x (ix2 i q) = A j.val j.val) (ha : al (ix2 i q) = kAlpha A j.val) :
    (divf oneT (subf x al)) (ix2 i q) = kInv A j.val := by
  unfold kInv invOf
  rw [← hx, ← ha, ← oneT_apply i q]
  pointwise []

theorem low0 (l : FVec Ideal S8x128 .f32) (hl : ∀ (i : Fin 8) (q : Fin 128), l (ix2 i q) = A j.val (1024 * 0 + 128 * i.val + q.val)) (i : Fin 8) (q : Fin 128) :
    select (upTo j) zeroT l (ix2 i q) = below A j.val (1024 * 0 + 128 * i.val + q.val) := by
  have hj : j.val < 72 := lt_of_lt_of_eq j.isLt trips2
  rw [upTo_apply, hl, show zeroT (ix2 i q) = 0 from bzero i q]
  unfold below
  refine if_congr ?_ rfl rfl
  omega

theorem lowg (g : ℕ) (hg : 1 ≤ g) (i : Fin 8) (q : Fin 128) : A j.val (1024 * g + 128 * i.val + q.val) = below A j.val (1024 * g + 128 * i.val + q.val) := by
  have hj : j.val < 72 := lt_of_lt_of_eq j.isLt trips2
  unfold below
  rw [if_neg (by omega)]

theorem v0_apply (l z : FVec Ideal S8x128 .f32) (hl : ∀ (i : Fin 8) (q : Fin 128), l (ix2 i q) = A j.val (1024 * 0 + 128 * i.val + q.val)) (hz : ∀ (i : Fin 8) (q : Fin 128), z (ix2 i q) = kInv A j.val) (i : Fin 8) (q : Fin 128) :
    select (here j) oneT (mulf (select (upTo j) zeroT l) z) (ix2 i q) = kV A j.val (1024 * 0 + 128 * i.val + q.val) := by
  have hj : j.val < 72 := lt_of_lt_of_eq j.isLt trips2
  rw [here_apply, oneT_apply]
  show (if _ then _ else select (upTo j) zeroT l (ix2 i q) * z (ix2 i q)) = _
  rw [low0 A j l hl, hz]
  unfold kV
  refine if_congr ?_ rfl rfl
  omega

theorem vg_apply (g : ℕ) (hg : 1 ≤ g) (l z : FVec Ideal S8x128 .f32) (hl : ∀ (i : Fin 8) (q : Fin 128), l (ix2 i q) = A j.val (1024 * g + 128 * i.val + q.val)) (hz : ∀ (i : Fin 8) (q : Fin 128), z (ix2 i q) = kInv A j.val) (i : Fin 8) (q : Fin 128) :
    mulf l z (ix2 i q) = kV A j.val (1024 * g + 128 * i.val + q.val) := by
  have hj : j.val < 72 := lt_of_lt_of_eq j.isLt trips2
  show l (ix2 i q) * z (ix2 i q) = _
  rw [hl, hz, lowg A j g hg]
  unfold kV
  rw [if_neg (by omega)]

theorem pay118_apply (l al : FVec Ideal S8x128 .f32) (hl : ∀ (i : Fin 8) (q : Fin 128), l (ix2 i q) = A j.val (1024 * 0 + 128 * i.val + q.val)) (ha : ∀ (i : Fin 8) (q : Fin 128), al (ix2 i q) = kAlpha A j.val) (q : Fin 128) :
    k0_pay118 (iota .tc S8x128 32 [1] iota_S8x128_d1_w32) (Scf.iv 0#32 1#32 j) l al (ix2 0 q) = kTop A j.val q.val := by
  have hj : j.val < 72 := lt_of_lt_of_eq j.isLt trips2
  rw [iv2]
  pointwise [k0_pay118]
  have e1 := lane_lt q ⟨j.val, hj⟩
  have e2 := lane_eq q ⟨j.val, hj⟩
  dsimp only at e1 e2
  rw [e1, e2, hl, ha, show A j.val (1024 * 0 + 128 * (0 : Fin 8).val + q.val) = A j.val q.val from congrArg (A j.val) (by show 1024 * 0 + 128 * 0 + q.val = q.val; omega)]
  unfold kTop
  split_ifs <;> first | rfl | (exfalso; omega)
end

end Cert.PanelIdeal.Val

end
-- ==== Proof.PanelVStep.lean ====
/- The column steps of the factorisation, by an invariant. -/
module

public import proofs.«01_k».proof.Proof.PanelVLoop
public import proofs.«01_k».proof.Proof.PanelVRefl
public import proofs.«01_k».proof.Proof.PanelVUpd

@[expose] public section

set_option maxRecDepth 16384

noncomputable section

namespace Cert.PanelIdeal.Val

open Cert.PanelIdeal Cert.PanelIdeal.Gen Cert.Proof Cert.Proof.Panel
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligation cellOf)

local notation "𝕄" => MT nD τ sig Unit (Elt Ideal) ℕ (UR sig nD τ) ℕ

/-- Before step `n`: the columns from `n` on are the kernel's panel, and the rows of the triangle before `n` are finished. -/
def Stepped (A : Cols) (x8 : Vec Ideal S12751x128 .f32) (x10 : Vec Ideal S72x128 .f32) (n : ℕ) : Prop :=
  (∀ k s, n ≤ k → k < 72 → s < 22528 → at8 x8 k s = kSeq A n k s)
    ∧ ∀ (k : Fin 72) (i : Fin 128), k.val < n → i.val < 72 → x10 (ix2 k i) = kTop (kSeq A k.val) k.val i.val

/-- The same, told before the first step as what the copy leaves. -/
def Stood (arg0 : Memref sig .tc .vmem S22528x72 .f32) (X : BufTy.Contents (Elt Ideal) arg0.view.ty) (x8 : Vec Ideal S12751x128 .f32) (x10 : Vec Ideal S72x128 .f32) : ℕ → Prop
  | 0 => Copied arg0 X x8 k0_t1_loop.trips
  | n + 1 => Stepped (cols0 arg0 X) x8 x10 (n + 1)

theorem Stood.stepped {arg0 : Memref sig .tc .vmem S22528x72 .f32} {X : BufTy.Contents (Elt Ideal) arg0.view.ty} {x8 : Vec Ideal S12751x128 .f32} {x10 : Vec Ideal S72x128 .f32} :
    ∀ {n : ℕ}, Stood arg0 X x8 x10 n → Stepped (cols0 arg0 X) x8 x10 n
  | 0, h => ⟨fun k s _ hk hs => h k s hk hs (by rw [trips1]; omega), fun k i h => absurd h (Nat.not_lt_zero _)⟩
  | _ + 1, h => h

/-- A stored tile of an earlier column leaves a column alone. -/
theorem at8_other (v : View sig .tc .vmem S12751x128 .f32) (f : BufTy.Contents (Elt Ideal) v.ty) (kk : ℕ) (hkk : kk < 72) (off : Fin 2 → ℕ) (hoff : ∃ g : Fin 22, off = ![kk * 177 + 8 * g.val, 0]) (inb)
    (val : S8x128.Idx → Elt Ideal .f32) (L : List (View.Piece (Elt Ideal) S12751x128 .f32)) (k s : ℕ) (hne : kk < k) (hk : k < 72) (hs : s < 22528) :
    at8 (v.read (Elt Ideal) (v.writes (Elt Ideal) f ((⟨Rect.unit (s := S12751x128) off S8x128.size inb, val⟩ : View.Piece (Elt Ideal) S12751x128 .f32) :: L))) k s
      = at8 (v.read (Elt Ideal) (v.writes (Elt Ideal) f L)) k s := by
  obtain ⟨g, hg⟩ := hoff
  rw [at8_tile v f kk g.val hkk g.isLt off hg inb val L k s hk hs, if_neg (by omega)]

/-- A later tile of the column lies below the diagonal. -/
theorem lowT (A : Cols) (j : Fin k0_t2_loop.trips) (g : ℕ) (hg : 1 ≤ g) (l : FVec Ideal S8x128 .f32) (hl : ∀ (i : Fin 8) (q : Fin 128), l (ix2 i q) = A j.val (1024 * g + 128 * i.val + q.val)) (i : Fin 8) (q : Fin 128) :
    l (ix2 i q) = below A j.val (1024 * g + 128 * i.val + q.val) := (hl i q).trans (lowg A j g hg i q)

/-- A column from its 22 tiles. -/
theorem tiles22 (u0 u1 u2 u3 u4 u5 u6 u7 u8 u9 u10 u11 u12 u13 u14 u15 u16 u17 u18 u19 u20 u21 : FVec Ideal S8x128 .f32) (U : ℕ → EReal)
    (h0 : ∀ (i : Fin 8) (q : Fin 128), u0 (ix2 i q) = U (1024 * 0 + 128 * i.val + q.val))
    (h1 : ∀ (i : Fin 8) (q : Fin 128), u1 (ix2 i q) = U (1024 * 1 + 128 * i.val + q.val))
    (h2 : ∀ (i : Fin 8) (q : Fin 128), u2 (ix2 i q) = U (1024 * 2 + 128 * i.val + q.val))
    (h3 : ∀ (i : Fin 8) (q : Fin 128), u3 (ix2 i q) = U (1024 * 3 + 128 * i.val + q.val))
    (h4 : ∀ (i : Fin 8) (q : Fin 128), u4 (ix2 i q) = U (1024 * 4 + 128 * i.val + q.val))
    (h5 : ∀ (i : Fin 8) (q : Fin 128), u5 (ix2 i q) = U (1024 * 5 + 128 * i.val + q.val))
    (h6 : ∀ (i : Fin 8) (q : Fin 128), u6 (ix2 i q) = U (1024 * 6 + 128 * i.val + q.val))
    (h7 : ∀ (i : Fin 8) (q : Fin 128), u7 (ix2 i q) = U (1024 * 7 + 128 * i.val + q.val))
    (h8 : ∀ (i : Fin 8) (q : Fin 128), u8 (ix2 i q) = U (1024 * 8 + 128 * i.val + q.val))
    (h9 : ∀ (i : Fin 8) (q : Fin 128), u9 (ix2 i q) = U (1024 * 9 + 128 * i.val + q.val))
    (h10 : ∀ (i : Fin 8) (q : Fin 128), u10 (ix2 i q) = U (1024 * 10 + 128 * i.val + q.val))
    (h11 : ∀ (i : Fin 8) (q : Fin 128), u11 (ix2 i q) = U (1024 * 11 + 128 * i.val + q.val))
    (h12 : ∀ (i : Fin 8) (q : Fin 128), u12 (ix2 i q) = U (1024 * 12 + 128 * i.val + q.val))
    (h13 : ∀ (i : Fin 8) (q : Fin 128), u13 (ix2 i q) = U (1024 * 13 + 128 * i.val + q.val))
    (h14 : ∀ (i : Fin 8) (q : Fin 128), u14 (ix2 i q) = U (1024 * 14 + 128 * i.val + q.val))
    (h15 : ∀ (i : Fin 8) (q : Fin 128), u15 (ix2 i q) = U (1024 * 15 + 128 * i.val + q.val))
    (h16 : ∀ (i : Fin 8) (q : Fin 128), u16 (ix2 i q) = U (1024 * 16 + 128 * i.val + q.val))
    (h17 : ∀ (i : Fin 8) (q : Fin 128), u17 (ix2 i q) = U (1024 * 17 + 128 * i.val + q.val))
    (h18 : ∀ (i : Fin 8) (q : Fin 128), u18 (ix2 i q) = U (1024 * 18 + 128 * i.val + q.val))
    (h19 : ∀ (i : Fin 8) (q : Fin 128), u19 (ix2 i q) = U (1024 * 19 + 128 * i.val + q.val))
    (h20 : ∀ (i : Fin 8) (q : Fin 128), u20 (ix2 i q) = U (1024 * 20 + 128 * i.val + q.val))
    (h21 : ∀ (i : Fin 8) (q : Fin 128), u21 (ix2 i q) = U (1024 * 21 + 128 * i.val + q.val)) (g : Fin 22) (i : Fin 8) (q : Fin 128) :
    (![u0, u1, u2, u3, u4, u5, u6, u7, u8, u9, u10, u11, u12, u13, u14, u15, u16, u17, u18, u19, u20, u21] g) (ix2 i q) = U (1024 * g.val + 128 * i.val + q.val) := by
  fin_cases g
  exacts [h0 i q, h1 i q, h2 i q, h3 i q, h4 i q, h5 i q, h6 i q, h7 i q, h8 i q, h9 i q, h10 i q, h11 i q, h12 i q, h13 i q, h14 i q, h15 i q, h16 i q, h17 i q, h18 i q, h19 i q, h20 i q, h21 i q]

theorem trips4 : ∀ j : Fin k0_t2_loop.trips, (k0_t4_loop j).trips = 0 := by decide +kernel
theorem trips6 : ∀ j : Fin k0_t2_loop.trips, (k0_t6_loop j).trips = 0 := by decide +kernel

set_option maxHeartbeats 4000000 in
set_option warn.classDefReducibility false in
/-- The column steps: before every trip the four scratch buffers hold something. -/
@[sl_loop] def loopInv_k0_t2 (𝒱 : Variants) (c : Dev nD) (bd : Option 𝒱.V) (E : Set ℕ) (arg0 : Memref sig .tc .vmem S22528x72 .f32) (harg0 : arg0.IsWhole) (arg1 : Memref sig .tc .vmem S22528x72 .f32) (harg1 : arg1.IsWhole) (arg2 : Memref sig .tc .vmem S72x72 .f32) (harg2 : arg2.IsWhole) (arg3 : Memref sig .tc .vmem S72x72 .f32) (harg3 : arg3.IsWhole) (arg4 : Memref sig .tc .vmem S22528x72 .fp8e4m3) (harg4 : arg4.IsWhole) (arg5 : Memref sig .tc .vmem S176x128 .f32) (harg5 : arg5.IsWhole) (arg6 : Memref sig .tc .vmem S80x22528 .bf16) (harg6 : arg6.IsWhole) (arg7 : Memref sig .tc .vmem S22528x128 .fp8e4m3) (harg7 : arg7.IsWhole) (arg8 : Memref sig .tc .vmem S12751x128 .f32) (harg8 : arg8.IsWhole) (arg9 : Memref sig .tc .vmem S1152x128 .f32) (harg9 : arg9.IsWhole) (arg10 : Memref sig .tc .vmem S72x128 .f32) (harg10 : arg10.IsWhole) (arg11 : Memref sig .tc .vmem S72x128 .f32) (harg11 : arg11.IsWhole) (v1 : IVec S8x128 32) (X_arg0 : BufTy.Contents (Elt Ideal) arg0.view.ty) :
    LoopInvTy_k0_t2 (F := Ideal) Unit ℕ (UR sig nD τ) ℕ 𝒱 c bd E arg0 harg0 arg1 harg1 arg2 harg2 arg3 harg3 arg4 harg4 arg5 harg5 arg6 harg6 arg7 harg7 arg8 harg8 arg9 harg9 arg10 harg10 arg11 harg11 v1 where
  inv n _ := iprop((arg0.view.loc (c : Thread nD τ) ↦[arg0.view.set]{fullShare} X_arg0) ∗ (∃ f8, ∃ f10, ⌜v1 = iota .tc S8x128 32 [1] iota_S8x128_d1_w32⌝ ∗ ⌜Stood arg0 X_arg0 (arg8.view.read (Elt Ideal) f8) (arg10.view.read (Elt Ideal) f10) n⌝ ∗ (arg8.view.loc (c : Thread nD τ) ↦[arg8.view.set]{fullShare} f8) ∗ (arg10.view.loc (c : Thread nD τ) ↦[arg10.view.set]{fullShare} f10)) ∗ (∃ f9, (arg9.view.loc (c : Thread nD τ) ↦[arg9.view.set]{fullShare} f9)) ∗ (∃ f11, (arg11.view.loc (c : Thread nD τ) ↦[arg11.view.set]{fullShare} f11)))
  step k acc := by
    unfold k0_t2_body
    iintro ⟨H0, ⟨%f8, %f10, %hv, %h, H8, H10⟩, ⟨%f9, H9⟩, ⟨%f11, H11⟩⟩
    sl_exec
    sl_step
    isplitl [H0]; · iexact H0
    isplitl [H8 H10]
    · iexists _, _
      isplitr; · ipureintro; exact hv
      isplitr; swap
      · isplitl [H8]; · iexact H8
        iexact H10
      ipureintro
      obtain ⟨hA, hR⟩ := h.stepped
      subst hv
      show Stepped _ _ _ (k.val + 1)
      have hj : k.val < 72 := lt_of_lt_of_eq k.isLt trips2
      have hl : ∀ (g : ℕ) (hg : g < 22) (cc : BitVec 32) (hc : cc = BitVec.ofNat 32 (8 * g)) (inb) (i : Fin 8) (q : Fin 128),
          View.readAt (Elt Ideal) arg8.view (Rect.unit (s := S12751x128) (k0_off3 k cc) S8x128.size inb).toLoadRect f8 (ix2 i q) = kSeq (cols0 arg0 X_arg0) k.val k.val (1024 * g + 128 * i.val + q.val) := by
        intro g hg cc hc inb i q
        subst hc
        rw [ld_tile arg8.view f8 _ g hj hg _ (off3_eq k ⟨g, hg⟩)]
        exact hA _ _ (le_refl _) hj (by have := i.isLt; have := q.isLt; omega)
      have hl0 := hl 0 (by decide) 0#32 rfl (k0_off3_inb k 0)
      generalize hAk : kSeq (cols0 arg0 X_arg0) k.val = A at hA hl hl0
      have h3 : Scf.trips (k0_t3_loop k).lb (k0_t3_loop k).ub (k0_t3_loop k).st = 72 - k.val := trips3 k
      have hn3 : ∀ k', k' < 72 → k' < k.val + Scf.trips (k0_t3_loop k).lb (k0_t3_loop k).ub (k0_t3_loop k).st := by
        rw [h3]; intro k' h; omega
      have hj' : k.val < 22528 := lt_trans hj (by decide)
      have h10 : ∀ i : Fin 8, k.val * 8 + i.val < 1152 := fun i => by have := i.isLt; clear h3; omega
      have hd : ∀ k', k.val ≤ k' → k' < 72 → dot (below A k.val) (at8 (arg8.view.read (Elt Ideal) f8) k') = dot (below A k.val) (A k') := fun k' h1 h2 =>
        Finset.sum_congr rfl fun s hs => by rw [hA k' s h1 h2 (Finset.mem_range.mp hs)]
      have hoff : ∀ cc : BitVec 32, (∃ g : Fin 22, cc = BitVec.ofNat 32 (8 * g.val)) → ∃ g : Fin 22, k0_off3 k cc = ![k.val * 177 + 8 * g.val, 0] := by
        rintro cc ⟨g, rfl⟩
        exact ⟨g, off3_eq k g⟩
      have hv : ∀ (i : Fin 8) (q : Fin 128), loopInv_k0_t2.sl.v154 𝒱 c bd arg0 harg0 arg1 harg1 arg2 harg2 arg3 harg3 arg4 harg4 arg5 harg5 arg6 harg6 arg7 harg7 arg8 harg8 arg9 harg9 arg10 harg10 arg11 harg11 (iota .tc S8x128 32 [1] iota_S8x128_d1_w32) k f8 f9 (ix2 i q) = dot (below A k.val) (A k.val) := by
        intro i q
        unfold loopInv_k0_t2.sl.v154
        rw [show Scf.trips (k0_t4_loop k).lb (k0_t4_loop k).ub (k0_t4_loop k).st = 0 from trips4 k, st_k0_t4.eq_1, List.nil_append]
        refine (ld9 arg9.view _ _ _ (off10_eq k) _ i q (h10 i)).trans ?_
        refine ((upto3 𝒱 c bd arg0 harg0 arg1 harg1 arg2 harg2 arg3 harg3 arg4 harg4 arg5 harg5 arg6 harg6 arg7 harg7 arg8 harg8 arg9 harg9 arg10 harg10 arg11 harg11 k _ _ _ _ _ _ _ _ _ _ _ _ _ _ _ _ _ _ _ _ _ _ _ _ _ _ _ _ _ (below A k.val) ?_ (Scf.trips (k0_t3_loop k).lb (k0_t3_loop k).ub (k0_t3_loop k).st) h3.le k.val le_rfl (hn3 k.val hj) _ q).1 ?_).trans (hd _ le_rfl hj)
        · refine tiles22 _ _ _ _ _ _ _ _ _ _ _ _ _ _ _ _ _ _ _ _ _ _ (below A k.val) (low0 A k _ hl0) ?_ ?_ ?_ ?_ ?_ ?_ ?_ ?_ ?_ ?_ ?_ ?_ ?_ ?_ ?_ ?_ ?_ ?_ ?_ ?_ ?_
          all_goals exact lowT A k _ (by decide) _ (hl _ (by decide) _ (by rfl) _)
        · clear h3 hn3
          show (k.val * 8 + i.val) / 8 = k.val
          omega
      refine ⟨?_, ?_⟩
      · intro k' s hk1 hk2 hs
        have h6 : Scf.trips (k0_t6_loop k).lb (k0_t6_loop k).ub (k0_t6_loop k).st = 0 := trips6 k
        have h4 : Scf.trips (k0_t4_loop k).lb (k0_t4_loop k).ub (k0_t4_loop k).st = 0 := trips4 k
        rw [h6, h4, st_k0_t6.eq_1, st_k0_t4.eq_1, List.nil_append, List.nil_append, View.writes_append]
        clear h4 h6
        refine (upto5 𝒱 c bd arg0 harg0 arg1 harg1 arg2 harg2 arg3 harg3 arg4 harg4 arg5 harg5 arg6 harg6 arg7 harg7 arg8 harg8 arg9 harg9 arg10 harg10 arg11 harg11 k _ _ _ _ _ _ _ _ _ _ _ _ _ _ _ _ _ _ _ _ _ _ _ _ _ _ _ _ (kV A k.val) (kTau A k.val) (kInv A k.val) (fun k' => dot (below A k.val) (A k')) (fun k' => A k' k.val) ?_ ?_ ?_ ?_ ?_ (Scf.trips (k0_t5_loop k).lb (k0_t5_loop k).ub (k0_t5_loop k).st) (trips5 k).le k' s hk2 hs).trans ?_
        · intro g i q
          fin_cases g
          · refine v0_apply A k _ _ hl0 (fun i q => invT_apply A k _ _ i q (xT_apply A k _ hl0 i q) ?_) i q
            exact alT_apply A k _ _ i q (xT_apply A k _ hl0 i q) (hv i q)
          all_goals
            refine vg_apply A k _ (by decide) _ _ (hl _ (by decide) _ (by rfl) _) (fun i q => invT_apply A k _ _ i q (xT_apply A k _ hl0 i q) ?_) i q
            exact alT_apply A k _ _ i q (xT_apply A k _ hl0 i q) (hv i q)
        · intro i q
          refine tauT_apply A k _ _ i q (xT_apply A k _ hl0 i q) ?_
          exact alT_apply A k _ _ i q (xT_apply A k _ hl0 i q) (hv i q)
        · intro i q
          refine invT_apply A k _ _ i q (xT_apply A k _ hl0 i q) ?_
          exact alT_apply A k _ _ i q (xT_apply A k _ hl0 i q) (hv i q)
        · intro k'' h1 h2 i q
          refine ((upto3 𝒱 c bd arg0 harg0 arg1 harg1 arg2 harg2 arg3 harg3 arg4 harg4 arg5 harg5 arg6 harg6 arg7 harg7 arg8 harg8 arg9 harg9 arg10 harg10 arg11 harg11 k _ _ _ _ _ _ _ _ _ _ _ _ _ _ _ _ _ _ _ _ _ _ _ _ _ _ _ _ _ (below A k.val) ?_ (Scf.trips (k0_t3_loop k).lb (k0_t3_loop k).ub (k0_t3_loop k).st) h3.le k'' (le_trans (Nat.le_succ _) h1) (hn3 k'' h2) _ q).1 ?_).trans (hd _ (le_trans (Nat.le_succ _) h1) h2)
          · refine tiles22 _ _ _ _ _ _ _ _ _ _ _ _ _ _ _ _ _ _ _ _ _ _ (below A k.val) (low0 A k _ hl0) ?_ ?_ ?_ ?_ ?_ ?_ ?_ ?_ ?_ ?_ ?_ ?_ ?_ ?_ ?_ ?_ ?_ ?_ ?_ ?_ ?_
            all_goals exact lowT A k _ (by decide) _ (hl _ (by decide) _ (by rfl) _)
          · clear h3 hn3
            show (k'' * 8 + i.val) / 8 = k''
            omega
        · intro k'' h1 h2 i q
          refine ((upto3 𝒱 c bd arg0 harg0 arg1 harg1 arg2 harg2 arg3 harg3 arg4 harg4 arg5 harg5 arg6 harg6 arg7 harg7 arg8 harg8 arg9 harg9 arg10 harg10 arg11 harg11 k _ _ _ _ _ _ _ _ _ _ _ _ _ _ _ _ _ _ _ _ _ _ _ _ _ _ _ _ _ (below A k.val) ?_ (Scf.trips (k0_t3_loop k).lb (k0_t3_loop k).ub (k0_t3_loop k).st) h3.le k'' (le_trans (Nat.le_succ _) h1) (hn3 k'' h2) _ q).2 ?_).trans (hA k'' k.val (le_trans (Nat.le_succ _) h1) h2 hj')
          · refine tiles22 _ _ _ _ _ _ _ _ _ _ _ _ _ _ _ _ _ _ _ _ _ _ (below A k.val) (low0 A k _ hl0) ?_ ?_ ?_ ?_ ?_ ?_ ?_ ?_ ?_ ?_ ?_ ?_ ?_ ?_ ?_ ?_ ?_ ?_ ?_ ?_ ?_
            all_goals exact lowT A k _ (by decide) _ (hl _ (by decide) _ (by rfl) _)
          · clear h3 hn3
            show ((72 + k'') * 8 + i.val) / 8 = 72 + k''
            omega
        · rw [if_pos ⟨hk1, lt_of_lt_of_eq hk2 (by rw [show Scf.trips (k0_t5_loop k).lb (k0_t5_loop k).ub (k0_t5_loop k).st = 71 - k.val from trips5 k]; omega)⟩]
          show _ = kStep (kSeq (cols0 arg0 X_arg0) k.val) k.val k' s
          rw [hAk]
          refine congrArg (fun z => z - kTau A k.val * kW A k.val k' * kV A k.val s) ?_
          refine Eq.trans ?_ (hA k' s (by omega) hk2 hs)
          iterate 22 refine (at8_other arg8.view f8 k.val hj _ (hoff _ (by decide)) _ _ _ k' s hk1 hk2 hs).trans ?_
          rfl
      · intro k1 q h1 h2
        by_cases he : k1.val = k.val
        · refine (View.read_writes_cons_rows_of_mem arg10.view f10 _ _ _ (ix2 k1 q) (ix2 0 q) (off11_eq k) ?_ (by rfl)).trans ?_
          · show k1.val = k.val + 0
            exact he
          · rw [he, hAk]
            refine pay118_apply A k _ _ hl0 (fun i q => ?_) q
            exact alT_apply A k _ _ i q (xT_apply A k _ hl0 i q) (hv i q)
        · refine (View.read_writes_cons_rows_of_not_mem arg10.view f10 _ _ _ (ix2 k1 q) (off11_eq k) (by rfl) ?_).trans ?_
          · show k1.val < k.val ∨ k.val + 1 ≤ k1.val
            omega
          · exact hR k1 q (by omega) h2
    isplitl [H9]; · iexists _; iexact H9
    iexists _; iexact H11

end Cert.PanelIdeal.Val

end
-- ==== Proof.PanelVRun.lean ====
/- The whole body of the factorisation, run once, and what it leaves in the triangle. -/
module

public import proofs.«01_k».proof.Proof.PanelVStep
public import proofs.«01_k».proof.Proof.Gen.PanelIdeal.Frame
public import Idealize.ShloMosaic.Lib.Claim

@[expose] public section

set_option maxRecDepth 16384

noncomputable section

namespace Cert.PanelIdeal.Val

open Cert.PanelIdeal Cert.PanelIdeal.Gen Cert.Proof Cert.Proof.Panel
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligation cellOf)

local notation "𝕄" => MT nD τ sig Unit (Elt Ideal) ℕ (UR sig nD τ) ℕ

/-- The panel as columns. -/
def colsOf (x : Vec Ideal S22528x72 .f32) : Cols := fun k s => if h : k < 72 ∧ s < 22528 then x (ix2 ⟨s, h.2⟩ ⟨k, h.1⟩) else 0

/-- The triangle the call leaves. -/
def IsTri (x : Vec Ideal S22528x72 .f32) (d : Vec Ideal S72x72 .f32) : Prop :=
  ∀ (i k : Fin 72), d (ix2 i k) = kTop (kSeq (colsOf x) k.val) k.val i.val

/-- A transposed row of the triangle. -/
theorem pay145_apply (v : Vec Ideal S72x128 .f32) (i k : Fin 72) : k0_pay145 v (ix2 i k) = v (ix2 k (⟨i.val, lt_trans i.isLt (by decide)⟩ : Fin 128)) := by
  pointwise [k0_pay145]

theorem ld10 (v : View sig .tc .vmem S72x128 .f32) (f : BufTy.Contents (Elt Ideal) v.ty) (inb) (i : Fin 72) (q : Fin 128) :
    View.readAt (Elt Ideal) v (Rect.unit (s := S72x128) ![0, 0] S72x128.size inb).toLoadRect f (ix2 i q) = v.read (Elt Ideal) f (ix2 i q) := by
  rw [View.readAt_eq_ld]
  refine View.ld_unit_apply_of _ _ _ inb (ix2 i q) _ fun a => ?_
  fin_cases a
  · exact (Nat.zero_add _).symm
  · exact (Nat.zero_add _).symm

theorem cols0_unread (arg0 : Memref sig .tc .vmem S22528x72 .f32) (h : arg0.IsWhole) (x : Vec Ideal S22528x72 .f32) : cols0 arg0 (h.unread x) = colsOf x := by
  funext k s
  unfold cols0 colsOf
  rw [h.read_unread]

set_option maxHeartbeats 4000000 in
/-- The body on whole memrefs, the argument's at its contents, the results' and the scratch at anything: it runs to
    the continuation holding the argument's as it was and the others at some contents. -/
theorem bodyRun (c : Dev nD) (arg0 : Memref sig .tc .vmem S22528x72 .f32) (harg0 : arg0.IsWhole) (arg1 : Memref sig .tc .vmem S22528x72 .f32) (harg1 : arg1.IsWhole) (arg2 : Memref sig .tc .vmem S72x72 .f32) (harg2 : arg2.IsWhole) (arg3 : Memref sig .tc .vmem S72x72 .f32) (harg3 : arg3.IsWhole) (arg4 : Memref sig .tc .vmem S22528x72 .fp8e4m3) (harg4 : arg4.IsWhole) (arg5 : Memref sig .tc .vmem S176x128 .f32) (harg5 : arg5.IsWhole) (arg6 : Memref sig .tc .vmem S80x22528 .bf16) (harg6 : arg6.IsWhole) (arg7 : Memref sig .tc .vmem S22528x128 .fp8e4m3) (harg7 : arg7.IsWhole) (arg8 : Memref sig .tc .vmem S12751x128 .f32) (harg8 : arg8.IsWhole) (arg9 : Memref sig .tc .vmem S1152x128 .f32) (harg9 : arg9.IsWhole) (arg10 : Memref sig .tc .vmem S72x128 .f32) (harg10 : arg10.IsWhole) (arg11 : Memref sig .tc .vmem S72x128 .f32) (harg11 : arg11.IsWhole) (x0 : Vec Ideal S22528x72 .f32) (E : Set ℕ) (K : PUnit → sProp 𝕄) :
    iprop(owns (c : Thread nD τ) arg0 fullShare x0 ∗ (∃ d, owns (c : Thread nD τ) arg1 fullShare d) ∗ (∃ d, owns (c : Thread nD τ) arg2 fullShare d) ∗ (∃ d, owns (c : Thread nD τ) arg3 fullShare d) ∗ (∃ d, owns (c : Thread nD τ) arg4 fullShare d) ∗ (∃ d, owns (c : Thread nD τ) arg5 fullShare d) ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (iprop(owns (c : Thread nD τ) arg0 fullShare x0 ∗ (∃ d, owns (c : Thread nD τ) arg1 fullShare d) ∗ (∃ d, ⌜IsTri x0 d⌝ ∗ owns (c : Thread nD τ) arg2 fullShare d) ∗ (∃ d, owns (c : Thread nD τ) arg3 fullShare d) ∗ (∃ d, owns (c : Thread nD τ) arg4 fullShare d) ∗ (∃ d, owns (c : Thread nD τ) arg5 fullShare d) ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d)) -∗ K ⟨⟩))
      ⊢ wp frame (wpE (defs₀ (F := Ideal)) Variants.none c none) E (cc0_panel arg0 harg0 arg1 harg1 arg2 harg2 arg3 harg3 arg4 harg4 arg5 harg5 arg6 harg6 arg7 harg7 arg8 harg8 arg9 harg9 arg10 harg10 arg11 harg11) K := by
  simp only [cc0_panel_eq_skeleton]; unfold cc0_panel_skel
  simp only [k0_part35_eq_skeleton]
  unfold owns
  iintro ⟨⟨%f0, %hf0, H0⟩, ⟨%d1, %f1, -, H1⟩, ⟨%d2, %f2, -, H2⟩, ⟨%d3, %f3, -, H3⟩, ⟨%d4, %f4, -, H4⟩, ⟨%d5, %f5, -, H5⟩, ⟨%d6, %f6, -, H6⟩, ⟨%d7, %f7, -, H7⟩, ⟨%d8, %f8, -, H8⟩, ⟨%d9, %f9, -, H9⟩, ⟨%d10, %f10, -, H10⟩, ⟨%d11, %f11, -, H11⟩, Hk⟩
  obtain rfl := harg0.eq_unread hf0
  have hc : Copied arg0 (harg0.unread x0) (arg8.view.read (Elt Ideal) f8) 0 := fun k s _ _ h => absurd h (Nat.not_lt_zero _)
  sl_exec
  sl_step
  iapply Hk
  isplitl [H0]
  · iexists _; isplitr; · ipureintro; exact harg0.read_unread _
    iexact H0
  isplitl [H1]
  · iexists _, _; isplitr; swap; · iexact H1
    ipureintro; rfl
  isplitl [H2]
  · iexists _; isplitr; swap
    · iexists _; isplitr; swap; · iexact H2
      ipureintro; rfl
    ipureintro
    obtain ⟨-, hR⟩ := hL5.stepped
    rw [cols0_unread] at hR
    intro i k
    refine (View.read_writes_cons_rows_of_mem arg2.view _ _ _ _ (ix2 i k) (ix2 i k) (rfl : (![0, 0] : Fin 2 → ℕ) = ![0, 0]) (Nat.zero_add _).symm (by rfl)).trans ?_
    refine (pay145_apply _ i k).trans ?_
    exact (ld10 arg10.view _ _ _ _).trans (hR k (⟨i.val, lt_trans i.isLt (by decide)⟩ : Fin 128) (lt_of_lt_of_eq k.isLt trips2.symm) i.isLt)
  isplitl [H3]
  · iexists _, _; isplitr; swap; · iexact H3
    ipureintro; rfl
  isplitl [H4]
  · iexists _, _; isplitr; swap; · iexact H4
    ipureintro; rfl
  isplitl [H5]
  · iexists _, _; isplitr; swap; · iexact H5
    ipureintro; rfl
  isplitl [H6]
  · iexists _, _; isplitr; swap; · iexact H6
    ipureintro; rfl
  isplitl [H7]
  · iexists _, _; isplitr; swap; · iexact H7
    ipureintro; rfl
  isplitl [H8]
  · iexists _, _; isplitr; swap; · iexact H8
    ipureintro; rfl
  isplitl [H9]
  · iexists _, _; isplitr; swap; · iexact H9
    ipureintro; rfl
  isplitl [H10]
  · iexists _, _; isplitr; swap; · iexact H10
    ipureintro; rfl
  iexists _, _; isplitr; swap; · iexact H11
  ipureintro; rfl

end Cert.PanelIdeal.Val

end
-- ==== Proof.PanelVFrame.lean ====
/- The factorisation's call: what its body finds and leaves in each array, and the triangle its run ends at. -/
module

public import proofs.«01_k».proof.Proof.PanelVRun
public import proofs.«01_k».proof.Proof.Gen.PanelIdeal.Frame
public import Idealize.ShloMosaic.Lib.Claim
public import Idealize.ShloMosaic.Lib.Pipeline.ArrRel
public import Idealize.ShloMosaic.Lib.Pipeline.ValueKit.Geometry

@[expose] public section

set_option maxRecDepth 16384

noncomputable section

namespace Cert.PanelIdeal.Val

open Cert.PanelIdeal Cert.PanelIdeal.Gen Cert.Proof Cert.Proof.Panel
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligation cellOf)

local notation "𝕄" => MT nD τ sig Unit (Elt Ideal) ℕ (UR sig nD τ) ℕ

variable (m : (ℓ : Loc nD τ sig) → Buf (Elt Ideal) ℓ) (ρ : Dev nD → PrngReg)

/-- The invariant with the scratch operands as memrefs owned at some contents. -/
theorem PhiA0_eq (c : Dev nD) :
    (Pipeline.ΦA spec0 c : sProp 𝕄)
      = iprop(iprop((∃ d, owns (c : Thread nD τ) (Memref.whole cc0_scratch0) fullShare d) ∗ (∃ d, owns (c : Thread nD τ) (Memref.whole cc0_scratch1) fullShare d) ∗ (∃ d, owns (c : Thread nD τ) (Memref.whole cc0_scratch2) fullShare d) ∗ (∃ d, owns (c : Thread nD τ) (Memref.whole cc0_scratch3) fullShare d)) ∗ (∃ r, prngReg c r)) := by
  unfold Pipeline.ΦA; rw [scopedRest0_eq]; simp only [owns_whole]; try rfl

/-- The proof data: the arrays as the call finds them; the body leaves the triangle of the argument in the third
    window, and nothing is said of the other results. -/
def rdats (c : Dev nD) : RDat τ (Elt Ideal) Unit ℕ (UR sig nD τ) ℕ cfg0 c where
  A w := V m c (Pipeline.arrRef spec0 w)
  after
    | 2, _, _, X => IsTri (V m c main_arg0) X
    | _, _, _, _ => True
  Φ _ := Pipeline.ΦA spec0 c
  q _ := fullShare
  owed _ := 0

/-- Window 0's block index at the one point is zero on every axis. -/
theorem idx_zero0 : ∀ t : Fin cfg0.N, win0_0.index t (0 : Fin 2) = 0 ∧ win0_0.index t (1 : Fin 2) = 0 :=
  (by decide +kernel : ∀ t : Fin grid0.N, _)

/-- An index of window 0's block is the same index of its array. -/
theorem emb0 (t : Fin cfg0.N) (j : S22528x72.Idx) : ((cfg0.win 0).blk t).view.emb j = j := by
  obtain ⟨e0, e1⟩ := idx_zero0 t
  funext a; apply Fin.ext
  match a with
  | ⟨0, _⟩ => show win0_0.index t (0 : Fin 2) * 22528 + 1 * (j 0).val = (j 0).val; omega
  | ⟨1, _⟩ => show win0_0.index t (1 : Fin 2) * 72 + 1 * (j 1).val = (j 1).val; omega

/-- What the body finds in the first window is the argument. -/
theorem found0 (c : Dev nD) (t : Fin cfg0.N) (Y : (cfg0.win 0).block.Idx → Elt Ideal (cfg0.win 0).elt) (h : (rdats m c).Finds 0 t Y) :
    Y = V m c main_arg0 := by
  obtain ⟨d, rfl⟩ := ((rdats m c).finds_of_fetch (fetch0_0 t) Y).1 h
  funext j
  show V m c main_arg0 (((cfg0.win 0).blk t).view.emb j) = V m c main_arg0 j
  rw [emb0]

/-- What the body is called with, the windows one by one. -/
def bodyPre (c : Dev nD) (t : Fin cfg0.N) (Y : (w : Fin 8) → (cfg0.win w).block.Idx → Elt Ideal (cfg0.win w).elt) : sProp 𝕄 :=
  iprop((rdats m c).Φ t.castSucc ∗ (rdats m c).owesAt () t.castSucc
    ∗ owns (c : Thread nD τ) (st0_0 t) fullShare (Y 0)
    ∗ owns (c : Thread nD τ) (st0_1 t) fullShare (Y 1)
    ∗ owns (c : Thread nD τ) (st0_2 t) fullShare (Y 2)
    ∗ owns (c : Thread nD τ) (st0_3 t) fullShare (Y 3)
    ∗ owns (c : Thread nD τ) (st0_4 t) fullShare (Y 4)
    ∗ owns (c : Thread nD τ) (st0_5 t) fullShare (Y 5)
    ∗ owns (c : Thread nD τ) (st0_6 t) fullShare (Y 6)
    ∗ owns (c : Thread nD τ) (st0_7 t) fullShare (Y 7))

/-- What it returns. -/
def bodyPost (c : Dev nD) (t : Fin cfg0.N) (Y : (w : Fin 8) → (cfg0.win w).block.Idx → Elt Ideal (cfg0.win w).elt) : sProp 𝕄 :=
  iprop((rdats m c).Φ t.succ ∗ (rdats m c).owesAt () t.succ
    ∗ (∃ X, ⌜(rdats m c).after 0 t (Y 0) X⌝ ∗ owns (c : Thread nD τ) (st0_0 t) fullShare X)
    ∗ (∃ X, ⌜(rdats m c).after 1 t (Y 1) X⌝ ∗ owns (c : Thread nD τ) (st0_1 t) fullShare X)
    ∗ (∃ X, ⌜(rdats m c).after 2 t (Y 2) X⌝ ∗ owns (c : Thread nD τ) (st0_2 t) fullShare X)
    ∗ (∃ X, ⌜(rdats m c).after 3 t (Y 3) X⌝ ∗ owns (c : Thread nD τ) (st0_3 t) fullShare X)
    ∗ (∃ X, ⌜(rdats m c).after 4 t (Y 4) X⌝ ∗ owns (c : Thread nD τ) (st0_4 t) fullShare X)
    ∗ (∃ X, ⌜(rdats m c).after 5 t (Y 5) X⌝ ∗ owns (c : Thread nD τ) (st0_5 t) fullShare X)
    ∗ (∃ X, ⌜(rdats m c).after 6 t (Y 6) X⌝ ∗ owns (c : Thread nD τ) (st0_6 t) fullShare X)
    ∗ (∃ X, ⌜(rdats m c).after 7 t (Y 7) X⌝ ∗ owns (c : Thread nD τ) (st0_7 t) fullShare X))

set_option maxHeartbeats 800000 in
/-- The body at the point. -/
theorem sound_body (c : Dev nD) (t : Fin cfg0.N) (Y : (w : Fin 8) → (cfg0.win w).block.Idx → Elt Ideal (cfg0.win w).elt) (hY : Y 0 = V m c main_arg0) :
    bodyPre m c t Y ⊢ wp frame (wpE (defs₀ (F := Ideal)) Variants.none c none) Set.univ (bodyAt0 t) (fun _ => bodyPost m c t Y) := by
  unfold bodyPre bodyPost bodyAt0
  rw [show (rdats m c).Φ t.succ = (rdats m c).Φ t.castSucc from rfl,
    show (rdats m c).owesAt () t.succ = (rdats m c).owesAt () t.castSucc from rfl]
  rw [show (rdats m c).Φ t.castSucc = Pipeline.ΦA spec0 c from rfl, PhiA0_eq]
  iintro ⟨⟨⟨S0, S1, S2, S3⟩, Hg⟩, Ho, H0, H1, H2, H3, H4, H5, H6, H7⟩
  iapply (bodyRun c _ _ _ _ _ _ _ _ _ _ _ _ _ _ _ _ _ _ _ _ _ _ _ _ (Y 0) Set.univ _)
  isplitl [H0]; · iexact H0
  isplitl [H1]; · iexists _; iexact H1
  isplitl [H2]; · iexists _; iexact H2
  isplitl [H3]; · iexists _; iexact H3
  isplitl [H4]; · iexists _; iexact H4
  isplitl [H5]; · iexists _; iexact H5
  isplitl [H6]; · iexists _; iexact H6
  isplitl [H7]; · iexists _; iexact H7
  isplitl [S0]; · iexact S0
  isplitl [S1]; · iexact S1
  isplitl [S2]; · iexact S2
  isplitl [S3]; · iexact S3
  iintro ⟨H0, ⟨%e1, H1⟩, ⟨%e2, %h2, H2⟩, ⟨%e3, H3⟩, ⟨%e4, H4⟩, ⟨%e5, H5⟩, ⟨%e6, H6⟩, ⟨%e7, H7⟩, S0, S1, S2, S3⟩
  isplitl [S0 S1 S2 S3 Hg]
  · isplitl [S0 S1 S2 S3]
    · isplitl [S0]; · iexact S0
      isplitl [S1]; · iexact S1
      isplitl [S2]; · iexact S2
      iexact S3
    iexact Hg
  isplitl [Ho]; · iexact Ho
  isplitl [H0]
  · iexists _; isplitr; swap; · iexact H0
    ipureintro; trivial
  isplitl [H1]
  · iexists _; isplitr; swap; · iexact H1
    ipureintro; trivial
  isplitl [H2]
  · iexists _; isplitr; swap; · iexact H2
    ipureintro; rw [hY] at h2; exact h2
  isplitl [H3]
  · iexists _; isplitr; swap; · iexact H3
    ipureintro; trivial
  isplitl [H4]
  · iexists _; isplitr; swap; · iexact H4
    ipureintro; trivial
  isplitl [H5]
  · iexists _; isplitr; swap; · iexact H5
    ipureintro; trivial
  isplitl [H6]
  · iexists _; isplitr; swap; · iexact H6
    ipureintro; trivial
  iexists _; isplitr; swap; · iexact H7
  ipureintro; trivial

/-- The body table's row at the point's slots is the body as `bodyAt0` spells it. -/
theorem defs₀_row (t : Fin cfg0.N) :
    defs₀ (F := Ideal) .tc cfg0.body (cfg0.bodyArgs t (cfg0.slots t)) = bodyAt0 t := by
  unfold defs₀; rw [Defs.onTc_tc]

/-- The library's body obligation. -/
theorem body_obligation (c : Dev nD) : (rdats m c).BodyObligation (defs₀ (F := Ideal)) Variants.none () Set.univ := fun t Y hY => by
  rw [bigSep_W0, bigSep_W0, defs₀_row]
  exact triple_restated (sound_body m c t Y (found0 m c t _ (hY 0))) rfl .rfl fun _ => .rfl

set_option backward.isDefEq.respectTransparency.types false in
/-- The launch: every array of the call at contents the proof data allows, and every semaphore counter at zero. -/
theorem run_main_quiescent : θ_run defs (onTc (τ := τ) (main (F := Ideal))) (s₀ m ρ) (fun r => RDat.FramePost cfg0 (rdats m) (V m) r ∧ r.2.sem = fun _ => 0) :=
  RDat.θ_run_frame (Q' := _) cfgs (0 : Fin 1) launch0 defs₀ Variants.none (rdats m) m ρ main
    (hbody := body_obligation m) (hshare := fun c w => by unfold RDat.share; split <;> rfl)
    (howed := fun _ _ => rfl) (V := V m) (hmain := hmain m Variants.none) (hA := fun _ _ => rfl) (hΦ := fun _ _ => rfl)

/-- The one write-back of the third window covers its array. -/
theorem whole2 : (cfg0.win 2).WholeAt (t0_0 : Fin cfg0.N) := by decide +kernel

/-- The call's run: the second result ends at the triangle of the argument, the argument as it was. -/
theorem run : θ_run defs (onTc (τ := τ) (main (F := Ideal))) ⟨m, fun _ => 0, ρ⟩ (fun r => ∀ c : Dev nD,
      IsTri (m ((c.tc : Thread nD τ).loc main_arg0)) (r.2.mem ((c.tc : Thread nD τ).loc main_v0_1))
      ∧ r.2.mem ((c.tc : Thread nD τ).loc main_arg0) = m ((c.tc : Thread nD τ).loc main_arg0)) := by
  refine (θ_run defs _ _).mono (fun r h c => ⟨?_, h.1.arr_in c 0 rfl⟩) (run_main_quiescent m ρ)
  obtain ⟨X, ⟨Y, -, hX⟩, hG⟩ := RDat.ArrAt.emb_eq_of_wholeAt ((h.1 c).1 2) whole2
  intro i k
  exact (hG (ix2 i k)).trans (hX i k)

end Cert.PanelIdeal.Val

end
-- ==== Proof.PanelRefStep.lean ====
/- One step of the reference's loop, as vector operations and at an index. -/
module

public import proofs.«01_k».proof.Proof.Gen.PanelReferenceIdeal
public import proofs.«01_k».proof.Proof.Gen.PanelReferenceIdeal.Frame
public import proofs.«01_k».proof.Proof.PanelSpec
public import Idealize.ShloMosaic.Lib.WritesUnit
public import Idealize.ShloMosaic.Lib.IdealHost
public import Idealize.ShloMosaic.Lib.Pointwise

@[expose] public section

set_option maxRecDepth 16384

noncomputable section

namespace Cert.PanelReferenceIdeal.Read

open Cert.PanelReferenceIdeal Cert.PanelReferenceIdeal.Gen Cert.Proof Cert.Proof.Panel
open Idealize.ShloMosaic Idealize.ShloMosaic.TcCoe Idealize.ShloMosaic.Tactic

/-- A panel as columns. -/
def cols (x : Vec Ideal S22528x72 .f32) : Cols := fun k s => if h : k < 72 ∧ s < 22528 then x (ix2 ⟨s, h.2⟩ ⟨k, h.1⟩) else 0

abbrev rowI : IVec S22528x72 32 := iota .tc S22528x72 32 [0] iota_S22528x72_d0_w32
abbrev colI : IVec S22528x72 32 := iota .tc S22528x72 32 [1] iota_S22528x72_d1_w32
abbrev rowC : IVec S22528x1 32 := iota .tc S22528x1 32 [0] iota_S22528x1_d0_w32

section
variable (j : BitVec 32) (x : FVec Ideal S22528x72 .f32)

/-- The step's column from the diagonal down. -/
def colR : FVec Ideal S22528x1 .f32 :=
  shapeCast S22528x1 (multiReduction .add [1] S22528 (select (andi (cmpi .eq colI (broadcast S22528x72 j)) (cmpi .sge rowI (broadcast S22528x72 j))) x (broadcast S22528x72 (Scalar.ofBits .f32 0x00000000#32))) 0x00000000#32 reduces_S22528x72_S22528 (.inl rfl) rfl) shapeCasts_S22528_S22528x1
/-- Its diagonal entry. -/
def x0R : FVec Ideal S1x1 .f32 :=
  shapeCast S1x1 (multiReduction .add [0] S1 (select (cmpi .eq rowC (broadcast S22528x1 j)) (colR j x) (broadcast S22528x1 (Scalar.ofBits .f32 0x00000000#32))) 0x00000000#32 reduces_S22528x1_S1 (.inl rfl) rfl) shapeCasts_S1_S1x1
/-- Its norm. -/
def nrmR : FVec Ideal S1x1 .f32 :=
  sqrt (shapeCast S1x1 (multiReduction .add [0] S1 (mulf (colR j x) (colR j x)) 0x00000000#32 reduces_S22528x1_S1 (.inl rfl) rfl) shapeCasts_S1_S1x1)
/-- The new diagonal entry. -/
def alphaR : FVec Ideal S1x1 .f32 :=
  select (cmpf .oge (x0R j x) (broadcast S1x1 (Scalar.ofBits .f32 0x00000000#32))) (subf (broadcast S1x1 (Scalar.ofBits .f32 0x00000000#32)) (nrmR j x)) (nrmR j x)
/-- The reflector's factor. -/
def tauR : FVec Ideal S1x1 .f32 := divf (subf (alphaR j x) (x0R j x)) (alphaR j x)
/-- The reflector. -/
def vR : FVec Ideal S22528x1 .f32 :=
  select (cmpi .eq rowC (broadcast S22528x1 j)) (broadcast S22528x1 (Scalar.ofBits .f32 0x3F800000#32)) (mulf (colR j x) (broadcastTo S22528x1 (divf (broadcast S1x1 (Scalar.ofBits .f32 0x3F800000#32)) (subf (x0R j x) (alphaR j x))) broadcasts_S1x1_S22528x1))
/-- Its product with the columns. -/
def wR : FVec Ideal S1x72 .f32 :=
  shapeCast S1x72 (multiReduction .add [0] S72 (mulf (broadcastTo S22528x72 (vR j x) broadcasts_S22528x1_S22528x72) x) 0x00000000#32 reduces_S22528x72_S72 (.inl rfl) rfl) shapeCasts_S72_S1x72
/-- The finished column. -/
def topR : FVec Ideal S22528x72 .f32 :=
  select (cmpi .slt rowI (broadcast S22528x72 j)) x (select (cmpi .eq rowI (broadcast S22528x72 j)) (broadcastTo S22528x72 (shapeCast S1x1 (alphaR j x) shapeCasts_S1x1_S1x1) broadcasts_S1x1_S22528x72) (broadcast S22528x72 (Scalar.ofBits .f32 0x00000000#32)))
/-- The panel after the step. -/
def stepR : FVec Ideal S22528x72 .f32 :=
  select (cmpi .sgt colI (broadcast S22528x72 j)) (subf x (mulf (broadcastTo S22528x72 (mulf (broadcastTo S22528x1 (tauR j x) broadcasts_S1x1_S22528x1) (vR j x)) broadcasts_S22528x1_S22528x72) (broadcastTo S22528x72 (wR j x) broadcasts_S1x72_S22528x72)))
    (select (cmpi .eq colI (broadcast S22528x72 j)) (topR j x) x)
end

/-- Counting in words, as numbers. -/
theorem word_toNat (n : ℕ) (h : n < 22528) : (BitVec.ofNat 32 n).toNat = n := by
  rw [BitVec.toNat_ofNat]; exact Nat.mod_eq_of_lt (by omega)
theorem word_toInt (n : ℕ) (h : n < 22528) : (BitVec.ofNat 32 n).toInt = (n : ℤ) := by
  rw [BitVec.toInt_eq_toNat_of_lt (by rw [word_toNat n h]; omega), word_toNat n h]
theorem cmp_eq (a b : ℕ) (ha : a < 22528) (hb : b < 22528) : IntOp.cmpi CmpIPredicate.eq (BitVec.ofNat 32 a) (BitVec.ofNat 32 b) = if a = b then 1#1 else 0#1 := by
  show BitVec.ofBool (BitVec.ofNat 32 a == BitVec.ofNat 32 b) = _
  split
  · rename_i h; rw [h]; simp
  · rename_i h
    rw [beq_eq_false_iff_ne.2 fun e => h (by have := congrArg BitVec.toNat e; rwa [word_toNat a ha, word_toNat b hb] at this)]; rfl
theorem cmp_lt (a b : ℕ) (ha : a < 22528) (hb : b < 22528) : IntOp.cmpi CmpIPredicate.slt (BitVec.ofNat 32 a) (BitVec.ofNat 32 b) = if a < b then 1#1 else 0#1 := by
  show BitVec.ofBool (BitVec.slt (BitVec.ofNat 32 a) (BitVec.ofNat 32 b)) = _
  unfold BitVec.slt
  rw [word_toInt a ha, word_toInt b hb]
  by_cases h : a < b <;> simp [h]
theorem cmp_gt (a b : ℕ) (ha : a < 22528) (hb : b < 22528) : IntOp.cmpi CmpIPredicate.sgt (BitVec.ofNat 32 a) (BitVec.ofNat 32 b) = if b < a then 1#1 else 0#1 := by
  show BitVec.ofBool (BitVec.slt (BitVec.ofNat 32 b) (BitVec.ofNat 32 a)) = _
  unfold BitVec.slt
  rw [word_toInt a ha, word_toInt b hb]
  by_cases h : b < a <;> simp [h]
theorem cmp_ge (a b : ℕ) (ha : a < 22528) (hb : b < 22528) : IntOp.cmpi CmpIPredicate.sge (BitVec.ofNat 32 a) (BitVec.ofNat 32 b) = if b ≤ a then 1#1 else 0#1 := by
  show BitVec.ofBool (BitVec.sle (BitVec.ofNat 32 b) (BitVec.ofNat 32 a)) = _
  unfold BitVec.sle
  rw [word_toInt a ha, word_toInt b hb]
  by_cases h : b ≤ a <;> simp [h]

theorem sel_word (p : Prop) [Decidable p] (a b : EReal) : (Scalar.select (if p then 1#1 else 0#1) a b : EReal) = if p then a else b := by
  split <;> rfl
theorem and_word (p q : Prop) [Decidable p] [Decidable q] : IntOp.andi (if p then 1#1 else 0#1) (if q then 1#1 else 0#1) = if p ∧ q then (1#1 : BitVec 1) else 0#1 := by
  by_cases hp : p <;> by_cases hq : q <;> simp [hp, hq, IntOp.andi]

/-- One term of a sum. -/
theorem pick (n j : ℕ) (hj : j < n) (f : Fin n → EReal) : ∑ k : Fin n, (if k.val = j then f k else 0) = f ⟨j, hj⟩ := by
  rw [Finset.sum_eq_single (⟨j, hj⟩ : Fin n)]
  · exact if_pos rfl
  · intro b _ hb
    exact if_neg fun e => hb (Fin.ext e)
  · intro h
    exact absurd (Finset.mem_univ _) h

theorem cols_apply (x : Vec Ideal S22528x72 .f32) (s : Fin 22528) (k : Fin 72) : cols x k.val s.val = x (ix2 s k) := by
  unfold cols
  rw [dif_pos ⟨k.isLt, s.isLt⟩]

section
variable (j : ℕ) (hj : j < 72) (x : FVec Ideal S22528x72 .f32)
include hj

theorem colR_apply (s : Fin 22528) : colR (BitVec.ofNat 32 j) x (ix2 s 0) = rX (cols x) j s.val := by
  have hs := s.isLt
  have e2 := cmp_ge s.val j hs (by omega)
  pointwise [colR]
  refine (Finset.sum_congr rfl fun k _ => ?_).trans ((pick 72 j hj fun k => if j ≤ s.val then x (ix2 s k) else 0).trans ?_)
  · have hk := k.isLt
    rw [cmp_eq k.val j (by omega) (by omega), e2, and_word]
    refine (sel_word _ _ _).trans ?_
    by_cases h1 : k.val = j <;> by_cases h2 : j ≤ s.val <;> simp [h1, h2]
  · unfold rX
    rw [← cols_apply x s ⟨j, hj⟩]
theorem x0R_apply : x0R (BitVec.ofNat 32 j) x (ix2 0 0) = cols x j j := by
  pointwise [x0R]
  refine (Finset.sum_congr rfl fun s _ => ?_).trans ((pick 22528 j (by omega) fun s => rX (cols x) j s.val).trans ?_)
  · have hs := s.isLt
    rw [cmp_eq s.val j hs (by omega), colR_apply j hj x s]
    exact sel_word _ _ _
  · exact if_pos (le_refl j)
theorem nrmR_apply : nrmR (BitVec.ofNat 32 j) x (ix2 0 0) = rNrm (cols x) j := by
  unfold rNrm dot
  rw [Finset.sum_range]
  pointwise [nrmR]
  refine congrArg Ideal.sqrt (Finset.sum_congr rfl fun s _ => ?_)
  rw [colR_apply j hj x s]
theorem alphaR_apply : alphaR (BitVec.ofNat 32 j) x (ix2 0 0) = rAlpha (cols x) j := by
  unfold rAlpha alphaOf
  rw [← x0R_apply j hj x, ← nrmR_apply j hj x]
  pointwise [alphaR]
  rw [zero_sub]
theorem tauR_apply : tauR (BitVec.ofNat 32 j) x (ix2 0 0) = rTau (cols x) j := by
  unfold rTau tauOf
  rw [← x0R_apply j hj x, ← alphaR_apply j hj x]
  pointwise [tauR]
theorem vR_apply (s : Fin 22528) : vR (BitVec.ofNat 32 j) x (ix2 s 0) = rV (cols x) j s.val := by
  have hs := s.isLt
  unfold rV rInv invOf
  rw [← x0R_apply j hj x, ← alphaR_apply j hj x, ← colR_apply j hj x s]
  pointwise [vR]
  rw [cmp_eq s.val j hs (by omega)]
  exact sel_word _ _ _
theorem wR_apply (k : Fin 72) : wR (BitVec.ofNat 32 j) x (ix2 0 k) = rW (cols x) j k.val := by
  unfold rW dot
  rw [Finset.sum_range]
  pointwise [wR]
  refine Finset.sum_congr rfl fun s _ => ?_
  rw [vR_apply j hj x s, cols_apply x s k]
theorem topR_apply (s : Fin 22528) (k : Fin 72) : topR (BitVec.ofNat 32 j) x (ix2 s k) = if s.val < j then cols x k.val s.val else if s.val = j then rAlpha (cols x) j else 0 := by
  have hs := s.isLt
  rw [cols_apply x s k, ← alphaR_apply j hj x]
  pointwise [topR]
  rw [cmp_lt s.val j hs (by omega), cmp_eq s.val j hs (by omega)]
  refine (sel_word _ _ _).trans (if_congr Iff.rfl rfl ?_)
  exact sel_word _ _ _
/-- The reference's step of vector operations is its step. -/
theorem stepR_apply (s : Fin 22528) (k : Fin 72) : stepR (BitVec.ofNat 32 j) x (ix2 s k) = rStep (cols x) j k.val s.val := by
  have hk := k.isLt
  unfold rStep
  rw [← topR_apply j hj x s k, ← tauR_apply j hj x, ← vR_apply j hj x s, ← wR_apply j hj x k, cols_apply x s k]
  pointwise [stepR]
  rw [cmp_gt k.val j (by omega) (by omega), cmp_eq k.val j (by omega) (by omega)]
  refine (sel_word _ _ _).trans (if_congr Iff.rfl rfl ?_)
  exact sel_word _ _ _
end

end Cert.PanelReferenceIdeal.Read

end
-- ==== Proof.PanelRefRun.lean ====
/- The reference's call run: its body once, its loop folded, and the triangle its result array ends at. -/
module

public import proofs.«01_k».proof.Proof.PanelRefStep
public import proofs.«01_k».proof.Proof.Gen.PanelReferenceIdeal.Frame
public import Idealize.ShloMosaic.Lib.Claim
public import Idealize.ShloMosaic.Lib.Pipeline.ArrRel
public import Idealize.ShloMosaic.Lib.Pipeline.ValueKit.Geometry

@[expose] public section

set_option maxRecDepth 16384

noncomputable section

namespace Cert.PanelReferenceIdeal.Read

open Cert.PanelReferenceIdeal Cert.PanelReferenceIdeal.Gen Cert.Proof Cert.Proof.Panel
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligation cellOf)

local notation "𝕄" => MT nD τ sig Unit (Elt Ideal) ℕ (UR sig nD τ) ℕ

/-- A step's columns are a function of the entries of the panel. -/
theorem rStep_congr (A B : Cols) (j k s : ℕ) (hj : j < 22528) (hs : s < 22528) (hA : ∀ s, s < 22528 → A j s = B j s) (hk : ∀ s, s < 22528 → A k s = B k s) :
    rStep A j k s = rStep B j k s := by
  have hX : ∀ s, s < 22528 → rX A j s = rX B j s := fun s hs => by unfold rX; rw [hA s hs]
  have hd : ∀ f f' g g' : ℕ → EReal, (∀ s, s < 22528 → f s = f' s) → (∀ s, s < 22528 → g s = g' s) → dot f g = dot f' g' := fun f f' g g' e e' =>
    Finset.sum_congr rfl fun s hs => by rw [e s (Finset.mem_range.mp hs), e' s (Finset.mem_range.mp hs)]
  have hn : rNrm A j = rNrm B j := congrArg Ideal.sqrt (hd _ _ _ _ hX hX)
  have ha : rAlpha A j = rAlpha B j := by unfold rAlpha; rw [hA j hj, hn]
  have hi : rInv A j = rInv B j := by unfold rInv; rw [hA j hj, ha]
  have ht : rTau A j = rTau B j := by unfold rTau; rw [hA j hj, ha]
  have hv : ∀ s, s < 22528 → rV A j s = rV B j s := fun s hs => by unfold rV; rw [hX s hs, hi]
  have hw : rW A j k = rW B j k := hd _ _ _ _ hv hk
  unfold rStep
  rw [hk s hs, ht, hv s hs, hw, ha]

/-- A property kept by every step holds after the fold. -/
theorem foldl_inv {σ : Type} (P : ℕ → σ → Prop) : ∀ (n : ℕ) (g : Fin n → σ → σ) (x : σ), P 0 x → (∀ (k : Fin n) (acc : σ), P k.val acc → P (k.val + 1) (g k acc)) →
    P n ((List.finRange n).foldl (fun acc k => g k acc) x)
  | 0, _, _, h, _ => h
  | n + 1, g, x, h, hs => by
    rw [List.finRange_succ_last, List.foldl_append, List.foldl_map]
    exact hs (Fin.last n) _ (foldl_inv P n (fun k => g k.castSucc) x h fun k acc => hs k.castSucc acc)

theorem trips1 : k0_t1_loop.trips = 72 := by decide +kernel
theorem iv1 : ∀ k : Fin k0_t1_loop.trips, Scf.iv 0#32 1#32 k = BitVec.ofNat 32 k.val := by decide +kernel

/-- The steps, one after the other. -/
def stepsR (x : FVec Ideal S22528x72 .f32) : FVec Ideal S22528x72 .f32 :=
  Scf.fold (fun (k : Fin k0_t1_loop.trips) acc => stepR (Scf.iv 0#32 1#32 k) acc) x

theorem stepsR_apply (x : FVec Ideal S22528x72 .f32) (s : Fin 22528) (k : Fin 72) : stepsR x (ix2 s k) = rSeq (cols x) 72 k.val s.val := by
  unfold stepsR
  rw [Scf.fold_eq]
  have h := foldl_inv (fun n (acc : FVec Ideal S22528x72 .f32) => ∀ (s : Fin 22528) (k : Fin 72), acc (ix2 s k) = rSeq (cols x) n k.val s.val) k0_t1_loop.trips
    (fun k acc => stepR (Scf.iv 0#32 1#32 k) acc) x (fun s k => (cols_apply x s k).symm) fun j acc ih s k => by
      have hj : j.val < 72 := lt_of_lt_of_eq j.isLt trips1
      rw [iv1]
      refine (stepR_apply j.val hj acc s k).trans ?_
      refine rStep_congr _ _ _ _ _ (by omega) s.isLt (fun s hs => ?_) (fun s hs => ?_)
      · exact (cols_apply acc ⟨s, hs⟩ ⟨j.val, hj⟩).trans (ih ⟨s, hs⟩ ⟨j.val, hj⟩)
      · exact (cols_apply acc ⟨s, hs⟩ k).trans (ih ⟨s, hs⟩ k)
  exact (h s k).trans (congrArg (fun n => rSeq (cols x) n k.val s.val) trips1)

/-- The triangle the reference's call leaves. -/
def IsTri (x : Vec Ideal S22528x72 .f32) (d : Vec Ideal S72x72 .f32) : Prop :=
  ∀ (i k : Fin 72), d (ix2 i k) = rSeq (cols x) 72 k.val i.val

theorem slice_apply (x : FVec Ideal S22528x72 .f32) (i k : Fin 72) : extractStridedSlice S72x72 ![0, 0] x slices_S22528x72_o0_0_S72x72 (ix2 i k) = x (ix2 ⟨i.val, by omega⟩ k) := by
  pointwise []

/-- The body, its loop folded. -/
theorem body_eq (arg0 : Memref sig .tc .vmem S22528x72 .f32) (harg0 : arg0.IsWhole) (arg1 : Memref sig .tc .vmem S72x72 .f32) (harg1 : arg1.IsWhole) :
    cc0__panel_reference_body (F := Ideal) arg0 harg0 arg1 harg1 = (do
      let v3 : Vec Ideal S22528x72 .f32 ← Prog.lift (.load arg0 (Rect.unit (s := S22528x72) ![0, 0] S22528x72.size inb_S22528x72_S22528x72_0_0).toLoadRect (View.loadsAt_vmem h_S22528x72))
      let v7 : Vec Ideal S72x72 .f32 ← Prog.lift (.load arg1 (Rect.unit (s := S72x72) ![0, 0] S72x72.size inb_S72x72_S72x72_0_0).toLoadRect (View.loadsAt_vmem h_S72x72))
      Prog.lift (.store arg1 (Rect.unit (s := S72x72) ![0, 0] S72x72.size inb_S72x72_S72x72_0_0) (extractStridedSlice S72x72 ![0, 0] (stepsR v3) slices_S22528x72_o0_0_S72x72) Finset.univ (View.stores_vmem_bits_univ h_S72x72 rfl) (.inl rfl))
      pure ⟨⟩) := by
  unfold cc0__panel_reference_body
  refine congrArg (Prog.lift _ >>= ·) (funext fun v3 => ?_)
  refine (Scf.for_pure_bind _ _ _ _ _ _ (fun k acc => stepR (Scf.iv 0#32 1#32 k) acc) (fun k acc => rfl) _).trans ?_
  rfl

theorem bodyRun (c : Dev nD) (arg0 : Memref sig .tc .vmem S22528x72 .f32) (harg0 : arg0.IsWhole) (arg1 : Memref sig .tc .vmem S72x72 .f32) (harg1 : arg1.IsWhole) (x0 : Vec Ideal S22528x72 .f32) (E : Set ℕ) (K : PUnit → sProp 𝕄) :
    iprop(owns (c : Thread nD τ) arg0 fullShare x0 ∗ (∃ d, owns (c : Thread nD τ) arg1 fullShare d) ∗ (iprop(owns (c : Thread nD τ) arg0 fullShare x0 ∗ (∃ d, ⌜IsTri x0 d⌝ ∗ owns (c : Thread nD τ) arg1 fullShare d)) -∗ K ⟨⟩))
      ⊢ wp frame (wpE (defs₀ (F := Ideal)) Variants.none c none) E (cc0__panel_reference_body arg0 harg0 arg1 harg1) K := by
  rw [body_eq]
  unfold owns
  iintro ⟨⟨%f0, %hf0, H0⟩, ⟨%d1, %f1, -, H1⟩, Hk⟩
  obtain rfl := harg0.eq_unread hf0
  sl_exec
  sl_step
  iapply Hk
  isplitl [H0]
  · iexists _; isplitr; · ipureintro; exact harg0.read_unread _
    iexact H0
  iexists _; isplitr; swap
  · iexists _; isplitr; swap; · iexact H1
    ipureintro; rfl
  ipureintro
  intro i k
  refine (View.read_writes_cons_rows_of_mem arg1.view _ _ _ _ (ix2 i k) (ix2 i k) (rfl : (![0, 0] : Fin 2 → ℕ) = ![0, 0]) (Nat.zero_add _).symm (by rfl)).trans ?_
  refine (slice_apply _ i k).trans ?_
  rw [View.readAt_eq_ld, hf0, View.ld_unit_zero (S := S22528x72) (by decide)]
  exact stepsR_apply x0 ⟨i.val, _⟩ k

variable (m : (ℓ : Loc nD τ sig) → Buf (Elt Ideal) ℓ) (ρ : Dev nD → PrngReg)

/-- The proof data: the arrays as the call finds them; the body leaves the triangle of the argument in the second window. -/
def rdats (c : Dev nD) : RDat τ (Elt Ideal) Unit ℕ (UR sig nD τ) ℕ cfg0 c where
  A w := V m c (Pipeline.arrRef spec0 w)
  after
    | 1, _, _, X => IsTri (V m c main_arg0) X
    | _, _, _, _ => True
  Φ _ := Pipeline.ΦA spec0 c
  q _ := fullShare
  owed _ := 0

/-- Window 0's block index at the one point is zero on every axis. -/
theorem idx_zero0 : ∀ t : Fin cfg0.N, win0_0.index t (0 : Fin 2) = 0 ∧ win0_0.index t (1 : Fin 2) = 0 :=
  (by decide +kernel : ∀ t : Fin grid0.N, _)

/-- An index of window 0's block is the same index of its array. -/
theorem emb0 (t : Fin cfg0.N) (j : S22528x72.Idx) : ((cfg0.win 0).blk t).view.emb j = j := by
  obtain ⟨e0, e1⟩ := idx_zero0 t
  funext a; apply Fin.ext
  match a with
  | ⟨0, _⟩ => show win0_0.index t (0 : Fin 2) * 22528 + 1 * (j 0).val = (j 0).val; omega
  | ⟨1, _⟩ => show win0_0.index t (1 : Fin 2) * 72 + 1 * (j 1).val = (j 1).val; omega

/-- What the body finds in the first window is the argument. -/
theorem found0 (c : Dev nD) (t : Fin cfg0.N) (Y : (cfg0.win 0).block.Idx → Elt Ideal (cfg0.win 0).elt) (h : (rdats m c).Finds 0 t Y) :
    Y = V m c main_arg0 := by
  obtain ⟨d, rfl⟩ := ((rdats m c).finds_of_fetch (fetch0_0 t) Y).1 h
  funext j
  show V m c main_arg0 (((cfg0.win 0).blk t).view.emb j) = V m c main_arg0 j
  rw [emb0]

/-- What the body is called with, the windows one by one. -/
def bodyPre (c : Dev nD) (t : Fin cfg0.N) (Y : (w : Fin 2) → (cfg0.win w).block.Idx → Elt Ideal (cfg0.win w).elt) : sProp 𝕄 :=
  iprop((rdats m c).Φ t.castSucc ∗ (rdats m c).owesAt () t.castSucc
    ∗ owns (c : Thread nD τ) (st0_0 t) fullShare (Y 0)
    ∗ owns (c : Thread nD τ) (st0_1 t) fullShare (Y 1))

/-- What it returns. -/
def bodyPost (c : Dev nD) (t : Fin cfg0.N) (Y : (w : Fin 2) → (cfg0.win w).block.Idx → Elt Ideal (cfg0.win w).elt) : sProp 𝕄 :=
  iprop((rdats m c).Φ t.succ ∗ (rdats m c).owesAt () t.succ
    ∗ (∃ X, ⌜(rdats m c).after 0 t (Y 0) X⌝ ∗ owns (c : Thread nD τ) (st0_0 t) fullShare X)
    ∗ (∃ X, ⌜(rdats m c).after 1 t (Y 1) X⌝ ∗ owns (c : Thread nD τ) (st0_1 t) fullShare X))

/-- The body at the point. -/
theorem sound_body (c : Dev nD) (t : Fin cfg0.N) (Y : (w : Fin 2) → (cfg0.win w).block.Idx → Elt Ideal (cfg0.win w).elt) (hY : Y 0 = V m c main_arg0) :
    bodyPre m c t Y ⊢ wp frame (wpE (defs₀ (F := Ideal)) Variants.none c none) Set.univ (bodyAt0 t) (fun _ => bodyPost m c t Y) := by
  unfold bodyPre bodyPost bodyAt0
  rw [show (rdats m c).Φ t.succ = (rdats m c).Φ t.castSucc from rfl,
    show (rdats m c).owesAt () t.succ = (rdats m c).owesAt () t.castSucc from rfl]
  iintro ⟨HΦ, Ho, H0, H1⟩
  iapply (bodyRun c _ _ _ _ (Y 0) Set.univ _)
  isplitl [H0]; · iexact H0
  isplitl [H1]; · iexists _; iexact H1
  iintro ⟨H0, ⟨%e1, %h1, H1⟩⟩
  isplitl [HΦ]; · iexact HΦ
  isplitl [Ho]; · iexact Ho
  isplitl [H0]
  · iexists _; isplitr; swap; · iexact H0
    ipureintro; trivial
  iexists _; isplitr; swap; · iexact H1
  ipureintro; rw [hY] at h1; exact h1

/-- The body table's row at the point's slots is the body as `bodyAt0` spells it. -/
theorem defs₀_row (t : Fin cfg0.N) :
    defs₀ (F := Ideal) .tc cfg0.body (cfg0.bodyArgs t (cfg0.slots t)) = bodyAt0 t := by
  unfold defs₀; rw [Defs.onTc_tc]

/-- The library's body obligation. -/
theorem body_obligation (c : Dev nD) : (rdats m c).BodyObligation (defs₀ (F := Ideal)) Variants.none () Set.univ := fun t Y hY => by
  rw [bigSep_W0, bigSep_W0, defs₀_row]
  exact triple_restated (sound_body m c t Y (found0 m c t _ (hY 0))) rfl .rfl fun _ => .rfl

set_option backward.isDefEq.respectTransparency.types false in
/-- The launch: every array of the call at contents the proof data allows, and every semaphore counter at zero. -/
theorem run_main_quiescent : θ_run defs (onTc (τ := τ) (main (F := Ideal))) (s₀ m ρ) (fun r => RDat.FramePost cfg0 (rdats m) (V m) r ∧ r.2.sem = fun _ => 0) :=
  RDat.θ_run_frame (Q' := _) cfgs (0 : Fin 1) launch0 defs₀ Variants.none (rdats m) m ρ main
    (hbody := body_obligation m) (hshare := fun c w => by unfold RDat.share; split <;> rfl)
    (howed := fun _ _ => rfl) (V := V m) (hmain := hmain m Variants.none) (hA := fun _ _ => rfl) (hΦ := fun _ _ => rfl)

/-- The frame: every fair execution of @main terminates with the argument array unchanged, and every semaphore counter at zero. -/
theorem frame : θ_run defs (onTc (τ := τ) (main (F := Ideal))) ⟨m, fun _ => 0, ρ⟩ (fun r => (∀ c : Dev nD,
      r.2.mem ((c.tc : Thread nD τ).loc main_arg0) = m ((c.tc : Thread nD τ).loc main_arg0))
      ∧ r.2.sem = fun _ => 0) :=
  (θ_run defs _ _).mono (fun _ h => ⟨fun c => h.1.arr_in c 0 rfl, h.2⟩) (run_main_quiescent m ρ)

/-- The one write-back of the second window covers its array. -/
theorem whole1 : (cfg0.win 1).WholeAt (t0_0 : Fin cfg0.N) := by decide +kernel

/-- The call's run: the result ends at the triangle of the argument, the argument as it was. -/
theorem run : θ_run defs (onTc (τ := τ) (main (F := Ideal))) ⟨m, fun _ => 0, ρ⟩ (fun r => ∀ c : Dev nD,
      IsTri (m ((c.tc : Thread nD τ).loc main_arg0)) (r.2.mem ((c.tc : Thread nD τ).loc main_v0))
      ∧ r.2.mem ((c.tc : Thread nD τ).loc main_arg0) = m ((c.tc : Thread nD τ).loc main_arg0)) := by
  refine (θ_run defs _ _).mono (fun r h c => ⟨?_, h.1.arr_in c 0 rfl⟩) (run_main_quiescent m ρ)
  obtain ⟨X, ⟨Y, -, hX⟩, hG⟩ := RDat.ArrAt.emb_eq_of_wholeAt ((h.1 c).1 1) whole1
  intro i k
  exact (hG (ix2 i k)).trans (hX i k)

end Cert.PanelReferenceIdeal.Read

end
-- ==== Proof.PanelPrecond.lean ====
/- What the factorisation's precondition gives: every entry of the panel is a real number. -/
module

public import proofs.«01_k».proof.Defs
public import proofs.«01_k».proof.Proof.Gen.Pre_entries_finite
public import proofs.«01_k».proof.Proof.PanelSpec
public import Idealize.ShloMosaic.Lib.ReduceAll
public import Idealize.ShloMosaic.Lib.Pointwise

@[expose] public section

set_option maxRecDepth 16384

noncomputable section

namespace Cert.Pre_entries_finite.Read

open Cert.Pre_entries_finite Cert.Proof.Panel Idealize.ShloMosaic

/-- A number between two bounds is a real. -/
theorem real_of_bounds (x l u : EReal) (h0 : l < x) (h1 : x < u) : Real' x := by
  induction x with
  | bot => exact absurd h0 (by simp)
  | top => exact absurd h1 (by simp)
  | coe s => exact ⟨s, rfl⟩

/-- A one-bit word that is one was made from `true`. -/
theorem ofBool_one {b : Bool} (h : BitVec.ofBool b = 1#1) : b = true := by
  revert h
  cases b <;> simp

/-- Every entry of the panel is a real number. -/
theorem entries [Facts] (x : FVec Ideal S22528x72 .f32) (h : fn (F := Ideal) x = fun _ => 1#1) (s : Fin 22528) (k : Fin 72) : Real' (x (ix2 s k)) := by
  have e := congrFun h (fun a => a.elim0)
  unfold fn at e
  dsimp only at e
  have g := Host.reduce_andi_all _ _ _ _ _ e (ix2 s k)
  obtain ⟨g1, g2⟩ := IntOp.andi_eq_one.1 g
  revert g1 g2
  pointwise []
  exact fun g1 g2 => real_of_bounds _ _ _ (of_decide_eq_true (ofBool_one g1)) (of_decide_eq_true (ofBool_one g2))

end Cert.Pre_entries_finite.Read

end
-- ==== Proof.lean ====
module

public import proofs.«01_k».proof.Defs
public import proofs.«01_k».proof.Proof.Gen.Kernel
public import proofs.«01_k».proof.Proof.RawFrame
public import proofs.«01_k».proof.Proof.Gen.KernelIdeal
public import proofs.«01_k».proof.Proof.Gen.ReferenceIdeal
public import proofs.«01_k».proof.Proof.Gen.ReferenceIdeal.Frame
public import proofs.«01_k».proof.Proof.Gen.Pre_scales_ok
public import proofs.«01_k».proof.Proof.KernelBlocks
public import proofs.«01_k».proof.Proof.RefRun
public import proofs.«01_k».proof.Proof.KerArr
public import proofs.«01_k».proof.Proof.Precond
public import proofs.«01_k».proof.Proof.PanelFrame
public import proofs.«01_k».proof.Proof.PanelRawFrame
public import proofs.«01_k».proof.Proof.PanelVFrame
public import proofs.«01_k».proof.Proof.PanelRefRun
public import proofs.«01_k».proof.Proof.PanelPrecond
public import proofs.«01_k».proof.Proof.Gen.PanelReferenceIdeal
public import proofs.«01_k».proof.Proof.Gen.PanelReferenceIdeal.Frame
public import proofs.«01_k».proof.Proof.Gen.Pre_entries_finite
public import Idealize.ShloMosaic.Adequacy
public import Idealize.ShloMosaic.Init

@[expose] public section

noncomputable section

namespace Cert.Proof

open Idealize.ShloMosaic Idealize.SL.Sem Cert.Kernel

/-- The kernel and the reference, run on the same arguments, leave the same four arrays: the reference's functions of the
    arguments. -/
theorem algebraic [hP : Cert.Pre_scales_ok.Facts] :
    algebraic_KernelIdeal_ReferenceIdeal_pre_scales_ok (hKernelIdeal := Cert.KernelIdeal.Gen.facts) (hReferenceIdeal := Cert.ReferenceIdeal.Gen.facts) (hPre_scales_ok := hP) := by
  intro m g m' g' hpre hargs
  refine ⟨fun c => Cert.ReferenceIdeal.Read.G6 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)),
    fun c => Cert.ReferenceIdeal.Read.G7 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)),
    fun c => Cert.ReferenceIdeal.Read.G8 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)),
    fun c => Cert.ReferenceIdeal.Read.G9 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)), ?_, ?_⟩
  · refine (θ_run _ _ _).mono (fun r h c => ?_) (Cert.KernelIdeal.Value.run_blocks m g)
    obtain ⟨h0, h1, h2, h3, hk⟩ := h c
    have hs : Cert.KernelIdeal.Read.ScalesPos (Cert.KernelIdeal.Gen.V m c Cert.KernelIdeal.main_arg1) :=
      fun b d => Cert.Pre_scales_ok.Read.pos _ _ _ _ _ _ (hpre c) b d
    have hl : Cert.KernelIdeal.Read.ScalesFill (Cert.KernelIdeal.Gen.V m c Cert.KernelIdeal.main_arg4) :=
      fun b q => Cert.Pre_scales_ok.Read.fill _ _ _ _ _ _ (hpre c) b q
    exact ⟨h0.trans (Cert.KernelIdeal.Read.final6 m c hs hl), h1.trans (Cert.KernelIdeal.Read.final7 m c hs hl),
      h2.trans (Cert.KernelIdeal.Read.final8 m c), h3.trans (Cert.KernelIdeal.Read.final9 m c), hk⟩
  · refine (θ_run _ _ _).mono (fun r h c => ?_) (Cert.ReferenceIdeal.Read.run m' g')
    obtain ⟨e0, e1, e2, e3, e4, e5⟩ := hargs c
    obtain ⟨h0, h1, h2, h3, hk⟩ := h c
    rw [e0, e1, e2, e3, e4, e5] at h0 h1 h2 h3
    exact ⟨h0, h1, h2, h3, hk⟩

/-- The triangle as one array: the reference's columns after its 72 steps. -/
def triArr (x : FVec Ideal Cert.PanelIdeal.S22528x72 .f32) : FVec Ideal Cert.PanelIdeal.S72x72 .f32 :=
  fun i => Panel.rSeq (Cert.PanelIdeal.Val.colsOf x) 72 (i 1).val (i 0).val

theorem tri_ext (x : FVec Ideal Cert.PanelIdeal.S22528x72 .f32) (d : FVec Ideal Cert.PanelIdeal.S72x72 .f32)
    (h : ∀ i k : Fin 72, d (ix2 i k) = Panel.rSeq (Cert.PanelIdeal.Val.colsOf x) 72 k.val i.val) : d = triArr x := by
  funext i
  obtain ⟨a, b, rfl⟩ : ∃ a b, i = ix2 a b := ⟨i 0, i 1, by funext q; match q with | ⟨0, _⟩ => rfl | ⟨1, _⟩ => rfl⟩
  exact h a b

/-- The factorisation and its reference, run on the same panel of real numbers, leave the same triangle. -/
theorem algebraic_panel [hP : Cert.Pre_entries_finite.Facts] :
    algebraic_PanelIdeal_PanelReferenceIdeal_pre_entries_finite (hPanelIdeal := Cert.PanelIdeal.Gen.facts) (hPanelReferenceIdeal := Cert.PanelReferenceIdeal.Gen.facts) (hPre_entries_finite := hP) := by
  intro m g m' g' hpre hargs
  refine ⟨fun c => triArr (m ((c.tc : Thread Cert.PanelIdeal.nD Cert.PanelIdeal.τ).loc Cert.PanelIdeal.main_arg0)), ?_, ?_⟩
  · refine (θ_run _ _ _).mono (fun r h c => ⟨tri_ext _ _ fun i k => ?_, (h c).2⟩) (Cert.PanelIdeal.Val.run m g)
    refine ((h c).1 i k).trans (Panel.tri_eq _ (fun k s hk hs => ?_) k.val i.val k.isLt (lt_trans i.isLt (by decide))).symm
    have e := Cert.Pre_entries_finite.Read.entries _ (hpre c) ⟨s, hs⟩ ⟨k, hk⟩
    rw [Cert.PanelIdeal.Val.colsOf, dif_pos ⟨hk, hs⟩]
    exact e
  · refine (θ_run _ _ _).mono (fun r h c => ⟨tri_ext _ _ fun i k => ?_, (h c).2⟩) (Cert.PanelReferenceIdeal.Read.run m' g')
    have e := (h c).1 i k
    rw [hargs c] at e
    exact e

/-- Every claim of the certificate. -/
theorem claim : Cert.Claim := ⟨Cert.Kernel.Gen.facts, Cert.KernelIdeal.Gen.facts, Cert.ReferenceIdeal.Gen.facts, Cert.Panel.Gen.facts, Cert.PanelIdeal.Gen.facts, Cert.PanelReferenceIdeal.Gen.facts, Cert.Pre_scales_ok.Gen.facts, Cert.Pre_entries_finite.Gen.facts,
  fun m ρ _ => Cert.Kernel.Run.frame m ρ,
  fun m ρ _ => Cert.KernelIdeal.Run.frame m ρ,
  fun m ρ _ => Cert.KernelIdeal.Run.frame m ρ,
  fun m ρ _ => Cert.ReferenceIdeal.Gen.frame m ρ,
  fun m ρ _ => Cert.ReferenceIdeal.Gen.frame m ρ,
  fun m ρ _ => Cert.Panel.Run.frame m ρ,
  fun m ρ _ => Cert.PanelIdeal.Run.frame m ρ,
  fun m ρ _ => Cert.PanelIdeal.Run.frame m ρ,
  fun m ρ _ => Cert.PanelReferenceIdeal.Read.frame m ρ,
  fun m ρ _ => Cert.PanelReferenceIdeal.Read.frame m ρ,
  trivial,
  algebraic,
  trivial,
  algebraic_panel⟩

end Cert.Proof

end
